-- ==== Defs.lean ====
def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormIdeal_prenorm_finite [hPre_prenorm_finite : Cert.Pre_prenorm_finite.Facts] (m : (ℓ : Loc Cert.PrenormIdeal.nD Cert.PrenormIdeal.τ Cert.PrenormIdeal.sig) → Buf (Elt Ideal) ℓ) : Prop :=
  ∀ c : Dev Cert.PrenormIdeal.nD,
    (Cert.Pre_prenorm_finite.fn (F := Ideal) (m ((c.tc : Thread Cert.PrenormIdeal.nD Cert.PrenormIdeal.τ).loc Cert.PrenormIdeal.main_arg0)) (m ((c.tc : Thread Cert.PrenormIdeal.nD Cert.PrenormIdeal.τ).loc Cert.PrenormIdeal.main_arg1)) (m ((c.tc : Thread Cert.PrenormIdeal.nD Cert.PrenormIdeal.τ).loc Cert.PrenormIdeal.main_arg2)) (m ((c.tc : Thread Cert.PrenormIdeal.nD Cert.PrenormIdeal.τ).loc Cert.PrenormIdeal.main_arg3)) (m ((c.tc : Thread Cert.PrenormIdeal.nD Cert.PrenormIdeal.τ).loc Cert.PrenormIdeal.main_arg4))) = (fun _ => 1#1)

def Pre_PrenormRefIdeal (m : (ℓ : Loc Cert.PrenormRefIdeal.nD Cert.PrenormRefIdeal.τ Cert.PrenormRefIdeal.sig) → Buf (Elt Ideal) ℓ) : Prop :=
  True

def Pre_PrenormRefIdeal_prenorm_finite [hPre_prenorm_finite : Cert.Pre_prenorm_finite.Facts] (m : (ℓ : Loc Cert.PrenormRefIdeal.nD Cert.PrenormRefIdeal.τ Cert.PrenormRefIdeal.sig) → Buf (Elt Ideal) ℓ) : Prop :=
  ∀ c : Dev Cert.PrenormRefIdeal.nD,
    (Cert.Pre_prenorm_finite.fn (F := Ideal) (m ((c.tc : Thread Cert.PrenormRefIdeal.nD Cert.PrenormRefIdeal.τ).loc Cert.PrenormRefIdeal.main_arg0)) (m ((c.tc : Thread Cert.PrenormRefIdeal.nD Cert.PrenormRefIdeal.τ).loc Cert.PrenormRefIdeal.main_arg1)) (m ((c.tc : Thread Cert.PrenormRefIdeal.nD Cert.PrenormRefIdeal.τ).loc Cert.PrenormRefIdeal.main_arg2)) (m ((c.tc : Thread Cert.PrenormRefIdeal.nD Cert.PrenormRefIdeal.τ).loc Cert.PrenormRefIdeal.main_arg3)) (m ((c.tc : Thread Cert.PrenormRefIdeal.nD Cert.PrenormRefIdeal.τ).loc Cert.PrenormRefIdeal.main_arg4))) = (fun _ => 1#1)

def Pre_HgrnFwd (m : (ℓ : Loc Cert.HgrnFwd.nD Cert.HgrnFwd.τ Cert.HgrnFwd.sig) → Buf (Elt Bits) ℓ) : Prop :=
  True

def Pre_HgrnFwdIdeal (m : (ℓ : Loc Cert.HgrnFwdIdeal.nD Cert.HgrnFwdIdeal.τ Cert.HgrnFwdIdeal.sig) → Buf (Elt Ideal) ℓ) : Prop :=
  True

def Pre_HgrnFwdIdeal_hgrn_finite [hPre_hgrn_finite : Cert.Pre_hgrn_finite.Facts] (m : (ℓ : Loc Cert.HgrnFwdIdeal.nD Cert.HgrnFwdIdeal.τ Cert.HgrnFwdIdeal.sig) → Buf (Elt Ideal) ℓ) : Prop :=
  ∀ c : Dev Cert.HgrnFwdIdeal.nD,
    (Cert.Pre_hgrn_finite.fn (F := Ideal) (m ((c.tc : Thread Cert.HgrnFwdIdeal.nD Cert.HgrnFwdIdeal.τ).loc Cert.HgrnFwdIdeal.main_arg0)) (m ((c.tc : Thread Cert.HgrnFwdIdeal.nD Cert.HgrnFwdIdeal.τ).loc Cert.HgrnFwdIdeal.main_arg1)) (m ((c.tc : Thread Cert.HgrnFwdIdeal.nD Cert.HgrnFwdIdeal.τ).loc Cert.HgrnFwdIdeal.main_arg2))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_hgrn_finite [hPre_hgrn_finite : Cert.Pre_hgrn_finite.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_hgrn_finite.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_PrenF (m : (ℓ : Loc Cert.PrenF.nD Cert.PrenF.τ Cert.PrenF.sig) → Buf (Elt Bits) ℓ) : Prop :=
  True

def Pre_PrenFIdeal (m : (ℓ : Loc Cert.PrenFIdeal.nD Cert.PrenFIdeal.τ Cert.PrenFIdeal.sig) → Buf (Elt Ideal) ℓ) : Prop :=
  True

def Pre_PrenFRefIdeal (m : (ℓ : Loc Cert.PrenFRefIdeal.nD Cert.PrenFRefIdeal.τ Cert.PrenFRefIdeal.sig) → Buf (Elt Ideal) ℓ) : Prop :=
  True

def Pre_AdaF (m : (ℓ : Loc Cert.AdaF.nD Cert.AdaF.τ Cert.AdaF.sig) → Buf (Elt Bits) ℓ) : Prop :=
  True

def Pre_AdaFIdeal (m : (ℓ : Loc Cert.AdaFIdeal.nD Cert.AdaFIdeal.τ Cert.AdaFIdeal.sig) → Buf (Elt Ideal) ℓ) : Prop :=
  True

def Pre_AdaFRefIdeal (m : (ℓ : Loc Cert.AdaFRefIdeal.nD Cert.AdaFRefIdeal.τ Cert.AdaFRefIdeal.sig) → Buf (Elt Ideal) ℓ) : Prop :=
  True

def Pre_LbF (m : (ℓ : Loc Cert.LbF.nD Cert.LbF.τ Cert.LbF.sig) → Buf (Elt Bits) ℓ) : Prop :=
  True

def Pre_LbFIdeal (m : (ℓ : Loc Cert.LbFIdeal.nD Cert.LbFIdeal.τ Cert.LbFIdeal.sig) → Buf (Elt Ideal) ℓ) : Prop :=
  True

def Pre_LbFRefIdeal (m : (ℓ : Loc Cert.LbFRefIdeal.nD Cert.LbFRefIdeal.τ Cert.LbFRefIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFIdeal_pool_finite [hPre_pool_finite : Cert.Pre_pool_finite.Facts] (m : (ℓ : Loc Cert.PoolFIdeal.nD Cert.PoolFIdeal.τ Cert.PoolFIdeal.sig) → Buf (Elt Ideal) ℓ) : Prop :=
  ∀ c : Dev Cert.PoolFIdeal.nD,
    (Cert.Pre_pool_finite.fn (F := Ideal) (m ((c.tc : Thread Cert.PoolFIdeal.nD Cert.PoolFIdeal.τ).loc Cert.PoolFIdeal.main_arg0)) (m ((c.tc : Thread Cert.PoolFIdeal.nD Cert.PoolFIdeal.τ).loc Cert.PoolFIdeal.main_arg1)) (m ((c.tc : Thread Cert.PoolFIdeal.nD Cert.PoolFIdeal.τ).loc Cert.PoolFIdeal.main_arg2))) = (fun _ => 1#1)

def Pre_PoolFRefIdeal (m : (ℓ : Loc Cert.PoolFRefIdeal.nD Cert.PoolFRefIdeal.τ Cert.PoolFRefIdeal.sig) → Buf (Elt Ideal) ℓ) : Prop :=
  True

def Pre_PoolFRefIdeal_pool_finite [hPre_pool_finite : Cert.Pre_pool_finite.Facts] (m : (ℓ : Loc Cert.PoolFRefIdeal.nD Cert.PoolFRefIdeal.τ Cert.PoolFRefIdeal.sig) → Buf (Elt Ideal) ℓ) : Prop :=
  ∀ c : Dev Cert.PoolFRefIdeal.nD,
    (Cert.Pre_pool_finite.fn (F := Ideal) (m ((c.tc : Thread Cert.PoolFRefIdeal.nD Cert.PoolFRefIdeal.τ).loc Cert.PoolFRefIdeal.main_arg0)) (m ((c.tc : Thread Cert.PoolFRefIdeal.nD Cert.PoolFRefIdeal.τ).loc Cert.PoolFRefIdeal.main_arg1)) (m ((c.tc : Thread Cert.PoolFRefIdeal.nD Cert.PoolFRefIdeal.τ).loc Cert.PoolFRefIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InP (m : (ℓ : Loc Cert.InP.nD Cert.InP.τ Cert.InP.sig) → Buf (Elt Bits) ℓ) : Prop :=
  True

def Pre_InPIdeal (m : (ℓ : Loc Cert.InPIdeal.nD Cert.InPIdeal.τ Cert.InPIdeal.sig) → Buf (Elt Ideal) ℓ) : Prop :=
  True

def Pre_InPRefIdeal (m : (ℓ : Loc Cert.InPRefIdeal.nD Cert.InPRefIdeal.τ Cert.InPRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InH (m : (ℓ : Loc Cert.InH.nD Cert.InH.τ Cert.InH.sig) → Buf (Elt Bits) ℓ) : Prop :=
  True

def Pre_InHIdeal (m : (ℓ : Loc Cert.InHIdeal.nD Cert.InHIdeal.τ Cert.InHIdeal.sig) → Buf (Elt Ideal) ℓ) : Prop :=
  True

def Pre_InHRefIdeal (m : (ℓ : Loc Cert.InHRefIdeal.nD Cert.InHRefIdeal.τ Cert.InHRefIdeal.sig) → Buf (Elt Ideal) ℓ) : Prop :=
  True

def Pre_GOut (m : (ℓ : Loc Cert.GOut.nD Cert.GOut.τ Cert.GOut.sig) → Buf (Elt Bits) ℓ) : Prop :=
  True

def Pre_GOutIdeal (m : (ℓ : Loc Cert.GOutIdeal.nD Cert.GOutIdeal.τ Cert.GOutIdeal.sig) → Buf (Elt Ideal) ℓ) : Prop :=
  True

def Pre_GOutRefIdeal (m : (ℓ : Loc Cert.GOutRefIdeal.nD Cert.GOutRefIdeal.τ Cert.GOutRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Psum (m : (ℓ : Loc Cert.Psum.nD Cert.Psum.τ Cert.Psum.sig) → Buf (Elt Bits) ℓ) : Prop :=
  True

def Pre_PsumIdeal (m : (ℓ : Loc Cert.PsumIdeal.nD Cert.PsumIdeal.τ Cert.PsumIdeal.sig) → Buf (Elt Ideal) ℓ) : Prop :=
  True

def Pre_PsumRefIdeal (m : (ℓ : Loc Cert.PsumRefIdeal.nD Cert.PsumRefIdeal.τ Cert.PsumRefIdeal.sig) → Buf (Elt Ideal) ℓ) : Prop :=
  True

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3)
      ∧ r.2.mem ((c.tc : Thread Cert.Prenorm.nD Cert.Prenorm.τ).loc Cert.Prenorm.main_arg4) = m ((c.tc : Thread Cert.Prenorm.nD Cert.Prenorm.τ).loc Cert.Prenorm.main_arg4))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
      ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4))
      ∧ r.2.sem = fun _ => 0)

def quiescent_PrenormIdeal_pre_prenorm_finite [hPrenormIdeal : Cert.PrenormIdeal.Facts] [hPre_prenorm_finite : Cert.Pre_prenorm_finite.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal_prenorm_finite m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
      ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3)
      ∧ r.2.mem ((c.tc : Thread Cert.PrenormRefIdeal.nD Cert.PrenormRefIdeal.τ).loc Cert.PrenormRefIdeal.main_arg4) = m ((c.tc : Thread Cert.PrenormRefIdeal.nD Cert.PrenormRefIdeal.τ).loc Cert.PrenormRefIdeal.main_arg4))
      ∧ r.2.sem = fun _ => 0)

def quiescent_PrenormRefIdeal_pre_prenorm_finite [hPrenormRefIdeal : Cert.PrenormRefIdeal.Facts] [hPre_prenorm_finite : Cert.Pre_prenorm_finite.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal_prenorm_finite m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3)
      ∧ r.2.mem ((c.tc : Thread Cert.PrenormRefIdeal.nD Cert.PrenormRefIdeal.τ).loc Cert.PrenormRefIdeal.main_arg4) = m ((c.tc : Thread Cert.PrenormRefIdeal.nD Cert.PrenormRefIdeal.τ).loc Cert.PrenormRefIdeal.main_arg4))
      ∧ r.2.sem = fun _ => 0)

def quiescent_HgrnFwd [hHgrnFwd : Cert.HgrnFwd.Facts] : Prop :=
  ∀ (m : (ℓ : Loc Cert.HgrnFwd.nD Cert.HgrnFwd.τ Cert.HgrnFwd.sig) → Buf (Elt Bits) ℓ) (g : Dev Cert.HgrnFwd.nD → PrngReg), Pre_HgrnFwd m →
    θ_run (Cert.HgrnFwd.defs (F := Bits)) (onTc (τ := Cert.HgrnFwd.τ) (Cert.HgrnFwd.main (F := Bits))) ⟨m, fun _ => 0, g⟩ (fun r => (∀ c : Dev Cert.HgrnFwd.nD,
      r.2.mem ((c.tc : Thread Cert.HgrnFwd.nD Cert.HgrnFwd.τ).loc Cert.HgrnFwd.main_arg0) = m ((c.tc : Thread Cert.HgrnFwd.nD Cert.HgrnFwd.τ).loc Cert.HgrnFwd.main_arg0)
      ∧ r.2.mem ((c.tc : Thread Cert.HgrnFwd.nD Cert.HgrnFwd.τ).loc Cert.HgrnFwd.main_arg1) = m ((c.tc : Thread Cert.HgrnFwd.nD Cert.HgrnFwd.τ).loc Cert.HgrnFwd.main_arg1)
      ∧ r.2.mem ((c.tc : Thread Cert.HgrnFwd.nD Cert.HgrnFwd.τ).loc Cert.HgrnFwd.main_arg2) = m ((c.tc : Thread Cert.HgrnFwd.nD Cert.HgrnFwd.τ).loc Cert.HgrnFwd.main_arg2))
      ∧ r.2.sem = fun _ => 0)

def quiescent_HgrnFwdIdeal [hHgrnFwdIdeal : Cert.HgrnFwdIdeal.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg), Pre_HgrnFwdIdeal m →
    θ_run (Cert.HgrnFwdIdeal.defs (F := Ideal)) (onTc (τ := Cert.HgrnFwdIdeal.τ) (Cert.HgrnFwdIdeal.main (F := Ideal))) ⟨m, fun _ => 0, g⟩ (fun r => (∀ c : Dev Cert.HgrnFwdIdeal.nD,
      r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
      ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
      ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ r.2.sem = fun _ => 0)

def quiescent_HgrnFwdIdeal_pre_hgrn_finite [hHgrnFwdIdeal : Cert.HgrnFwdIdeal.Facts] [hPre_hgrn_finite : Cert.Pre_hgrn_finite.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg), Pre_HgrnFwdIdeal_hgrn_finite m →
    θ_run (Cert.HgrnFwdIdeal.defs (F := Ideal)) (onTc (τ := Cert.HgrnFwdIdeal.τ) (Cert.HgrnFwdIdeal.main (F := Ideal))) ⟨m, fun _ => 0, g⟩ (fun r => (∀ c : Dev Cert.HgrnFwdIdeal.nD,
      r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
      ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
      ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_HgrnRefIdeal_pre_hgrn_finite [hHgrnRefIdeal : Cert.HgrnRefIdeal.Facts] [hPre_hgrn_finite : Cert.Pre_hgrn_finite.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_hgrn_finite m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8)
      ∧ r.2.mem ((c.tc : Thread Cert.Loss.nD Cert.Loss.τ).loc Cert.Loss.main_arg9) = m ((c.tc : Thread Cert.Loss.nD Cert.Loss.τ).loc Cert.Loss.main_arg9))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
      ∧ r.2.mem ((c.tc : Thread Cert.LossIdeal.nD Cert.LossIdeal.τ).loc Cert.LossIdeal.main_arg9) = m ((c.tc : Thread Cert.LossIdeal.nD Cert.LossIdeal.τ).loc Cert.LossIdeal.main_arg9))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8)
      ∧ r.2.mem ((c.tc : Thread Cert.LossRefIdeal.nD Cert.LossRefIdeal.τ).loc Cert.LossRefIdeal.main_arg9) = m ((c.tc : Thread Cert.LossRefIdeal.nD Cert.LossRefIdeal.τ).loc Cert.LossRefIdeal.main_arg9))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1))
      ∧ r.2.sem = fun _ => 0)

def quiescent_PrenF [hPrenF : Cert.PrenF.Facts] : Prop :=
  ∀ (m : (ℓ : Loc Cert.PrenF.nD Cert.PrenF.τ Cert.PrenF.sig) → Buf (Elt Bits) ℓ) (g : Dev Cert.PrenF.nD → PrngReg), Pre_PrenF m →
    θ_run (Cert.PrenF.defs (F := Bits)) (onTc (τ := Cert.PrenF.τ) (Cert.PrenF.main (F := Bits))) ⟨m, fun _ => 0, g⟩ (fun r => (∀ c : Dev Cert.PrenF.nD,
      r.2.mem ((c.tc : Thread Cert.PrenF.nD Cert.PrenF.τ).loc Cert.PrenF.main_arg0) = m ((c.tc : Thread Cert.PrenF.nD Cert.PrenF.τ).loc Cert.PrenF.main_arg0)
      ∧ r.2.mem ((c.tc : Thread Cert.PrenF.nD Cert.PrenF.τ).loc Cert.PrenF.main_arg1) = m ((c.tc : Thread Cert.PrenF.nD Cert.PrenF.τ).loc Cert.PrenF.main_arg1)
      ∧ r.2.mem ((c.tc : Thread Cert.PrenF.nD Cert.PrenF.τ).loc Cert.PrenF.main_arg2) = m ((c.tc : Thread Cert.PrenF.nD Cert.PrenF.τ).loc Cert.PrenF.main_arg2)
      ∧ r.2.mem ((c.tc : Thread Cert.PrenF.nD Cert.PrenF.τ).loc Cert.PrenF.main_arg3) = m ((c.tc : Thread Cert.PrenF.nD Cert.PrenF.τ).loc Cert.PrenF.main_arg3))
      ∧ r.2.sem = fun _ => 0)

def quiescent_PrenFIdeal [hPrenFIdeal : Cert.PrenFIdeal.Facts] : Prop :=
  ∀ (m : (ℓ : Loc Cert.PrenFIdeal.nD Cert.PrenFIdeal.τ Cert.PrenFIdeal.sig) → Buf (Elt Ideal) ℓ) (g : Dev Cert.PrenFIdeal.nD → PrngReg), Pre_PrenFIdeal m →
    θ_run (Cert.PrenFIdeal.defs (F := Ideal)) (onTc (τ := Cert.PrenFIdeal.τ) (Cert.PrenFIdeal.main (F := Ideal))) ⟨m, fun _ => 0, g⟩ (fun r => (∀ c : Dev Cert.PrenFIdeal.nD,
      r.2.mem ((c.tc : Thread Cert.PrenFIdeal.nD Cert.PrenFIdeal.τ).loc Cert.PrenFIdeal.main_arg0) = m ((c.tc : Thread Cert.PrenFIdeal.nD Cert.PrenFIdeal.τ).loc Cert.PrenFIdeal.main_arg0)
      ∧ r.2.mem ((c.tc : Thread Cert.PrenFIdeal.nD Cert.PrenFIdeal.τ).loc Cert.PrenFIdeal.main_arg1) = m ((c.tc : Thread Cert.PrenFIdeal.nD Cert.PrenFIdeal.τ).loc Cert.PrenFIdeal.main_arg1)
      ∧ r.2.mem ((c.tc : Thread Cert.PrenFIdeal.nD Cert.PrenFIdeal.τ).loc Cert.PrenFIdeal.main_arg2) = m ((c.tc : Thread Cert.PrenFIdeal.nD Cert.PrenFIdeal.τ).loc Cert.PrenFIdeal.main_arg2)
      ∧ r.2.mem ((c.tc : Thread Cert.PrenFIdeal.nD Cert.PrenFIdeal.τ).loc Cert.PrenFIdeal.main_arg3) = m ((c.tc : Thread Cert.PrenFIdeal.nD Cert.PrenFIdeal.τ).loc Cert.PrenFIdeal.main_arg3))
      ∧ r.2.sem = fun _ => 0)

def quiescent_PrenFRefIdeal [hPrenFRefIdeal : Cert.PrenFRefIdeal.Facts] : Prop :=
  ∀ (m : (ℓ : Loc Cert.PrenFRefIdeal.nD Cert.PrenFRefIdeal.τ Cert.PrenFRefIdeal.sig) → Buf (Elt Ideal) ℓ) (g : Dev Cert.PrenFRefIdeal.nD → PrngReg), Pre_PrenFRefIdeal m →
    θ_run (Cert.PrenFRefIdeal.defs (F := Ideal)) (onTc (τ := Cert.PrenFRefIdeal.τ) (Cert.PrenFRefIdeal.main (F := Ideal))) ⟨m, fun _ => 0, g⟩ (fun r => (∀ c : Dev Cert.PrenFRefIdeal.nD,
      r.2.mem ((c.tc : Thread Cert.PrenFRefIdeal.nD Cert.PrenFRefIdeal.τ).loc Cert.PrenFRefIdeal.main_arg0) = m ((c.tc : Thread Cert.PrenFRefIdeal.nD Cert.PrenFRefIdeal.τ).loc Cert.PrenFRefIdeal.main_arg0)
      ∧ r.2.mem ((c.tc : Thread Cert.PrenFRefIdeal.nD Cert.PrenFRefIdeal.τ).loc Cert.PrenFRefIdeal.main_arg1) = m ((c.tc : Thread Cert.PrenFRefIdeal.nD Cert.PrenFRefIdeal.τ).loc Cert.PrenFRefIdeal.main_arg1)
      ∧ r.2.mem ((c.tc : Thread Cert.PrenFRefIdeal.nD Cert.PrenFRefIdeal.τ).loc Cert.PrenFRefIdeal.main_arg2) = m ((c.tc : Thread Cert.PrenFRefIdeal.nD Cert.PrenFRefIdeal.τ).loc Cert.PrenFRefIdeal.main_arg2)
      ∧ r.2.mem ((c.tc : Thread Cert.PrenFRefIdeal.nD Cert.PrenFRefIdeal.τ).loc Cert.PrenFRefIdeal.main_arg3) = m ((c.tc : Thread Cert.PrenFRefIdeal.nD Cert.PrenFRefIdeal.τ).loc Cert.PrenFRefIdeal.main_arg3))
      ∧ r.2.sem = fun _ => 0)

def quiescent_AdaF [hAdaF : Cert.AdaF.Facts] : Prop :=
  ∀ (m : (ℓ : Loc Cert.AdaF.nD Cert.AdaF.τ Cert.AdaF.sig) → Buf (Elt Bits) ℓ) (g : Dev Cert.AdaF.nD → PrngReg), Pre_AdaF m →
    θ_run (Cert.AdaF.defs (F := Bits)) (onTc (τ := Cert.AdaF.τ) (Cert.AdaF.main (F := Bits))) ⟨m, fun _ => 0, g⟩ (fun r => (∀ c : Dev Cert.AdaF.nD,
      r.2.mem ((c.tc : Thread Cert.AdaF.nD Cert.AdaF.τ).loc Cert.AdaF.main_arg0) = m ((c.tc : Thread Cert.AdaF.nD Cert.AdaF.τ).loc Cert.AdaF.main_arg0)
      ∧ r.2.mem ((c.tc : Thread Cert.AdaF.nD Cert.AdaF.τ).loc Cert.AdaF.main_arg1) = m ((c.tc : Thread Cert.AdaF.nD Cert.AdaF.τ).loc Cert.AdaF.main_arg1)
      ∧ r.2.mem ((c.tc : Thread Cert.AdaF.nD Cert.AdaF.τ).loc Cert.AdaF.main_arg2) = m ((c.tc : Thread Cert.AdaF.nD Cert.AdaF.τ).loc Cert.AdaF.main_arg2))
      ∧ r.2.sem = fun _ => 0)

def quiescent_AdaFIdeal [hAdaFIdeal : Cert.AdaFIdeal.Facts] : Prop :=
  ∀ (m : (ℓ : Loc Cert.AdaFIdeal.nD Cert.AdaFIdeal.τ Cert.AdaFIdeal.sig) → Buf (Elt Ideal) ℓ) (g : Dev Cert.AdaFIdeal.nD → PrngReg), Pre_AdaFIdeal m →
    θ_run (Cert.AdaFIdeal.defs (F := Ideal)) (onTc (τ := Cert.AdaFIdeal.τ) (Cert.AdaFIdeal.main (F := Ideal))) ⟨m, fun _ => 0, g⟩ (fun r => (∀ c : Dev Cert.AdaFIdeal.nD,
      r.2.mem ((c.tc : Thread Cert.AdaFIdeal.nD Cert.AdaFIdeal.τ).loc Cert.AdaFIdeal.main_arg0) = m ((c.tc : Thread Cert.AdaFIdeal.nD Cert.AdaFIdeal.τ).loc Cert.AdaFIdeal.main_arg0)
      ∧ r.2.mem ((c.tc : Thread Cert.AdaFIdeal.nD Cert.AdaFIdeal.τ).loc Cert.AdaFIdeal.main_arg1) = m ((c.tc : Thread Cert.AdaFIdeal.nD Cert.AdaFIdeal.τ).loc Cert.AdaFIdeal.main_arg1)
      ∧ r.2.mem ((c.tc : Thread Cert.AdaFIdeal.nD Cert.AdaFIdeal.τ).loc Cert.AdaFIdeal.main_arg2) = m ((c.tc : Thread Cert.AdaFIdeal.nD Cert.AdaFIdeal.τ).loc Cert.AdaFIdeal.main_arg2))
      ∧ r.2.sem = fun _ => 0)

def quiescent_AdaFRefIdeal [hAdaFRefIdeal : Cert.AdaFRefIdeal.Facts] : Prop :=
  ∀ (m : (ℓ : Loc Cert.AdaFRefIdeal.nD Cert.AdaFRefIdeal.τ Cert.AdaFRefIdeal.sig) → Buf (Elt Ideal) ℓ) (g : Dev Cert.AdaFRefIdeal.nD → PrngReg), Pre_AdaFRefIdeal m →
    θ_run (Cert.AdaFRefIdeal.defs (F := Ideal)) (onTc (τ := Cert.AdaFRefIdeal.τ) (Cert.AdaFRefIdeal.main (F := Ideal))) ⟨m, fun _ => 0, g⟩ (fun r => (∀ c : Dev Cert.AdaFRefIdeal.nD,
      r.2.mem ((c.tc : Thread Cert.AdaFRefIdeal.nD Cert.AdaFRefIdeal.τ).loc Cert.AdaFRefIdeal.main_arg0) = m ((c.tc : Thread Cert.AdaFRefIdeal.nD Cert.AdaFRefIdeal.τ).loc Cert.AdaFRefIdeal.main_arg0)
      ∧ r.2.mem ((c.tc : Thread Cert.AdaFRefIdeal.nD Cert.AdaFRefIdeal.τ).loc Cert.AdaFRefIdeal.main_arg1) = m ((c.tc : Thread Cert.AdaFRefIdeal.nD Cert.AdaFRefIdeal.τ).loc Cert.AdaFRefIdeal.main_arg1)
      ∧ r.2.mem ((c.tc : Thread Cert.AdaFRefIdeal.nD Cert.AdaFRefIdeal.τ).loc Cert.AdaFRefIdeal.main_arg2) = m ((c.tc : Thread Cert.AdaFRefIdeal.nD Cert.AdaFRefIdeal.τ).loc Cert.AdaFRefIdeal.main_arg2))
      ∧ r.2.sem = fun _ => 0)

def quiescent_LbF [hLbF : Cert.LbF.Facts] : Prop :=
  ∀ (m : (ℓ : Loc Cert.LbF.nD Cert.LbF.τ Cert.LbF.sig) → Buf (Elt Bits) ℓ) (g : Dev Cert.LbF.nD → PrngReg), Pre_LbF m →
    θ_run (Cert.LbF.defs (F := Bits)) (onTc (τ := Cert.LbF.τ) (Cert.LbF.main (F := Bits))) ⟨m, fun _ => 0, g⟩ (fun r => (∀ c : Dev Cert.LbF.nD,
      r.2.mem ((c.tc : Thread Cert.LbF.nD Cert.LbF.τ).loc Cert.LbF.main_arg0) = m ((c.tc : Thread Cert.LbF.nD Cert.LbF.τ).loc Cert.LbF.main_arg0))
      ∧ r.2.sem = fun _ => 0)

def quiescent_LbFIdeal [hLbFIdeal : Cert.LbFIdeal.Facts] : Prop :=
  ∀ (m : (ℓ : Loc Cert.LbFIdeal.nD Cert.LbFIdeal.τ Cert.LbFIdeal.sig) → Buf (Elt Ideal) ℓ) (g : Dev Cert.LbFIdeal.nD → PrngReg), Pre_LbFIdeal m →
    θ_run (Cert.LbFIdeal.defs (F := Ideal)) (onTc (τ := Cert.LbFIdeal.τ) (Cert.LbFIdeal.main (F := Ideal))) ⟨m, fun _ => 0, g⟩ (fun r => (∀ c : Dev Cert.LbFIdeal.nD,
      r.2.mem ((c.tc : Thread Cert.LbFIdeal.nD Cert.LbFIdeal.τ).loc Cert.LbFIdeal.main_arg0) = m ((c.tc : Thread Cert.LbFIdeal.nD Cert.LbFIdeal.τ).loc Cert.LbFIdeal.main_arg0))
      ∧ r.2.sem = fun _ => 0)

def quiescent_LbFRefIdeal [hLbFRefIdeal : Cert.LbFRefIdeal.Facts] : Prop :=
  ∀ (m : (ℓ : Loc Cert.LbFRefIdeal.nD Cert.LbFRefIdeal.τ Cert.LbFRefIdeal.sig) → Buf (Elt Ideal) ℓ) (g : Dev Cert.LbFRefIdeal.nD → PrngReg), Pre_LbFRefIdeal m →
    θ_run (Cert.LbFRefIdeal.defs (F := Ideal)) (onTc (τ := Cert.LbFRefIdeal.τ) (Cert.LbFRefIdeal.main (F := Ideal))) ⟨m, fun _ => 0, g⟩ (fun r => (∀ c : Dev Cert.LbFRefIdeal.nD,
      r.2.mem ((c.tc : Thread Cert.LbFRefIdeal.nD Cert.LbFRefIdeal.τ).loc Cert.LbFRefIdeal.main_arg0) = m ((c.tc : Thread Cert.LbFRefIdeal.nD Cert.LbFRefIdeal.τ).loc Cert.LbFRefIdeal.main_arg0))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0)
      ∧ r.2.mem ((c.tc : Thread Cert.PoolF.nD Cert.PoolF.τ).loc Cert.PoolF.main_arg1) = m ((c.tc : Thread Cert.PoolF.nD Cert.PoolF.τ).loc Cert.PoolF.main_arg1)
      ∧ r.2.mem ((c.tc : Thread Cert.PoolF.nD Cert.PoolF.τ).loc Cert.PoolF.main_arg2) = m ((c.tc : Thread Cert.PoolF.nD Cert.PoolF.τ).loc Cert.PoolF.main_arg2))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ r.2.sem = fun _ => 0)

def quiescent_PoolFIdeal_pre_pool_finite [hPoolFIdeal : Cert.PoolFIdeal.Facts] [hPre_pool_finite : Cert.Pre_pool_finite.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal_pool_finite m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def quiescent_PoolFRefIdeal_pre_pool_finite [hPoolFRefIdeal : Cert.PoolFRefIdeal.Facts] [hPre_pool_finite : Cert.Pre_pool_finite.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal_pool_finite m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_InP [hInP : Cert.InP.Facts] : Prop :=
  ∀ (m : (ℓ : Loc Cert.InP.nD Cert.InP.τ Cert.InP.sig) → Buf (Elt Bits) ℓ) (g : Dev Cert.InP.nD → PrngReg), Pre_InP m →
    θ_run (Cert.InP.defs (F := Bits)) (onTc (τ := Cert.InP.τ) (Cert.InP.main (F := Bits))) ⟨m, fun _ => 0, g⟩ (fun r => (∀ c : Dev Cert.InP.nD,
      r.2.mem ((c.tc : Thread Cert.InP.nD Cert.InP.τ).loc Cert.InP.main_arg0) = m ((c.tc : Thread Cert.InP.nD Cert.InP.τ).loc Cert.InP.main_arg0)
      ∧ r.2.mem ((c.tc : Thread Cert.InP.nD Cert.InP.τ).loc Cert.InP.main_arg1) = m ((c.tc : Thread Cert.InP.nD Cert.InP.τ).loc Cert.InP.main_arg1))
      ∧ r.2.sem = fun _ => 0)

def quiescent_InPIdeal [hInPIdeal : Cert.InPIdeal.Facts] : Prop :=
  ∀ (m : (ℓ : Loc Cert.InPIdeal.nD Cert.InPIdeal.τ Cert.InPIdeal.sig) → Buf (Elt Ideal) ℓ) (g : Dev Cert.InPIdeal.nD → PrngReg), Pre_InPIdeal m →
    θ_run (Cert.InPIdeal.defs (F := Ideal)) (onTc (τ := Cert.InPIdeal.τ) (Cert.InPIdeal.main (F := Ideal))) ⟨m, fun _ => 0, g⟩ (fun r => (∀ c : Dev Cert.InPIdeal.nD,
      r.2.mem ((c.tc : Thread Cert.InPIdeal.nD Cert.InPIdeal.τ).loc Cert.InPIdeal.main_arg0) = m ((c.tc : Thread Cert.InPIdeal.nD Cert.InPIdeal.τ).loc Cert.InPIdeal.main_arg0)
      ∧ r.2.mem ((c.tc : Thread Cert.InPIdeal.nD Cert.InPIdeal.τ).loc Cert.InPIdeal.main_arg1) = m ((c.tc : Thread Cert.InPIdeal.nD Cert.InPIdeal.τ).loc Cert.InPIdeal.main_arg1))
      ∧ r.2.sem = fun _ => 0)

def quiescent_InPRefIdeal [hInPRefIdeal : Cert.InPRefIdeal.Facts] : Prop :=
  ∀ (m : (ℓ : Loc Cert.InPRefIdeal.nD Cert.InPRefIdeal.τ Cert.InPRefIdeal.sig) → Buf (Elt Ideal) ℓ) (g : Dev Cert.InPRefIdeal.nD → PrngReg), Pre_InPRefIdeal m →
    θ_run (Cert.InPRefIdeal.defs (F := Ideal)) (onTc (τ := Cert.InPRefIdeal.τ) (Cert.InPRefIdeal.main (F := Ideal))) ⟨m, fun _ => 0, g⟩ (fun r => (∀ c : Dev Cert.InPRefIdeal.nD,
      r.2.mem ((c.tc : Thread Cert.InPRefIdeal.nD Cert.InPRefIdeal.τ).loc Cert.InPRefIdeal.main_arg0) = m ((c.tc : Thread Cert.InPRefIdeal.nD Cert.InPRefIdeal.τ).loc Cert.InPRefIdeal.main_arg0)
      ∧ r.2.mem ((c.tc : Thread Cert.InPRefIdeal.nD Cert.InPRefIdeal.τ).loc Cert.InPRefIdeal.main_arg1) = m ((c.tc : Thread Cert.InPRefIdeal.nD Cert.InPRefIdeal.τ).loc Cert.InPRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_InH [hInH : Cert.InH.Facts] : Prop :=
  ∀ (m : (ℓ : Loc Cert.InH.nD Cert.InH.τ Cert.InH.sig) → Buf (Elt Bits) ℓ) (g : Dev Cert.InH.nD → PrngReg), Pre_InH m →
    θ_run (Cert.InH.defs (F := Bits)) (onTc (τ := Cert.InH.τ) (Cert.InH.main (F := Bits))) ⟨m, fun _ => 0, g⟩ (fun r => (∀ c : Dev Cert.InH.nD,
      r.2.mem ((c.tc : Thread Cert.InH.nD Cert.InH.τ).loc Cert.InH.main_arg0) = m ((c.tc : Thread Cert.InH.nD Cert.InH.τ).loc Cert.InH.main_arg0)
      ∧ r.2.mem ((c.tc : Thread Cert.InH.nD Cert.InH.τ).loc Cert.InH.main_arg1) = m ((c.tc : Thread Cert.InH.nD Cert.InH.τ).loc Cert.InH.main_arg1))
      ∧ r.2.sem = fun _ => 0)

def quiescent_InHIdeal [hInHIdeal : Cert.InHIdeal.Facts] : Prop :=
  ∀ (m : (ℓ : Loc Cert.InHIdeal.nD Cert.InHIdeal.τ Cert.InHIdeal.sig) → Buf (Elt Ideal) ℓ) (g : Dev Cert.InHIdeal.nD → PrngReg), Pre_InHIdeal m →
    θ_run (Cert.InHIdeal.defs (F := Ideal)) (onTc (τ := Cert.InHIdeal.τ) (Cert.InHIdeal.main (F := Ideal))) ⟨m, fun _ => 0, g⟩ (fun r => (∀ c : Dev Cert.InHIdeal.nD,
      r.2.mem ((c.tc : Thread Cert.InHIdeal.nD Cert.InHIdeal.τ).loc Cert.InHIdeal.main_arg0) = m ((c.tc : Thread Cert.InHIdeal.nD Cert.InHIdeal.τ).loc Cert.InHIdeal.main_arg0)
      ∧ r.2.mem ((c.tc : Thread Cert.InHIdeal.nD Cert.InHIdeal.τ).loc Cert.InHIdeal.main_arg1) = m ((c.tc : Thread Cert.InHIdeal.nD Cert.InHIdeal.τ).loc Cert.InHIdeal.main_arg1))
      ∧ r.2.sem = fun _ => 0)

def quiescent_InHRefIdeal [hInHRefIdeal : Cert.InHRefIdeal.Facts] : Prop :=
  ∀ (m : (ℓ : Loc Cert.InHRefIdeal.nD Cert.InHRefIdeal.τ Cert.InHRefIdeal.sig) → Buf (Elt Ideal) ℓ) (g : Dev Cert.InHRefIdeal.nD → PrngReg), Pre_InHRefIdeal m →
    θ_run (Cert.InHRefIdeal.defs (F := Ideal)) (onTc (τ := Cert.InHRefIdeal.τ) (Cert.InHRefIdeal.main (F := Ideal))) ⟨m, fun _ => 0, g⟩ (fun r => (∀ c : Dev Cert.InHRefIdeal.nD,
      r.2.mem ((c.tc : Thread Cert.InHRefIdeal.nD Cert.InHRefIdeal.τ).loc Cert.InHRefIdeal.main_arg0) = m ((c.tc : Thread Cert.InHRefIdeal.nD Cert.InHRefIdeal.τ).loc Cert.InHRefIdeal.main_arg0)
      ∧ r.2.mem ((c.tc : Thread Cert.InHRefIdeal.nD Cert.InHRefIdeal.τ).loc Cert.InHRefIdeal.main_arg1) = m ((c.tc : Thread Cert.InHRefIdeal.nD Cert.InHRefIdeal.τ).loc Cert.InHRefIdeal.main_arg1))
      ∧ r.2.sem = fun _ => 0)

def quiescent_GOut [hGOut : Cert.GOut.Facts] : Prop :=
  ∀ (m : (ℓ : Loc Cert.GOut.nD Cert.GOut.τ Cert.GOut.sig) → Buf (Elt Bits) ℓ) (g : Dev Cert.GOut.nD → PrngReg), Pre_GOut m →
    θ_run (Cert.GOut.defs (F := Bits)) (onTc (τ := Cert.GOut.τ) (Cert.GOut.main (F := Bits))) ⟨m, fun _ => 0, g⟩ (fun r => (∀ c : Dev Cert.GOut.nD,
      r.2.mem ((c.tc : Thread Cert.GOut.nD Cert.GOut.τ).loc Cert.GOut.main_arg0) = m ((c.tc : Thread Cert.GOut.nD Cert.GOut.τ).loc Cert.GOut.main_arg0)
      ∧ r.2.mem ((c.tc : Thread Cert.GOut.nD Cert.GOut.τ).loc Cert.GOut.main_arg1) = m ((c.tc : Thread Cert.GOut.nD Cert.GOut.τ).loc Cert.GOut.main_arg1)
      ∧ r.2.mem ((c.tc : Thread Cert.GOut.nD Cert.GOut.τ).loc Cert.GOut.main_arg2) = m ((c.tc : Thread Cert.GOut.nD Cert.GOut.τ).loc Cert.GOut.main_arg2)
      ∧ r.2.mem ((c.tc : Thread Cert.GOut.nD Cert.GOut.τ).loc Cert.GOut.main_arg3) = m ((c.tc : Thread Cert.GOut.nD Cert.GOut.τ).loc Cert.GOut.main_arg3)
      ∧ r.2.mem ((c.tc : Thread Cert.GOut.nD Cert.GOut.τ).loc Cert.GOut.main_arg4) = m ((c.tc : Thread Cert.GOut.nD Cert.GOut.τ).loc Cert.GOut.main_arg4)
      ∧ r.2.mem ((c.tc : Thread Cert.GOut.nD Cert.GOut.τ).loc Cert.GOut.main_arg5) = m ((c.tc : Thread Cert.GOut.nD Cert.GOut.τ).loc Cert.GOut.main_arg5))
      ∧ r.2.sem = fun _ => 0)

def quiescent_GOutIdeal [hGOutIdeal : Cert.GOutIdeal.Facts] : Prop :=
  ∀ (m : (ℓ : Loc Cert.GOutIdeal.nD Cert.GOutIdeal.τ Cert.GOutIdeal.sig) → Buf (Elt Ideal) ℓ) (g : Dev Cert.GOutIdeal.nD → PrngReg), Pre_GOutIdeal m →
    θ_run (Cert.GOutIdeal.defs (F := Ideal)) (onTc (τ := Cert.GOutIdeal.τ) (Cert.GOutIdeal.main (F := Ideal))) ⟨m, fun _ => 0, g⟩ (fun r => (∀ c : Dev Cert.GOutIdeal.nD,
      r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
      ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1)
      ∧ r.2.mem ((c.tc : Thread Cert.GOutIdeal.nD Cert.GOutIdeal.τ).loc Cert.GOutIdeal.main_arg2) = m ((c.tc : Thread Cert.GOutIdeal.nD Cert.GOutIdeal.τ).loc Cert.GOutIdeal.main_arg2)
      ∧ r.2.mem ((c.tc : Thread Cert.GOutIdeal.nD Cert.GOutIdeal.τ).loc Cert.GOutIdeal.main_arg3) = m ((c.tc : Thread Cert.GOutIdeal.nD Cert.GOutIdeal.τ).loc Cert.GOutIdeal.main_arg3)
      ∧ r.2.mem ((c.tc : Thread Cert.GOutIdeal.nD Cert.GOutIdeal.τ).loc Cert.GOutIdeal.main_arg4) = m ((c.tc : Thread Cert.GOutIdeal.nD Cert.GOutIdeal.τ).loc Cert.GOutIdeal.main_arg4)
      ∧ r.2.mem ((c.tc : Thread Cert.GOutIdeal.nD Cert.GOutIdeal.τ).loc Cert.GOutIdeal.main_arg5) = m ((c.tc : Thread Cert.GOutIdeal.nD Cert.GOutIdeal.τ).loc Cert.GOutIdeal.main_arg5))
      ∧ r.2.sem = fun _ => 0)

def quiescent_GOutRefIdeal [hGOutRefIdeal : Cert.GOutRefIdeal.Facts] : Prop :=
  ∀ (m : (ℓ : Loc Cert.GOutRefIdeal.nD Cert.GOutRefIdeal.τ Cert.GOutRefIdeal.sig) → Buf (Elt Ideal) ℓ) (g : Dev Cert.GOutRefIdeal.nD → PrngReg), Pre_GOutRefIdeal m →
    θ_run (Cert.GOutRefIdeal.defs (F := Ideal)) (onTc (τ := Cert.GOutRefIdeal.τ) (Cert.GOutRefIdeal.main (F := Ideal))) ⟨m, fun _ => 0, g⟩ (fun r => (∀ c : Dev Cert.GOutRefIdeal.nD,
      r.2.mem ((c.tc : Thread Cert.GOutRefIdeal.nD Cert.GOutRefIdeal.τ).loc Cert.GOutRefIdeal.main_arg0) = m ((c.tc : Thread Cert.GOutRefIdeal.nD Cert.GOutRefIdeal.τ).loc Cert.GOutRefIdeal.main_arg0)
      ∧ r.2.mem ((c.tc : Thread Cert.GOutRefIdeal.nD Cert.GOutRefIdeal.τ).loc Cert.GOutRefIdeal.main_arg1) = m ((c.tc : Thread Cert.GOutRefIdeal.nD Cert.GOutRefIdeal.τ).loc Cert.GOutRefIdeal.main_arg1)
      ∧ r.2.mem ((c.tc : Thread Cert.GOutRefIdeal.nD Cert.GOutRefIdeal.τ).loc Cert.GOutRefIdeal.main_arg2) = m ((c.tc : Thread Cert.GOutRefIdeal.nD Cert.GOutRefIdeal.τ).loc Cert.GOutRefIdeal.main_arg2)
      ∧ r.2.mem ((c.tc : Thread Cert.GOutRefIdeal.nD Cert.GOutRefIdeal.τ).loc Cert.GOutRefIdeal.main_arg3) = m ((c.tc : Thread Cert.GOutRefIdeal.nD Cert.GOutRefIdeal.τ).loc Cert.GOutRefIdeal.main_arg3)
      ∧ r.2.mem ((c.tc : Thread Cert.GOutRefIdeal.nD Cert.GOutRefIdeal.τ).loc Cert.GOutRefIdeal.main_arg4) = m ((c.tc : Thread Cert.GOutRefIdeal.nD Cert.GOutRefIdeal.τ).loc Cert.GOutRefIdeal.main_arg4)
      ∧ r.2.mem ((c.tc : Thread Cert.GOutRefIdeal.nD Cert.GOutRefIdeal.τ).loc Cert.GOutRefIdeal.main_arg5) = m ((c.tc : Thread Cert.GOutRefIdeal.nD Cert.GOutRefIdeal.τ).loc Cert.GOutRefIdeal.main_arg5))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4))
      ∧ r.2.sem = fun _ => 0)

def quiescent_Psum [hPsum : Cert.Psum.Facts] : Prop :=
  ∀ (m : (ℓ : Loc Cert.Psum.nD Cert.Psum.τ Cert.Psum.sig) → Buf (Elt Bits) ℓ) (g : Dev Cert.Psum.nD → PrngReg), Pre_Psum m →
    θ_run (Cert.Psum.defs (F := Bits)) (onTc (τ := Cert.Psum.τ) (Cert.Psum.main (F := Bits))) ⟨m, fun _ => 0, g⟩ (fun r => (∀ c : Dev Cert.Psum.nD,
      r.2.mem ((c.tc : Thread Cert.Psum.nD Cert.Psum.τ).loc Cert.Psum.main_arg0) = m ((c.tc : Thread Cert.Psum.nD Cert.Psum.τ).loc Cert.Psum.main_arg0)
      ∧ r.2.mem ((c.tc : Thread Cert.Psum.nD Cert.Psum.τ).loc Cert.Psum.main_arg1) = m ((c.tc : Thread Cert.Psum.nD Cert.Psum.τ).loc Cert.Psum.main_arg1))
      ∧ r.2.sem = fun _ => 0)

def quiescent_PsumIdeal [hPsumIdeal : Cert.PsumIdeal.Facts] : Prop :=
  ∀ (m : (ℓ : Loc Cert.PsumIdeal.nD Cert.PsumIdeal.τ Cert.PsumIdeal.sig) → Buf (Elt Ideal) ℓ) (g : Dev Cert.PsumIdeal.nD → PrngReg), Pre_PsumIdeal m →
    θ_run (Cert.PsumIdeal.defs (F := Ideal)) (onTc (τ := Cert.PsumIdeal.τ) (Cert.PsumIdeal.main (F := Ideal))) ⟨m, fun _ => 0, g⟩ (fun r => (∀ c : Dev Cert.PsumIdeal.nD,
      r.2.mem ((c.tc : Thread Cert.PsumIdeal.nD Cert.PsumIdeal.τ).loc Cert.PsumIdeal.main_arg0) = m ((c.tc : Thread Cert.PsumIdeal.nD Cert.PsumIdeal.τ).loc Cert.PsumIdeal.main_arg0)
      ∧ r.2.mem ((c.tc : Thread Cert.PsumIdeal.nD Cert.PsumIdeal.τ).loc Cert.PsumIdeal.main_arg1) = m ((c.tc : Thread Cert.PsumIdeal.nD Cert.PsumIdeal.τ).loc Cert.PsumIdeal.main_arg1))
      ∧ r.2.sem = fun _ => 0)

def quiescent_PsumRefIdeal [hPsumRefIdeal : Cert.PsumRefIdeal.Facts] : Prop :=
  ∀ (m : (ℓ : Loc Cert.PsumRefIdeal.nD Cert.PsumRefIdeal.τ Cert.PsumRefIdeal.sig) → Buf (Elt Ideal) ℓ) (g : Dev Cert.PsumRefIdeal.nD → PrngReg), Pre_PsumRefIdeal m →
    θ_run (Cert.PsumRefIdeal.defs (F := Ideal)) (onTc (τ := Cert.PsumRefIdeal.τ) (Cert.PsumRefIdeal.main (F := Ideal))) ⟨m, fun _ => 0, g⟩ (fun r => (∀ c : Dev Cert.PsumRefIdeal.nD,
      r.2.mem ((c.tc : Thread Cert.PsumRefIdeal.nD Cert.PsumRefIdeal.τ).loc Cert.PsumRefIdeal.main_arg0) = m ((c.tc : Thread Cert.PsumRefIdeal.nD Cert.PsumRefIdeal.τ).loc Cert.PsumRefIdeal.main_arg0)
      ∧ r.2.mem ((c.tc : Thread Cert.PsumRefIdeal.nD Cert.PsumRefIdeal.τ).loc Cert.PsumRefIdeal.main_arg1) = m ((c.tc : Thread Cert.PsumRefIdeal.nD Cert.PsumRefIdeal.τ).loc Cert.PsumRefIdeal.main_arg1))
      ∧ r.2.sem = fun _ => 0)

def preserves_Prenorm_PrenormIdeal : Prop :=
  True

def algebraic_PrenormIdeal_PrenormRefIdeal_pre_prenorm_finite [hPrenormIdeal : Cert.PrenormIdeal.Facts] [hPrenormRefIdeal : Cert.PrenormRefIdeal.Facts] [hPre_prenorm_finite : Cert.Pre_prenorm_finite.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal_prenorm_finite m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)
      ∧ m' ((c.tc : Thread Cert.PrenormRefIdeal.nD Cert.PrenormRefIdeal.τ).loc Cert.PrenormRefIdeal.main_arg3) = m ((c.tc : Thread Cert.PrenormIdeal.nD Cert.PrenormIdeal.τ).loc Cert.PrenormIdeal.main_arg3)
      ∧ m' ((c.tc : Thread Cert.PrenormRefIdeal.nD Cert.PrenormRefIdeal.τ).loc Cert.PrenormRefIdeal.main_arg4) = m ((c.tc : Thread Cert.PrenormIdeal.nD Cert.PrenormIdeal.τ).loc Cert.PrenormIdeal.main_arg4)) →
    ∃ (v0 : (c : Dev Cert.PrenormIdeal.nD) → Buf (Elt Ideal) ((c.tc : Thread Cert.PrenormIdeal.nD Cert.PrenormIdeal.τ).loc Cert.PrenormIdeal.main_v0_0)) (v1 : (c : Dev Cert.PrenormIdeal.nD) → Buf (Elt Ideal) ((c.tc : Thread Cert.PrenormIdeal.nD Cert.PrenormIdeal.τ).loc Cert.PrenormIdeal.main_v0_1)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0_0) = v0 c
          ∧ r.2.mem ((c.tc : Thread Cert.PrenormIdeal.nD Cert.PrenormIdeal.τ).loc Cert.PrenormIdeal.main_v0_1) = v1 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
          ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v58) = v0 c
          ∧ r.2.mem ((c.tc : Thread Cert.PrenormRefIdeal.nD Cert.PrenormRefIdeal.τ).loc Cert.PrenormRefIdeal.main_v63) = v1 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2)
          ∧ r.2.mem ((c.tc : Thread Cert.PrenormRefIdeal.nD Cert.PrenormRefIdeal.τ).loc Cert.PrenormRefIdeal.main_arg3) = m' ((c.tc : Thread Cert.PrenormRefIdeal.nD Cert.PrenormRefIdeal.τ).loc Cert.PrenormRefIdeal.main_arg3)
          ∧ r.2.mem ((c.tc : Thread Cert.PrenormRefIdeal.nD Cert.PrenormRefIdeal.τ).loc Cert.PrenormRefIdeal.main_arg4) = m' ((c.tc : Thread Cert.PrenormRefIdeal.nD Cert.PrenormRefIdeal.τ).loc Cert.PrenormRefIdeal.main_arg4))

def preserves_HgrnFwd_HgrnFwdIdeal : Prop :=
  True

def algebraic_HgrnFwdIdeal_HgrnRefIdeal_pre_hgrn_finite [hHgrnFwdIdeal : Cert.HgrnFwdIdeal.Facts] [hHgrnRefIdeal : Cert.HgrnRefIdeal.Facts] [hPre_hgrn_finite : Cert.Pre_hgrn_finite.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnFwdIdeal_hgrn_finite m →
    (∀ c : Dev Cert.HgrnFwdIdeal.nD,
      m' ((c.tc : Thread Cert.HgrnRefIdeal.nD Cert.HgrnRefIdeal.τ).loc Cert.HgrnRefIdeal.main_arg0) = m ((c.tc : Thread Cert.HgrnFwdIdeal.nD Cert.HgrnFwdIdeal.τ).loc Cert.HgrnFwdIdeal.main_arg0)
      ∧ m' ((c.tc : Thread Cert.HgrnRefIdeal.nD Cert.HgrnRefIdeal.τ).loc Cert.HgrnRefIdeal.main_arg1) = m ((c.tc : Thread Cert.HgrnFwdIdeal.nD Cert.HgrnFwdIdeal.τ).loc Cert.HgrnFwdIdeal.main_arg1)
      ∧ m' ((c.tc : Thread Cert.HgrnRefIdeal.nD Cert.HgrnRefIdeal.τ).loc Cert.HgrnRefIdeal.main_arg2) = m ((c.tc : Thread Cert.HgrnFwdIdeal.nD Cert.HgrnFwdIdeal.τ).loc Cert.HgrnFwdIdeal.main_arg2)) →
    ∃ (v0 : (c : Dev Cert.HgrnFwdIdeal.nD) → Buf (Elt Ideal) ((c.tc : Thread Cert.HgrnFwdIdeal.nD Cert.HgrnFwdIdeal.τ).loc Cert.HgrnFwdIdeal.main_v0_0)) (v1 : (c : Dev Cert.HgrnFwdIdeal.nD) → Buf (Elt Ideal) ((c.tc : Thread Cert.HgrnFwdIdeal.nD Cert.HgrnFwdIdeal.τ).loc Cert.HgrnFwdIdeal.main_v0_1)),
      θ_run (Cert.HgrnFwdIdeal.defs (F := Ideal)) (onTc (τ := Cert.HgrnFwdIdeal.τ) (Cert.HgrnFwdIdeal.main (F := Ideal))) ⟨m, fun _ => 0, g⟩ (fun r => ∀ c : Dev Cert.HgrnFwdIdeal.nD,
          r.2.mem ((c.tc : Thread Cert.HgrnFwdIdeal.nD Cert.HgrnFwdIdeal.τ).loc Cert.HgrnFwdIdeal.main_v0_0) = v0 c
          ∧ r.2.mem ((c.tc : Thread Cert.HgrnFwdIdeal.nD Cert.HgrnFwdIdeal.τ).loc Cert.HgrnFwdIdeal.main_v0_1) = v1 c
          ∧ r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
          ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
          ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v42) = v0 c
          ∧ r.2.mem ((c.tc : Thread Cert.HgrnRefIdeal.nD Cert.HgrnRefIdeal.τ).loc Cert.HgrnRefIdeal.main_v60) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)
      ∧ m' ((c.tc : Thread Cert.LossRefIdeal.nD Cert.LossRefIdeal.τ).loc Cert.LossRefIdeal.main_arg8) = m ((c.tc : Thread Cert.LossIdeal.nD Cert.LossIdeal.τ).loc Cert.LossIdeal.main_arg8)
      ∧ m' ((c.tc : Thread Cert.LossRefIdeal.nD Cert.LossRefIdeal.τ).loc Cert.LossRefIdeal.main_arg9) = m ((c.tc : Thread Cert.LossIdeal.nD Cert.LossIdeal.τ).loc Cert.LossIdeal.main_arg9)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)) (v3 : (c : Dev Cert.LossIdeal.nD) → Buf (Elt Ideal) ((c.tc : Thread Cert.LossIdeal.nD Cert.LossIdeal.τ).loc Cert.LossIdeal.main_v5_3)) (v4 : (c : Dev Cert.LossIdeal.nD) → Buf (Elt Ideal) ((c.tc : Thread Cert.LossIdeal.nD Cert.LossIdeal.τ).loc Cert.LossIdeal.main_v5_4)) (v5 : (c : Dev Cert.LossIdeal.nD) → Buf (Elt Ideal) ((c.tc : Thread Cert.LossIdeal.nD Cert.LossIdeal.τ).loc Cert.LossIdeal.main_v5_5)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_v5_3) = v3 c
          ∧ r.2.mem ((c.tc : Thread Cert.LossIdeal.nD Cert.LossIdeal.τ).loc Cert.LossIdeal.main_v5_4) = v4 c
          ∧ r.2.mem ((c.tc : Thread Cert.LossIdeal.nD Cert.LossIdeal.τ).loc Cert.LossIdeal.main_v5_5) = v5 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
          ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
          ∧ r.2.mem ((c.tc : Thread Cert.LossIdeal.nD Cert.LossIdeal.τ).loc Cert.LossIdeal.main_arg9) = m ((c.tc : Thread Cert.LossIdeal.nD Cert.LossIdeal.τ).loc Cert.LossIdeal.main_arg9))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v56) = v0 c
          ∧ r.2.mem ((c.tc : Thread Cert.LossRefIdeal.nD Cert.LossRefIdeal.τ).loc Cert.LossRefIdeal.main_v57) = v1 c
          ∧ r.2.mem ((c.tc : Thread Cert.LossRefIdeal.nD Cert.LossRefIdeal.τ).loc Cert.LossRefIdeal.main_v58) = v2 c
          ∧ r.2.mem ((c.tc : Thread Cert.LossRefIdeal.nD Cert.LossRefIdeal.τ).loc Cert.LossRefIdeal.main_v59) = v3 c
          ∧ r.2.mem ((c.tc : Thread Cert.LossRefIdeal.nD Cert.LossRefIdeal.τ).loc Cert.LossRefIdeal.main_v55) = v4 c
          ∧ r.2.mem ((c.tc : Thread Cert.LossRefIdeal.nD Cert.LossRefIdeal.τ).loc Cert.LossRefIdeal.main_v60) = v5 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7)
          ∧ r.2.mem ((c.tc : Thread Cert.LossRefIdeal.nD Cert.LossRefIdeal.τ).loc Cert.LossRefIdeal.main_arg8) = m' ((c.tc : Thread Cert.LossRefIdeal.nD Cert.LossRefIdeal.τ).loc Cert.LossRefIdeal.main_arg8)
          ∧ r.2.mem ((c.tc : Thread Cert.LossRefIdeal.nD Cert.LossRefIdeal.τ).loc Cert.LossRefIdeal.main_arg9) = m' ((c.tc : Thread Cert.LossRefIdeal.nD Cert.LossRefIdeal.τ).loc Cert.LossRefIdeal.main_arg9))

def preserves_AdaBwd_AdaBwdIdeal : Prop :=
  True

def algebraic_AdaBwdIdeal_AdaRefIdeal [hAdaBwdIdeal : Cert.AdaBwdIdeal.Facts] [hAdaRefIdeal : Cert.AdaRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaBwdIdeal m →
    (∀ c : Dev Cert.AdaBwdIdeal.nD,
      m' ((c.tc : Thread Cert.AdaRefIdeal.nD Cert.AdaRefIdeal.τ).loc Cert.AdaRefIdeal.main_arg0) = m ((c.tc : Thread Cert.AdaBwdIdeal.nD Cert.AdaBwdIdeal.τ).loc Cert.AdaBwdIdeal.main_arg0)
      ∧ m' ((c.tc : Thread Cert.AdaRefIdeal.nD Cert.AdaRefIdeal.τ).loc Cert.AdaRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v9) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1))

def preserves_PrenF_PrenFIdeal : Prop :=
  True

def algebraic_PrenFIdeal_PrenFRefIdeal [hPrenFIdeal : Cert.PrenFIdeal.Facts] [hPrenFRefIdeal : Cert.PrenFRefIdeal.Facts] : Prop :=
  ∀ (m : (ℓ : Loc Cert.PrenFIdeal.nD Cert.PrenFIdeal.τ Cert.PrenFIdeal.sig) → Buf (Elt Ideal) ℓ) (g : Dev Cert.PrenFIdeal.nD → PrngReg)
    (m' : (ℓ : Loc Cert.PrenFRefIdeal.nD Cert.PrenFRefIdeal.τ Cert.PrenFRefIdeal.sig) → Buf (Elt Ideal) ℓ) (g' : Dev Cert.PrenFRefIdeal.nD → PrngReg), Pre_PrenFIdeal m →
    (∀ c : Dev Cert.PrenFIdeal.nD,
      m' ((c.tc : Thread Cert.PrenFRefIdeal.nD Cert.PrenFRefIdeal.τ).loc Cert.PrenFRefIdeal.main_arg0) = m ((c.tc : Thread Cert.PrenFIdeal.nD Cert.PrenFIdeal.τ).loc Cert.PrenFIdeal.main_arg0)
      ∧ m' ((c.tc : Thread Cert.PrenFRefIdeal.nD Cert.PrenFRefIdeal.τ).loc Cert.PrenFRefIdeal.main_arg1) = m ((c.tc : Thread Cert.PrenFIdeal.nD Cert.PrenFIdeal.τ).loc Cert.PrenFIdeal.main_arg1)
      ∧ m' ((c.tc : Thread Cert.PrenFRefIdeal.nD Cert.PrenFRefIdeal.τ).loc Cert.PrenFRefIdeal.main_arg2) = m ((c.tc : Thread Cert.PrenFIdeal.nD Cert.PrenFIdeal.τ).loc Cert.PrenFIdeal.main_arg2)
      ∧ m' ((c.tc : Thread Cert.PrenFRefIdeal.nD Cert.PrenFRefIdeal.τ).loc Cert.PrenFRefIdeal.main_arg3) = m ((c.tc : Thread Cert.PrenFIdeal.nD Cert.PrenFIdeal.τ).loc Cert.PrenFIdeal.main_arg3)) →
    ∃ (v0 : (c : Dev Cert.PrenFIdeal.nD) → Buf (Elt Ideal) ((c.tc : Thread Cert.PrenFIdeal.nD Cert.PrenFIdeal.τ).loc Cert.PrenFIdeal.main_v0)),
      θ_run (Cert.PrenFIdeal.defs (F := Ideal)) (onTc (τ := Cert.PrenFIdeal.τ) (Cert.PrenFIdeal.main (F := Ideal))) ⟨m, fun _ => 0, g⟩ (fun r => ∀ c : Dev Cert.PrenFIdeal.nD,
          r.2.mem ((c.tc : Thread Cert.PrenFIdeal.nD Cert.PrenFIdeal.τ).loc Cert.PrenFIdeal.main_v0) = v0 c
          ∧ r.2.mem ((c.tc : Thread Cert.PrenFIdeal.nD Cert.PrenFIdeal.τ).loc Cert.PrenFIdeal.main_arg0) = m ((c.tc : Thread Cert.PrenFIdeal.nD Cert.PrenFIdeal.τ).loc Cert.PrenFIdeal.main_arg0)
          ∧ r.2.mem ((c.tc : Thread Cert.PrenFIdeal.nD Cert.PrenFIdeal.τ).loc Cert.PrenFIdeal.main_arg1) = m ((c.tc : Thread Cert.PrenFIdeal.nD Cert.PrenFIdeal.τ).loc Cert.PrenFIdeal.main_arg1)
          ∧ r.2.mem ((c.tc : Thread Cert.PrenFIdeal.nD Cert.PrenFIdeal.τ).loc Cert.PrenFIdeal.main_arg2) = m ((c.tc : Thread Cert.PrenFIdeal.nD Cert.PrenFIdeal.τ).loc Cert.PrenFIdeal.main_arg2)
          ∧ r.2.mem ((c.tc : Thread Cert.PrenFIdeal.nD Cert.PrenFIdeal.τ).loc Cert.PrenFIdeal.main_arg3) = m ((c.tc : Thread Cert.PrenFIdeal.nD Cert.PrenFIdeal.τ).loc Cert.PrenFIdeal.main_arg3))
      ∧ θ_run (Cert.PrenFRefIdeal.defs (F := Ideal)) (onTc (τ := Cert.PrenFRefIdeal.τ) (Cert.PrenFRefIdeal.main (F := Ideal))) ⟨m', fun _ => 0, g'⟩ (fun r => ∀ c : Dev Cert.PrenFRefIdeal.nD,
          r.2.mem ((c.tc : Thread Cert.PrenFRefIdeal.nD Cert.PrenFRefIdeal.τ).loc Cert.PrenFRefIdeal.main_v24) = v0 c
          ∧ r.2.mem ((c.tc : Thread Cert.PrenFRefIdeal.nD Cert.PrenFRefIdeal.τ).loc Cert.PrenFRefIdeal.main_arg0) = m' ((c.tc : Thread Cert.PrenFRefIdeal.nD Cert.PrenFRefIdeal.τ).loc Cert.PrenFRefIdeal.main_arg0)
          ∧ r.2.mem ((c.tc : Thread Cert.PrenFRefIdeal.nD Cert.PrenFRefIdeal.τ).loc Cert.PrenFRefIdeal.main_arg1) = m' ((c.tc : Thread Cert.PrenFRefIdeal.nD Cert.PrenFRefIdeal.τ).loc Cert.PrenFRefIdeal.main_arg1)
          ∧ r.2.mem ((c.tc : Thread Cert.PrenFRefIdeal.nD Cert.PrenFRefIdeal.τ).loc Cert.PrenFRefIdeal.main_arg2) = m' ((c.tc : Thread Cert.PrenFRefIdeal.nD Cert.PrenFRefIdeal.τ).loc Cert.PrenFRefIdeal.main_arg2)
          ∧ r.2.mem ((c.tc : Thread Cert.PrenFRefIdeal.nD Cert.PrenFRefIdeal.τ).loc Cert.PrenFRefIdeal.main_arg3) = m' ((c.tc : Thread Cert.PrenFRefIdeal.nD Cert.PrenFRefIdeal.τ).loc Cert.PrenFRefIdeal.main_arg3))

def preserves_AdaF_AdaFIdeal : Prop :=
  True

def algebraic_AdaFIdeal_AdaFRefIdeal [hAdaFIdeal : Cert.AdaFIdeal.Facts] [hAdaFRefIdeal : Cert.AdaFRefIdeal.Facts] : Prop :=
  ∀ (m : (ℓ : Loc Cert.AdaFIdeal.nD Cert.AdaFIdeal.τ Cert.AdaFIdeal.sig) → Buf (Elt Ideal) ℓ) (g : Dev Cert.AdaFIdeal.nD → PrngReg)
    (m' : (ℓ : Loc Cert.AdaFRefIdeal.nD Cert.AdaFRefIdeal.τ Cert.AdaFRefIdeal.sig) → Buf (Elt Ideal) ℓ) (g' : Dev Cert.AdaFRefIdeal.nD → PrngReg), Pre_AdaFIdeal m →
    (∀ c : Dev Cert.AdaFIdeal.nD,
      m' ((c.tc : Thread Cert.AdaFRefIdeal.nD Cert.AdaFRefIdeal.τ).loc Cert.AdaFRefIdeal.main_arg0) = m ((c.tc : Thread Cert.AdaFIdeal.nD Cert.AdaFIdeal.τ).loc Cert.AdaFIdeal.main_arg0)
      ∧ m' ((c.tc : Thread Cert.AdaFRefIdeal.nD Cert.AdaFRefIdeal.τ).loc Cert.AdaFRefIdeal.main_arg1) = m ((c.tc : Thread Cert.AdaFIdeal.nD Cert.AdaFIdeal.τ).loc Cert.AdaFIdeal.main_arg1)
      ∧ m' ((c.tc : Thread Cert.AdaFRefIdeal.nD Cert.AdaFRefIdeal.τ).loc Cert.AdaFRefIdeal.main_arg2) = m ((c.tc : Thread Cert.AdaFIdeal.nD Cert.AdaFIdeal.τ).loc Cert.AdaFIdeal.main_arg2)) →
    ∃ (v0 : (c : Dev Cert.AdaFIdeal.nD) → Buf (Elt Ideal) ((c.tc : Thread Cert.AdaFIdeal.nD Cert.AdaFIdeal.τ).loc Cert.AdaFIdeal.main_v0)),
      θ_run (Cert.AdaFIdeal.defs (F := Ideal)) (onTc (τ := Cert.AdaFIdeal.τ) (Cert.AdaFIdeal.main (F := Ideal))) ⟨m, fun _ => 0, g⟩ (fun r => ∀ c : Dev Cert.AdaFIdeal.nD,
          r.2.mem ((c.tc : Thread Cert.AdaFIdeal.nD Cert.AdaFIdeal.τ).loc Cert.AdaFIdeal.main_v0) = v0 c
          ∧ r.2.mem ((c.tc : Thread Cert.AdaFIdeal.nD Cert.AdaFIdeal.τ).loc Cert.AdaFIdeal.main_arg0) = m ((c.tc : Thread Cert.AdaFIdeal.nD Cert.AdaFIdeal.τ).loc Cert.AdaFIdeal.main_arg0)
          ∧ r.2.mem ((c.tc : Thread Cert.AdaFIdeal.nD Cert.AdaFIdeal.τ).loc Cert.AdaFIdeal.main_arg1) = m ((c.tc : Thread Cert.AdaFIdeal.nD Cert.AdaFIdeal.τ).loc Cert.AdaFIdeal.main_arg1)
          ∧ r.2.mem ((c.tc : Thread Cert.AdaFIdeal.nD Cert.AdaFIdeal.τ).loc Cert.AdaFIdeal.main_arg2) = m ((c.tc : Thread Cert.AdaFIdeal.nD Cert.AdaFIdeal.τ).loc Cert.AdaFIdeal.main_arg2))
      ∧ θ_run (Cert.AdaFRefIdeal.defs (F := Ideal)) (onTc (τ := Cert.AdaFRefIdeal.τ) (Cert.AdaFRefIdeal.main (F := Ideal))) ⟨m', fun _ => 0, g'⟩ (fun r => ∀ c : Dev Cert.AdaFRefIdeal.nD,
          r.2.mem ((c.tc : Thread Cert.AdaFRefIdeal.nD Cert.AdaFRefIdeal.τ).loc Cert.AdaFRefIdeal.main_v20) = v0 c
          ∧ r.2.mem ((c.tc : Thread Cert.AdaFRefIdeal.nD Cert.AdaFRefIdeal.τ).loc Cert.AdaFRefIdeal.main_arg0) = m' ((c.tc : Thread Cert.AdaFRefIdeal.nD Cert.AdaFRefIdeal.τ).loc Cert.AdaFRefIdeal.main_arg0)
          ∧ r.2.mem ((c.tc : Thread Cert.AdaFRefIdeal.nD Cert.AdaFRefIdeal.τ).loc Cert.AdaFRefIdeal.main_arg1) = m' ((c.tc : Thread Cert.AdaFRefIdeal.nD Cert.AdaFRefIdeal.τ).loc Cert.AdaFRefIdeal.main_arg1)
          ∧ r.2.mem ((c.tc : Thread Cert.AdaFRefIdeal.nD Cert.AdaFRefIdeal.τ).loc Cert.AdaFRefIdeal.main_arg2) = m' ((c.tc : Thread Cert.AdaFRefIdeal.nD Cert.AdaFRefIdeal.τ).loc Cert.AdaFRefIdeal.main_arg2))

def preserves_LbF_LbFIdeal : Prop :=
  True

def algebraic_LbFIdeal_LbFRefIdeal [hLbFIdeal : Cert.LbFIdeal.Facts] [hLbFRefIdeal : Cert.LbFRefIdeal.Facts] : Prop :=
  ∀ (m : (ℓ : Loc Cert.LbFIdeal.nD Cert.LbFIdeal.τ Cert.LbFIdeal.sig) → Buf (Elt Ideal) ℓ) (g : Dev Cert.LbFIdeal.nD → PrngReg)
    (m' : (ℓ : Loc Cert.LbFRefIdeal.nD Cert.LbFRefIdeal.τ Cert.LbFRefIdeal.sig) → Buf (Elt Ideal) ℓ) (g' : Dev Cert.LbFRefIdeal.nD → PrngReg), Pre_LbFIdeal m →
    (∀ c : Dev Cert.LbFIdeal.nD,
      m' ((c.tc : Thread Cert.LbFRefIdeal.nD Cert.LbFRefIdeal.τ).loc Cert.LbFRefIdeal.main_arg0) = m ((c.tc : Thread Cert.LbFIdeal.nD Cert.LbFIdeal.τ).loc Cert.LbFIdeal.main_arg0)) →
    ∃ (v0 : (c : Dev Cert.LbFIdeal.nD) → Buf (Elt Ideal) ((c.tc : Thread Cert.LbFIdeal.nD Cert.LbFIdeal.τ).loc Cert.LbFIdeal.main_v0)),
      θ_run (Cert.LbFIdeal.defs (F := Ideal)) (onTc (τ := Cert.LbFIdeal.τ) (Cert.LbFIdeal.main (F := Ideal))) ⟨m, fun _ => 0, g⟩ (fun r => ∀ c : Dev Cert.LbFIdeal.nD,
          r.2.mem ((c.tc : Thread Cert.LbFIdeal.nD Cert.LbFIdeal.τ).loc Cert.LbFIdeal.main_v0) = v0 c
          ∧ r.2.mem ((c.tc : Thread Cert.LbFIdeal.nD Cert.LbFIdeal.τ).loc Cert.LbFIdeal.main_arg0) = m ((c.tc : Thread Cert.LbFIdeal.nD Cert.LbFIdeal.τ).loc Cert.LbFIdeal.main_arg0))
      ∧ θ_run (Cert.LbFRefIdeal.defs (F := Ideal)) (onTc (τ := Cert.LbFRefIdeal.τ) (Cert.LbFRefIdeal.main (F := Ideal))) ⟨m', fun _ => 0, g'⟩ (fun r => ∀ c : Dev Cert.LbFRefIdeal.nD,
          r.2.mem ((c.tc : Thread Cert.LbFRefIdeal.nD Cert.LbFRefIdeal.τ).loc Cert.LbFRefIdeal.main_v15) = v0 c
          ∧ r.2.mem ((c.tc : Thread Cert.LbFRefIdeal.nD Cert.LbFRefIdeal.τ).loc Cert.LbFRefIdeal.main_arg0) = m' ((c.tc : Thread Cert.LbFRefIdeal.nD Cert.LbFRefIdeal.τ).loc Cert.LbFRefIdeal.main_arg0))

def preserves_PoolF_PoolFIdeal : Prop :=
  True

def algebraic_PoolFIdeal_PoolFRefIdeal_pre_pool_finite [hPoolFIdeal : Cert.PoolFIdeal.Facts] [hPoolFRefIdeal : Cert.PoolFRefIdeal.Facts] [hPre_pool_finite : Cert.Pre_pool_finite.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFIdeal_pool_finite m →
    (∀ c : Dev Cert.PoolFIdeal.nD,
      m' ((c.tc : Thread Cert.PoolFRefIdeal.nD Cert.PoolFRefIdeal.τ).loc Cert.PoolFRefIdeal.main_arg0) = m ((c.tc : Thread Cert.PoolFIdeal.nD Cert.PoolFIdeal.τ).loc Cert.PoolFIdeal.main_arg0)
      ∧ m' ((c.tc : Thread Cert.PoolFRefIdeal.nD Cert.PoolFRefIdeal.τ).loc Cert.PoolFRefIdeal.main_arg1) = m ((c.tc : Thread Cert.PoolFIdeal.nD Cert.PoolFIdeal.τ).loc Cert.PoolFIdeal.main_arg1)
      ∧ m' ((c.tc : Thread Cert.PoolFRefIdeal.nD Cert.PoolFRefIdeal.τ).loc Cert.PoolFRefIdeal.main_arg2) = m ((c.tc : Thread Cert.PoolFIdeal.nD Cert.PoolFIdeal.τ).loc Cert.PoolFIdeal.main_arg2)) →
    ∃ (v0 : (c : Dev Cert.PoolFIdeal.nD) → Buf (Elt Ideal) ((c.tc : Thread Cert.PoolFIdeal.nD Cert.PoolFIdeal.τ).loc Cert.PoolFIdeal.main_v0)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v0) = v0 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
          ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
          ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v71) = v0 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0)
          ∧ r.2.mem ((c.tc : Thread Cert.PoolFRefIdeal.nD Cert.PoolFRefIdeal.τ).loc Cert.PoolFRefIdeal.main_arg1) = m' ((c.tc : Thread Cert.PoolFRefIdeal.nD Cert.PoolFRefIdeal.τ).loc Cert.PoolFRefIdeal.main_arg1)
          ∧ r.2.mem ((c.tc : Thread Cert.PoolFRefIdeal.nD Cert.PoolFRefIdeal.τ).loc Cert.PoolFRefIdeal.main_arg2) = m' ((c.tc : Thread Cert.PoolFRefIdeal.nD Cert.PoolFRefIdeal.τ).loc Cert.PoolFRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)) (v2 : (c : Dev Cert.MergeIdeal.nD) → Buf (Elt Ideal) ((c.tc : Thread Cert.MergeIdeal.nD Cert.MergeIdeal.τ).loc Cert.MergeIdeal.main_v5_2)) (v3 : (c : Dev Cert.MergeIdeal.nD) → Buf (Elt Ideal) ((c.tc : Thread Cert.MergeIdeal.nD Cert.MergeIdeal.τ).loc Cert.MergeIdeal.main_v5_3)) (v4 : (c : Dev Cert.MergeIdeal.nD) → Buf (Elt Ideal) ((c.tc : Thread Cert.MergeIdeal.nD Cert.MergeIdeal.τ).loc Cert.MergeIdeal.main_v5_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_v5_2) = v2 c
          ∧ r.2.mem ((c.tc : Thread Cert.MergeIdeal.nD Cert.MergeIdeal.τ).loc Cert.MergeIdeal.main_v5_3) = v3 c
          ∧ r.2.mem ((c.tc : Thread Cert.MergeIdeal.nD Cert.MergeIdeal.τ).loc Cert.MergeIdeal.main_v5_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_v23) = v1 c
          ∧ r.2.mem ((c.tc : Thread Cert.MergeRefIdeal.nD Cert.MergeRefIdeal.τ).loc Cert.MergeRefIdeal.main_v24) = v2 c
          ∧ r.2.mem ((c.tc : Thread Cert.MergeRefIdeal.nD Cert.MergeRefIdeal.τ).loc Cert.MergeRefIdeal.main_v25) = v3 c
          ∧ r.2.mem ((c.tc : Thread Cert.MergeRefIdeal.nD Cert.MergeRefIdeal.τ).loc Cert.MergeRefIdeal.main_v44) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_InP_InPIdeal : Prop :=
  True

def algebraic_InPIdeal_InPRefIdeal [hInPIdeal : Cert.InPIdeal.Facts] [hInPRefIdeal : Cert.InPRefIdeal.Facts] : Prop :=
  ∀ (m : (ℓ : Loc Cert.InPIdeal.nD Cert.InPIdeal.τ Cert.InPIdeal.sig) → Buf (Elt Ideal) ℓ) (g : Dev Cert.InPIdeal.nD → PrngReg)
    (m' : (ℓ : Loc Cert.InPRefIdeal.nD Cert.InPRefIdeal.τ Cert.InPRefIdeal.sig) → Buf (Elt Ideal) ℓ) (g' : Dev Cert.InPRefIdeal.nD → PrngReg), Pre_InPIdeal m →
    (∀ c : Dev Cert.InPIdeal.nD,
      m' ((c.tc : Thread Cert.InPRefIdeal.nD Cert.InPRefIdeal.τ).loc Cert.InPRefIdeal.main_arg0) = m ((c.tc : Thread Cert.InPIdeal.nD Cert.InPIdeal.τ).loc Cert.InPIdeal.main_arg0)
      ∧ m' ((c.tc : Thread Cert.InPRefIdeal.nD Cert.InPRefIdeal.τ).loc Cert.InPRefIdeal.main_arg1) = m ((c.tc : Thread Cert.InPIdeal.nD Cert.InPIdeal.τ).loc Cert.InPIdeal.main_arg1)) →
    ∃ (v0 : (c : Dev Cert.InPIdeal.nD) → Buf (Elt Ideal) ((c.tc : Thread Cert.InPIdeal.nD Cert.InPIdeal.τ).loc Cert.InPIdeal.main_v3)),
      θ_run (Cert.InPIdeal.defs (F := Ideal)) (onTc (τ := Cert.InPIdeal.τ) (Cert.InPIdeal.main (F := Ideal))) ⟨m, fun _ => 0, g⟩ (fun r => ∀ c : Dev Cert.InPIdeal.nD,
          r.2.mem ((c.tc : Thread Cert.InPIdeal.nD Cert.InPIdeal.τ).loc Cert.InPIdeal.main_v3) = v0 c
          ∧ r.2.mem ((c.tc : Thread Cert.InPIdeal.nD Cert.InPIdeal.τ).loc Cert.InPIdeal.main_arg0) = m ((c.tc : Thread Cert.InPIdeal.nD Cert.InPIdeal.τ).loc Cert.InPIdeal.main_arg0)
          ∧ r.2.mem ((c.tc : Thread Cert.InPIdeal.nD Cert.InPIdeal.τ).loc Cert.InPIdeal.main_arg1) = m ((c.tc : Thread Cert.InPIdeal.nD Cert.InPIdeal.τ).loc Cert.InPIdeal.main_arg1))
      ∧ θ_run (Cert.InPRefIdeal.defs (F := Ideal)) (onTc (τ := Cert.InPRefIdeal.τ) (Cert.InPRefIdeal.main (F := Ideal))) ⟨m', fun _ => 0, g'⟩ (fun r => ∀ c : Dev Cert.InPRefIdeal.nD,
          r.2.mem ((c.tc : Thread Cert.InPRefIdeal.nD Cert.InPRefIdeal.τ).loc Cert.InPRefIdeal.main_v1) = v0 c
          ∧ r.2.mem ((c.tc : Thread Cert.InPRefIdeal.nD Cert.InPRefIdeal.τ).loc Cert.InPRefIdeal.main_arg0) = m' ((c.tc : Thread Cert.InPRefIdeal.nD Cert.InPRefIdeal.τ).loc Cert.InPRefIdeal.main_arg0)
          ∧ r.2.mem ((c.tc : Thread Cert.InPRefIdeal.nD Cert.InPRefIdeal.τ).loc Cert.InPRefIdeal.main_arg1) = m' ((c.tc : Thread Cert.InPRefIdeal.nD Cert.InPRefIdeal.τ).loc Cert.InPRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v8) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_InH_InHIdeal : Prop :=
  True

def algebraic_InHIdeal_InHRefIdeal [hInHIdeal : Cert.InHIdeal.Facts] [hInHRefIdeal : Cert.InHRefIdeal.Facts] : Prop :=
  ∀ (m : (ℓ : Loc Cert.InHIdeal.nD Cert.InHIdeal.τ Cert.InHIdeal.sig) → Buf (Elt Ideal) ℓ) (g : Dev Cert.InHIdeal.nD → PrngReg)
    (m' : (ℓ : Loc Cert.InHRefIdeal.nD Cert.InHRefIdeal.τ Cert.InHRefIdeal.sig) → Buf (Elt Ideal) ℓ) (g' : Dev Cert.InHRefIdeal.nD → PrngReg), Pre_InHIdeal m →
    (∀ c : Dev Cert.InHIdeal.nD,
      m' ((c.tc : Thread Cert.InHRefIdeal.nD Cert.InHRefIdeal.τ).loc Cert.InHRefIdeal.main_arg0) = m ((c.tc : Thread Cert.InHIdeal.nD Cert.InHIdeal.τ).loc Cert.InHIdeal.main_arg0)
      ∧ m' ((c.tc : Thread Cert.InHRefIdeal.nD Cert.InHRefIdeal.τ).loc Cert.InHRefIdeal.main_arg1) = m ((c.tc : Thread Cert.InHIdeal.nD Cert.InHIdeal.τ).loc Cert.InHIdeal.main_arg1)) →
    ∃ (v0 : (c : Dev Cert.InHIdeal.nD) → Buf (Elt Ideal) ((c.tc : Thread Cert.InHIdeal.nD Cert.InHIdeal.τ).loc Cert.InHIdeal.main_v3)),
      θ_run (Cert.InHIdeal.defs (F := Ideal)) (onTc (τ := Cert.InHIdeal.τ) (Cert.InHIdeal.main (F := Ideal))) ⟨m, fun _ => 0, g⟩ (fun r => ∀ c : Dev Cert.InHIdeal.nD,
          r.2.mem ((c.tc : Thread Cert.InHIdeal.nD Cert.InHIdeal.τ).loc Cert.InHIdeal.main_v3) = v0 c
          ∧ r.2.mem ((c.tc : Thread Cert.InHIdeal.nD Cert.InHIdeal.τ).loc Cert.InHIdeal.main_arg0) = m ((c.tc : Thread Cert.InHIdeal.nD Cert.InHIdeal.τ).loc Cert.InHIdeal.main_arg0)
          ∧ r.2.mem ((c.tc : Thread Cert.InHIdeal.nD Cert.InHIdeal.τ).loc Cert.InHIdeal.main_arg1) = m ((c.tc : Thread Cert.InHIdeal.nD Cert.InHIdeal.τ).loc Cert.InHIdeal.main_arg1))
      ∧ θ_run (Cert.InHRefIdeal.defs (F := Ideal)) (onTc (τ := Cert.InHRefIdeal.τ) (Cert.InHRefIdeal.main (F := Ideal))) ⟨m', fun _ => 0, g'⟩ (fun r => ∀ c : Dev Cert.InHRefIdeal.nD,
          r.2.mem ((c.tc : Thread Cert.InHRefIdeal.nD Cert.InHRefIdeal.τ).loc Cert.InHRefIdeal.main_v3) = v0 c
          ∧ r.2.mem ((c.tc : Thread Cert.InHRefIdeal.nD Cert.InHRefIdeal.τ).loc Cert.InHRefIdeal.main_arg0) = m' ((c.tc : Thread Cert.InHRefIdeal.nD Cert.InHRefIdeal.τ).loc Cert.InHRefIdeal.main_arg0)
          ∧ r.2.mem ((c.tc : Thread Cert.InHRefIdeal.nD Cert.InHRefIdeal.τ).loc Cert.InHRefIdeal.main_arg1) = m' ((c.tc : Thread Cert.InHRefIdeal.nD Cert.InHRefIdeal.τ).loc Cert.InHRefIdeal.main_arg1))

def preserves_GOut_GOutIdeal : Prop :=
  True

def algebraic_GOutIdeal_GOutRefIdeal [hGOutIdeal : Cert.GOutIdeal.Facts] [hGOutRefIdeal : Cert.GOutRefIdeal.Facts] : Prop :=
  ∀ (m : (ℓ : Loc Cert.GOutIdeal.nD Cert.GOutIdeal.τ Cert.GOutIdeal.sig) → Buf (Elt Ideal) ℓ) (g : Dev Cert.GOutIdeal.nD → PrngReg)
    (m' : (ℓ : Loc Cert.GOutRefIdeal.nD Cert.GOutRefIdeal.τ Cert.GOutRefIdeal.sig) → Buf (Elt Ideal) ℓ) (g' : Dev Cert.GOutRefIdeal.nD → PrngReg), Pre_GOutIdeal m →
    (∀ c : Dev Cert.GOutIdeal.nD,
      m' ((c.tc : Thread Cert.GOutRefIdeal.nD Cert.GOutRefIdeal.τ).loc Cert.GOutRefIdeal.main_arg0) = m ((c.tc : Thread Cert.GOutIdeal.nD Cert.GOutIdeal.τ).loc Cert.GOutIdeal.main_arg0)
      ∧ m' ((c.tc : Thread Cert.GOutRefIdeal.nD Cert.GOutRefIdeal.τ).loc Cert.GOutRefIdeal.main_arg1) = m ((c.tc : Thread Cert.GOutIdeal.nD Cert.GOutIdeal.τ).loc Cert.GOutIdeal.main_arg1)
      ∧ m' ((c.tc : Thread Cert.GOutRefIdeal.nD Cert.GOutRefIdeal.τ).loc Cert.GOutRefIdeal.main_arg2) = m ((c.tc : Thread Cert.GOutIdeal.nD Cert.GOutIdeal.τ).loc Cert.GOutIdeal.main_arg2)
      ∧ m' ((c.tc : Thread Cert.GOutRefIdeal.nD Cert.GOutRefIdeal.τ).loc Cert.GOutRefIdeal.main_arg3) = m ((c.tc : Thread Cert.GOutIdeal.nD Cert.GOutIdeal.τ).loc Cert.GOutIdeal.main_arg3)
      ∧ m' ((c.tc : Thread Cert.GOutRefIdeal.nD Cert.GOutRefIdeal.τ).loc Cert.GOutRefIdeal.main_arg4) = m ((c.tc : Thread Cert.GOutIdeal.nD Cert.GOutIdeal.τ).loc Cert.GOutIdeal.main_arg4)
      ∧ m' ((c.tc : Thread Cert.GOutRefIdeal.nD Cert.GOutRefIdeal.τ).loc Cert.GOutRefIdeal.main_arg5) = m ((c.tc : Thread Cert.GOutIdeal.nD Cert.GOutIdeal.τ).loc Cert.GOutIdeal.main_arg5)) →
    ∃ (v0 : (c : Dev Cert.GOutIdeal.nD) → Buf (Elt Ideal) ((c.tc : Thread Cert.GOutIdeal.nD Cert.GOutIdeal.τ).loc Cert.GOutIdeal.main_v0_0)) (v1 : (c : Dev Cert.GOutIdeal.nD) → Buf (Elt Ideal) ((c.tc : Thread Cert.GOutIdeal.nD Cert.GOutIdeal.τ).loc Cert.GOutIdeal.main_v0_1)) (v2 : (c : Dev Cert.GOutIdeal.nD) → Buf (Elt Ideal) ((c.tc : Thread Cert.GOutIdeal.nD Cert.GOutIdeal.τ).loc Cert.GOutIdeal.main_v0_2)),
      θ_run (Cert.GOutIdeal.defs (F := Ideal)) (onTc (τ := Cert.GOutIdeal.τ) (Cert.GOutIdeal.main (F := Ideal))) ⟨m, fun _ => 0, g⟩ (fun r => ∀ c : Dev Cert.GOutIdeal.nD,
          r.2.mem ((c.tc : Thread Cert.GOutIdeal.nD Cert.GOutIdeal.τ).loc Cert.GOutIdeal.main_v0_0) = v0 c
          ∧ r.2.mem ((c.tc : Thread Cert.GOutIdeal.nD Cert.GOutIdeal.τ).loc Cert.GOutIdeal.main_v0_1) = v1 c
          ∧ r.2.mem ((c.tc : Thread Cert.GOutIdeal.nD Cert.GOutIdeal.τ).loc Cert.GOutIdeal.main_v0_2) = v2 c
          ∧ r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
          ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1)
          ∧ r.2.mem ((c.tc : Thread Cert.GOutIdeal.nD Cert.GOutIdeal.τ).loc Cert.GOutIdeal.main_arg2) = m ((c.tc : Thread Cert.GOutIdeal.nD Cert.GOutIdeal.τ).loc Cert.GOutIdeal.main_arg2)
          ∧ r.2.mem ((c.tc : Thread Cert.GOutIdeal.nD Cert.GOutIdeal.τ).loc Cert.GOutIdeal.main_arg3) = m ((c.tc : Thread Cert.GOutIdeal.nD Cert.GOutIdeal.τ).loc Cert.GOutIdeal.main_arg3)
          ∧ r.2.mem ((c.tc : Thread Cert.GOutIdeal.nD Cert.GOutIdeal.τ).loc Cert.GOutIdeal.main_arg4) = m ((c.tc : Thread Cert.GOutIdeal.nD Cert.GOutIdeal.τ).loc Cert.GOutIdeal.main_arg4)
          ∧ r.2.mem ((c.tc : Thread Cert.GOutIdeal.nD Cert.GOutIdeal.τ).loc Cert.GOutIdeal.main_arg5) = m ((c.tc : Thread Cert.GOutIdeal.nD Cert.GOutIdeal.τ).loc Cert.GOutIdeal.main_arg5))
      ∧ θ_run (Cert.GOutRefIdeal.defs (F := Ideal)) (onTc (τ := Cert.GOutRefIdeal.τ) (Cert.GOutRefIdeal.main (F := Ideal))) ⟨m', fun _ => 0, g'⟩ (fun r => ∀ c : Dev Cert.GOutRefIdeal.nD,
          r.2.mem ((c.tc : Thread Cert.GOutRefIdeal.nD Cert.GOutRefIdeal.τ).loc Cert.GOutRefIdeal.main_v20) = v0 c
          ∧ r.2.mem ((c.tc : Thread Cert.GOutRefIdeal.nD Cert.GOutRefIdeal.τ).loc Cert.GOutRefIdeal.main_v21) = v1 c
          ∧ r.2.mem ((c.tc : Thread Cert.GOutRefIdeal.nD Cert.GOutRefIdeal.τ).loc Cert.GOutRefIdeal.main_v22) = v2 c
          ∧ r.2.mem ((c.tc : Thread Cert.GOutRefIdeal.nD Cert.GOutRefIdeal.τ).loc Cert.GOutRefIdeal.main_arg0) = m' ((c.tc : Thread Cert.GOutRefIdeal.nD Cert.GOutRefIdeal.τ).loc Cert.GOutRefIdeal.main_arg0)
          ∧ r.2.mem ((c.tc : Thread Cert.GOutRefIdeal.nD Cert.GOutRefIdeal.τ).loc Cert.GOutRefIdeal.main_arg1) = m' ((c.tc : Thread Cert.GOutRefIdeal.nD Cert.GOutRefIdeal.τ).loc Cert.GOutRefIdeal.main_arg1)
          ∧ r.2.mem ((c.tc : Thread Cert.GOutRefIdeal.nD Cert.GOutRefIdeal.τ).loc Cert.GOutRefIdeal.main_arg2) = m' ((c.tc : Thread Cert.GOutRefIdeal.nD Cert.GOutRefIdeal.τ).loc Cert.GOutRefIdeal.main_arg2)
          ∧ r.2.mem ((c.tc : Thread Cert.GOutRefIdeal.nD Cert.GOutRefIdeal.τ).loc Cert.GOutRefIdeal.main_arg3) = m' ((c.tc : Thread Cert.GOutRefIdeal.nD Cert.GOutRefIdeal.τ).loc Cert.GOutRefIdeal.main_arg3)
          ∧ r.2.mem ((c.tc : Thread Cert.GOutRefIdeal.nD Cert.GOutRefIdeal.τ).loc Cert.GOutRefIdeal.main_arg4) = m' ((c.tc : Thread Cert.GOutRefIdeal.nD Cert.GOutRefIdeal.τ).loc Cert.GOutRefIdeal.main_arg4)
          ∧ r.2.mem ((c.tc : Thread Cert.GOutRefIdeal.nD Cert.GOutRefIdeal.τ).loc Cert.GOutRefIdeal.main_arg5) = m' ((c.tc : Thread Cert.GOutRefIdeal.nD Cert.GOutRefIdeal.τ).loc Cert.GOutRefIdeal.main_arg5))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)) →
    ∃ (v0 : (c : Dev Cert.AdamwIdeal.nD) → Buf (Elt Ideal) ((c.tc : Thread Cert.AdamwIdeal.nD Cert.AdamwIdeal.τ).loc Cert.AdamwIdeal.main_v1_0)) (v1 : (c : Dev Cert.AdamwIdeal.nD) → Buf (Elt Ideal) ((c.tc : Thread Cert.AdamwIdeal.nD Cert.AdamwIdeal.τ).loc Cert.AdamwIdeal.main_v1_1)) (v2 : (c : Dev Cert.AdamwIdeal.nD) → Buf (Elt Ideal) ((c.tc : Thread Cert.AdamwIdeal.nD Cert.AdamwIdeal.τ).loc Cert.AdamwIdeal.main_v1_2)) (v3 : (c : Dev Cert.AdamwIdeal.nD) → Buf (Elt Ideal) ((c.tc : Thread Cert.AdamwIdeal.nD Cert.AdamwIdeal.τ).loc Cert.AdamwIdeal.main_v1_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v1_0) = v0 c
          ∧ r.2.mem ((c.tc : Thread Cert.AdamwIdeal.nD Cert.AdamwIdeal.τ).loc Cert.AdamwIdeal.main_v1_1) = v1 c
          ∧ r.2.mem ((c.tc : Thread Cert.AdamwIdeal.nD Cert.AdamwIdeal.τ).loc Cert.AdamwIdeal.main_v1_2) = v2 c
          ∧ r.2.mem ((c.tc : Thread Cert.AdamwIdeal.nD Cert.AdamwIdeal.τ).loc Cert.AdamwIdeal.main_v1_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v0) = v0 c
          ∧ r.2.mem ((c.tc : Thread Cert.AdamwRefIdeal.nD Cert.AdamwRefIdeal.τ).loc Cert.AdamwRefIdeal.main_v24) = v1 c
          ∧ r.2.mem ((c.tc : Thread Cert.AdamwRefIdeal.nD Cert.AdamwRefIdeal.τ).loc Cert.AdamwRefIdeal.main_v5) = v2 c
          ∧ r.2.mem ((c.tc : Thread Cert.AdamwRefIdeal.nD Cert.AdamwRefIdeal.τ).loc Cert.AdamwRefIdeal.main_v11) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4))

def preserves_Psum_PsumIdeal : Prop :=
  True

def algebraic_PsumIdeal_PsumRefIdeal [hPsumIdeal : Cert.PsumIdeal.Facts] [hPsumRefIdeal : Cert.PsumRefIdeal.Facts] : Prop :=
  ∀ (m : (ℓ : Loc Cert.PsumIdeal.nD Cert.PsumIdeal.τ Cert.PsumIdeal.sig) → Buf (Elt Ideal) ℓ) (g : Dev Cert.PsumIdeal.nD → PrngReg)
    (m' : (ℓ : Loc Cert.PsumRefIdeal.nD Cert.PsumRefIdeal.τ Cert.PsumRefIdeal.sig) → Buf (Elt Ideal) ℓ) (g' : Dev Cert.PsumRefIdeal.nD → PrngReg), Pre_PsumIdeal m →
    (∀ c : Dev Cert.PsumIdeal.nD,
      m' ((c.tc : Thread Cert.PsumRefIdeal.nD Cert.PsumRefIdeal.τ).loc Cert.PsumRefIdeal.main_arg0) = m ((c.tc : Thread Cert.PsumIdeal.nD Cert.PsumIdeal.τ).loc Cert.PsumIdeal.main_arg0)
      ∧ m' ((c.tc : Thread Cert.PsumRefIdeal.nD Cert.PsumRefIdeal.τ).loc Cert.PsumRefIdeal.main_arg1) = m ((c.tc : Thread Cert.PsumIdeal.nD Cert.PsumIdeal.τ).loc Cert.PsumIdeal.main_arg1)) →
    ∃ (v0 : (c : Dev Cert.PsumIdeal.nD) → Buf (Elt Ideal) ((c.tc : Thread Cert.PsumIdeal.nD Cert.PsumIdeal.τ).loc Cert.PsumIdeal.main_v0)),
      θ_run (Cert.PsumIdeal.defs (F := Ideal)) (onTc (τ := Cert.PsumIdeal.τ) (Cert.PsumIdeal.main (F := Ideal))) ⟨m, fun _ => 0, g⟩ (fun r => ∀ c : Dev Cert.PsumIdeal.nD,
          r.2.mem ((c.tc : Thread Cert.PsumIdeal.nD Cert.PsumIdeal.τ).loc Cert.PsumIdeal.main_v0) = v0 c
          ∧ r.2.mem ((c.tc : Thread Cert.PsumIdeal.nD Cert.PsumIdeal.τ).loc Cert.PsumIdeal.main_arg0) = m ((c.tc : Thread Cert.PsumIdeal.nD Cert.PsumIdeal.τ).loc Cert.PsumIdeal.main_arg0)
          ∧ r.2.mem ((c.tc : Thread Cert.PsumIdeal.nD Cert.PsumIdeal.τ).loc Cert.PsumIdeal.main_arg1) = m ((c.tc : Thread Cert.PsumIdeal.nD Cert.PsumIdeal.τ).loc Cert.PsumIdeal.main_arg1))
      ∧ θ_run (Cert.PsumRefIdeal.defs (F := Ideal)) (onTc (τ := Cert.PsumRefIdeal.τ) (Cert.PsumRefIdeal.main (F := Ideal))) ⟨m', fun _ => 0, g'⟩ (fun r => ∀ c : Dev Cert.PsumRefIdeal.nD,
          r.2.mem ((c.tc : Thread Cert.PsumRefIdeal.nD Cert.PsumRefIdeal.τ).loc Cert.PsumRefIdeal.main_v16) = v0 c
          ∧ r.2.mem ((c.tc : Thread Cert.PsumRefIdeal.nD Cert.PsumRefIdeal.τ).loc Cert.PsumRefIdeal.main_arg0) = m' ((c.tc : Thread Cert.PsumRefIdeal.nD Cert.PsumRefIdeal.τ).loc Cert.PsumRefIdeal.main_arg0)
          ∧ r.2.mem ((c.tc : Thread Cert.PsumRefIdeal.nD Cert.PsumRefIdeal.τ).loc Cert.PsumRefIdeal.main_arg1) = m' ((c.tc : Thread Cert.PsumRefIdeal.nD Cert.PsumRefIdeal.τ).loc Cert.PsumRefIdeal.main_arg1))

def Claim : Prop :=
  ∃ (hPrenorm : Cert.Prenorm.Facts) (hPrenormIdeal : Cert.PrenormIdeal.Facts) (hPrenormRefIdeal : Cert.PrenormRefIdeal.Facts) (hHgrnFwd : Cert.HgrnFwd.Facts) (hHgrnFwdIdeal : Cert.HgrnFwdIdeal.Facts) (hHgrnRefIdeal : Cert.HgrnRefIdeal.Facts) (hLoss : Cert.Loss.Facts) (hLossIdeal : Cert.LossIdeal.Facts) (hLossRefIdeal : Cert.LossRefIdeal.Facts) (hAdaBwd : Cert.AdaBwd.Facts) (hAdaBwdIdeal : Cert.AdaBwdIdeal.Facts) (hAdaRefIdeal : Cert.AdaRefIdeal.Facts) (hPrenF : Cert.PrenF.Facts) (hPrenFIdeal : Cert.PrenFIdeal.Facts) (hPrenFRefIdeal : Cert.PrenFRefIdeal.Facts) (hAdaF : Cert.AdaF.Facts) (hAdaFIdeal : Cert.AdaFIdeal.Facts) (hAdaFRefIdeal : Cert.AdaFRefIdeal.Facts) (hLbF : Cert.LbF.Facts) (hLbFIdeal : Cert.LbFIdeal.Facts) (hLbFRefIdeal : Cert.LbFRefIdeal.Facts) (hPoolF : Cert.PoolF.Facts) (hPoolFIdeal : Cert.PoolFIdeal.Facts) (hPoolFRefIdeal : Cert.PoolFRefIdeal.Facts) (hMerge : Cert.Merge.Facts) (hMergeIdeal : Cert.MergeIdeal.Facts) (hMergeRefIdeal : Cert.MergeRefIdeal.Facts) (hInP : Cert.InP.Facts) (hInPIdeal : Cert.InPIdeal.Facts) (hInPRefIdeal : Cert.InPRefIdeal.Facts) (hInW : Cert.InW.Facts) (hInWIdeal : Cert.InWIdeal.Facts) (hInWRefIdeal : Cert.InWRefIdeal.Facts) (hInH : Cert.InH.Facts) (hInHIdeal : Cert.InHIdeal.Facts) (hInHRefIdeal : Cert.InHRefIdeal.Facts) (hGOut : Cert.GOut.Facts) (hGOutIdeal : Cert.GOutIdeal.Facts) (hGOutRefIdeal : Cert.GOutRefIdeal.Facts) (hAdamw : Cert.Adamw.Facts) (hAdamwIdeal : Cert.AdamwIdeal.Facts) (hAdamwRefIdeal : Cert.AdamwRefIdeal.Facts) (hPsum : Cert.Psum.Facts) (hPsumIdeal : Cert.PsumIdeal.Facts) (hPsumRefIdeal : Cert.PsumRefIdeal.Facts) (hPre_prenorm_finite : Cert.Pre_prenorm_finite.Facts) (hPre_hgrn_finite : Cert.Pre_hgrn_finite.Facts) (hPre_pool_finite : Cert.Pre_pool_finite.Facts),
    quiescent_Prenorm (hPrenorm := hPrenorm)
    ∧ quiescent_PrenormIdeal (hPrenormIdeal := hPrenormIdeal)
    ∧ quiescent_PrenormIdeal_pre_prenorm_finite (hPrenormIdeal := hPrenormIdeal) (hPre_prenorm_finite := hPre_prenorm_finite)
    ∧ quiescent_PrenormRefIdeal (hPrenormRefIdeal := hPrenormRefIdeal)
    ∧ quiescent_PrenormRefIdeal_pre_prenorm_finite (hPrenormRefIdeal := hPrenormRefIdeal) (hPre_prenorm_finite := hPre_prenorm_finite)
    ∧ quiescent_HgrnFwd (hHgrnFwd := hHgrnFwd)
    ∧ quiescent_HgrnFwdIdeal (hHgrnFwdIdeal := hHgrnFwdIdeal)
    ∧ quiescent_HgrnFwdIdeal_pre_hgrn_finite (hHgrnFwdIdeal := hHgrnFwdIdeal) (hPre_hgrn_finite := hPre_hgrn_finite)
    ∧ quiescent_HgrnRefIdeal (hHgrnRefIdeal := hHgrnRefIdeal)
    ∧ quiescent_HgrnRefIdeal_pre_hgrn_finite (hHgrnRefIdeal := hHgrnRefIdeal) (hPre_hgrn_finite := hPre_hgrn_finite)
    ∧ quiescent_Loss (hLoss := hLoss)
    ∧ quiescent_LossIdeal (hLossIdeal := hLossIdeal)
    ∧ quiescent_LossRefIdeal (hLossRefIdeal := hLossRefIdeal)
    ∧ quiescent_AdaBwd (hAdaBwd := hAdaBwd)
    ∧ quiescent_AdaBwdIdeal (hAdaBwdIdeal := hAdaBwdIdeal)
    ∧ quiescent_AdaRefIdeal (hAdaRefIdeal := hAdaRefIdeal)
    ∧ quiescent_PrenF (hPrenF := hPrenF)
    ∧ quiescent_PrenFIdeal (hPrenFIdeal := hPrenFIdeal)
    ∧ quiescent_PrenFRefIdeal (hPrenFRefIdeal := hPrenFRefIdeal)
    ∧ quiescent_AdaF (hAdaF := hAdaF)
    ∧ quiescent_AdaFIdeal (hAdaFIdeal := hAdaFIdeal)
    ∧ quiescent_AdaFRefIdeal (hAdaFRefIdeal := hAdaFRefIdeal)
    ∧ quiescent_LbF (hLbF := hLbF)
    ∧ quiescent_LbFIdeal (hLbFIdeal := hLbFIdeal)
    ∧ quiescent_LbFRefIdeal (hLbFRefIdeal := hLbFRefIdeal)
    ∧ quiescent_PoolF (hPoolF := hPoolF)
    ∧ quiescent_PoolFIdeal (hPoolFIdeal := hPoolFIdeal)
    ∧ quiescent_PoolFIdeal_pre_pool_finite (hPoolFIdeal := hPoolFIdeal) (hPre_pool_finite := hPre_pool_finite)
    ∧ quiescent_PoolFRefIdeal (hPoolFRefIdeal := hPoolFRefIdeal)
    ∧ quiescent_PoolFRefIdeal_pre_pool_finite (hPoolFRefIdeal := hPoolFRefIdeal) (hPre_pool_finite := hPre_pool_finite)
    ∧ quiescent_Merge (hMerge := hMerge)
    ∧ quiescent_MergeIdeal (hMergeIdeal := hMergeIdeal)
    ∧ quiescent_MergeRefIdeal (hMergeRefIdeal := hMergeRefIdeal)
    ∧ quiescent_InP (hInP := hInP)
    ∧ quiescent_InPIdeal (hInPIdeal := hInPIdeal)
    ∧ quiescent_InPRefIdeal (hInPRefIdeal := hInPRefIdeal)
    ∧ quiescent_InW (hInW := hInW)
    ∧ quiescent_InWIdeal (hInWIdeal := hInWIdeal)
    ∧ quiescent_InWRefIdeal (hInWRefIdeal := hInWRefIdeal)
    ∧ quiescent_InH (hInH := hInH)
    ∧ quiescent_InHIdeal (hInHIdeal := hInHIdeal)
    ∧ quiescent_InHRefIdeal (hInHRefIdeal := hInHRefIdeal)
    ∧ quiescent_GOut (hGOut := hGOut)
    ∧ quiescent_GOutIdeal (hGOutIdeal := hGOutIdeal)
    ∧ quiescent_GOutRefIdeal (hGOutRefIdeal := hGOutRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Psum (hPsum := hPsum)
    ∧ quiescent_PsumIdeal (hPsumIdeal := hPsumIdeal)
    ∧ quiescent_PsumRefIdeal (hPsumRefIdeal := hPsumRefIdeal)
    ∧ preserves_Prenorm_PrenormIdeal
    ∧ algebraic_PrenormIdeal_PrenormRefIdeal_pre_prenorm_finite (hPrenormIdeal := hPrenormIdeal) (hPrenormRefIdeal := hPrenormRefIdeal) (hPre_prenorm_finite := hPre_prenorm_finite)
    ∧ preserves_HgrnFwd_HgrnFwdIdeal
    ∧ algebraic_HgrnFwdIdeal_HgrnRefIdeal_pre_hgrn_finite (hHgrnFwdIdeal := hHgrnFwdIdeal) (hHgrnRefIdeal := hHgrnRefIdeal) (hPre_hgrn_finite := hPre_hgrn_finite)
    ∧ preserves_Loss_LossIdeal
    ∧ algebraic_LossIdeal_LossRefIdeal (hLossIdeal := hLossIdeal) (hLossRefIdeal := hLossRefIdeal)
    ∧ preserves_AdaBwd_AdaBwdIdeal
    ∧ algebraic_AdaBwdIdeal_AdaRefIdeal (hAdaBwdIdeal := hAdaBwdIdeal) (hAdaRefIdeal := hAdaRefIdeal)
    ∧ preserves_PrenF_PrenFIdeal
    ∧ algebraic_PrenFIdeal_PrenFRefIdeal (hPrenFIdeal := hPrenFIdeal) (hPrenFRefIdeal := hPrenFRefIdeal)
    ∧ preserves_AdaF_AdaFIdeal
    ∧ algebraic_AdaFIdeal_AdaFRefIdeal (hAdaFIdeal := hAdaFIdeal) (hAdaFRefIdeal := hAdaFRefIdeal)
    ∧ preserves_LbF_LbFIdeal
    ∧ algebraic_LbFIdeal_LbFRefIdeal (hLbFIdeal := hLbFIdeal) (hLbFRefIdeal := hLbFRefIdeal)
    ∧ preserves_PoolF_PoolFIdeal
    ∧ algebraic_PoolFIdeal_PoolFRefIdeal_pre_pool_finite (hPoolFIdeal := hPoolFIdeal) (hPoolFRefIdeal := hPoolFRefIdeal) (hPre_pool_finite := hPre_pool_finite)
    ∧ preserves_Merge_MergeIdeal
    ∧ algebraic_MergeIdeal_MergeRefIdeal (hMergeIdeal := hMergeIdeal) (hMergeRefIdeal := hMergeRefIdeal)
    ∧ preserves_InP_InPIdeal
    ∧ algebraic_InPIdeal_InPRefIdeal (hInPIdeal := hInPIdeal) (hInPRefIdeal := hInPRefIdeal)
    ∧ preserves_InW_InWIdeal
    ∧ algebraic_InWIdeal_InWRefIdeal (hInWIdeal := hInWIdeal) (hInWRefIdeal := hInWRefIdeal)
    ∧ preserves_InH_InHIdeal
    ∧ algebraic_InHIdeal_InHRefIdeal (hInHIdeal := hInHIdeal) (hInHRefIdeal := hInHRefIdeal)
    ∧ preserves_GOut_GOutIdeal
    ∧ algebraic_GOutIdeal_GOutRefIdeal (hGOutIdeal := hGOutIdeal) (hGOutRefIdeal := hGOutRefIdeal)
    ∧ preserves_Adamw_AdamwIdeal
    ∧ algebraic_AdamwIdeal_AdamwRefIdeal (hAdamwIdeal := hAdamwIdeal) (hAdamwRefIdeal := hAdamwRefIdeal)
    ∧ preserves_Psum_PsumIdeal
    ∧ algebraic_PsumIdeal_PsumRefIdeal (hPsumIdeal := hPsumIdeal) (hPsumRefIdeal := hPsumRefIdeal)
-- ==== Pre_hgrn_finite.lean ====
abbrev S2048x7168 : Shape := ⟨2, ![2048, 7168]⟩
abbrev S1x1024 : Shape := ⟨2, ![1, 1024]⟩
abbrev S1x128 : Shape := ⟨2, ![1, 128]⟩
abbrev S_ : Shape := ⟨0, ![]⟩
abbrev S2048x1024 : Shape := ⟨2, ![2048, 1024]⟩

class Facts : Prop where
  bcast_S_S1x1024 : S_.BroadcastsInDim S1x1024 (![] : Fin 0 → Fin S1x1024.rank)
  slices_S2048x7168_S2048x1024_0_2048 : S2048x7168.Slices ![0, 2048] S2048x1024
  bcast_S_S2048x1024 : S_.BroadcastsInDim S2048x1024 (![] : Fin 0 → Fin S2048x1024.rank)
  bcast_S1x1024_S2048x1024_0_1 : S1x1024.BroadcastsInDim S2048x1024 (![0, 1] : Fin 2 → Fin S2048x1024.rank)
  bcast_S_S2048x7168 : S_.BroadcastsInDim S2048x7168 (![] : Fin 0 → Fin S2048x7168.rank)
  reducesTo_S2048x7168_S_d0_1 : S2048x7168.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  reducesTo_S1x1024_S_d0_1 : S1x1024.ReducesTo [0, 1] S_
  reducesTo_S2048x1024_S_d0_1 : S2048x1024.ReducesTo [0, 1] S_

variable [Facts]

def fn_part1 {F : FTy → Type} [FloatOps F] (main_arg1 : FVec F S1x1024 .f32) (main_v12 : FVec F S2048x1024 .f32) (main_v16 : IVec S_ 1) (main_v17 : FVec F S1x128 .f32) (main_cst_3 : FVec F S_ .f32) : IVec S_ 1 :=
  let main_v18 : FVec F S1x128 .f32 := broadcastInDim S1x128 ![] bcast_S_S1x128 main_cst_3
  let main_v19 : IVec S1x128 1 := cmpf .olt main_v17 main_v18
  let main_c_4 : IVec S_ 1 := constantI S_ 1 1#1
  let main_v20 : IVec S_ 1 := (fun x v => Host.reduce IntOp.andi x v reducesTo_S1x128_S_d0_1 h_S_) main_v19 main_c_4
  let main_v21 : IVec S_ 1 := andi main_v16 main_v20
  let main_cst_5 : FVec F S_ .f32 := constant S_ .f32 0x00000000#32
  let main_v22 : FVec F S1x1024 .f32 := broadcastInDim S1x1024 ![] bcast_S_S1x1024 main_cst_5
  let main_v23 : IVec S1x1024 1 := cmpf .oge main_arg1 main_v22
  let main_c_6 : IVec S_ 1 := constantI S_ 1 1#1
  let main_v24 : IVec S_ 1 := (fun x v => Host.reduce IntOp.andi x v reducesTo_S1x1024_S_d0_1 h_S_) main_v23 main_c_6
  let main_v25 : IVec S_ 1 := andi main_v21 main_v24
  let main_cst_7 : FVec F S_ .f32 := constant S_ .f32 0x3F800000#32
  let main_v26 : FVec F S1x1024 .f32 := broadcastInDim S1x1024 ![] bcast_S_S1x1024 main_cst_7
  let main_v27 : IVec S1x1024 1 := cmpf .ole main_arg1 main_v26
  let main_c_8 : IVec S_ 1 := constantI S_ 1 1#1
  let main_v28 : IVec S_ 1 := (fun x v => Host.reduce IntOp.andi x v reducesTo_S1x1024_S_d0_1 h_S_) main_v27 main_c_8
  let main_v29 : IVec S_ 1 := andi main_v25 main_v28
  let main_cst_9 : FVec F S_ .f32 := constant S_ .f32 0x3C000000#32
  let main_v30 : FVec F S2048x1024 .f32 := broadcastInDim S2048x1024 ![] bcast_S_S2048x1024 main_cst_9
  let main_v31 : IVec S2048x1024 1 := cmpf .oge main_v12 main_v30
  let main_c_10 : IVec S_ 1 := constantI S_ 1 1#1
  let main_v32 : IVec S_ 1 := (fun x v => Host.reduce IntOp.andi x v reducesTo_S2048x1024_S_d0_1 h_S_) main_v31 main_c_10
  let main_v33 : IVec S_ 1 := andi main_v29 main_v32
  main_v33

def fn {F : FTy → Type} [FloatOps F] (main_arg0 : FVec F S2048x7168 .f32) (main_arg1 : FVec F S1x1024 .f32) (main_arg2 : FVec F S1x128 .f32) : IVec S_ 1 :=
  let main_cst : FVec F S_ .f32 := constant S_ .f32 0x3F800000#32
  let main_v0 : FVec F S1x1024 .f32 := broadcastInDim S1x1024 ![] bcast_S_S1x1024 main_cst
  let main_v1 : FVec F S1x1024 .f32 := subf main_v0 main_arg1
  let main_v2 : FVec F S2048x1024 .f32 := (extractStridedSlice S2048x1024 ![0, 2048] · slices_S2048x7168_S2048x1024_0_2048) main_arg0
  let main_v3 : FVec F S2048x1024 .f32 := Host.negf main_v2
  let main_v4 : FVec F S2048x1024 .f32 := Host.exp main_v3
  let main_cst_0 : FVec F S_ .f32 := constant S_ .f32 0x3F800000#32
  let main_v5 : FVec F S2048x1024 .f32 := broadcastInDim S2048x1024 ![] bcast_S_S2048x1024 main_cst_0
  let main_v6 : FVec F S2048x1024 .f32 := addf main_v5 main_v4
  let main_cst_1 : FVec F S_ .f32 := constant S_ .f32 0x3F800000#32
  let main_v7 : FVec F S2048x1024 .f32 := broadcastInDim S2048x1024 ![] bcast_S_S2048x1024 main_cst_1
  let main_v8 : FVec F S2048x1024 .f32 := Host.divf main_v7 main_v6
  let main_v9 : FVec F S2048x1024 .f32 := broadcastInDim S2048x1024 ![0, 1] bcast_S1x1024_S2048x1024_0_1 main_v1
  let main_v10 : FVec F S2048x1024 .f32 := mulf main_v9 main_v8
  let main_v11 : FVec F S2048x1024 .f32 := broadcastInDim S2048x1024 ![0, 1] bcast_S1x1024_S2048x1024_0_1 main_arg1
  let main_v12 : FVec F S2048x1024 .f32 := addf main_v11 main_v10
  let main_v13 : FVec F S2048x7168 .f32 := Host.absf main_arg0
  let main_cst_2 : FVec F S_ .f32 := constant S_ .f32 0x7F800000#32
  let main_v14 : FVec F S2048x7168 .f32 := broadcastInDim S2048x7168 ![] bcast_S_S2048x7168 main_cst_2
  let main_v15 : IVec S2048x7168 1 := cmpf .olt main_v13 main_v14
  let main_c : IVec S_ 1 := constantI S_ 1 1#1
  let main_v16 : IVec S_ 1 := (fun x v => Host.reduce IntOp.andi x v reducesTo_S2048x7168_S_d0_1 h_S_) main_v15 main_c
  let main_v17 : FVec F S1x128 .f32 := Host.absf main_arg2
  let main_cst_3 : FVec F S_ .f32 := constant S_ .f32 0x7F800000#32
  fn_part1 (F := F) main_arg1 main_v12 main_v16 main_v17 main_cst_3
-- ==== Pre_pool_finite.lean ====
abbrev S2048x7168 : Shape := ⟨2, ![2048, 7168]⟩
abbrev S4x128x128 : Shape := ⟨3, ![4, 128, 128]⟩
abbrev S1x512 : Shape := ⟨2, ![1, 512]⟩
abbrev S2048x512 : Shape := ⟨2, ![2048, 512]⟩
abbrev S_ : Shape := ⟨0, ![]⟩

class Facts : Prop where
  slices_S2048x7168_S2048x512_0_0 : S2048x7168.Slices ![0, 0] S2048x512
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x7168 .f32) (main_arg1 : FVec F S4x128x128 .f32) (main_arg2 : FVec F S1x512 .f32) : IVec S_ 1 :=
  let main_v0 : FVec F S2048x512 .f32 := (extractStridedSlice S2048x512 ![0, 0] · slices_S2048x7168_S2048x512_0_0) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  main_v4
-- ==== Pre_prenorm_finite.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S2048x1024 .f32) (main_arg1 : FVec F S2048x1024 .f32) (main_arg2 : FVec F S2048x1024 .f32) (main_arg3 : FVec F S1x1024 .f32) (main_arg4 : FVec F S1x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Prenorm.lean ====
abbrev S2048x1024 : Shape := ⟨2, ![2048, 1024]⟩
abbrev S1x1024 : Shape := ⟨2, ![1, 1024]⟩
abbrev S8x1024 : Shape := ⟨2, ![8, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S8x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PrenormRefIdeal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩
abbrev S2048 : Shape := ⟨1, ![2048]⟩
abbrev S2048x1 : Shape := ⟨2, ![2048, 1]⟩
abbrev S5x1024 : Shape := ⟨2, ![5, 1024]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S_, .f32⟩
  | .hbm, ⟨44, _⟩ => ⟨S1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1, .f32⟩
  | .hbm, ⟨69, _⟩ => ⟨S_, .f32⟩
  | .hbm, ⟨70, _⟩ => ⟨S2048x1, .f32⟩
  | .hbm, ⟨71, _⟩ => ⟨S2048x1, .f32⟩
  | .hbm, ⟨72, _⟩ => ⟨S_, .f32⟩
  | .hbm, ⟨73, _⟩ => ⟨S2048, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S5x1024, .f32⟩
  | .hbm, ⟨84, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== HgrnFwd.lean ====
abbrev S2048x7168 : Shape := ⟨2, ![2048, 7168]⟩
abbrev S1x1024 : Shape := ⟨2, ![1, 1024]⟩
abbrev S1x128 : Shape := ⟨2, ![1, 128]⟩
abbrev S2048x1024 : Shape := ⟨2, ![2048, 1024]⟩
abbrev S32x8x128x128 : Shape := ⟨4, ![32, 8, 128, 128]⟩
abbrev S2048x2048 : Shape := ⟨2, ![2048, 2048]⟩
abbrev S512x1024 : Shape := ⟨2, ![512, 1024]⟩
abbrev S8x8x128x128 : Shape := ⟨4, ![8, 8, 128, 128]⟩
abbrev S512x2048 : Shape := ⟨2, ![512, 2048]⟩
abbrev S8x128x128 : Shape := ⟨3, ![8, 128, 128]⟩
abbrev S64x64 : Shape := ⟨2, ![64, 64]⟩
abbrev S64x1024 : Shape := ⟨2, ![64, 1024]⟩
abbrev S128x64 : Shape := ⟨2, ![128, 64]⟩
abbrev S128x1024 : Shape := ⟨2, ![128, 1024]⟩
abbrev S1x8x128x128 : Shape := ⟨4, ![1, 8, 128, 128]⟩
abbrev S64x128 : Shape := ⟨2, ![64, 128]⟩
abbrev S1x128x128 : Shape := ⟨3, ![1, 128, 128]⟩
abbrev S128x128 : Shape := ⟨2, ![128, 128]⟩
abbrev S16x128 : Shape := ⟨2, ![16, 128]⟩
abbrev S16x64 : Shape := ⟨2, ![16, 64]⟩
abbrev S128 : Shape := ⟨1, ![128]⟩
abbrev S64 : Shape := ⟨1, ![64]⟩
abbrev S64x1 : Shape := ⟨2, ![64, 1]⟩

abbrev nBuf : Space → Nat
  | .hbm => 7
  | .vmem => 19
  | .smem => 0
  | _ => 0

abbrev bufTy : (tb : Table) → Fin (tcTables nBuf tb) → BufTy
  | .hbm, ⟨0, _⟩ => ⟨S2048x7168, .f32⟩
  | .hbm, ⟨1, _⟩ => ⟨S1x1024, .f32⟩
  | .hbm, ⟨2, _⟩ => ⟨S1x128, .f32⟩
  | .hbm, ⟨3, _⟩ => ⟨S2048x1024, .f32⟩
  | .hbm, ⟨4, _⟩ => ⟨S2048x1024, .bf16⟩
  | .hbm, ⟨5, _⟩ => ⟨S32x8x128x128, .f32⟩
  | .hbm, ⟨6, _⟩ => ⟨S2048x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x128, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x8x128x128, .f32⟩
  | .local _ .vmem, ⟨15, _⟩ => ⟨S8x8x128x128, .f32⟩
  | .local _ .vmem, ⟨16, _⟩ => ⟨S512x2048, .f32⟩
  | .local _ .vmem, ⟨17, _⟩ => ⟨S512x2048, .f32⟩
  | .local _ .vmem, ⟨18, _⟩ => ⟨S8x128x128, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== HgrnRefIdeal.lean ====
abbrev S2048x7168 : Shape := ⟨2, ![2048, 7168]⟩
abbrev S1x1024 : Shape := ⟨2, ![1, 1024]⟩
abbrev S1x128 : Shape := ⟨2, ![1, 128]⟩
abbrev S2048x1024 : Shape := ⟨2, ![2048, 1024]⟩
abbrev S1024 : Shape := ⟨1, ![1024]⟩
abbrev S8x128 : Shape := ⟨2, ![8, 128]⟩
abbrev S1x2048x8x128 : Shape := ⟨4, ![1, 2048, 8, 128]⟩
abbrev S_ : Shape := ⟨0, ![]⟩
abbrev S1x1x8x128 : Shape := ⟨4, ![1, 1, 8, 128]⟩
abbrev S1x8x128x128 : Shape := ⟨4, ![1, 8, 128, 128]⟩
abbrev S1x32x64x8x128 : Shape := ⟨5, ![1, 32, 64, 8, 128]⟩
abbrev S32x1x8x64x128 : Shape := ⟨5, ![32, 1, 8, 64, 128]⟩
abbrev S1x1x8x64x128 : Shape := ⟨5, ![1, 1, 8, 64, 128]⟩
abbrev S1x8x64x128 : Shape := ⟨4, ![1, 8, 64, 128]⟩
abbrev S64x64 : Shape := ⟨2, ![64, 64]⟩
abbrev S64x64x1 : Shape := ⟨3, ![64, 64, 1]⟩
abbrev S1x8x64x1x128 : Shape := ⟨5, ![1, 8, 64, 1, 128]⟩
abbrev S1x8x1x64x128 : Shape := ⟨5, ![1, 8, 1, 64, 128]⟩
abbrev S1x8x64x64x128 : Shape := ⟨5, ![1, 8, 64, 64, 128]⟩
abbrev S1x8x64x64 : Shape := ⟨4, ![1, 8, 64, 64]⟩
abbrev S1x8x1x128 : Shape := ⟨4, ![1, 8, 1, 128]⟩
abbrev S1x8x128 : Shape := ⟨3, ![1, 8, 128]⟩
abbrev S1x8x128x1 : Shape := ⟨4, ![1, 8, 128, 1]⟩
abbrev S128 : Shape := ⟨1, ![128]⟩
abbrev S1x2048x8 : Shape := ⟨3, ![1, 2048, 8]⟩
abbrev S1x2048x8x1 : Shape := ⟨4, ![1, 2048, 8, 1]⟩
abbrev S1x1x1x128 : Shape := ⟨4, ![1, 1, 1, 128]⟩

abbrev nBuf : Space → Nat
  | .hbm => 185
  | .vmem => 0
  | .smem => 0
  | _ => 0

abbrev hbmTy0_0 (i : Nat) : BufTy := match i % 128 with
  | 0 => ⟨S2048x7168, .f32⟩
  | 1 => ⟨S1x1024, .f32⟩
  | 2 => ⟨S1x128, .f32⟩
  | 3 => ⟨S2048x1024, .f32⟩
  | 4 => ⟨S2048x1024, .f32⟩
  | 5 => ⟨S2048x1024, .f32⟩
  | 6 => ⟨S1024, .f32⟩
  | 7 => ⟨S8x128, .f32⟩
  | 8 => ⟨S1x2048x8x128, .f32⟩
  | 9 => ⟨S_, .f32⟩
  | 10 => ⟨S8x128, .f32⟩
  | 11 => ⟨S8x128, .f32⟩
  | 12 => ⟨S1x2048x8x128, .f32⟩
  | 13 => ⟨S1x2048x8x128, .f32⟩
  | 14 => ⟨S_, .f32⟩
  | 15 => ⟨S1x2048x8x128, .f32⟩
  | 16 => ⟨S1x2048x8x128, .f32⟩
  | 17 => ⟨S_, .f32⟩
  | 18 => ⟨S1x2048x8x128, .f32⟩
  | 19 => ⟨S1x2048x8x128, .f32⟩
  | 20 => ⟨S1x1x8x128, .f32⟩
  | 21 => ⟨S1x2048x8x128, .f32⟩
  | 22 => ⟨S1x2048x8x128, .f32⟩
  | 23 => ⟨S1x1x8x128, .f32⟩
  | 24 => ⟨S1x2048x8x128, .f32⟩
  | 25 => ⟨S1x2048x8x128, .f32⟩
  | 26 => ⟨S_, .f32⟩
  | 27 => ⟨S1x2048x8x128, .f32⟩
  | 28 => ⟨S1x2048x8x128, .f32⟩
  | 29 => ⟨S1x2048x8x128, .f32⟩
  | 30 => ⟨S_, .f32⟩
  | 31 => ⟨S1x2048x8x128, .f32⟩
  | 32 => ⟨S1x2048x8x128, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S2048x1024, .f32⟩
  | 42 => ⟨S1x2048x8x128, .f32⟩
  | 43 => ⟨S1x2048x8x128, .f32⟩
  | 44 => ⟨S_, .f32⟩
  | 45 => ⟨S1x8x128x128, .f32⟩
  | 46 => ⟨S1x32x64x8x128, .f32⟩
  | 47 => ⟨S32x1x8x64x128, .f32⟩
  | 48 => ⟨S1x32x64x8x128, .f32⟩
  | 49 => ⟨S32x1x8x64x128, .f32⟩
  | 50 => ⟨S1x32x64x8x128, .f32⟩
  | 51 => ⟨S32x1x8x64x128, .f32⟩
  | 52 => ⟨S1x32x64x8x128, .f32⟩
  | 53 => ⟨S32x1x8x64x128, .f32⟩
  | 54 => ⟨S_, .f32⟩
  | 55 => ⟨S32x1x8x64x128, .f32⟩
  | 56 => ⟨S_, .i32⟩
  | 57 => ⟨S32x1x8x64x128, .f32⟩
  | 58 => ⟨S32x1x8x64x128, .f32⟩
  | 59 => ⟨S32x1x8x64x128, .f32⟩
  | 60 => ⟨S32x1x8x64x128, .f32⟩
  | 61 => ⟨S_, .i32⟩
  | 62 => ⟨S1x8x128x128, .f32⟩
  | 63 => ⟨S32x1x8x64x128, .f32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S1x1x8x64x128, .f32⟩
  | 71 => ⟨S1x8x64x128, .f32⟩
  | 72 => ⟨S_, .i32⟩
  | 73 => ⟨S_, .i32⟩
  | 74 => ⟨S_, .i32⟩
  | 75 => ⟨S_, .i32⟩
  | 76 => ⟨S1x1x8x64x128, .f32⟩
  | 77 => ⟨S1x8x64x128, .f32⟩
  | 78 => ⟨S_, .i32⟩
  | 79 => ⟨S_, .i32⟩
  | 80 => ⟨S_, .i32⟩
  | 81 => ⟨S_, .i32⟩
  | 82 => ⟨S1x1x8x64x128, .f32⟩
  | 83 => ⟨S1x8x64x128, .f32⟩
  | 84 => ⟨S_, .i32⟩
  | 85 => ⟨S_, .i32⟩
  | 86 => ⟨S_, .i32⟩
  | 87 => ⟨S_, .i32⟩
  | 88 => ⟨S1x1x8x64x128, .f32⟩
  | 89 => ⟨S1x8x64x128, .f32⟩
  | 90 => ⟨S_, .f32⟩
  | 91 => ⟨S_, .f32⟩
  | 92 => ⟨S1x8x64x128, .f32⟩
  | 93 => ⟨S1x8x64x128, .f32⟩
  | 94 => ⟨S1x8x64x128, .f32⟩
  | 95 => ⟨S1x8x64x128, .f32⟩
  | 96 => ⟨S_, .i1⟩
  | 97 => ⟨S64x64, .i1⟩
  | 98 => ⟨S64x64, .i32⟩
  | 99 => ⟨S_, .i32⟩
  | 100 => ⟨S64x64, .i32⟩
  | 101 => ⟨S64x64, .i32⟩
  | 102 => ⟨S64x64, .i32⟩
  | 103 => ⟨S64x64, .i1⟩
  | 104 => ⟨S_, .i1⟩
  | 105 => ⟨S64x64, .i1⟩
  | 106 => ⟨S64x64, .i1⟩
  | 107 => ⟨S64x64x1, .i1⟩
  | 108 => ⟨S1x8x64x1x128, .f32⟩
  | 109 => ⟨S1x8x1x64x128, .f32⟩
  | 110 => ⟨S1x8x64x64x128, .f32⟩
  | 111 => ⟨S1x8x64x64x128, .f32⟩
  | 112 => ⟨S1x8x64x64x128, .f32⟩
  | 113 => ⟨S_, .f32⟩
  | 114 => ⟨S1x8x64x64x128, .f32⟩
  | 115 => ⟨S1x8x64x64x128, .f32⟩
  | 116 => ⟨S1x8x64x64x128, .f32⟩
  | 117 => ⟨S_, .f32⟩
  | 118 => ⟨S_, .f32⟩
  | 119 => ⟨S1x8x64x64x128, .i1⟩
  | 120 => ⟨S1x8x64x64x128, .f32⟩
  | 121 => ⟨S1x8x64x64x128, .f32⟩
  | 122 => ⟨S1x8x64x1x128, .f32⟩
  | 123 => ⟨S1x8x1x64x128, .f32⟩
  | 124 => ⟨S1x8x64x64x128, .f32⟩
  | 125 => ⟨S1x8x64x64x128, .f32⟩
  | 126 => ⟨S1x8x64x64x128, .f32⟩
  | 127 => ⟨S1x8x64x64x128, .f32⟩
  | _ => ⟨S2048x7168, .f32⟩

abbrev hbmTy0_1 (i : Nat) : BufTy := match i % 128 with
  | 0 => ⟨S_, .f32⟩
  | 1 => ⟨S1x8x64x64, .f32⟩
  | 2 => ⟨S1x8x64x128, .f32⟩
  | 3 => ⟨S1x8x64x128, .f32⟩
  | 4 => ⟨S1x8x1x128, .f32⟩
  | 5 => ⟨S1x8x128, .f32⟩
  | 6 => ⟨S1x8x128, .f32⟩
  | 7 => ⟨S1x8x128x1, .f32⟩
  | 8 => ⟨S1x8x128x128, .f32⟩
  | 9 => ⟨S1x8x128x128, .f32⟩
  | 10 => ⟨S1x8x64x128, .f32⟩
  | 11 => ⟨S1x8x64x128, .f32⟩
  | 12 => ⟨S1x8x64x128, .f32⟩
  | 13 => ⟨S1x8x64x128, .f32⟩
  | 14 => ⟨S1x8x128x128, .f32⟩
  | 15 => ⟨S1x8x128x128, .f32⟩
  | 16 => ⟨S1x1x8x64x128, .f32⟩
  | 17 => ⟨S_, .i32⟩
  | 18 => ⟨S_, .i32⟩
  | 19 => ⟨S_, .i32⟩
  | 20 => ⟨S_, .i32⟩
  | 21 => ⟨S32x1x8x64x128, .f32⟩
  | 22 => ⟨S_, .i32⟩
  | 23 => ⟨S_, .i32⟩
  | 24 => ⟨S1x32x64x8x128, .f32⟩
  | 25 => ⟨S1x2048x8x128, .f32⟩
  | 26 => ⟨S2048x1024, .f32⟩
  | 27 => ⟨S2048x1024, .f32⟩
  | 28 => ⟨S128, .f32⟩
  | 29 => ⟨S1x2048x8x128, .f32⟩
  | 30 => ⟨S_, .f32⟩
  | 31 => ⟨S1x2048x8, .f32⟩
  | 32 => ⟨S1x2048x8x1, .f32⟩
  | 33 => ⟨S_, .f32⟩
  | 34 => ⟨S1x2048x8x1, .f32⟩
  | 35 => ⟨S1x2048x8x1, .f32⟩
  | 36 => ⟨S_, .f32⟩
  | 37 => ⟨S1x2048x8x1, .f32⟩
  | 38 => ⟨S1x2048x8x1, .f32⟩
  | 39 => ⟨S1x2048x8x1, .f32⟩
  | 40 => ⟨S1x2048x8x128, .f32⟩
  | 41 => ⟨S1x2048x8x128, .f32⟩
  | 42 => ⟨S1x1x1x128, .f32⟩
  | 43 => ⟨S1x2048x8x128, .f32⟩
  | 44 => ⟨S1x2048x8x128, .f32⟩
  | 45 => ⟨S2048x1024, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S_, .f32⟩
  | 52 => ⟨S2048x1024, .f32⟩
  | 53 => ⟨S2048x1024, .f32⟩
  | 54 => ⟨S2048x1024, .f32⟩
  | 55 => ⟨S2048x1024, .f32⟩
  | 56 => ⟨S2048x1024, .bf16⟩
  | _ => ⟨S2048x7168, .f32⟩

abbrev hbmTy (i : Nat) : BufTy := match i / 128 with
  | 0 => hbmTy0_0 i
  | 1 => hbmTy0_1 i
  | _ => ⟨S2048x7168, .f32⟩

abbrev bufTy : (tb : Table) → Fin (tcTables nBuf tb) → BufTy
  | .hbm, ⟨i, _⟩ => hbmTy i
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_c : Ref sig .tc := ⟨.hbm, 56, rfl⟩
abbrev main_v38_0 : Ref sig .tc := ⟨.hbm, 57, rfl⟩
abbrev main_v38_1 : Ref sig .tc := ⟨.hbm, 58, rfl⟩
abbrev main_v38_2 : Ref sig .tc := ⟨.hbm, 59, rfl⟩
abbrev main_v38_3 : Ref sig .tc := ⟨.hbm, 60, rfl⟩
abbrev main_v38_4 : Ref sig .tc := ⟨.hbm, 61, rfl⟩
abbrev main_v38_5 : Ref sig .tc := ⟨.hbm, 62, rfl⟩
abbrev main_v38_6 : Ref sig .tc := ⟨.hbm, 63, rfl⟩
abbrev main_while0c_c_15 : Ref sig .tc := ⟨.hbm, 64, rfl⟩
abbrev main_while0c_v61 : Ref sig .tc := ⟨.hbm, 65, rfl⟩
abbrev main_while0b_call1_c : Ref sig .tc := ⟨.hbm, 66, rfl⟩
abbrev main_while0b_call1_c_0 : Ref sig .tc := ⟨.hbm, 67, rfl⟩
abbrev main_while0b_call1_c_1 : Ref sig .tc := ⟨.hbm, 68, rfl⟩
abbrev main_while0b_call1_c_2 : Ref sig .tc := ⟨.hbm, 69, rfl⟩
abbrev main_while0b_call1_v0 : Ref sig .tc := ⟨.hbm, 70, rfl⟩
abbrev main_while0b_v61 : Ref sig .tc := ⟨.hbm, 71, rfl⟩
abbrev main_while0b_call2_c : Ref sig .tc := ⟨.hbm, 72, rfl⟩
abbrev main_while0b_call2_c_0 : Ref sig .tc := ⟨.hbm, 73, rfl⟩
abbrev main_while0b_call2_c_1 : Ref sig .tc := ⟨.hbm, 74, rfl⟩
abbrev main_while0b_call2_c_2 : Ref sig .tc := ⟨.hbm, 75, rfl⟩
abbrev main_while0b_call2_v0 : Ref sig .tc := ⟨.hbm, 76, rfl⟩
abbrev main_while0b_v62 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_c_2 : Ref sig .tc := ⟨.hbm, 81, rfl⟩
abbrev main_while0b_call3_v0 : Ref sig .tc := ⟨.hbm, 82, rfl⟩
abbrev main_while0b_v63 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_c_2 : Ref sig .tc := ⟨.hbm, 87, rfl⟩
abbrev main_while0b_call4_v0 : Ref sig .tc := ⟨.hbm, 88, rfl⟩
abbrev main_while0b_v64 : Ref sig .tc := ⟨.hbm, 89, rfl⟩
abbrev main_while0b_call5_call0_cst : Ref sig .tc := ⟨.hbm, 90, rfl⟩
abbrev main_while0b_call5_call0_v0 : Ref sig .tc := ⟨.hbm, 91, rfl⟩
abbrev main_while0b_v65 : Ref sig .tc := ⟨.hbm, 92, rfl⟩
abbrev main_while0b_v66 : Ref sig .tc := ⟨.hbm, 93, rfl⟩
abbrev main_while0b_v67 : Ref sig .tc := ⟨.hbm, 94, rfl⟩
abbrev main_while0b_v68 : Ref sig .tc := ⟨.hbm, 95, rfl⟩
abbrev main_while0b_c_15 : Ref sig .tc := ⟨.hbm, 96, rfl⟩
abbrev main_while0b_v69 : Ref sig .tc := ⟨.hbm, 97, rfl⟩
abbrev main_while0b_call6_v0 : Ref sig .tc := ⟨.hbm, 98, rfl⟩
abbrev main_while0b_call6_c : Ref sig .tc := ⟨.hbm, 99, rfl⟩
abbrev main_while0b_call6_v1 : Ref sig .tc := ⟨.hbm, 100, rfl⟩
abbrev main_while0b_call6_v2 : Ref sig .tc := ⟨.hbm, 101, rfl⟩
abbrev main_while0b_call6_v3 : Ref sig .tc := ⟨.hbm, 102, rfl⟩
abbrev main_while0b_call6_v4 : Ref sig .tc := ⟨.hbm, 103, rfl⟩
abbrev main_while0b_call6_c_0 : Ref sig .tc := ⟨.hbm, 104, rfl⟩
abbrev main_while0b_call6_v5 : Ref sig .tc := ⟨.hbm, 105, rfl⟩
abbrev main_while0b_v70 : Ref sig .tc := ⟨.hbm, 106, rfl⟩
abbrev main_while0b_v71 : Ref sig .tc := ⟨.hbm, 107, rfl⟩
abbrev main_while0b_v72 : Ref sig .tc := ⟨.hbm, 108, rfl⟩
abbrev main_while0b_v73 : Ref sig .tc := ⟨.hbm, 109, rfl⟩
abbrev main_while0b_v74 : Ref sig .tc := ⟨.hbm, 110, rfl⟩
abbrev main_while0b_v75 : Ref sig .tc := ⟨.hbm, 111, rfl⟩
abbrev main_while0b_v76 : Ref sig .tc := ⟨.hbm, 112, rfl⟩
abbrev main_while0b_cst_16 : Ref sig .tc := ⟨.hbm, 113, rfl⟩
abbrev main_while0b_v77 : Ref sig .tc := ⟨.hbm, 114, rfl⟩
abbrev main_while0b_v78 : Ref sig .tc := ⟨.hbm, 115, rfl⟩
abbrev main_while0b_v79 : Ref sig .tc := ⟨.hbm, 116, rfl⟩
abbrev main_while0b_cst_17 : Ref sig .tc := ⟨.hbm, 117, rfl⟩
abbrev main_while0b_call7_v0 : Ref sig .tc := ⟨.hbm, 118, rfl⟩
abbrev main_while0b_call7_v1 : Ref sig .tc := ⟨.hbm, 119, rfl⟩
abbrev main_while0b_call7_v2 : Ref sig .tc := ⟨.hbm, 120, rfl⟩
abbrev main_while0b_v80 : Ref sig .tc := ⟨.hbm, 121, rfl⟩
abbrev main_while0b_v81 : Ref sig .tc := ⟨.hbm, 122, rfl⟩
abbrev main_while0b_v82 : Ref sig .tc := ⟨.hbm, 123, rfl⟩
abbrev main_while0b_v83 : Ref sig .tc := ⟨.hbm, 124, rfl⟩
abbrev main_while0b_v84 : Ref sig .tc := ⟨.hbm, 125, rfl⟩
abbrev main_while0b_v85 : Ref sig .tc := ⟨.hbm, 126, rfl⟩
abbrev main_while0b_v86 : Ref sig .tc := ⟨.hbm, 127, rfl⟩
abbrev main_while0b_cst_18 : Ref sig .tc := ⟨.hbm, 128, rfl⟩
abbrev main_while0b_v87 : Ref sig .tc := ⟨.hbm, 129, rfl⟩
abbrev main_while0b_v88 : Ref sig .tc := ⟨.hbm, 130, rfl⟩
abbrev main_while0b_v89 : Ref sig .tc := ⟨.hbm, 131, rfl⟩
abbrev main_while0b_v90 : Ref sig .tc := ⟨.hbm, 132, rfl⟩
abbrev main_while0b_v91 : Ref sig .tc := ⟨.hbm, 133, rfl⟩
abbrev main_while0b_v92 : Ref sig .tc := ⟨.hbm, 134, rfl⟩
abbrev main_while0b_v93 : Ref sig .tc := ⟨.hbm, 135, rfl⟩
abbrev main_while0b_v94 : Ref sig .tc := ⟨.hbm, 136, rfl⟩
abbrev main_while0b_v95 : Ref sig .tc := ⟨.hbm, 137, rfl⟩
abbrev main_while0b_v96 : Ref sig .tc := ⟨.hbm, 138, rfl⟩
abbrev main_while0b_v97 : Ref sig .tc := ⟨.hbm, 139, rfl⟩
abbrev main_while0b_v98 : Ref sig .tc := ⟨.hbm, 140, rfl⟩
abbrev main_while0b_v99 : Ref sig .tc := ⟨.hbm, 141, rfl⟩
abbrev main_while0b_v100 : Ref sig .tc := ⟨.hbm, 142, rfl⟩
abbrev main_while0b_v101 : Ref sig .tc := ⟨.hbm, 143, rfl⟩
abbrev main_while0b_call8_v0 : Ref sig .tc := ⟨.hbm, 144, rfl⟩
abbrev main_while0b_call8_c : Ref sig .tc := ⟨.hbm, 145, rfl⟩
abbrev main_while0b_call8_c_0 : Ref sig .tc := ⟨.hbm, 146, rfl⟩
abbrev main_while0b_call8_c_1 : Ref sig .tc := ⟨.hbm, 147, rfl⟩
abbrev main_while0b_call8_c_2 : Ref sig .tc := ⟨.hbm, 148, rfl⟩
abbrev main_while0b_v102 : Ref sig .tc := ⟨.hbm, 149, rfl⟩
abbrev main_while0b_c_19 : Ref sig .tc := ⟨.hbm, 150, rfl⟩
abbrev main_while0b_v103 : Ref sig .tc := ⟨.hbm, 151, rfl⟩
abbrev main_v39 : Ref sig .tc := ⟨.hbm, 152, rfl⟩
abbrev main_v40 : Ref sig .tc := ⟨.hbm, 153, rfl⟩
abbrev main_v41 : Ref sig .tc := ⟨.hbm, 154, rfl⟩
abbrev main_v42 : Ref sig .tc := ⟨.hbm, 155, rfl⟩
abbrev main_v43 : Ref sig .tc := ⟨.hbm, 156, rfl⟩
abbrev main_v44 : Ref sig .tc := ⟨.hbm, 157, rfl⟩
abbrev main_cst_6 : Ref sig .tc := ⟨.hbm, 158, rfl⟩
abbrev main_v45 : Ref sig .tc := ⟨.hbm, 159, rfl⟩
abbrev main_v46 : Ref sig .tc := ⟨.hbm, 160, rfl⟩
abbrev main_cst_7 : Ref sig .tc := ⟨.hbm, 161, rfl⟩
abbrev main_v47 : Ref sig .tc := ⟨.hbm, 162, rfl⟩
abbrev main_v48 : Ref sig .tc := ⟨.hbm, 163, rfl⟩
abbrev main_cst_8 : Ref sig .tc := ⟨.hbm, 164, rfl⟩
abbrev main_v49 : Ref sig .tc := ⟨.hbm, 165, rfl⟩
abbrev main_v50 : Ref sig .tc := ⟨.hbm, 166, rfl⟩
abbrev main_v51 : Ref sig .tc := ⟨.hbm, 167, rfl⟩
abbrev main_v52 : Ref sig .tc := ⟨.hbm, 168, rfl⟩
abbrev main_v53 : Ref sig .tc := ⟨.hbm, 169, rfl⟩
abbrev main_v54 : Ref sig .tc := ⟨.hbm, 170, rfl⟩
abbrev main_v55 : Ref sig .tc := ⟨.hbm, 171, rfl⟩
abbrev main_v56 : Ref sig .tc := ⟨.hbm, 172, rfl⟩
abbrev main_v57 : Ref sig .tc := ⟨.hbm, 173, rfl⟩
abbrev main_call9_v0 : Ref sig .tc := ⟨.hbm, 174, rfl⟩
abbrev main_call9_v1 : Ref sig .tc := ⟨.hbm, 175, rfl⟩
abbrev main_call9_cst : Ref sig .tc := ⟨.hbm, 176, rfl⟩
abbrev main_call9_v2 : Ref sig .tc := ⟨.hbm, 177, rfl⟩
abbrev main_call9_v3 : Ref sig .tc := ⟨.hbm, 178, rfl⟩
abbrev main_call9_cst_0 : Ref sig .tc := ⟨.hbm, 179, rfl⟩
abbrev main_call9_v4 : Ref sig .tc := ⟨.hbm, 180, rfl⟩
abbrev main_call9_v5 : Ref sig .tc := ⟨.hbm, 181, rfl⟩
abbrev main_v58 : Ref sig .tc := ⟨.hbm, 182, rfl⟩
abbrev main_v59 : Ref sig .tc := ⟨.hbm, 183, rfl⟩
abbrev main_v60 : Ref sig .tc := ⟨.hbm, 184, rfl⟩

abbrev nD : Nat := 1
abbrev τ : Topo := Topo.v7x

variable {F : FTy → Type} [FloatOps F]

abbrev main_while0_count : Scf.Loop 32 := ⟨0#32, 32#32, 1#32⟩
-- ==== Loss.lean ====
abbrev S2048x512 : Shape := ⟨2, ![2048, 512]⟩
abbrev S2048x1024 : Shape := ⟨2, ![2048, 1024]⟩
abbrev S2048x7168 : Shape := ⟨2, ![2048, 7168]⟩
abbrev S512x1024 : Shape := ⟨2, ![512, 1024]⟩
abbrev S1024x1024 : Shape := ⟨2, ![1024, 1024]⟩
abbrev S1x1024 : Shape := ⟨2, ![1, 1024]⟩
abbrev S512x8x128 : Shape := ⟨3, ![512, 8, 128]⟩
abbrev S8x512x128 : Shape := ⟨3, ![8, 512, 128]⟩
abbrev S1x1 : Shape := ⟨2, ![1, 1]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1 : Shape := ⟨1, ![1]⟩

abbrev nBuf : Space → Nat
  | .hbm => 21
  | .vmem => 28
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x7168, .f32⟩
  | .hbm, ⟨3, _⟩ => ⟨S2048x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S512x1024, .bf16⟩
  | .hbm, ⟨11, _⟩ => ⟨S512x8x128, .bf16⟩
  | .hbm, ⟨12, _⟩ => ⟨S8x512x128, .bf16⟩
  | .hbm, ⟨13, _⟩ => ⟨S1024x1024, .bf16⟩
  | .hbm, ⟨14, _⟩ => ⟨S1024x1024, .bf16⟩
  | .hbm, ⟨15, _⟩ => ⟨S2048x1024, .bf16⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S2048x1024, .f32⟩
  | .hbm, ⟨20, _⟩ => ⟨S1x1, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x512x128, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .f32⟩
  | .local _ .vmem, ⟨26, _⟩ => ⟨S512x1024, .f32⟩
  | .local _ .vmem, ⟨27, _⟩ => ⟨S1x1, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== LossRefIdeal.lean ====
abbrev S2048x512 : Shape := ⟨2, ![2048, 512]⟩
abbrev S2048x1024 : Shape := ⟨2, ![2048, 1024]⟩
abbrev S2048x7168 : Shape := ⟨2, ![2048, 7168]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S2048 : Shape := ⟨1, ![2048]⟩
abbrev S2048x1 : Shape := ⟨2, ![2048, 1]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x7168, .f32⟩
  | .hbm, ⟨3, _⟩ => ⟨S2048x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x512, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S1024, .f32⟩
  | .hbm, ⟨37, _⟩ => ⟨S1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1, .f32⟩
  | .hbm, ⟨49, _⟩ => ⟨S2048x1024, .f32⟩
  | .hbm, ⟨50, _⟩ => ⟨S2048x1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S2048, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S2048, .f32⟩
  | .hbm, ⟨76, _⟩ => ⟨S_, .f32⟩
  | .hbm, ⟨77, _⟩ => ⟨S2048, .f32⟩
  | .hbm, ⟨78, _⟩ => ⟨S2048, .f32⟩
  | .hbm, ⟨79, _⟩ => ⟨S2048x1024, .f32⟩
  | .hbm, ⟨80, _⟩ => ⟨S2048x1024, .f32⟩
  | .hbm, ⟨81, _⟩ => ⟨S2048x1024, .bf16⟩
  | .hbm, ⟨82, _⟩ => ⟨S2048x1024, .bf16⟩
  | .hbm, ⟨83, _⟩ => ⟨S2048x1024, .bf16⟩
  | .hbm, ⟨84, _⟩ => ⟨S2048x1024, .bf16⟩
  | .hbm, ⟨85, _⟩ => ⟨S1x1, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_cst_11 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== AdaBwd.lean ====
abbrev S8x1024 : Shape := ⟨2, ![8, 1024]⟩
abbrev S8x384 : Shape := ⟨2, ![8, 384]⟩
abbrev S1x1024x384 : Shape := ⟨3, ![1, 1024, 384]⟩
abbrev S1024x384 : Shape := ⟨2, ![1024, 384]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S1x1024x384, .f32⟩
  | .local _ .vmem, ⟨0, _⟩ => ⟨S8x1024, .f32⟩
  | .local _ .vmem, ⟨1, _⟩ => ⟨S8x384, .f32⟩
  | .local _ .vmem, ⟨2, _⟩ => ⟨S1x1024x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaRefIdeal.lean ====
abbrev S8x1024 : Shape := ⟨2, ![8, 1024]⟩
abbrev S8x384 : Shape := ⟨2, ![8, 384]⟩
abbrev S_ : Shape := ⟨0, ![]⟩
abbrev S1024x384 : Shape := ⟨2, ![1024, 384]⟩
abbrev S384 : Shape := ⟨1, ![384]⟩
abbrev S1x384 : Shape := ⟨2, ![1, 384]⟩
abbrev S384x1024 : Shape := ⟨2, ![384, 1024]⟩
abbrev S1x1024x384 : Shape := ⟨3, ![1, 1024, 384]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x384, .f32⟩
  | .hbm, ⟨2, _⟩ => ⟨S_, .f32⟩
  | .hbm, ⟨3, _⟩ => ⟨S1024x384, .f32⟩
  | .hbm, ⟨4, _⟩ => ⟨S_, .f32⟩
  | .hbm, ⟨5, _⟩ => ⟨S384, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x384, .f32⟩
  | .hbm, ⟨16, _⟩ => ⟨S1x384, .f32⟩
  | .hbm, ⟨17, _⟩ => ⟨S8x384, .f32⟩
  | .hbm, ⟨18, _⟩ => ⟨S8x384, .f32⟩
  | .hbm, ⟨19, _⟩ => ⟨S384x1024, .f32⟩
  | .hbm, ⟨20, _⟩ => ⟨S1024x384, .f32⟩
  | .hbm, ⟨21, _⟩ => ⟨S1x1024x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== PrenF.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrenFRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== AdaF.lean ====
abbrev S8x1024 : Shape := ⟨2, ![8, 1024]⟩
abbrev S2x1024x384 : Shape := ⟨3, ![2, 1024, 384]⟩
abbrev S2x384 : Shape := ⟨2, ![2, 384]⟩
abbrev S2x8x384 : Shape := ⟨3, ![2, 8, 384]⟩
abbrev S1x1024x384 : Shape := ⟨3, ![1, 1024, 384]⟩
abbrev S1024x384 : Shape := ⟨2, ![1024, 384]⟩
abbrev S8x384 : Shape := ⟨2, ![8, 384]⟩
abbrev S1x384 : Shape := ⟨2, ![1, 384]⟩
abbrev S1x8x384 : Shape := ⟨3, ![1, 8, 384]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S2x1024x384, .f32⟩
  | .hbm, ⟨2, _⟩ => ⟨S2x384, .f32⟩
  | .hbm, ⟨3, _⟩ => ⟨S2x8x384, .f32⟩
  | .local _ .vmem, ⟨0, _⟩ => ⟨S8x1024, .f32⟩
  | .local _ .vmem, ⟨1, _⟩ => ⟨S2x1024x384, .f32⟩
  | .local _ .vmem, ⟨2, _⟩ => ⟨S2x384, .f32⟩
  | .local _ .vmem, ⟨3, _⟩ => ⟨S2x8x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaFRefIdeal.lean ====
abbrev S8x1024 : Shape := ⟨2, ![8, 1024]⟩
abbrev S2x1024x384 : Shape := ⟨3, ![2, 1024, 384]⟩
abbrev S2x384 : Shape := ⟨2, ![2, 384]⟩
abbrev S1x1024x384 : Shape := ⟨3, ![1, 1024, 384]⟩
abbrev S1024x384 : Shape := ⟨2, ![1024, 384]⟩
abbrev S1x384 : Shape := ⟨2, ![1, 384]⟩
abbrev S384 : Shape := ⟨1, ![384]⟩
abbrev S_ : Shape := ⟨0, ![]⟩
abbrev S8x384 : Shape := ⟨2, ![8, 384]⟩
abbrev S1x8x384 : Shape := ⟨3, ![1, 8, 384]⟩
abbrev S2x8x384 : Shape := ⟨3, ![2, 8, 384]⟩

abbrev nBuf : Space → Nat
  | .hbm => 40
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x384, .f32⟩
  | .hbm, ⟨2, _⟩ => ⟨S2x384, .f32⟩
  | .hbm, ⟨3, _⟩ => ⟨S1x1024x384, .f32⟩
  | .hbm, ⟨4, _⟩ => ⟨S1024x384, .f32⟩
  | .hbm, ⟨5, _⟩ => ⟨S1x384, .f32⟩
  | .hbm, ⟨6, _⟩ => ⟨S384, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x384, .f32⟩
  | .hbm, ⟨17, _⟩ => ⟨S1x384, .f32⟩
  | .hbm, ⟨18, _⟩ => ⟨S8x384, .f32⟩
  | .hbm, ⟨19, _⟩ => ⟨S8x384, .f32⟩
  | .hbm, ⟨20, _⟩ => ⟨S1x1024x384, .f32⟩
  | .hbm, ⟨21, _⟩ => ⟨S1024x384, .f32⟩
  | .hbm, ⟨22, _⟩ => ⟨S1x384, .f32⟩
  | .hbm, ⟨23, _⟩ => ⟨S384, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S_, .f32⟩
  | .hbm, ⟨30, _⟩ => ⟨S8x1024, .f32⟩
  | .hbm, ⟨31, _⟩ => ⟨S8x1024, .f32⟩
  | .hbm, ⟨32, _⟩ => ⟨S8x1024, .f32⟩
  | .hbm, ⟨33, _⟩ => ⟨S8x384, .f32⟩
  | .hbm, ⟨34, _⟩ => ⟨S1x384, .f32⟩
  | .hbm, ⟨35, _⟩ => ⟨S8x384, .f32⟩
  | .hbm, ⟨36, _⟩ => ⟨S8x384, .f32⟩
  | .hbm, ⟨37, _⟩ => ⟨S1x8x384, .f32⟩
  | .hbm, ⟨38, _⟩ => ⟨S1x8x384, .f32⟩
  | .hbm, ⟨39, _⟩ => ⟨S2x8x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== LbF.lean ====
abbrev S2x1024 : Shape := ⟨2, ![2, 1024]⟩
abbrev S1x1024 : Shape := ⟨2, ![1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .local _ .vmem, ⟨0, _⟩ => ⟨S2x1024, .f32⟩
  | .local _ .vmem, ⟨1, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LbFRefIdeal.lean ====
abbrev S2x1024 : Shape := ⟨2, ![2, 1024]⟩
abbrev S_ : Shape := ⟨0, ![]⟩
abbrev S1024 : Shape := ⟨1, ![1024]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S_, .f32⟩
  | .hbm, ⟨17, _⟩ => ⟨S2x1024, .f32⟩
  | .hbm, ⟨18, _⟩ => ⟨S1x1024, .f32⟩
  | .hbm, ⟨19, _⟩ => ⟨S2x1024, .f32⟩
  | .hbm, ⟨20, _⟩ => ⟨S2x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== PoolF.lean ====
abbrev S2048x7168 : Shape := ⟨2, ![2048, 7168]⟩
abbrev S4x128x128 : Shape := ⟨3, ![4, 128, 128]⟩
abbrev S1x512 : Shape := ⟨2, ![1, 512]⟩
abbrev S2048x512 : Shape := ⟨2, ![2048, 512]⟩
abbrev S2048x128 : Shape := ⟨2, ![2048, 128]⟩
abbrev S1x128x128 : Shape := ⟨3, ![1, 128, 128]⟩
abbrev S1x128 : Shape := ⟨2, ![1, 128]⟩
abbrev S16x128 : Shape := ⟨2, ![16, 128]⟩
abbrev S2032x128 : Shape := ⟨2, ![2032, 128]⟩
abbrev S128x128 : Shape := ⟨2, ![128, 128]⟩

abbrev nBuf : Space → Nat
  | .hbm => 4
  | .vmem => 10
  | .smem => 0
  | _ => 0

abbrev bufTy : (tb : Table) → Fin (tcTables nBuf tb) → BufTy
  | .hbm, ⟨0, _⟩ => ⟨S2048x7168, .f32⟩
  | .hbm, ⟨1, _⟩ => ⟨S4x128x128, .f32⟩
  | .hbm, ⟨2, _⟩ => ⟨S1x512, .f32⟩
  | .hbm, ⟨3, _⟩ => ⟨S2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128x128, .f32⟩
  | .local _ .vmem, ⟨5, _⟩ => ⟨S1x128x128, .f32⟩
  | .local _ .vmem, ⟨6, _⟩ => ⟨S1x128, .f32⟩
  | .local _ .vmem, ⟨7, _⟩ => ⟨S1x128, .f32⟩
  | .local _ .vmem, ⟨8, _⟩ => ⟨S2048x128, .bf16⟩
  | .local _ .vmem, ⟨9, _⟩ => ⟨S2048x128, .bf16⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFRefIdeal.lean ====
abbrev S2048x7168 : Shape := ⟨2, ![2048, 7168]⟩
abbrev S4x128x128 : Shape := ⟨3, ![4, 128, 128]⟩
abbrev S1x512 : Shape := ⟨2, ![1, 512]⟩
abbrev S2048x512 : Shape := ⟨2, ![2048, 512]⟩
abbrev S512 : Shape := ⟨1, ![512]⟩
abbrev S1x2048x512 : Shape := ⟨3, ![1, 2048, 512]⟩
abbrev S_ : Shape := ⟨0, ![]⟩
abbrev S2048 : Shape := ⟨1, ![2048]⟩
abbrev S1x2048x128 : Shape := ⟨3, ![1, 2048, 128]⟩
abbrev S1x2x128 : Shape := ⟨3, ![1, 2, 128]⟩
abbrev S1x2046x128 : Shape := ⟨3, ![1, 2046, 128]⟩
abbrev S1x2048x1 : Shape := ⟨3, ![1, 2048, 1]⟩
abbrev S1x4x128 : Shape := ⟨3, ![1, 4, 128]⟩
abbrev S1x2044x128 : Shape := ⟨3, ![1, 2044, 128]⟩
abbrev S1x8x128 : Shape := ⟨3, ![1, 8, 128]⟩
abbrev S1x2040x128 : Shape := ⟨3, ![1, 2040, 128]⟩
abbrev S1x16x128 : Shape := ⟨3, ![1, 16, 128]⟩
abbrev S1x2032x128 : Shape := ⟨3, ![1, 2032, 128]⟩
abbrev S1x2048x1x128 : Shape := ⟨4, ![1, 2048, 1, 128]⟩
abbrev S1x2048x4x128 : Shape := ⟨4, ![1, 2048, 4, 128]⟩
abbrev S4x128x1x2048 : Shape := ⟨4, ![4, 128, 1, 2048]⟩
abbrev S1x1x512 : Shape := ⟨3, ![1, 1, 512]⟩

abbrev nBuf : Space → Nat
  | .hbm => 94
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S4x128x128, .f32⟩
  | .hbm, ⟨2, _⟩ => ⟨S1x512, .f32⟩
  | .hbm, ⟨3, _⟩ => ⟨S2048x512, .f32⟩
  | .hbm, ⟨4, _⟩ => ⟨S2048x512, .f32⟩
  | .hbm, ⟨5, _⟩ => ⟨S512, .f32⟩
  | .hbm, ⟨6, _⟩ => ⟨S1x2048x512, .f32⟩
  | .hbm, ⟨7, _⟩ => ⟨S_, .f32⟩
  | .hbm, ⟨8, _⟩ => ⟨S_, .f32⟩
  | .hbm, ⟨9, _⟩ => ⟨S1x2048x512, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S1x2048x128, .f32⟩
  | .hbm, ⟨15, _⟩ => ⟨S_, .f32⟩
  | .hbm, ⟨16, _⟩ => ⟨S1x2x128, .f32⟩
  | .hbm, ⟨17, _⟩ => ⟨S1x2046x128, .f32⟩
  | .hbm, ⟨18, _⟩ => ⟨S1x2048x128, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S1x2048x1, .f32⟩
  | .hbm, ⟨23, _⟩ => ⟨S1x2048x128, .f32⟩
  | .hbm, ⟨24, _⟩ => ⟨S1x2048x128, .f32⟩
  | .hbm, ⟨25, _⟩ => ⟨S1x2048x128, .f32⟩
  | .hbm, ⟨26, _⟩ => ⟨S1x2048x128, .f32⟩
  | .hbm, ⟨27, _⟩ => ⟨S1x2048x128, .f32⟩
  | .hbm, ⟨28, _⟩ => ⟨S1x2048x128, .f32⟩
  | .hbm, ⟨29, _⟩ => ⟨S_, .f32⟩
  | .hbm, ⟨30, _⟩ => ⟨S1x4x128, .f32⟩
  | .hbm, ⟨31, _⟩ => ⟨S1x2044x128, .f32⟩
  | .hbm, ⟨32, _⟩ => ⟨S1x2048x128, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S1x2048x1, .f32⟩
  | .hbm, ⟨37, _⟩ => ⟨S1x2048x128, .f32⟩
  | .hbm, ⟨38, _⟩ => ⟨S1x2048x128, .f32⟩
  | .hbm, ⟨39, _⟩ => ⟨S1x2048x128, .f32⟩
  | .hbm, ⟨40, _⟩ => ⟨S1x2048x128, .f32⟩
  | .hbm, ⟨41, _⟩ => ⟨S1x2048x128, .f32⟩
  | .hbm, ⟨42, _⟩ => ⟨S1x2048x128, .f32⟩
  | .hbm, ⟨43, _⟩ => ⟨S_, .f32⟩
  | .hbm, ⟨44, _⟩ => ⟨S1x8x128, .f32⟩
  | .hbm, ⟨45, _⟩ => ⟨S1x2040x128, .f32⟩
  | .hbm, ⟨46, _⟩ => ⟨S1x2048x128, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S1x2048x1, .f32⟩
  | .hbm, ⟨51, _⟩ => ⟨S1x2048x128, .f32⟩
  | .hbm, ⟨52, _⟩ => ⟨S1x2048x128, .f32⟩
  | .hbm, ⟨53, _⟩ => ⟨S1x2048x128, .f32⟩
  | .hbm, ⟨54, _⟩ => ⟨S1x2048x128, .f32⟩
  | .hbm, ⟨55, _⟩ => ⟨S1x2048x128, .f32⟩
  | .hbm, ⟨56, _⟩ => ⟨S1x2048x128, .f32⟩
  | .hbm, ⟨57, _⟩ => ⟨S_, .f32⟩
  | .hbm, ⟨58, _⟩ => ⟨S1x16x128, .f32⟩
  | .hbm, ⟨59, _⟩ => ⟨S1x2032x128, .f32⟩
  | .hbm, ⟨60, _⟩ => ⟨S1x2048x128, .f32⟩
  | .hbm, ⟨61, _⟩ => ⟨S_, .f32⟩
  | .hbm, ⟨62, _⟩ => ⟨S2048, .f32⟩
  | .hbm, ⟨63, _⟩ => ⟨S2048, .f32⟩
  | .hbm, ⟨64, _⟩ => ⟨S1x2048x1, .f32⟩
  | .hbm, ⟨65, _⟩ => ⟨S1x2048x128, .f32⟩
  | .hbm, ⟨66, _⟩ => ⟨S1x2048x128, .f32⟩
  | .hbm, ⟨67, _⟩ => ⟨S1x2048x128, .f32⟩
  | .hbm, ⟨68, _⟩ => ⟨S1x2048x128, .f32⟩
  | .hbm, ⟨69, _⟩ => ⟨S1x2048x128, .f32⟩
  | .hbm, ⟨70, _⟩ => ⟨S1x2048x1x128, .f32⟩
  | .hbm, ⟨71, _⟩ => ⟨S1x2048x1x128, .f32⟩
  | .hbm, ⟨72, _⟩ => ⟨S1x2048x1x128, .f32⟩
  | .hbm, ⟨73, _⟩ => ⟨S1x2048x1x128, .f32⟩
  | .hbm, ⟨74, _⟩ => ⟨S1x2048x4x128, .f32⟩
  | .hbm, ⟨75, _⟩ => ⟨S4x128x1x2048, .f32⟩
  | .hbm, ⟨76, _⟩ => ⟨S1x2048x4x128, .f32⟩
  | .hbm, ⟨77, _⟩ => ⟨S1x2048x512, .f32⟩
  | .hbm, ⟨78, _⟩ => ⟨S1x1x512, .f32⟩
  | .hbm, ⟨79, _⟩ => ⟨S1x2048x512, .f32⟩
  | .hbm, ⟨80, _⟩ => ⟨S1x2048x512, .f32⟩
  | .hbm, ⟨81, _⟩ => ⟨S1x2048x512, .f32⟩
  | .hbm, ⟨82, _⟩ => ⟨S1x2048x512, .f32⟩
  | .hbm, ⟨83, _⟩ => ⟨S1x2048x512, .f32⟩
  | .hbm, ⟨84, _⟩ => ⟨S_, .f32⟩
  | .hbm, ⟨85, _⟩ => ⟨S1x2048x512, .f32⟩
  | .hbm, ⟨86, _⟩ => ⟨S1x2048x512, .f32⟩
  | .hbm, ⟨87, _⟩ => ⟨S_, .f32⟩
  | .hbm, ⟨88, _⟩ => ⟨S1x2048x512, .f32⟩
  | .hbm, ⟨89, _⟩ => ⟨S1x2048x512, .f32⟩
  | .hbm, ⟨90, _⟩ => ⟨S1x2048x512, .f32⟩
  | .hbm, ⟨91, _⟩ => ⟨S1x2048x512, .f32⟩
  | .hbm, ⟨92, _⟩ => ⟨S2048x512, .f32⟩
  | .hbm, ⟨93, _⟩ => ⟨S2048x512, .bf16⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Merge.lean ====
abbrev S2048x512 : Shape := ⟨2, ![2048, 512]⟩
abbrev S2048x1024 : Shape := ⟨2, ![2048, 1024]⟩
abbrev S2048x7168 : Shape := ⟨2, ![2048, 7168]⟩
abbrev S512x1024 : Shape := ⟨2, ![512, 1024]⟩
abbrev S1024x1024 : Shape := ⟨2, ![1024, 1024]⟩
abbrev S1x1024 : Shape := ⟨2, ![1, 1024]⟩
abbrev S512x8x128 : Shape := ⟨3, ![512, 8, 128]⟩
abbrev S8x512x128 : Shape := ⟨3, ![8, 512, 128]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 19
  | .vmem => 25
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x7168, .f32⟩
  | .hbm, ⟨3, _⟩ => ⟨S2048x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S512x1024, .bf16⟩
  | .hbm, ⟨10, _⟩ => ⟨S512x8x128, .bf16⟩
  | .hbm, ⟨11, _⟩ => ⟨S8x512x128, .bf16⟩
  | .hbm, ⟨12, _⟩ => ⟨S1024x1024, .bf16⟩
  | .hbm, ⟨13, _⟩ => ⟨S1024x1024, .bf16⟩
  | .hbm, ⟨14, _⟩ => ⟨S2048x1024, .bf16⟩
  | .hbm, ⟨15, _⟩ => ⟨S2048x1024, .bf16⟩
  | .hbm, ⟨16, _⟩ => ⟨S2048x1024, .bf16⟩
  | .hbm, ⟨17, _⟩ => ⟨S2048x1024, .bf16⟩
  | .hbm, ⟨18, _⟩ => ⟨S2048x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x512x128, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S2048x512 : Shape := ⟨2, ![2048, 512]⟩
abbrev S2048x1024 : Shape := ⟨2, ![2048, 1024]⟩
abbrev S2048x7168 : Shape := ⟨2, ![2048, 7168]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S2048 : Shape := ⟨1, ![2048]⟩
abbrev S2048x1 : Shape := ⟨2, ![2048, 1]⟩

abbrev nBuf : Space → Nat
  | .hbm => 61
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x7168, .f32⟩
  | .hbm, ⟨3, _⟩ => ⟨S2048x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S2048x512, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .bf16⟩
  | .hbm, ⟨36, _⟩ => ⟨S2048x1024, .bf16⟩
  | .hbm, ⟨37, _⟩ => ⟨S2048x1024, .bf16⟩
  | .hbm, ⟨38, _⟩ => ⟨S2048x1024, .bf16⟩
  | .hbm, ⟨39, _⟩ => ⟨S1024, .f32⟩
  | .hbm, ⟨40, _⟩ => ⟨S1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x1, .f32⟩
  | .hbm, ⟨52, _⟩ => ⟨S2048x1024, .f32⟩
  | .hbm, ⟨53, _⟩ => ⟨S2048x1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== InP.lean ====
abbrev S2048x1024 : Shape := ⟨2, ![2048, 1024]⟩
abbrev S1024x7168 : Shape := ⟨2, ![1024, 7168]⟩
abbrev S1024x8x896 : Shape := ⟨3, ![1024, 8, 896]⟩
abbrev S8x1024x896 : Shape := ⟨3, ![8, 1024, 896]⟩
abbrev S2048x7168 : Shape := ⟨2, ![2048, 7168]⟩
abbrev S1024x1024 : Shape := ⟨2, ![1024, 1024]⟩
abbrev S2x1024x896 : Shape := ⟨3, ![2, 1024, 896]⟩
abbrev S1024x1792 : Shape := ⟨2, ![1024, 1792]⟩
abbrev S1x1024x896 : Shape := ⟨3, ![1, 1024, 896]⟩
abbrev S1024x896 : Shape := ⟨2, ![1024, 896]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x7168, .f32⟩
  | .hbm, ⟨2, _⟩ => ⟨S1024x7168, .bf16⟩
  | .hbm, ⟨3, _⟩ => ⟨S1024x8x896, .bf16⟩
  | .hbm, ⟨4, _⟩ => ⟨S8x1024x896, .bf16⟩
  | .hbm, ⟨5, _⟩ => ⟨S2048x7168, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x896, .bf16⟩
  | .local _ .vmem, ⟨3, _⟩ => ⟨S2x1024x896, .bf16⟩
  | .local _ .vmem, ⟨4, _⟩ => ⟨S1024x1792, .f32⟩
  | .local _ .vmem, ⟨5, _⟩ => ⟨S1024x1792, .f32⟩
  | .local _ .vmem, ⟨6, _⟩ => ⟨S1024x1792, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InPRefIdeal.lean ====
abbrev S2048x1024 : Shape := ⟨2, ![2048, 1024]⟩
abbrev S1024x7168 : Shape := ⟨2, ![1024, 7168]⟩
abbrev S2048x7168 : Shape := ⟨2, ![2048, 7168]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x7168, .f32⟩
  | .hbm, ⟨2, _⟩ => ⟨S2048x1024, .f32⟩
  | .hbm, ⟨3, _⟩ => ⟨S2048x7168, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InW.lean ====
abbrev S2048x1024 : Shape := ⟨2, ![2048, 1024]⟩
abbrev S2048x7168 : Shape := ⟨2, ![2048, 7168]⟩
abbrev S8x1024x896 : Shape := ⟨3, ![8, 1024, 896]⟩
abbrev S2048x1792 : Shape := ⟨2, ![2048, 1792]⟩
abbrev S2x1024x896 : Shape := ⟨3, ![2, 1024, 896]⟩
abbrev S1024x1792 : Shape := ⟨2, ![1024, 1792]⟩
abbrev S1024x896 : Shape := ⟨2, ![1024, 896]⟩
abbrev S1x1024x896 : Shape := ⟨3, ![1, 1024, 896]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x7168, .bf16⟩
  | .hbm, ⟨2, _⟩ => ⟨S8x1024x896, .bf16⟩
  | .local _ .vmem, ⟨0, _⟩ => ⟨S2048x1024, .bf16⟩
  | .local _ .vmem, ⟨1, _⟩ => ⟨S2048x1792, .bf16⟩
  | .local _ .vmem, ⟨2, _⟩ => ⟨S2048x1792, .bf16⟩
  | .local _ .vmem, ⟨3, _⟩ => ⟨S2x1024x896, .bf16⟩
  | .local _ .vmem, ⟨4, _⟩ => ⟨S2x1024x896, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InWRefIdeal.lean ====
abbrev S2048x1024 : Shape := ⟨2, ![2048, 1024]⟩
abbrev S2048x7168 : Shape := ⟨2, ![2048, 7168]⟩
abbrev S_ : Shape := ⟨0, ![]⟩
abbrev S1024x7168 : Shape := ⟨2, ![1024, 7168]⟩
abbrev S7168x1024 : Shape := ⟨2, ![7168, 1024]⟩
abbrev S1024x8x896 : Shape := ⟨3, ![1024, 8, 896]⟩
abbrev S8x1024x896 : Shape := ⟨3, ![8, 1024, 896]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x7168, .bf16⟩
  | .hbm, ⟨2, _⟩ => ⟨S2048x1024, .f32⟩
  | .hbm, ⟨3, _⟩ => ⟨S2048x7168, .f32⟩
  | .hbm, ⟨4, _⟩ => ⟨S_, .f32⟩
  | .hbm, ⟨5, _⟩ => ⟨S1024x7168, .f32⟩
  | .hbm, ⟨6, _⟩ => ⟨S2048x7168, .f32⟩
  | .hbm, ⟨7, _⟩ => ⟨S7168x1024, .f32⟩
  | .hbm, ⟨8, _⟩ => ⟨S1024x7168, .f32⟩
  | .hbm, ⟨9, _⟩ => ⟨S1024x8x896, .f32⟩
  | .hbm, ⟨10, _⟩ => ⟨S8x1024x896, .f32⟩
  | .hbm, ⟨11, _⟩ => ⟨S8x1024x896, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InH.lean ====
abbrev S2048x7168 : Shape := ⟨2, ![2048, 7168]⟩
abbrev S1024x7168 : Shape := ⟨2, ![1024, 7168]⟩
abbrev S1024x8x896 : Shape := ⟨3, ![1024, 8, 896]⟩
abbrev S8x1024x896 : Shape := ⟨3, ![8, 1024, 896]⟩
abbrev S2048x1024 : Shape := ⟨2, ![2048, 1024]⟩
abbrev S2048x1792 : Shape := ⟨2, ![2048, 1792]⟩
abbrev S2x1024x896 : Shape := ⟨3, ![2, 1024, 896]⟩
abbrev S1x1024x896 : Shape := ⟨3, ![1, 1024, 896]⟩
abbrev S1024x896 : Shape := ⟨2, ![1024, 896]⟩
abbrev S1024x1792 : Shape := ⟨2, ![1024, 1792]⟩

abbrev nBuf : Space → Nat
  | .hbm => 6
  | .vmem => 5
  | .smem => 0
  | _ => 0

abbrev bufTy : (tb : Table) → Fin (tcTables nBuf tb) → BufTy
  | .hbm, ⟨0, _⟩ => ⟨S2048x7168, .bf16⟩
  | .hbm, ⟨1, _⟩ => ⟨S1024x7168, .f32⟩
  | .hbm, ⟨2, _⟩ => ⟨S1024x7168, .bf16⟩
  | .hbm, ⟨3, _⟩ => ⟨S1024x8x896, .bf16⟩
  | .hbm, ⟨4, _⟩ => ⟨S8x1024x896, .bf16⟩
  | .hbm, ⟨5, _⟩ => ⟨S2048x1024, .f32⟩
  | .local _ .vmem, ⟨0, _⟩ => ⟨S2048x1792, .bf16⟩
  | .local _ .vmem, ⟨1, _⟩ => ⟨S2048x1792, .bf16⟩
  | .local _ .vmem, ⟨2, _⟩ => ⟨S2x1024x896, .bf16⟩
  | .local _ .vmem, ⟨3, _⟩ => ⟨S2x1024x896, .bf16⟩
  | .local _ .vmem, ⟨4, _⟩ => ⟨S2048x1024, .f32⟩
  | _, _ => ⟨S2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== InHRefIdeal.lean ====
abbrev S2048x7168 : Shape := ⟨2, ![2048, 7168]⟩
abbrev S1024x7168 : Shape := ⟨2, ![1024, 7168]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S1024x7168, .f32⟩
  | .hbm, ⟨2, _⟩ => ⟨S_, .f32⟩
  | .hbm, ⟨3, _⟩ => ⟨S2048x1024, .f32⟩
  | .hbm, ⟨4, _⟩ => ⟨S2048x7168, .f32⟩
  | .hbm, ⟨5, _⟩ => ⟨S2048x7168, .f32⟩
  | .hbm, ⟨6, _⟩ => ⟨S2048x1024, .f32⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GOut.lean ====
abbrev S2048x1024 : Shape := ⟨2, ![2048, 1024]⟩
abbrev S2048x512 : Shape := ⟨2, ![2048, 512]⟩
abbrev S1024x1024 : Shape := ⟨2, ![1024, 1024]⟩
abbrev S8x512x128 : Shape := ⟨3, ![8, 512, 128]⟩
abbrev S1024x512 : Shape := ⟨2, ![1024, 512]⟩
abbrev S4x512x128 : Shape := ⟨3, ![4, 512, 128]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 9
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x512, .bf16⟩
  | .hbm, ⟨5, _⟩ => ⟨S2048x1024, .bf16⟩
  | .hbm, ⟨6, _⟩ => ⟨S1024x1024, .bf16⟩
  | .hbm, ⟨7, _⟩ => ⟨S1024x1024, .bf16⟩
  | .hbm, ⟨8, _⟩ => ⟨S8x512x128, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S4x512x128, .bf16⟩
  | .local _ .vmem, ⟨14, _⟩ => ⟨S4x512x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GOutRefIdeal.lean ====
abbrev S2048x1024 : Shape := ⟨2, ![2048, 1024]⟩
abbrev S2048x512 : Shape := ⟨2, ![2048, 512]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩
abbrev S1024x1024 : Shape := ⟨2, ![1024, 1024]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S2048x512, .bf16⟩
  | .hbm, ⟨5, _⟩ => ⟨S2048x1024, .bf16⟩
  | .hbm, ⟨6, _⟩ => ⟨S2048x512, .f32⟩
  | .hbm, ⟨7, _⟩ => ⟨S2048x1024, .f32⟩
  | .hbm, ⟨8, _⟩ => ⟨S_, .f32⟩
  | .hbm, ⟨9, _⟩ => ⟨S512x1024, .f32⟩
  | .hbm, ⟨10, _⟩ => ⟨S2048x1024, .f32⟩
  | .hbm, ⟨11, _⟩ => ⟨S1024x512, .f32⟩
  | .hbm, ⟨12, _⟩ => ⟨S512x1024, .f32⟩
  | .hbm, ⟨13, _⟩ => ⟨S512x8x128, .f32⟩
  | .hbm, ⟨14, _⟩ => ⟨S8x512x128, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S1024x1024, .f32⟩
  | .hbm, ⟨19, _⟩ => ⟨S2048x1024, .f32⟩
  | .hbm, ⟨20, _⟩ => ⟨S1024x1024, .f32⟩
  | .hbm, ⟨21, _⟩ => ⟨S1024x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024x1024, .f32⟩
  | .hbm, ⟨26, _⟩ => ⟨S2048x1024, .f32⟩
  | .hbm, ⟨27, _⟩ => ⟨S1024x1024, .f32⟩
  | .hbm, ⟨28, _⟩ => ⟨S1024x1024, .f32⟩
  | .hbm, ⟨29, _⟩ => ⟨S1024x1024, .bf16⟩
  | .hbm, ⟨30, _⟩ => ⟨S1024x1024, .bf16⟩
  | .hbm, ⟨31, _⟩ => ⟨S8x512x128, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Adamw.lean ====
abbrev S2x1024x384 : Shape := ⟨3, ![2, 1024, 384]⟩
abbrev S1x1024x384 : Shape := ⟨3, ![1, 1024, 384]⟩
abbrev S1x512x384 : Shape := ⟨3, ![1, 512, 384]⟩
abbrev S512x384 : Shape := ⟨2, ![512, 384]⟩

abbrev nBuf : Space → Nat
  | .hbm => 13
  | .vmem => 32
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S1x1024x384, .f32⟩
  | .hbm, ⟨4, _⟩ => ⟨S1x1024x384, .f32⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .hbm, ⟨11, _⟩ => ⟨S2x1024x384, .f32⟩
  | .hbm, ⟨12, _⟩ => ⟨S2x1024x384, .f32⟩
  | .local _ .vmem, ⟨0, _⟩ => ⟨S1x512x384, .f32⟩
  | .local _ .vmem, ⟨1, _⟩ => ⟨S1x512x384, .f32⟩
  | .local _ .vmem, ⟨2, _⟩ => ⟨S1x512x384, .f32⟩
  | .local _ .vmem, ⟨3, _⟩ => ⟨S1x512x384, .f32⟩
  | .local _ .vmem, ⟨4, _⟩ => ⟨S1x512x384, .f32⟩
  | .local _ .vmem, ⟨5, _⟩ => ⟨S1x512x384, .f32⟩
  | .local _ .vmem, ⟨6, _⟩ => ⟨S1x512x384, .f32⟩
  | .local _ .vmem, ⟨7, _⟩ => ⟨S1x512x384, .f32⟩
  | .local _ .vmem, ⟨8, _⟩ => ⟨S1x512x384, .f32⟩
  | .local _ .vmem, ⟨9, _⟩ => ⟨S1x512x384, .f32⟩
  | .local _ .vmem, ⟨10, _⟩ => ⟨S1x512x384, .f32⟩
  | .local _ .vmem, ⟨11, _⟩ => ⟨S1x512x384, .f32⟩
  | .local _ .vmem, ⟨12, _⟩ => ⟨S1x512x384, .f32⟩
  | .local _ .vmem, ⟨13, _⟩ => ⟨S1x512x384, .f32⟩
  | .local _ .vmem, ⟨14, _⟩ => ⟨S1x512x384, .f32⟩
  | .local _ .vmem, ⟨15, _⟩ => ⟨S1x512x384, .f32⟩
  | .local _ .vmem, ⟨16, _⟩ => ⟨S1x512x384, .f32⟩
  | .local _ .vmem, ⟨17, _⟩ => ⟨S1x512x384, .f32⟩
  | .local _ .vmem, ⟨18, _⟩ => ⟨S1x512x384, .f32⟩
  | .local _ .vmem, ⟨19, _⟩ => ⟨S1x512x384, .f32⟩
  | .local _ .vmem, ⟨20, _⟩ => ⟨S1x512x384, .f32⟩
  | .local _ .vmem, ⟨21, _⟩ => ⟨S1x512x384, .f32⟩
  | .local _ .vmem, ⟨22, _⟩ => ⟨S1x512x384, .f32⟩
  | .local _ .vmem, ⟨23, _⟩ => ⟨S1x512x384, .f32⟩
  | .local _ .vmem, ⟨24, _⟩ => ⟨S1x512x384, .f32⟩
  | .local _ .vmem, ⟨25, _⟩ => ⟨S1x512x384, .f32⟩
  | .local _ .vmem, ⟨26, _⟩ => ⟨S1x512x384, .f32⟩
  | .local _ .vmem, ⟨27, _⟩ => ⟨S1x512x384, .f32⟩
  | .local _ .vmem, ⟨28, _⟩ => ⟨S1x512x384, .f32⟩
  | .local _ .vmem, ⟨29, _⟩ => ⟨S1x512x384, .f32⟩
  | .local _ .vmem, ⟨30, _⟩ => ⟨S1x512x384, .f32⟩
  | .local _ .vmem, ⟨31, _⟩ => ⟨S1x512x384, .f32⟩
  | _, _ => ⟨S2x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x512x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x384 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamwRefIdeal.lean ====
abbrev S2x1024x384 : Shape := ⟨3, ![2, 1024, 384]⟩
abbrev S1x1024x384 : Shape := ⟨3, ![1, 1024, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x384, .f32⟩
  | .hbm, ⟨1, _⟩ => ⟨S2x1024x384, .f32⟩
  | .hbm, ⟨2, _⟩ => ⟨S2x1024x384, .f32⟩
  | .hbm, ⟨3, _⟩ => ⟨S1x1024x384, .f32⟩
  | .hbm, ⟨4, _⟩ => ⟨S1x1024x384, .f32⟩
  | .hbm, ⟨5, _⟩ => ⟨S2x1024x384, .f32⟩
  | .hbm, ⟨6, _⟩ => ⟨S_, .f32⟩
  | .hbm, ⟨7, _⟩ => ⟨S2x1024x384, .f32⟩
  | .hbm, ⟨8, _⟩ => ⟨S2x1024x384, .f32⟩
  | .hbm, ⟨9, _⟩ => ⟨S_, .f32⟩
  | .hbm, ⟨10, _⟩ => ⟨S2x1024x384, .f32⟩
  | .hbm, ⟨11, _⟩ => ⟨S2x1024x384, .f32⟩
  | .hbm, ⟨12, _⟩ => ⟨S2x1024x384, .f32⟩
  | .hbm, ⟨13, _⟩ => ⟨S_, .f32⟩
  | .hbm, ⟨14, _⟩ => ⟨S2x1024x384, .f32⟩
  | .hbm, ⟨15, _⟩ => ⟨S2x1024x384, .f32⟩
  | .hbm, ⟨16, _⟩ => ⟨S2x1024x384, .f32⟩
  | .hbm, ⟨17, _⟩ => ⟨S_, .f32⟩
  | .hbm, ⟨18, _⟩ => ⟨S2x1024x384, .f32⟩
  | .hbm, ⟨19, _⟩ => ⟨S2x1024x384, .f32⟩
  | .hbm, ⟨20, _⟩ => ⟨S2x1024x384, .f32⟩
  | .hbm, ⟨21, _⟩ => ⟨S_, .f32⟩
  | .hbm, ⟨22, _⟩ => ⟨S2x1024x384, .f32⟩
  | .hbm, ⟨23, _⟩ => ⟨S2x1024x384, .f32⟩
  | .hbm, ⟨24, _⟩ => ⟨S_, .f32⟩
  | .hbm, ⟨25, _⟩ => ⟨S2x1024x384, .f32⟩
  | .hbm, ⟨26, _⟩ => ⟨S2x1024x384, .f32⟩
  | .hbm, ⟨27, _⟩ => ⟨S2x1024x384, .f32⟩
  | .hbm, ⟨28, _⟩ => ⟨S_, .f32⟩
  | .hbm, ⟨29, _⟩ => ⟨S2x1024x384, .f32⟩
  | .hbm, ⟨30, _⟩ => ⟨S2x1024x384, .f32⟩
  | .hbm, ⟨31, _⟩ => ⟨S2x1024x384, .f32⟩
  | .hbm, ⟨32, _⟩ => ⟨S_, .f32⟩
  | .hbm, ⟨33, _⟩ => ⟨S2x1024x384, .f32⟩
  | .hbm, ⟨34, _⟩ => ⟨S2x1024x384, .f32⟩
  | .hbm, ⟨35, _⟩ => ⟨S2x1024x384, .f32⟩
  | .hbm, ⟨36, _⟩ => ⟨S_, .f32⟩
  | .hbm, ⟨37, _⟩ => ⟨S2x1024x384, .f32⟩
  | .hbm, ⟨38, _⟩ => ⟨S2x1024x384, .f32⟩
  | _, _ => ⟨S2x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Psum.lean ====
abbrev S8x1024x896 : Shape := ⟨3, ![8, 1024, 896]⟩
abbrev S4x1024x896 : Shape := ⟨3, ![4, 1024, 896]⟩
abbrev S4 : Shape := ⟨1, ![4]⟩
abbrev S1x1024x896 : Shape := ⟨3, ![1, 1024, 896]⟩
abbrev S1 : Shape := ⟨1, ![1]⟩
abbrev S1024x896 : Shape := ⟨2, ![1024, 896]⟩

abbrev nBuf : Space → Nat
  | .hbm => 3
  | .vmem => 6
  | .smem => 1
  | _ => 0

abbrev bufTy : (tb : Table) → Fin (tcTables nBuf tb) → BufTy
  | .hbm, ⟨0, _⟩ => ⟨S8x1024x896, .bf16⟩
  | .hbm, ⟨1, _⟩ => ⟨S4x1024x896, .bf16⟩
  | .hbm, ⟨2, _⟩ => ⟨S4x1024x896, .bf16⟩
  | .local _ .vmem, ⟨0, _⟩ => ⟨S1x1024x896, .bf16⟩
  | .local _ .vmem, ⟨1, _⟩ => ⟨S1x1024x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1x1024x896, .bf16⟩
  | .local _ .vmem, ⟨5, _⟩ => ⟨S1x1024x896, .bf16⟩
  | .local _ .smem, ⟨0, _⟩ => ⟨S4, .i32⟩
  | _, _ => ⟨S8x1024x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PsumRefIdeal.lean ====
abbrev S8x1024x896 : Shape := ⟨3, ![8, 1024, 896]⟩
abbrev S4x1024x896 : Shape := ⟨3, ![4, 1024, 896]⟩
abbrev S1x1024x896 : Shape := ⟨3, ![1, 1024, 896]⟩
abbrev S1024x896 : Shape := ⟨2, ![1024, 896]⟩

abbrev nBuf : Space → Nat
  | .hbm => 19
  | .vmem => 0
  | .smem => 0
  | _ => 0

abbrev bufTy : (tb : Table) → Fin (tcTables nBuf tb) → BufTy
  | .hbm, ⟨0, _⟩ => ⟨S8x1024x896, .bf16⟩
  | .hbm, ⟨1, _⟩ => ⟨S4x1024x896, .bf16⟩
  | .hbm, ⟨2, _⟩ => ⟨S1x1024x896, .bf16⟩
  | .hbm, ⟨3, _⟩ => ⟨S1024x896, .bf16⟩
  | .hbm, ⟨4, _⟩ => ⟨S1x1024x896, .bf16⟩
  | .hbm, ⟨5, _⟩ => ⟨S1024x896, .bf16⟩
  | .hbm, ⟨6, _⟩ => ⟨S1x1024x896, .bf16⟩
  | .hbm, ⟨7, _⟩ => ⟨S1024x896, .bf16⟩
  | .hbm, ⟨8, _⟩ => ⟨S1x1024x896, .bf16⟩
  | .hbm, ⟨9, _⟩ => ⟨S1024x896, .bf16⟩
  | .hbm, ⟨10, _⟩ => ⟨S1x1024x896, .bf16⟩
  | .hbm, ⟨11, _⟩ => ⟨S1x1024x896, .bf16⟩
  | .hbm, ⟨12, _⟩ => ⟨S1x1024x896, .bf16⟩
  | .hbm, ⟨13, _⟩ => ⟨S1x1024x896, .bf16⟩
  | .hbm, ⟨14, _⟩ => ⟨S4x1024x896, .bf16⟩
  | .hbm, ⟨15, _⟩ => ⟨S4x1024x896, .f32⟩
  | .hbm, ⟨16, _⟩ => ⟨S4x1024x896, .f32⟩
  | .hbm, ⟨17, _⟩ => ⟨S4x1024x896, .f32⟩
  | .hbm, ⟨18, _⟩ => ⟨S4x1024x896, .bf16⟩
  | _, _ => ⟨S8x1024x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== Proof.Rows.lean ====
/- Whole rows stored one by one in a rank-2 buffer: what the buffer then reads, row by row. -/
module

public import Idealize.ShloMosaic.Lib.Pipeline.ValueKit
public import Idealize.ShloMosaic.Lib.Pipeline.FrameBody
public import Idealize.ShloMosaic.Lib.WritesUnit
public import Idealize.ShloMosaic.Lib.Pointwise

@[expose] public section

noncomputable section

open Idealize.ShloMosaic

namespace Cert.Rows

variable {sig : RefSig} {κ : Kind} {sp : Space} {e : EltTy} {Val : EltTy → Type} {R C o : ℕ}

/-- The row a unit-height rectangle at row `o` names. -/
theorem emb_row (inb : ∀ a : Fin 2, (![o, 0] : Fin 2 → ℕ) a + (![1, C] : Fin 2 → ℕ) a ≤ (![R, C] : Fin 2 → ℕ) a)
    (r : Fin R) (l : Fin C) (h : r.val = o) :
    (Rect.unit (s := ⟨2, ![R, C]⟩) ![o, 0] ![1, C] inb).emb (ix2 (0 : Fin 1) l) = ix2 r l := by
  funext a
  refine Fin.cases ?_ (fun a => ?_) a
  · exact Fin.ext (by show o + 1 * 0 = r.val; omega)
  · obtain rfl : a = 0 := Subsingleton.elim _ _
    exact Fin.ext (by show 0 + 1 * l.val = l.val; omega)

/-- Read back row by row: the newest row stored, or what the earlier stores left. -/
theorem canon_row [∀ e, Nonempty (Val e)]
    (inb : ∀ a : Fin 2, (![o, 0] : Fin 2 → ℕ) a + (![1, C] : Fin 2 → ℕ) a ≤ (![R, C] : Fin 2 → ℕ) a)
    (w : (Rect.unit (s := ⟨2, ![R, C]⟩) ![o, 0] ![1, C] inb).shape.Idx → Val e)
    (L : List (View.Piece Val ⟨2, ![R, C]⟩ e)) (r : Fin R) (l : Fin C) :
    View.canon ((⟨Rect.unit (s := ⟨2, ![R, C]⟩) ![o, 0] ![1, C] inb, w⟩ : View.Piece Val ⟨2, ![R, C]⟩ e) :: L) (ix2 r l)
      = if r.val = o then w (ix2 (0 : Fin 1) l) else View.canon L (ix2 r l) := by
  split
  · next h => rw [← emb_row inb r l h]; exact View.canon_cons_emb _ w L _
  · next h =>
    refine View.canon_cons_of_not_mem _ L fun hm => h ?_
    have hm0 : o ≤ r.val ∧ r.val < o + 1 := (Rect.mem_set_unit (inb := inb)).1 hm 0
    omega

/-- The same over contents already there. -/
theorem read_writes_row (v : View sig κ sp ⟨2, ![R, C]⟩ e) (f : v.ty.Contents Val)
    (inb : ∀ a : Fin 2, (![o, 0] : Fin 2 → ℕ) a + (![1, C] : Fin 2 → ℕ) a ≤ (![R, C] : Fin 2 → ℕ) a)
    (w : (Rect.unit (s := ⟨2, ![R, C]⟩) ![o, 0] ![1, C] inb).shape.Idx → Val e)
    (L : List (View.Piece Val ⟨2, ![R, C]⟩ e)) (r : Fin R) (l : Fin C) :
    v.read Val (v.writes Val f ((⟨Rect.unit (s := ⟨2, ![R, C]⟩) ![o, 0] ![1, C] inb, w⟩ : View.Piece Val ⟨2, ![R, C]⟩ e) :: L)) (ix2 r l)
      = if r.val = o then w (ix2 (0 : Fin 1) l) else v.read Val (v.writes Val f L) (ix2 r l) := by
  split
  · next h => rw [← emb_row inb r l h]; exact View.read_writes_cons_emb v f _ w L _
  · next h =>
    refine View.read_writes_cons_rows_of_not_mem (o := o) (W := 1) v f inb w L _ rfl rfl ?_
    have h0 : (ix2 r l : (⟨2, ![R, C]⟩ : Shape).Idx) 0 = r := rfl
    rw [h0]
    omega

/-- A store of the whole buffer is read back everywhere. -/
theorem canon_whole [∀ e, Nonempty (Val e)]
    (inb : ∀ a : Fin 2, (![0, 0] : Fin 2 → ℕ) a + (![R, C] : Fin 2 → ℕ) a ≤ (![R, C] : Fin 2 → ℕ) a)
    (w : (Rect.unit (s := ⟨2, ![R, C]⟩) ![0, 0] ![R, C] inb).shape.Idx → Val e)
    (L : List (View.Piece Val ⟨2, ![R, C]⟩ e)) (r : Fin R) (l : Fin C) :
    View.canon ((⟨Rect.unit (s := ⟨2, ![R, C]⟩) ![0, 0] ![R, C] inb, w⟩ : View.Piece Val ⟨2, ![R, C]⟩ e) :: L) (ix2 r l)
      = w (ix2 r l) := by
  have h : (Rect.unit (s := ⟨2, ![R, C]⟩) ![0, 0] ![R, C] inb).emb (ix2 r l) = ix2 r l := by
    funext a
    refine Fin.cases ?_ (fun a => ?_) a
    · exact Fin.ext (by show 0 + 1 * r.val = r.val; omega)
    · obtain rfl : a = 0 := Subsingleton.elim _ _
      exact Fin.ext (by show 0 + 1 * l.val = l.val; omega)
  exact (congrArg (View.canon _) h.symm).trans (View.canon_cons_emb _ w L _)

/-- A load of one row finds that row of what the stores left; -/
theorem readCov_row [∀ e, Nonempty (Val e)] (v : View sig κ sp ⟨2, ![R, C]⟩ e) (L : List (View.Piece Val ⟨2, ![R, C]⟩ e)) (ho : o < R)
    (inb : ∀ a : Fin 2, (![o, 0] : Fin 2 → ℕ) a + (![1, C] : Fin 2 → ℕ) a ≤ (![R, C] : Fin 2 → ℕ) a) (l : Fin C) :
    v.readCov L (Rect.unit (s := ⟨2, ![R, C]⟩) ![o, 0] ![1, C] inb).toLoadRect (ix2 (0 : Fin 1) l)
      = View.canon L (ix2 (⟨o, ho⟩ : Fin R) l) := by
  rw [View.readCov_eq_canon', ← emb_row inb ⟨o, ho⟩ l rfl]
  rfl

/-- of given contents likewise. -/
theorem ld_row (X : (⟨2, ![R, C]⟩ : Shape).Idx → Val e) (ho : o < R)
    (inb : ∀ a : Fin 2, (![o, 0] : Fin 2 → ℕ) a + (![1, C] : Fin 2 → ℕ) a ≤ (![R, C] : Fin 2 → ℕ) a) (l : Fin C) :
    View.ld X (Rect.unit (s := ⟨2, ![R, C]⟩) ![o, 0] ![1, C] inb) (ix2 (0 : Fin 1) l) = X (ix2 (⟨o, ho⟩ : Fin R) l) := by
  rw [← emb_row inb ⟨o, ho⟩ l rfl]
  rfl

end Cert.Rows

end
-- ==== Proof.Reals.lean ====
/- Finite extended reals as real numbers: the operations of the programs on arrays without infinities. -/
module

public import Idealize.ShloMosaic.PureOps.Ideal
public import Idealize.ShloMosaic.Lib.IdealHost
public import Idealize.ShloMosaic.Lib.ReduceAll
public import Idealize.ShloMosaic.Lib.WordCmp
public import Idealize.ShloMosaic.Lib.Pointwise

@[expose] public section

noncomputable section

open Idealize.ShloMosaic

namespace Cert.Reals

/-- An extended real of which neither it nor its negative is the top is a real number. -/
theorem exists_real {x : EReal} (h : max x (-x) < ⊤) : ∃ r : ℝ, x = (r : EReal) := by
  obtain ⟨h1, h2⟩ := max_lt_iff.1 h
  induction x with
  | bot => simp at h2
  | coe r => exact ⟨r, rfl⟩
  | top => simp at h1

/-- A finite sum of real numbers, taken among the extended reals. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The quotient of two real numbers, the divisor not zero. -/
theorem div_real (a : ℝ) {b : ℝ} (hb : b ≠ 0) : Ideal.div (a : EReal) (b : EReal) = ((a / b : ℝ) : EReal) := by
  rw [Ideal.div_coe hb, ← EReal.coe_mul, mul_one_div]

/-- The reciprocal square root of a positive real number. -/
theorem rsqrt_real {a : ℝ} (ha : 0 < a) : Ideal.rsqrt (a : EReal) = (((Real.sqrt a)⁻¹ : ℝ) : EReal) := by
  rw [Ideal.rsqrt_coe, if_neg ha.not_gt, if_neg ha.ne']

/-- The constant 1024. -/
theorem bits_1024 : Ideal.ofBits .f32 0x44800000#32 = ((1024 : ℝ) : EReal) := by
  simp [Ideal.ofBits, Ideal.ieee, ← EReal.coe_mul]; norm_num

/-- The constant -1/2. -/
theorem bits_neg_half : Ideal.ofBits .f32 0xBF000000#32 = ((-(1 / 2) : ℝ) : EReal) := by
  simp [Ideal.ofBits, Ideal.ieee, ← EReal.coe_mul, ← EReal.coe_neg]; norm_num

/-- The pattern of infinity. -/
theorem bits_inf : Ideal.ofBits .f32 0x7F800000#32 = ⊤ := by
  simp [Ideal.ofBits, Ideal.ieee]

/-- The norms' small constant, about 1e-6, as a real number. -/
def eps : ℝ := 8796093 * 2 ^ (-43 : ℤ)

theorem eps_pos : 0 < eps := by unfold eps; positivity

theorem bits_eps : Ideal.ofBits .f32 0x358637BD#32 = (eps : EReal) := by
  simp [Ideal.ofBits, Ideal.ieee, eps]

/-- The reciprocal root of a row's mean square, the mean taken with the divisor `n`. -/
def rs {ι : Type} [Fintype ι] (n : ℝ) (f : ι → ℝ) : ℝ := (Real.sqrt ((∑ k, f k * f k) / n + eps))⁻¹

theorem rs_arg_pos {ι : Type} [Fintype ι] {n : ℝ} (hn : 0 < n) (f : ι → ℝ) : 0 < (∑ k, f k * f k) / n + eps :=
  add_pos_of_nonneg_of_pos (div_nonneg (Finset.sum_nonneg fun k _ => mul_self_nonneg _) hn.le) eps_pos

theorem rs_sq {ι : Type} [Fintype ι] {n : ℝ} (hn : 0 < n) (f : ι → ℝ) :
    rs n f * rs n f * ((∑ k, f k * f k) / n + eps) = 1 := by
  have h := rs_arg_pos hn f
  rw [rs, ← mul_inv, Real.mul_self_sqrt h.le, inv_mul_cancel₀ h.ne']

/-- What the programs compute for that root, from a row of real numbers. -/
theorem rsqrt_row {ι : Type} [Fintype ι] {n : ℝ} (hn : 0 < n) (f : ι → ℝ) :
    Ideal.rsqrt (Ideal.div (∑ k, (f k : EReal) * (f k : EReal)) (n : EReal) + (eps : EReal)) = (rs n f : EReal) := by
  simp only [← EReal.coe_mul, sum_coe, div_real _ hn.ne', ← EReal.coe_add]
  exact rsqrt_real (rs_arg_pos hn f)

/-- Two bits whose conjunction is set are both set. -/
theorem and_bits {a b : BitVec 1} : IntOp.andi a b = 1#1 ↔ a = 1#1 ∧ b = 1#1 := by
  revert a b; decide

/-- The same array's elements all below infinity in size: each is a real number. -/
theorem real_of_all {s t : Shape} {axes : List (Fin s.rank)} [Subsingleton t.Idx] (x : FVec Ideal s .f32)
    (hb : (⟨0, ![]⟩ : Shape).BroadcastsInDim s ![]) (h : s.ReducesTo axes t) (hu : 0 < t.numel) (j : t.Idx) (ini : t.Idx → BitVec 1)
    (e : Host.reduce IntOp.andi (cmpf .olt (Host.absf x) (broadcastInDim s ![] hb (constant ⟨0, ![]⟩ .f32 0x7F800000#32))) ini h hu j = 1#1) :
    ∃ r : s.Idx → ℝ, ∀ i, x i = (r i : EReal) := by
  have hr : ∀ i, ∃ r : ℝ, x i = (r : EReal) := fun i => by
    have hi := Host.reduce_andi_all _ _ _ _ j e i
    pointwise [bits_inf] at hi
    exact exists_real (of_decide_eq_true ((WordCmp.ofBool_eq_one_iff _).1 hi))
  exact ⟨fun i => (hr i).choose, fun i => (hr i).choose_spec⟩

end Cert.Reals

end
-- ==== Proof.PrenormRow.lean ====
/- The pre-norm's gradient row by row: the formula the kernel computes, that of the reference, and why they are one. -/
module

public import proofs.«01_k».proof.Proof.Reals

@[expose] public section

noncomputable section

open Idealize.ShloMosaic

namespace Cert.PrenormRow

variable {n n' : ℕ}

/-- Arrays of `n` rows of 1024 numbers. -/
abbrev Arr (n : ℕ) : Type := FVec Ideal ⟨2, ![n, 1024]⟩ .f32

/-- The reciprocal root of row `r`'s mean square. -/
def rq (x : Arr n) (r : Fin n) : EReal :=
  Ideal.rsqrt (Ideal.div (∑ k, x (ix2 r k) * x (ix2 r k)) (Ideal.ofBits .f32 0x44800000#32) + Ideal.ofBits .f32 0x358637BD#32)

/-- The cotangent before the gain. -/
def dh (d : Arr n) (s : Arr 1) (r : Fin n) (l : Fin 1024) : EReal := d (ix2 r l) * (1 + s (ix2 0 l))

/-- The cotangent of the normalised row. -/
def dn (d : Arr n) (g s : Arr 1) (r : Fin n) (l : Fin 1024) : EReal := dh d s r l * g (ix2 0 l)

/-- The input's gradient as the kernel writes it. -/
def dxK (x d e : Arr n) (g s : Arr 1) (r : Fin n) (l : Fin 1024) : EReal :=
  rq x r * (dn d g s r l - x (ix2 r l) * rq x r * Ideal.div (∑ k, dn d g s r k * (x (ix2 r k) * rq x r)) (Ideal.ofBits .f32 0x44800000#32))
    + e (ix2 r l)

/-- The half of the mean square's share of that gradient, as differentiation gives it. -/
def dv (x d : Arr n) (g s : Arr 1) (r : Fin n) : EReal :=
  Ideal.div ((∑ k, x (ix2 r k) * dn d g s r k) * (Ideal.ofBits .f32 0xBF000000#32 * Ideal.div (rq x r)
    (Ideal.div (∑ k, x (ix2 r k) * x (ix2 r k)) (Ideal.ofBits .f32 0x44800000#32) + Ideal.ofBits .f32 0x358637BD#32)))
    (Ideal.ofBits .f32 0x44800000#32)

/-- The input's gradient as differentiation gives it. -/
def dxR (x d e : Arr n) (g s : Arr 1) (r : Fin n) (l : Fin 1024) : EReal :=
  e (ix2 r l) + dn d g s r l * rq x r + x (ix2 r l) * dv x d g s r + dv x d g s r * x (ix2 r l)

/-- The column sums: of the cotangent, of its product with the normalised row, and of the gain's. -/
def accK (x d : Arr n) (g s : Arr 1) (o : ℕ) (l : Fin 1024) : EReal :=
  if o = 2 then ∑ r, dh d s r l * (x (ix2 r l) * rq x r)
  else if o = 1 then ∑ r, d (ix2 r l) * (x (ix2 r l) * rq x r * g (ix2 0 l))
  else if o = 0 then ∑ r, d (ix2 r l)
  else 0

/-- The formula reads one row of each array only. -/
theorem dxK_congr {x d e : Arr n} {x' d' e' : Arr n'} {g s g' s' : Arr 1} {r : Fin n} {r' : Fin n'} (hx : ∀ k, x (ix2 r k) = x' (ix2 r' k))
    (hd : ∀ k, d (ix2 r k) = d' (ix2 r' k)) (he : ∀ k, e (ix2 r k) = e' (ix2 r' k)) (hg : ∀ k, g (ix2 0 k) = g' (ix2 0 k))
    (hs : ∀ k, s (ix2 0 k) = s' (ix2 0 k)) (l : Fin 1024) :
    dxK x d e g s r l = dxK x' d' e' g' s' r' l := by
  simp only [dxK, dn, dh, rq, hx, hd, he, hg, hs]

/-- The column sums over the rows of two halves are those over all the rows. -/
theorem accK_halves {x d : Arr 2048} {g s : Arr 1} {xb db : Fin 2 → Arr 1024} {gb sb : Fin 2 → Arr 1}
    (hx : ∀ t (r : Fin 1024) k, xb t (ix2 r k) = x (ix2 (⟨1024 * t.val + r.val, by omega⟩ : Fin 2048) k))
    (hd : ∀ t (r : Fin 1024) k, db t (ix2 r k) = d (ix2 (⟨1024 * t.val + r.val, by omega⟩ : Fin 2048) k))
    (hg : ∀ t k, gb t (ix2 0 k) = g (ix2 0 k)) (hs : ∀ t k, sb t (ix2 0 k) = s (ix2 0 k)) (o : ℕ) (l : Fin 1024) :
    ∑ t, accK (xb t) (db t) (gb t) (sb t) o l = accK x d g s o l := by
  have hsum : ∀ f : Fin 2048 → EReal, ∑ t : Fin 2, ∑ r : Fin 1024, f ⟨1024 * t.val + r.val, by omega⟩ = ∑ r, f r := fun f => by
    rw [← Fintype.sum_prod_type']
    exact Fintype.sum_equiv (finProdFinEquiv (m := 2) (n := 1024)) _ f fun p => congrArg f (Fin.ext (Nat.add_comm _ _))
  simp only [accK, dh, rq, hx, hd, hg, hs]
  split_ifs
  · exact hsum fun r => d (ix2 r l) * (1 + s (ix2 0 l)) * (x (ix2 r l) * rq x r)
  · exact hsum fun r => d (ix2 r l) * (x (ix2 r l) * rq x r * g (ix2 0 l))
  · exact hsum fun r => d (ix2 r l)
  · simp

/-- On real numbers the two gradients agree. -/
theorem dx_eq {x d e : Arr n} {g s : Arr 1} (hx : ∃ f : (⟨2, ![n, 1024]⟩ : Shape).Idx → ℝ, ∀ i, x i = (f i : EReal))
    (hd : ∃ f : (⟨2, ![n, 1024]⟩ : Shape).Idx → ℝ, ∀ i, d i = (f i : EReal)) (hg : ∃ f : (⟨2, ![1, 1024]⟩ : Shape).Idx → ℝ, ∀ i, g i = (f i : EReal))
    (hs : ∃ f : (⟨2, ![1, 1024]⟩ : Shape).Idx → ℝ, ∀ i, s i = (f i : EReal)) (r : Fin n) (l : Fin 1024) :
    dxK x d e g s r l = dxR x d e g s r l := by
  obtain ⟨X, hX⟩ := hx
  obtain ⟨D, hD⟩ := hd
  obtain ⟨G, hG⟩ := hg
  obtain ⟨S, hS⟩ := hs
  have hr : rq x r = (Reals.rs 1024 (fun k => X (ix2 r k)) : EReal) := by
    simp only [rq, hX, Reals.bits_1024, Reals.bits_eps]
    exact Reals.rsqrt_row (by norm_num) _
  have hn : ∀ k, dn d g s r k = ((D (ix2 r k) * (1 + S (ix2 0 k)) * G (ix2 0 k) : ℝ) : EReal) := fun k => by
    simp only [dn, dh, hD, hG, hS, ← EReal.coe_one, ← EReal.coe_add, ← EReal.coe_mul]
  have hq := Reals.rs_sq (n := 1024) (by norm_num) (fun k => X (ix2 r k))
  have hp := Reals.rs_arg_pos (n := 1024) (by norm_num) (fun k => X (ix2 r k))
  have h1 : (1024 : ℝ) ≠ 0 := by norm_num
  simp only [dxK, dxR, dv, hn, hr, hX, Reals.bits_1024, Reals.bits_eps, Reals.bits_neg_half, ← EReal.coe_mul, Reals.sum_coe,
    Reals.div_real _ h1, ← EReal.coe_add, Reals.div_real _ hp.ne', ← EReal.coe_sub]
  rw [add_assoc, add_assoc, ← EReal.coe_add, ← EReal.coe_add, add_comm]
  congr 2
  generalize Reals.rs 1024 (fun k => X (ix2 r k)) = q at *
  generalize (∑ k, X (ix2 r k) * X (ix2 r k)) / 1024 + Reals.eps = a at *
  have hs2 : ∑ k, D (ix2 r k) * (1 + S (ix2 0 k)) * G (ix2 0 k) * (X (ix2 r k) * q)
      = (∑ k, X (ix2 r k) * (D (ix2 r k) * (1 + S (ix2 0 k)) * G (ix2 0 k))) * q := by
    rw [Finset.sum_mul]; exact Finset.sum_congr rfl fun k _ => by ring
  rw [hs2]
  generalize ∑ k, X (ix2 r k) * (D (ix2 r k) * (1 + S (ix2 0 k)) * G (ix2 0 k)) = T
  have hqa : q / a = q * q * q := by
    rw [div_eq_iff hp.ne']; linear_combination -q * hq
  rw [hqa]
  ring

end Cert.PrenormRow

end
-- ==== Proof.PrenormBlock.lean ====
/- What the pre-norm gradient kernel leaves in its two arrays. -/
module

public import proofs.«01_k».proof.Proof.Gen.PrenormIdeal.Value
public import proofs.«01_k».proof.Proof.Rows
public import proofs.«01_k».proof.Proof.PrenormRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PrenormIdeal.Hand

open Cert.PrenormIdeal Cert.PrenormIdeal.Gen Cert.PrenormRow

variable (m : (ℓ : Loc nD τ sig) → Buf (Elt Ideal) ℓ)

/-- The stored input gradient at an index. -/
theorem pay3_at (x d e : FVec Ideal S1024x1024 .f32) (g s : FVec Ideal S1x1024 .f32) (r l : Fin 1024) :
    k0_pay3 (F := Ideal) (k0_pay5 x) (k0_pay6 x) d s (Ideal.ofBits .f32 0x3F800000#32) g e (ix2 r l) = dxK x d e g s r l := by
  pointwise [k0_pay3, k0_pay5, k0_pay6, k0_pay1]
  rfl

/-- The three sums' new rows: each the old row and the block's column sum. -/
theorem pay2_at (x d : FVec Ideal S1024x1024 .f32) (g s a : FVec Ideal S1x1024 .f32) (l : Fin 1024) :
    k0_pay2 (F := Ideal) (k0_pay6 x) d s (Ideal.ofBits .f32 0x3F800000#32) a (ix2 0 l) = a (ix2 0 l) + accK x d g s 2 l := by
  pointwise [k0_pay2, k0_pay6, k0_pay5, k0_pay1]
  rfl

theorem pay8_at (x d : FVec Ideal S1024x1024 .f32) (g s a : FVec Ideal S1x1024 .f32) (l : Fin 1024) :
    k0_pay8 (F := Ideal) x d a g (ix2 0 l) = a (ix2 0 l) + accK x d g s 1 l := by
  pointwise [k0_pay8, k0_pay6, k0_pay5, k0_pay1]
  rfl

theorem pay7_at (x d : FVec Ideal S1024x1024 .f32) (g s a : FVec Ideal S1x1024 .f32) (l : Fin 1024) :
    k0_pay7 (F := Ideal) d a (ix2 0 l) = a (ix2 0 l) + accK x d g s 0 l := by
  pointwise [k0_pay7]
  rfl

/-- A point's own column sums. -/
def term (c : Dev nD) (t : Fin cfg0.N) (o : Fin 8) (l : Fin 1024) : EReal :=
  accK (iblk m c 0 t) (iblk m c 1 t) (iblk m c 3 t) (iblk m c 4 t) o.val l

/-- The first point leaves its own sums; -/
theorem caseA (c : Dev nD) (t : Fin cfg0.N) (h : t.val % 2 = 0) (o : Fin 8) (l : Fin 1024) :
    (outsAt0 m c t.val t.isLt).2 (ix2 o l) = (0 : EReal) + term m c t o l := by
  rw [outsAt0_A m c t h]
  frame_out
  have hz : ∀ (o : Fin 8), k0_pay4 (F := Ideal) (ix2 o l) = (0 : EReal) := fun o => by pointwise [k0_pay4]
  rw [Rows.canon_row, Rows.canon_row, Rows.canon_row, Rows.canon_whole]
  erw [pay2_at _ _ (iblk m c 3 t), pay8_at _ _ _ (iblk m c 4 t), pay7_at (iblk m c 0 t) _ (iblk m c 3 t) (iblk m c 4 t)]
  rw [Rows.readCov_row _ _ (by decide), Rows.readCov_row _ _ (by decide), Rows.readCov_row _ _ (by decide)]
  simp only [Rows.canon_row, Rows.canon_whole, hz, term]
  split_ifs with h2 h1 h0 <;> simp_all [accK]

/-- the next adds its own to what it finds. -/
theorem caseB (c : Dev nD) (t : Fin cfg0.N) (h : ¬ t.val % 2 = 0) (o : Fin 8) (l : Fin 1024) :
    (outsAt0 m c t.val t.isLt).2 (ix2 o l) = (outsAt0 m c (t.val - 1) (Nat.lt_of_le_of_lt (Nat.sub_le _ _) t.isLt)).2 (ix2 o l) + term m c t o l := by
  rw [outsAt0_B m c t h]
  frame_out
  rw [Rows.read_writes_row, Rows.read_writes_row, Rows.read_writes_row]
  erw [pay2_at _ _ (iblk m c 3 t), pay8_at _ _ _ (iblk m c 4 t), pay7_at (iblk m c 0 t) _ (iblk m c 3 t) (iblk m c 4 t)]
  rw [Rows.ld_row _ (by decide), Rows.ld_row _ (by decide), Rows.ld_row _ (by decide)]
  simp only [term]
  obtain ⟨o, ho⟩ := o
  split_ifs with h2 h1 h0
  · subst h2; rfl
  · subst h1; rfl
  · subst h0; rfl
  · rw [accK, if_neg h2, if_neg h1, if_neg h0, add_zero, View.writes_nil]
    exact congrFun ((hs0_6 t).read_unread _) _

/-- A block's rows in the whole arrays. -/
theorem idx_val : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] := by decide +kernel

theorem x_point (c : Dev nD) (t : Fin 2) (r k : Fin 1024) :
    iblk m c 0 t (ix2 r k) = m ((c.tc : Thread nD τ).loc main_arg0) (ix2 (⟨1024 * t.val + r.val, by omega⟩ : Fin 2048) k) := by
  blk_point [iblk, V, idx_val t]

theorem d_point (c : Dev nD) (t : Fin 2) (r k : Fin 1024) :
    iblk m c 1 t (ix2 r k) = m ((c.tc : Thread nD τ).loc main_arg1) (ix2 (⟨1024 * t.val + r.val, by omega⟩ : Fin 2048) k) := by
  blk_point [iblk, V, idx_val t]

theorem e_point (c : Dev nD) (t : Fin 2) (r k : Fin 1024) :
    iblk m c 2 t (ix2 r k) = m ((c.tc : Thread nD τ).loc main_arg2) (ix2 (⟨1024 * t.val + r.val, by omega⟩ : Fin 2048) k) := by
  blk_point [iblk, V, idx_val t]

theorem g_point (c : Dev nD) (t : Fin 2) (k : Fin 1024) :
    iblk m c 3 t (ix2 (0 : Fin 1) k) = m ((c.tc : Thread nD τ).loc main_arg3) (ix2 (0 : Fin 1) k) := by
  blk_point [iblk, V, idx_val t]

theorem s_point (c : Dev nD) (t : Fin 2) (k : Fin 1024) :
    iblk m c 4 t (ix2 (0 : Fin 1) k) = m ((c.tc : Thread nD τ).loc main_arg4) (ix2 (0 : Fin 1) k) := by
  blk_point [iblk, V, idx_val t]

/-- The array of sums after the run. -/
theorem sums (c : Dev nD) (o : Fin 8) (l : Fin 1024) :
    (dats m 0 c).arrAt 6 cfg0.N (ix2 o l) = accK (m ((c.tc : Thread nD τ).loc main_arg0)) (m ((c.tc : Thread nD τ).loc main_arg1))
      (m ((c.tc : Thread nD τ).loc main_arg3)) (m ((c.tc : Thread nD τ).loc main_arg4)) o.val l := by
  refine congrFun ((dats m 0 c).arrAt_eq_of_after_last 6 t0_1 (by decide +kernel) (fun i => accK (m ((c.tc : Thread nD τ).loc main_arg0))
    (m ((c.tc : Thread nD τ).loc main_arg1)) (m ((c.tc : Thread nD τ).loc main_arg3)) (m ((c.tc : Thread nD τ).loc main_arg4)) (i 0).val (i 1)) fun j => ?_) (ix2 o l)
  blk_simp
  rw [after0_6]
  obtain ⟨o, l, rfl⟩ : ∃ (o : Fin 8) (l : Fin 1024), j = ix2 o l := ⟨j 0, j 1, by idx_vars j⟩
  refine (Pipeline.eq_sum_fin_of_reset_step_apply_last (fun n h => (outsAt0 m c n h).2) 2 (fun _ => (0 : EReal)) (fun t j => term m c t (j 0) (j 1))
    (fun t h j => ?_) (fun t h j => ?_) (le_of_eq N_0) t0_1 rfl (ix2 o l)).trans ?_
  · idx_vars j
    exact caseA m c t h _ _
  · idx_vars j
    exact caseB m c t h _ _
  · rw [zero_add]
    exact accK_halves (fun t r k => x_point m c t r k) (fun t r k => d_point m c t r k) (fun t k => g_point m c t k) (fun t k => s_point m c t k) o.val l

/-- The input's gradient after the run. -/
theorem grads (c : Dev nD) (r : Fin 2048) (l : Fin 1024) :
    (dats m 0 c).arrAt 5 cfg0.N (ix2 r l) = dxK (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) r l := by
  refine congrFun ((dats m 0 c).arrAt_eq_of_covers 5 (fun i => dxK (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (i 0) (i 1)) (by decide +kernel) fun t _ y => ?_) (ix2 r l)
  blk_simp
  rw [after0_5]
  obtain ⟨r, l, rfl⟩ : ∃ (r : Fin 1024) (l : Fin 1024), y = ix2 r l := ⟨y 0, y 1, by idx_vars y⟩
  have key : (outsAt0 m c t.val t.isLt).1 (ix2 r l) = dxK (iblk m c 0 t) (iblk m c 1 t) (iblk m c 2 t) (iblk m c 3 t) (iblk m c 4 t) r l := by
    by_cases h : t.val % 2 = 0
    · rw [outsAt0_A m c t h]
      dsimp only
      frame_out
      exact pay3_at _ _ _ _ _ r l
    · rw [outsAt0_B m c t h]
      dsimp only
      frame_out
      exact pay3_at _ _ _ _ _ r l
  obtain ⟨t, ht⟩ := t
  change t < 2 at ht
  have he : (win0_5.blk ⟨t, ht⟩).view.emb (ix2 r l) = ix2 (⟨1024 * t + r.val, by omega⟩ : Fin 2048) l := by blk_ext [idx_val ⟨t, ht⟩]
  exact key.trans ((dxK_congr (fun k => x_point m c ⟨t, ht⟩ r k) (fun k => d_point m c ⟨t, ht⟩ r k) (fun k => e_point m c ⟨t, ht⟩ r k)
    (fun k => g_point m c ⟨t, ht⟩ k) (fun k => s_point m c ⟨t, ht⟩ k) l).trans (by rw [he]; rfl))

end Cert.PrenormIdeal.Hand

end
-- ==== Proof.PrenormRef.lean ====
/- What the pre-norm's gradient by differentiation leaves in its two arrays. -/
module

public import proofs.«01_k».proof.Proof.Gen.PrenormRefIdeal.Run
public import proofs.«01_k».proof.Proof.PrenormRow
public import Idealize.ShloMosaic.Lib.Pointwise

@[expose] public section

set_option maxRecDepth 16384

noncomputable section

open Idealize.ShloMosaic Idealize.ShloMosaic.TcCoe Idealize.SL.Sem

namespace Cert.PrenormRefIdeal.Hand

open Cert.PrenormRefIdeal Cert.PrenormRefIdeal.Gen Cert.PrenormRow

variable (m : (ℓ : Loc nD τ sig) → Buf (Elt Ideal) ℓ) (ρ : Dev nD → PrngReg)

/-- The factors of two of the column sums in the other order. -/
theorem acc1 (x d : Arr 2048) (g : Arr 1) (l : Fin 1024) :
    ∑ r, x (ix2 r l) * rq x r * g (ix2 0 l) * d (ix2 r l) = ∑ r, d (ix2 r l) * (x (ix2 r l) * rq x r * g (ix2 0 l)) :=
  Finset.sum_congr rfl fun _ _ => mul_comm _ _

theorem acc2 (x d : Arr 2048) (s : Arr 1) (l : Fin 1024) :
    ∑ r, x (ix2 r l) * rq x r * PrenormRow.dh d s r l = ∑ r, PrenormRow.dh d s r l * (x (ix2 r l) * rq x r) :=
  Finset.sum_congr rfl fun _ _ => mul_comm _ _

set_option maxHeartbeats 1600000 in
theorem grads (c : Dev nD) (r : Fin 2048) (l : Fin 1024) :
    Value.res_main_v58 m c (ix2 r l) = dxR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) r l := by
  unfold Value.res_main_v58
  generalize m (c.tc.loc main_arg0) = x
  generalize m (c.tc.loc main_arg1) = d
  generalize m (c.tc.loc main_arg2) = e
  generalize m (c.tc.loc main_arg3) = g
  generalize m (c.tc.loc main_arg4) = s
  pointwise
  simp only [Fin.sum_univ_one, Finset.univ_unique, Finset.sum_singleton]
  rfl

set_option maxHeartbeats 1600000 in
/-- The run of the reference with its arrays as those formulas. -/
theorem run' : θ_run defs (onTc (τ := τ) (main (F := Ideal))) ⟨m, fun _ => 0, ρ⟩ fun r => ∀ c : Dev nD,
      r.2.mem ((c.tc : Thread nD τ).loc main_v58) = (fun i => dxR (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (i 0) (i 1))
      ∧ r.2.mem ((c.tc : Thread nD τ).loc main_v63) = (fun i => accK (m ((c.tc : Thread nD τ).loc main_arg0)) (m ((c.tc : Thread nD τ).loc main_arg1))
        (m ((c.tc : Thread nD τ).loc main_arg3)) (m ((c.tc : Thread nD τ).loc main_arg4)) (i 0).val (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩) (Value.run m ρ)
  · funext i
    idx_vars i
    exact grads m c _ _
  · generalize m (c.tc.loc main_arg0) = x
    generalize m (c.tc.loc main_arg1) = d
    generalize m (c.tc.loc main_arg3) = g
    generalize m (c.tc.loc main_arg4) = s
    funext i
    idx_vars i
    pointwise
    simp only [Finset.univ_unique, Finset.sum_singleton]
    obtain ⟨o, ho⟩ := i0
    by_cases h0 : o = 0
    · subst h0; rfl
    by_cases h1 : o = 1
    · subst h1; exact acc1 x d g i1
    by_cases h2 : o = 2
    · subst h2; exact acc2 x d s i1
    rw [dif_neg (show ¬ o < 1 by omega), dif_neg (show ¬ o - 1 < 1 by omega), dif_neg (show ¬ o - 1 - 1 < 1 by omega)]
    exact ((if_neg h2).trans ((if_neg h1).trans (if_neg h0))).symm

end Cert.PrenormRefIdeal.Hand
end
-- ==== Proof.PrenormPre.lean ====
/- The precondition of the pre-norm's claims, read: four arrays of real numbers. -/
module

public import proofs.«01_k».proof.Defs
public import proofs.«01_k».proof.Proof.Reals

@[expose] public section

noncomputable section

open Idealize.ShloMosaic

namespace Cert.Pre_prenorm_finite

theorem facts : Facts where
  bcast_S_S2048x1024 := by decide
  reducesTo_S2048x1024_S_d0_1 := by decide
  h_S_ := by decide
  bcast_S_S1x1024 := by decide
  reducesTo_S1x1024_S_d0_1 := by decide

/-- Where the precondition holds, all arguments but the residual's cotangent are real numbers. -/
theorem reals [Facts] {x d e : FVec Ideal S2048x1024 .f32} {g s : FVec Ideal S1x1024 .f32}
    (h : fn (F := Ideal) x d e g s = fun _ => 1#1) :
    (∃ f : S2048x1024.Idx → ℝ, ∀ i, x i = (f i : EReal)) ∧ (∃ f : S2048x1024.Idx → ℝ, ∀ i, d i = (f i : EReal))
      ∧ (∃ f : S1x1024.Idx → ℝ, ∀ i, g i = (f i : EReal)) ∧ (∃ f : S1x1024.Idx → ℝ, ∀ i, s i = (f i : EReal)) := by
  have h0 := congrFun h ix0
  simp only [fn, fn_part1, andi, Reals.and_bits] at h0
  obtain ⟨⟨⟨h1, h2⟩, h3⟩, h4⟩ := h0
  exact ⟨Reals.real_of_all _ _ _ _ _ _ h1, Reals.real_of_all _ _ _ _ _ _ h2, Reals.real_of_all _ _ _ _ _ _ h3, Reals.real_of_all _ _ _ _ _ _ h4⟩

end Cert.Pre_prenorm_finite

end
-- ==== Proof.PrenormValue.lean ====
/- The pre-norm gradient's value claim: the kernel's arrays are those differentiation gives. -/
module

public import proofs.«01_k».proof.Defs
public import proofs.«01_k».proof.Proof.PrenormBlock
public import proofs.«01_k».proof.Proof.PrenormRef
public import proofs.«01_k».proof.Proof.PrenormPre

@[expose] public section

noncomputable section

open Idealize.ShloMosaic Idealize.ShloMosaic.TcCoe Idealize.SL.Sem

namespace Cert.Prenorm.Hand

theorem value : Cert.algebraic_PrenormIdeal_PrenormRefIdeal_pre_prenorm_finite (hPrenormIdeal := Cert.PrenormIdeal.Gen.facts)
    (hPrenormRefIdeal := Cert.PrenormRefIdeal.Gen.facts) (hPre_prenorm_finite := Cert.Pre_prenorm_finite.facts) := by
  intro m ρ m' ρ' hpre hargs
  refine ⟨_, _, Cert.PrenormIdeal.Value.run_blocks m ρ, ?_⟩
  refine (θ_run Cert.PrenormRefIdeal.defs _ _).mono (fun r h c => ?_) (Cert.PrenormRefIdeal.Hand.run' m' ρ')
  obtain ⟨h1, h2, hk⟩ := h c
  obtain ⟨a0, a1, a2, a3, a4⟩ := hargs c
  obtain ⟨rx, rd, rg, rs⟩ := @Cert.Pre_prenorm_finite.reals Cert.Pre_prenorm_finite.facts _ _ _ _ _ (hpre c)
  refine ⟨h1.trans ?_, h2.trans ?_, hk⟩
  · funext i
    idx_vars i
    rw [a0, a1, a2, a3, a4]
    exact (PrenormRow.dx_eq rx rd rg rs _ _).symm.trans (Cert.PrenormIdeal.Hand.grads m c _ _).symm
  · funext i
    idx_vars i
    rw [a0, a1, a3, a4]
    exact (Cert.PrenormIdeal.Hand.sums m c _ _).symm

end Cert.Prenorm.Hand

end
-- ==== Proof.HgrnHead.lean ====
/- One head of one chunk of the forward recurrence, as the kernel computes it. The kernel's body repeats the same text
   for eight chunks and eight heads; here the text is written once, with the chunk and the head as numbers, and the
   lists of pieces that the body stores are stated from it (`oList`, `bList`, `sList`). -/
module

public import proofs.«01_k».proof.Proof.Gen.HgrnFwdIdeal.Frame

@[expose] public section

set_option maxRecDepth 16384

noncomputable section

namespace Cert.HgrnFwdIdeal.Head

open Idealize.ShloMosaic Idealize.ShloMosaic.TcCoe Cert.HgrnFwdIdeal Cert.HgrnFwdIdeal.Gen

variable {F : FTy → Type} [FloatOps F]

/-! ## Where the pieces lie -/

theorem slices_head (h : ℕ) : S64x1024.Slices ![0, 128 * (h % 8)] S64x128 :=
  ⟨rfl, fun a => by fin_cases a <;> simp <;> omega⟩

theorem slices_rows (i : ℕ) : S64x128.Slices ![16 * (i % 4), 0] S16x128 :=
  ⟨rfl, fun a => by fin_cases a <;> simp <;> omega⟩

theorem slices_mask (i : ℕ) : S64x64.Slices ![16 * (i % 4), 0] S16x64 :=
  ⟨rfl, fun a => by fin_cases a <;> simp <;> omega⟩

theorem inb_rows (c : ℕ) : ∀ a, (![64 * (c % 8), 0] : Fin 2 → ℕ) a + S64x1024.size a ≤ S512x1024.size a := fun a => by
  fin_cases a <;> simp <;> omega

theorem inb_tile (c h : ℕ) : ∀ a, (![64 * (c % 8), 128 * (h % 8)] : Fin 2 → ℕ) a + S64x128.size a ≤ S512x1024.size a :=
  fun a => by fin_cases a <;> simp <;> omega

theorem inb_state (h : ℕ) : ∀ a, (![h % 8, 0, 0] : Fin 3 → ℕ) a + S1x128x128.size a ≤ S8x128x128.size a := fun a => by
  fin_cases a <;> simp <;> omega

/-- The rows of chunk `c`. -/
abbrev rowsR (c : ℕ) : Rect S512x1024 := Rect.unit (s := S512x1024) ![64 * (c % 8), 0] S64x1024.size (inb_rows c)
/-- The tile of chunk `c` and head `h`. -/
abbrev tileR (c h : ℕ) : Rect S512x1024 := Rect.unit (s := S512x1024) ![64 * (c % 8), 128 * (h % 8)] S64x128.size (inb_tile c h)
/-- The state of head `h`. -/
abbrev stateR (h : ℕ) : Rect S8x128x128 := Rect.unit (s := S8x128x128) ![h % 8, 0, 0] S1x128x128.size (inb_state h)

/-! ## A chunk's gates and sums of logarithms -/

/-- The logarithm of the forget gate. -/
def logf (lb : Vec F S1x1024 .f32) (hf : Vec F S64x1024 .f32) : FVec F S64x1024 .f32 := k0_pay7 lb (k0_pay4 hf) k0_pay5
/-- The key: one less the forget gate. -/
def key (lb : Vec F S1x1024 .f32) (hf : Vec F S64x1024 .f32) : FVec F S64x1024 .f32 := k0_pay8 lb (k0_pay4 hf) k0_pay5
/-- The sums of the logarithms up to each row. -/
def cum (lb : Vec F S1x1024 .f32) (hf : Vec F S64x1024 .f32) : FVec F S64x1024 .f32 :=
  k0_pay11 k0_pay2 k0_pay3 lb (k0_pay4 hf) k0_pay5
/-- The sums of the logarithms up to the start of each row's block of sixteen. -/
def base (lb : Vec F S1x1024 .f32) (hf : Vec F S64x1024 .f32) : FVec F S64x1024 .f32 :=
  k0_pay12 k0_pay2 k0_pay3 lb (k0_pay4 hf) k0_pay5

/-- A head's columns of a chunk's array. -/
def head (h : ℕ) (v : FVec F S64x1024 .f32) : FVec F S64x128 .f32 :=
  extractStridedSlice S64x128 ![0, 128 * (h % 8)] v (slices_head h)

/-! ## One head -/

/-- The scores of the sixteen rows of block `i` against the whole chunk. -/
def scores (i : ℕ) (q k c b : FVec F S64x128 .f32) : FVec F S16x64 .f32 :=
  let bi : FVec F S16x128 .f32 := extractStridedSlice S16x128 ![16 * (i % 4), 0] b (slices_rows i)
  select (extractStridedSlice S16x64 ![16 * (i % 4), 0] k0_pay2 (slices_mask i))
    (matmul dot_S16x128_S64x128_S16x64_1_1_0_0_n_n none
      (truncf .bf16 (mulf (extractStridedSlice S16x128 ![16 * (i % 4), 0] q (slices_rows i))
        (exp (extractStridedSlice S16x128 ![16 * (i % 4), 0] (subf c b) (slices_rows i)))) bitsLt_bf16_f32)
      (truncf .bf16 (mulf k (exp (minimumf
        (subf (concatenate S64x128 0 [⟨S16x128, bi⟩, ⟨S16x128, bi⟩, ⟨S16x128, bi⟩, ⟨S16x128, bi⟩]
          concatenates_S16x128_S16x128_S16x128_S16x128_S64x128_d0) c)
        (broadcast S64x128 (Scalar.ofBits .f32 0x42A00000#32))))) bitsLt_bf16_f32)
      (constant S16x64 .f32 0x00000000#32))
    (broadcast S16x64 (Scalar.ofBits .f32 0x00000000#32))

/-- The head's output. -/
def outH (q k c b v : FVec F S64x128 .f32) (st : Vec F S1x128x128 .f32) : FVec F S64x128 .f32 :=
  addf
    (matmul dot_S64x128_S128x128_S64x128_1_1_0_0_n_n none (truncf .bf16 (mulf q (exp c)) bitsLt_bf16_f32)
      (truncf .bf16 (shapeCast S128x128 st shapeCasts_S1x128x128_S128x128) bitsLt_bf16_f32) (constant S64x128 .f32 0x00000000#32))
    (matmul dot_S64x64_S64x128_S64x128_1_0_0_1_n_n none
      (truncf .bf16 (concatenate S64x64 0
        [⟨S16x64, scores 0 q k c b⟩, ⟨S16x64, scores 1 q k c b⟩, ⟨S16x64, scores 2 q k c b⟩, ⟨S16x64, scores 3 q k c b⟩]
        concatenates_S16x64_S16x64_S16x64_S16x64_S64x64_d0) bitsLt_bf16_f32)
      (truncf .bf16 v bitsLt_bf16_f32) (constant S64x128 .f32 0x00000000#32))

/-- The head's next state. -/
def stateH (k c l v : FVec F S64x128 .f32) (st : Vec F S1x128x128 .f32) : FVec F S1x128x128 .f32 :=
  let last : FVec F S1x128 .f32 :=
    shapeCast S1x128 (multiReduction .add [0] S128 l 0x00000000#32 reduces_S64x128_S128 (.inl rfl) rfl) shapeCasts_S128_S1x128
  shapeCast S1x128x128
    (addf (mulf (shapeCast S128x128 st shapeCasts_S1x128x128_S128x128) (broadcastTo S128x128 (exp last) broadcasts_S1x128_S128x128))
      (matmul dot_S64x128_S64x128_S128x128_0_0_1_1_n_n none (truncf .bf16 v bitsLt_bf16_f32)
        (truncf .bf16 (mulf k (exp (subf (broadcastTo S64x128 last broadcasts_S1x128_S64x128) c))) bitsLt_bf16_f32)
        (constant S128x128 .f32 0x00000000#32)))
    shapeCasts_S128x128_S1x128x128

/-! ## The lists of pieces -/

section Lists

variable (q f : ℕ → Vec F S64x1024 .f32) (v g : ℕ → ℕ → Vec F S64x128 .f32) (lb : Vec F S1x1024 .f32) (gn : Vec F S1x128 .f32)

/-- The output of step `n` (chunk `n / 8`, head `n % 8`) from the state it loads. -/
def oAt (n : ℕ) (st : Vec F S1x128x128 .f32) : FVec F S64x128 .f32 :=
  outH (head n (k0_pay9 (q (n / 8)))) (head n (key lb (f (n / 8)))) (head n (cum lb (f (n / 8)))) (head n (base lb (f (n / 8))))
    (v (n / 8) n) st

/-- The normalised and gated output of step `n`. -/
def bAt (n : ℕ) (st : Vec F S1x128x128 .f32) : FVec F S64x128 .bf16 := k0_pay26 (oAt q f v lb n st) (g (n / 8) n) gn

/-- The state after step `n`. -/
def sAt (n : ℕ) (st : Vec F S1x128x128 .f32) : FVec F S1x128x128 .f32 :=
  stateH (head n (key lb (f (n / 8)))) (head n (cum lb (f (n / 8)))) (head n (logf lb (f (n / 8)))) (v (n / 8) n) st

/-- The state's stores before step `n`, last first, given what each step loads from the stores before it. -/
def sList (L0 : List (View.Piece (Elt F) S8x128x128 .f32)) (ld : ℕ → List (View.Piece (Elt F) S8x128x128 .f32) → Vec F S1x128x128 .f32) :
    ℕ → List (View.Piece (Elt F) S8x128x128 .f32)
  | 0 => L0
  | n + 1 => ⟨stateR n, sAt f v lb n (ld n (sList L0 ld n))⟩ :: sList L0 ld n

/-- The output's stores before step `n`, last first. -/
def oList (L0 : List (View.Piece (Elt F) S8x128x128 .f32)) (ld : ℕ → List (View.Piece (Elt F) S8x128x128 .f32) → Vec F S1x128x128 .f32) :
    ℕ → List (View.Piece (Elt F) S512x1024 .f32)
  | 0 => []
  | n + 1 => ⟨tileR (n / 8) n, oAt q f v lb n (ld n (sList f v lb L0 ld n))⟩ :: oList L0 ld n

/-- The gated output's stores before step `n`, last first. -/
def bList (L0 : List (View.Piece (Elt F) S8x128x128 .f32)) (ld : ℕ → List (View.Piece (Elt F) S8x128x128 .f32) → Vec F S1x128x128 .f32) :
    ℕ → List (View.Piece (Elt F) S512x1024 .bf16)
  | 0 => []
  | n + 1 => ⟨tileR (n / 8) n, bAt q f v g lb gn n (ld n (sList f v lb L0 ld n))⟩ :: bList L0 ld n

end Lists

end Cert.HgrnFwdIdeal.Head

end
-- ==== Proof.HgrnPieces.lean ====
/- The pieces that the body's run leaves are the lists of `HgrnHead`. -/
module

public import proofs.«01_k».proof.Proof.HgrnHead

@[expose] public section

set_option maxRecDepth 16384

noncomputable section

namespace Cert.HgrnFwdIdeal.Head

open Idealize.ShloMosaic Idealize.ShloMosaic.TcCoe Idealize.ShloMosaic.Tactic Cert.HgrnFwdIdeal Cert.HgrnFwdIdeal.Gen

variable {F : FTy → Type} [FloatOps F]

/-- The rows of a chunk read from a whole buffer. -/
abbrev rowsLd (a : Memref sig .tc .vmem S512x1024 .f32) (ha : a.IsWhole) (x : Vec F S512x1024 .f32) (c : ℕ) : Vec F S64x1024 .f32 :=
  View.readAt (Elt F) a.view (rowsR c).toLoadRect (ha.unread x)

/-- A tile read from a whole buffer. -/
abbrev tileLd (a : Memref sig .tc .vmem S512x1024 .f32) (ha : a.IsWhole) (x : Vec F S512x1024 .f32) (c h : ℕ) : Vec F S64x128 .f32 :=
  View.readAt (Elt F) a.view (tileR c h).toLoadRect (ha.unread x)

/-- A row of a thousand and twenty-four read from a whole buffer. -/
abbrev rowLd (a : Memref sig .tc .vmem S1x1024 .f32) (ha : a.IsWhole) (x : Vec F S1x1024 .f32) : Vec F S1x1024 .f32 :=
  View.readAt (Elt F) a.view (Rect.unit (s := S1x1024) ![0, 0] S1x1024.size inb_S1x1024_S1x1024_0_0).toLoadRect (ha.unread x)

/-- A head's row read from a whole buffer. -/
abbrev gnLd (a : Memref sig .tc .vmem S1x128 .f32) (ha : a.IsWhole) (x : Vec F S1x128 .f32) : Vec F S1x128 .f32 :=
  View.readAt (Elt F) a.view (Rect.unit (s := S1x128) ![0, 0] S1x128.size inb_S1x128_S1x128_0_0).toLoadRect (ha.unread x)

/-- The state that a step loads at a point which takes the state over: the first chunk's steps find it in the scratch, the
    others in the stores before them. -/
abbrev ldB (a : Memref sig .tc .vmem S8x128x128 .f32) (ha : a.IsWhole) (x : Vec F S8x128x128 .f32) (n : ℕ)
    (L : List (View.Piece (Elt F) S8x128x128 .f32)) : Vec F S1x128x128 .f32 :=
  if n < 8 then View.readAt (Elt F) a.view (stateR n).toLoadRect (ha.unread x) else a.view.readCov L (stateR n).toLoadRect

section
variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S512x1024 .f32) (harg4 : arg4.IsWhole) (arg5 : Memref sig .tc .vmem S1x1024 .f32) (harg5 : arg5.IsWhole)
  (arg6 : Memref sig .tc .vmem S1x128 .f32) (harg6 : arg6.IsWhole) (arg7 : Memref sig .tc .vmem S512x1024 .f32) (harg7 : arg7.IsWhole)
  (arg8 : Memref sig .tc .vmem S512x1024 .bf16) (harg8 : arg8.IsWhole) (arg9 : Memref sig .tc .vmem S8x8x128x128 .f32) (harg9 : arg9.IsWhole)
  (arg10 : Memref sig .tc .vmem S512x2048 .f32) (harg10 : arg10.IsWhole) (arg11 : Memref sig .tc .vmem S8x128x128 .f32) (harg11 : arg11.IsWhole)
  (x0 x1 x2 x3 : Vec F S512x1024 .f32) (x4 : Vec F S1x1024 .f32) (x5 : Vec F S1x128 .f32) (xs0 : Vec F S8x128x128 .f32)

/-- At the first point the state is stored as zero, and every step loads from the stores before it. -/
abbrev ldA (a : Memref sig .tc .vmem S8x128x128 .f32) (n : ℕ) (L : List (View.Piece (Elt F) S8x128x128 .f32)) : Vec F S1x128x128 .f32 :=
  a.view.readCov L (stateR n).toLoadRect

theorem oList_B (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).1
      = oList (rowsLd arg1 harg1 x0) (rowsLd arg2 harg2 x1) (tileLd arg3 harg3 x2) (rowLd arg5 harg5 x4) [] (ldB arg11 harg11 xs0) 64 := by
  sl_kernel_rfl

theorem bList_B (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.1
      = bList (rowsLd arg1 harg1 x0) (rowsLd arg2 harg2 x1) (tileLd arg3 harg3 x2) (tileLd arg4 harg4 x3) (rowLd arg5 harg5 x4) (gnLd arg6 harg6 x5) [] (ldB arg11 harg11 xs0) 64 := by
  sl_kernel_rfl

theorem sList_B (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 x5 xs0).2.2.2.2.1
      = sList (rowsLd arg2 harg2 x1) (tileLd arg3 harg3 x2) (rowLd arg5 harg5 x4) [] (ldB arg11 harg11 xs0) 64 := by
  sl_kernel_rfl
/-- The first point's store of zero over the whole state. -/
abbrev zeroL : List (View.Piece (Elt F) S8x128x128 .f32) :=
  [⟨Rect.unit (s := S8x128x128) ![0, 0, 0] S8x128x128.size inb_S8x128x128_S8x128x128_0_0_0, k0_pay1⟩]

theorem oList_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5).1
      = oList (rowsLd arg1 harg1 x0) (rowsLd arg2 harg2 x1) (tileLd arg3 harg3 x2) (rowLd arg5 harg5 x4) zeroL (ldA arg11) 64 := by
  sl_kernel_rfl

theorem bList_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5).2.1
      = bList (rowsLd arg1 harg1 x0) (rowsLd arg2 harg2 x1) (tileLd arg3 harg3 x2) (tileLd arg4 harg4 x3) (rowLd arg5 harg5 x4) (gnLd arg6 harg6 x5) zeroL (ldA arg11) 64 := by
  sl_kernel_rfl

theorem sList_A (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.2.1
      = sList (rowsLd arg2 harg2 x1) (tileLd arg3 harg3 x2) (rowLd arg5 harg5 x4) zeroL (ldA arg11) 64 := by
  sl_kernel_rfl
end

end Cert.HgrnFwdIdeal.Head

end
-- ==== Proof.HgrnState.lean ====
/- What the recurrence's stores leave: each head's state after every chunk, and the tiles of the two outputs. -/
module

public import proofs.«01_k».proof.Proof.HgrnPieces
public import Idealize.ShloMosaic.Lib.Pipeline.ValueKit
public import Idealize.ShloMosaic.Lib.Pointwise

@[expose] public section

set_option maxRecDepth 16384

noncomputable section

namespace Cert.HgrnFwdIdeal.Head

open Idealize.ShloMosaic Idealize.ShloMosaic.TcCoe Cert.HgrnFwdIdeal Cert.HgrnFwdIdeal.Gen

variable {F : FTy → Type} [FloatOps F]

/-! ## Reading a list of stores -/

/-- The newest store of a head's state, or what the earlier stores left. -/
theorem canon_state (n : ℕ) (w : Vec F S1x128x128 .f32) (L : List (View.Piece (Elt F) S8x128x128 .f32)) (h : Fin 8) (a b : Fin 128) :
    View.canon ((⟨stateR n, w⟩ : View.Piece (Elt F) S8x128x128 .f32) :: L) (ix3 h a b)
      = if h.val = n % 8 then w (ix3 (0 : Fin 1) a b) else View.canon L (ix3 h a b) := by
  split
  · next hh =>
    have e : (stateR n).emb (ix3 (0 : Fin 1) a b) = ix3 h a b := by
      funext i
      fin_cases i
      · exact Fin.ext (by show n % 8 + 1 * 0 = h.val; omega)
      · exact Fin.ext (by show 0 + 1 * a.val = a.val; omega)
      · exact Fin.ext (by show 0 + 1 * b.val = b.val; omega)
    exact (congrArg (View.canon _) e.symm).trans (View.canon_cons_emb (stateR n) w L (ix3 (0 : Fin 1) a b))
  · next hh =>
    refine View.canon_cons_of_not_mem _ L fun hm => hh ?_
    have hm0 : n % 8 ≤ h.val ∧ h.val < n % 8 + 1 := (Rect.mem_set_unit (inb := inb_state n)).1 hm 0
    omega

/-- The newest tile stored, or what the earlier stores left. -/
theorem canon_tile {e : EltTy} (n : ℕ) (hn : n < 64) (w : (tileR (n / 8) n).shape.Idx → Elt F e)
    (L : List (View.Piece (Elt F) S512x1024 e)) (r : Fin 512) (l : Fin 1024) :
    View.canon ((⟨tileR (n / 8) n, w⟩ : View.Piece (Elt F) S512x1024 e) :: L) (ix2 r l)
      = if 8 * (r.val / 64) + l.val / 128 = n then
          w (ix2 (⟨r.val % 64, Nat.mod_lt _ (by decide)⟩ : Fin 64) (⟨l.val % 128, Nat.mod_lt _ (by decide)⟩ : Fin 128))
        else View.canon L (ix2 r l) := by
  split
  · next hh =>
    have e : (tileR (n / 8) n).emb (ix2 (⟨r.val % 64, Nat.mod_lt _ (by decide)⟩ : Fin 64) (⟨l.val % 128, Nat.mod_lt _ (by decide)⟩ : Fin 128))
        = ix2 r l := by
      funext i
      fin_cases i
      · exact Fin.ext (by show 64 * (n / 8 % 8) + 1 * (r.val % 64) = r.val; omega)
      · exact Fin.ext (by show 128 * (n % 8) + 1 * (l.val % 128) = l.val; omega)
    rw [← e]; exact View.canon_cons_emb _ w L _
  · next hh =>
    refine View.canon_cons_of_not_mem _ L fun hm => hh ?_
    have h0 : 64 * (n / 8 % 8) ≤ r.val ∧ r.val < 64 * (n / 8 % 8) + 64 := (Rect.mem_set_unit (inb := inb_tile (n / 8) n)).1 hm 0
    have h1 : 128 * (n % 8) ≤ l.val ∧ l.val < 128 * (n % 8) + 128 := (Rect.mem_set_unit (inb := inb_tile (n / 8) n)).1 hm 1
    omega

/-! ## The states -/

section
variable (q f : ℕ → Vec F S64x1024 .f32) (v g : ℕ → ℕ → Vec F S64x128 .f32) (lb : Vec F S1x1024 .f32) (gn : Vec F S1x128 .f32)

/-- The state of head `h` after `k` chunks, from `x`. -/
def hst (x : Vec F S8x128x128 .f32) (h : ℕ) : ℕ → Vec F S1x128x128 .f32
  | 0 => fun y => x (ix3 (⟨h % 8, Nat.mod_lt _ (by decide)⟩ : Fin 8) (y 1) (y 2))
  | k + 1 => sAt f v lb (8 * k + h) (hst x h k)

variable (x : Vec F S8x128x128 .f32) (full : Prop) (L0 : List (View.Piece (Elt F) S8x128x128 .f32))
  (ld : ℕ → List (View.Piece (Elt F) S8x128x128 .f32) → Vec F S1x128x128 .f32)

/-- A step loads its head's state when the stores before it hold it. -/
def Loads : Prop := ∀ (n : ℕ) (L : List (View.Piece (Elt F) S8x128x128 .f32)),
  (8 ≤ n ∨ full → ∀ a b : Fin 128, View.canon L (ix3 (⟨n % 8, Nat.mod_lt _ (by decide)⟩ : Fin 8) a b) = hst f v lb x (n % 8) (n / 8) (ix3 (0 : Fin 1) a b)) →
  ld n L = hst f v lb x (n % 8) (n / 8)

variable {f v lb x full L0 ld}

theorem canon_sList (hld : Loads f v lb x full ld) (h0 : full → ∀ (h : Fin 8) (a b : Fin 128), View.canon L0 (ix3 h a b) = x (ix3 h a b)) :
    ∀ (n : ℕ) (h : Fin 8) (a b : Fin 128), (1 ≤ (n + 7 - h.val) / 8 ∨ full) →
      View.canon (sList f v lb L0 ld n) (ix3 h a b) = hst f v lb x h.val ((n + 7 - h.val) / 8) (ix3 (0 : Fin 1) a b)
  | 0, h, a, b, hc => by
    have hk : (0 + 7 - h.val) / 8 = 0 := by omega
    rw [hk] at hc ⊢
    have hf : full := hc.resolve_left (by decide)
    have hh : (⟨h.val % 8, Nat.mod_lt _ (by decide)⟩ : Fin 8) = h := Fin.ext (Nat.mod_eq_of_lt h.isLt)
    refine (h0 hf h a b).trans ?_
    show _ = x (ix3 (⟨h.val % 8, Nat.mod_lt _ (by decide)⟩ : Fin 8) a b)
    rw [hh]
  | n + 1, h, a, b, hc => by
    have ih := canon_sList hld h0 n
    show View.canon (⟨stateR n, sAt f v lb n (ld n (sList f v lb L0 ld n))⟩ :: sList f v lb L0 ld n) (ix3 h a b) = _
    rw [canon_state]
    have h8 := h.isLt
    split
    · next hh =>
      rw [hld n _ fun hc' a b => by
        have := ih (⟨n % 8, Nat.mod_lt _ (by decide)⟩ : Fin 8) a b (by
          rcases hc' with hc' | hc'
          · left; show 1 ≤ (n + 7 - n % 8) / 8; omega
          · exact .inr hc')
        rw [this]
        show hst f v lb x (n % 8) ((n + 7 - n % 8) / 8) _ = _
        rw [show (n + 7 - n % 8) / 8 = n / 8 by omega]]
      rw [show (n + 1 + 7 - h.val) / 8 = n / 8 + 1 by omega, hh]
      show _ = sAt f v lb (8 * (n / 8) + n % 8) (hst f v lb x (n % 8) (n / 8)) _
      rw [show 8 * (n / 8) + n % 8 = n by omega]
    · next hh =>
      have e : (n + 1 + 7 - h.val) / 8 = (n + 7 - h.val) / 8 := by omega
      rw [e] at hc ⊢
      exact ih h a b hc

/-- Step `n` loads its head's state. -/
theorem ld_eq (hld : Loads f v lb x full ld) (h0 : full → ∀ (h : Fin 8) (a b : Fin 128), View.canon L0 (ix3 h a b) = x (ix3 h a b)) (n : ℕ) :
    ld n (sList f v lb L0 ld n) = hst f v lb x (n % 8) (n / 8) :=
  hld n _ fun hc' a b => by
    have := canon_sList hld h0 n (⟨n % 8, Nat.mod_lt _ (by decide)⟩ : Fin 8) a b (by
      rcases hc' with hc' | hc'
      · left; show 1 ≤ (n + 7 - n % 8) / 8; omega
      · exact .inr hc')
    rw [this]
    show hst f v lb x (n % 8) ((n + 7 - n % 8) / 8) _ = _
    rw [show (n + 7 - n % 8) / 8 = n / 8 by omega]

/-- After the point every head's state is that after eight chunks. -/
theorem canon_state_end (hld : Loads f v lb x full ld) (h0 : full → ∀ (h : Fin 8) (a b : Fin 128), View.canon L0 (ix3 h a b) = x (ix3 h a b))
    (h : Fin 8) (a b : Fin 128) : View.canon (sList f v lb L0 ld 64) (ix3 h a b) = hst f v lb x h.val 8 (ix3 (0 : Fin 1) a b) := by
  have h8 := h.isLt
  have := canon_sList hld h0 64 h a b (.inl (by omega))
  rwa [show (64 + 7 - h.val) / 8 = 8 by omega] at this

/-- The output, tile by tile. -/
theorem canon_oList (hld : Loads f v lb x full ld) (h0 : full → ∀ (h : Fin 8) (a b : Fin 128), View.canon L0 (ix3 h a b) = x (ix3 h a b))
    (r : Fin 512) (l : Fin 1024) : ∀ n : ℕ, n ≤ 64 → 8 * (r.val / 64) + l.val / 128 < n →
      View.canon (oList q f v lb L0 ld n) (ix2 r l)
        = oAt q f v lb (8 * (r.val / 64) + l.val / 128) (hst f v lb x (l.val / 128) (r.val / 64))
            (ix2 (⟨r.val % 64, Nat.mod_lt _ (by decide)⟩ : Fin 64) (⟨l.val % 128, Nat.mod_lt _ (by decide)⟩ : Fin 128))
  | 0, _, hlt => absurd hlt (Nat.not_lt_zero _)
  | n + 1, hn, hlt => by
    show View.canon (⟨tileR (n / 8) n, oAt q f v lb n (ld n (sList f v lb L0 ld n))⟩ :: oList q f v lb L0 ld n) (ix2 r l) = _
    rw [canon_tile n (by omega)]
    have hl := l.isLt
    split
    · next hh =>
      rw [ld_eq hld h0, hh, show l.val / 128 = n % 8 by omega, show r.val / 64 = n / 8 by omega]
    · next hh => exact canon_oList hld h0 r l n (by omega) (by omega)

/-- The gated output, tile by tile. -/
theorem canon_bList (hld : Loads f v lb x full ld) (h0 : full → ∀ (h : Fin 8) (a b : Fin 128), View.canon L0 (ix3 h a b) = x (ix3 h a b))
    (r : Fin 512) (l : Fin 1024) : ∀ n : ℕ, n ≤ 64 → 8 * (r.val / 64) + l.val / 128 < n →
      View.canon (bList q f v g lb gn L0 ld n) (ix2 r l)
        = bAt q f v g lb gn (8 * (r.val / 64) + l.val / 128) (hst f v lb x (l.val / 128) (r.val / 64))
            (ix2 (⟨r.val % 64, Nat.mod_lt _ (by decide)⟩ : Fin 64) (⟨l.val % 128, Nat.mod_lt _ (by decide)⟩ : Fin 128))
  | 0, _, hlt => absurd hlt (Nat.not_lt_zero _)
  | n + 1, hn, hlt => by
    show View.canon (⟨tileR (n / 8) n, bAt q f v g lb gn n (ld n (sList f v lb L0 ld n))⟩ :: bList q f v g lb gn L0 ld n) (ix2 r l) = _
    rw [canon_tile n (by omega)]
    have hl := l.isLt
    split
    · next hh =>
      rw [ld_eq hld h0, hh, show l.val / 128 = n % 8 by omega, show r.val / 64 = n / 8 by omega]
    · next hh => exact canon_bList hld h0 r l n (by omega) (by omega)

end

/-! ## The loads of the two kinds of point -/

section
variable {f : ℕ → Vec F S64x1024 .f32} {v : ℕ → ℕ → Vec F S64x128 .f32} {lb : Vec F S1x1024 .f32}

theorem state_idx (n : ℕ) (y : S1x128x128.Idx) :
    (stateR n).emb y = ix3 (⟨n % 8, Nat.mod_lt _ (by decide)⟩ : Fin 8) (y 1) (y 2) := by
  have h0 : (y 0).val = 0 := by have := (y 0).isLt; exact Nat.lt_one_iff.mp this
  funext i
  fin_cases i
  · exact Fin.ext (by show n % 8 + 1 * (y 0).val = n % 8; omega)
  · exact Fin.ext (by show 0 + 1 * (y 1).val = (y 1).val; omega)
  · exact Fin.ext (by show 0 + 1 * (y 2).val = (y 2).val; omega)

/-- A load of a head's state from the stores. -/
theorem readCov_state (w : View sig .tc .vmem S8x128x128 .f32) (n : ℕ) (L : List (View.Piece (Elt F) S8x128x128 .f32)) (st : Vec F S1x128x128 .f32)
    (h : ∀ a b : Fin 128, View.canon L (ix3 (⟨n % 8, Nat.mod_lt _ (by decide)⟩ : Fin 8) a b) = st (ix3 (0 : Fin 1) a b)) :
    w.readCov L (stateR n).toLoadRect = st := by
  rw [View.readCov_eq_canon']
  funext y
  have e : (stateR n).toLoadRect.idx y = ix3 (⟨n % 8, Nat.mod_lt _ (by decide)⟩ : Fin 8) (y 1) (y 2) := state_idx n y
  have hy : (ix3 (0 : Fin 1) (y 1) (y 2) : S1x128x128.Idx) = y := by
    funext i
    fin_cases i
    · exact Subsingleton.elim (α := Fin 1) _ _
    · rfl
    · rfl
  exact (congrArg (View.canon L) e).trans ((h (y 1) (y 2)).trans (congrArg st hy))

theorem loads_A (a : Memref sig .tc .vmem S8x128x128 .f32) (x : Vec F S8x128x128 .f32) : Loads f v lb x True (ldA a) := fun n L h =>
  readCov_state a.view n L _ (h (.inr trivial))

theorem loads_B (a : Memref sig .tc .vmem S8x128x128 .f32) (ha : a.IsWhole) (x : Vec F S8x128x128 .f32) :
    Loads f v lb x False (ldB a ha x) := fun n L h => by
  unfold ldB
  split
  · next hn =>
    funext y
    have e : (stateR n).toLoadRect.idx y = ix3 (⟨n % 8, Nat.mod_lt _ (by decide)⟩ : Fin 8) (y 1) (y 2) := state_idx n y
    rw [View.readAt_apply, ha.read_unread, e, show n / 8 = 0 by omega]
    show _ = x (ix3 (⟨n % 8 % 8, Nat.mod_lt _ (by decide)⟩ : Fin 8) (y 1) (y 2))
    congr 2
    exact Fin.ext (by show n % 8 = n % 8 % 8; omega)
  · next hn => exact readCov_state a.view n L _ (h (.inl (by omega)))

end

end Cert.HgrnFwdIdeal.Head

end
-- ==== Proof.HgrnMath.lean ====
/- The recurrence over the real numbers, chunk by chunk: what both programs compute when no element is infinite. -/
module

public import proofs.«01_k».proof.Proof.Reals

@[expose] public section

noncomputable section

namespace Cert.HgrnMath

open Idealize.ShloMosaic Cert.Reals

/-- The logistic function. -/
def sig (x : ℝ) : ℝ := 1 / (1 + Real.exp (-x))

theorem sig_pos (x : ℝ) : 0 < sig x := by unfold sig; positivity

theorem sig_lt (x : ℝ) : sig x < 1 := by
  unfold sig
  rw [div_lt_one (by positivity)]
  linarith [Real.exp_pos (-x)]

/-- The forget gate above its lower bound. -/
def gate (lb x : ℝ) : ℝ := lb + (1 - lb) * sig x

theorem gate_le {lb : ℝ} (h : lb ≤ 1) (x : ℝ) : gate lb x ≤ 1 := by
  unfold gate
  nlinarith [sig_lt x]

/-! ## One chunk of one head -/

section
variable (g q k v : Fin 64 → Fin 128 → ℝ) (S : Fin 128 → Fin 128 → ℝ)

/-- The sum of the logarithms up to a row. -/
def cum (t : Fin 64) (d : Fin 128) : ℝ := ∑ s, if s ≤ t then g s d else 0

/-- The sum of the logarithms before a row's block of sixteen. -/
def base (t : Fin 64) (d : Fin 128) : ℝ := ∑ s : Fin 64, if s.val < 16 * (t.val / 16) then g s d else 0

/-- The sum of all the logarithms. -/
def tot (d : Fin 128) : ℝ := ∑ s, g s d

/-- A row's score against an earlier row. -/
def score (t s : Fin 64) : ℝ := if s ≤ t then ∑ d, q t d * k s d * Real.exp (cum g t d - cum g s d) else 0

/-- The output of a chunk: what the state gives and what the chunk's own rows give. -/
def out (t : Fin 64) (j : Fin 128) : ℝ :=
  ∑ d, q t d * Real.exp (cum g t d) * S d j + ∑ s, score g q k t s * v s j

/-- The state after the chunk. -/
def next (d j : Fin 128) : ℝ := Real.exp (tot g d) * S d j + ∑ s, k s d * Real.exp (tot g d - cum g s d) * v s j

end

/-- At most sixteen rows lie in a block, and a logarithm of a gate of at least 1/128 is at least -5: from the block's
    base down to a row of the block the sums fall by at most 80. -/
theorem base_sub_cum {g : Fin 64 → Fin 128 → ℝ} (h5 : ∀ s d, -5 ≤ g s d) (h0 : ∀ s d, g s d ≤ 0) {t s : Fin 64} (hst : s ≤ t)
    (d : Fin 128) : base g t d - cum g s d ≤ 80 := by
  have hc : ∀ t : Fin 64, (Finset.univ.filter fun x : Fin 64 => 16 * (t.val / 16) ≤ x.val ∧ x.val < 16 * (t.val / 16) + 16).card = 16 := by
    decide +kernel
  have hb : (∑ x : Fin 64, if 16 * (t.val / 16) ≤ x.val ∧ x.val < 16 * (t.val / 16) + 16 then (5 : ℝ) else 0) = 80 := by
    rw [← Finset.sum_filter, Finset.sum_const, hc t]; norm_num
  rw [← hb, base, cum, ← Finset.sum_sub_distrib]
  refine Finset.sum_le_sum fun x _ => ?_
  have hs : s.val ≤ t.val := hst
  have h1 := h5 x d
  have h2 := h0 x d
  by_cases ha : x.val < 16 * (t.val / 16) <;> by_cases hx : x ≤ s
  · rw [if_pos ha, if_pos hx, if_neg (by omega)]; linarith
  · rw [if_pos ha, if_neg hx, if_neg (by omega)]; linarith
  · have : x.val ≤ s.val := hx
    rw [if_neg ha, if_pos hx, if_pos (by omega)]; linarith
  · rw [if_neg ha, if_neg hx]; split <;> linarith

/-- The sums do not grow. -/
theorem cum_anti {g : Fin 64 → Fin 128 → ℝ} (h0 : ∀ s d, g s d ≤ 0) {t s : Fin 64} (hst : s ≤ t) (d : Fin 128) :
    cum g t d - cum g s d ≤ 0 := by
  rw [cum, cum, ← Finset.sum_sub_distrib]
  refine Finset.sum_nonpos fun x _ => ?_
  have := h0 x d
  by_cases hx : x ≤ s
  · rw [if_pos (hx.trans hst), if_pos hx]; linarith
  · rw [if_neg hx]; split <;> linarith

/-- The two factors through a block's base are the one exponential. -/
theorem exp_split (a b c : ℝ) : Real.exp (a - b) * Real.exp (b - c) = Real.exp (a - c) := by
  rw [← Real.exp_add]; congr 1; ring

/-- The bounds of a gate's logarithm. -/
theorem log_gate {f : ℝ} (h : 1 / 128 ≤ f) (h1 : f ≤ 1) : -5 ≤ Real.log f ∧ Real.log f ≤ 0 := by
  have hp : (0 : ℝ) < f := by linarith
  refine ⟨?_, Real.log_nonpos hp.le h1⟩
  rw [Real.le_log_iff_exp_le hp]
  refine le_trans ?_ h
  rw [Real.exp_neg, inv_eq_one_div]
  refine one_div_le_one_div_of_le (by norm_num) ?_
  have h2 : (1 + 1 / 32 : ℝ) ≤ Real.exp (1 / 32) := by linarith [Real.add_one_le_exp (1 / 32 : ℝ)]
  have h3 : Real.exp 5 = Real.exp (1 / 32) ^ 160 := by rw [← Real.exp_nat_mul]; norm_num
  rw [h3]
  calc (128 : ℝ) ≤ (1 + 1 / 32) ^ 160 := by norm_num
    _ ≤ Real.exp (1 / 32) ^ 160 := pow_le_pow_left₀ (by norm_num) h2 160

/-! ## The arrays -/

section
variable (z : Fin 2048 → Fin 7168 → ℝ) (lb : Fin 1024 → ℝ) (gn : Fin 128 → ℝ)

/-- Row `t` of chunk `n`. -/
def row (n : ℕ) (t : Fin 64) : Fin 2048 := ⟨64 * (n % 32) + t.val, by omega⟩

/-- Column `d` of head `h`. -/
def col (h : ℕ) (d : Fin 128) : Fin 1024 := ⟨128 * (h % 8) + d.val, by omega⟩

/-- Column `d` of head `h` in band `b` of the projection. -/
def band (b : Fin 7) (h : ℕ) (d : Fin 128) : Fin 7168 := ⟨1024 * b.val + (128 * (h % 8) + d.val), by omega⟩

def fv (n h : ℕ) (t : Fin 64) (d : Fin 128) : ℝ := gate (lb (col h d)) (z (row n t) (band 2 h d))
def gv (n h : ℕ) (t : Fin 64) (d : Fin 128) : ℝ := Real.log (fv z lb n h t d)
def kv (n h : ℕ) (t : Fin 64) (d : Fin 128) : ℝ := 1 - fv z lb n h t d
def qv (n h : ℕ) (t : Fin 64) (d : Fin 128) : ℝ := z (row n t) (band 1 h d) * sig (z (row n t) (band 1 h d))
def vv (n h : ℕ) (t : Fin 64) (d : Fin 128) : ℝ := z (row n t) (band 3 h d)

/-- The state of head `h` before chunk `n`. -/
def st (h : ℕ) : ℕ → Fin 128 → Fin 128 → ℝ
  | 0 => fun _ _ => 0
  | n + 1 => next (gv z lb n h) (kv z lb n h) (vv z n h) (st h n)

/-- The output of head `h` in chunk `n`. -/
def o (n h : ℕ) : Fin 64 → Fin 128 → ℝ := out (gv z lb n h) (qv z n h) (kv z lb n h) (vv z n h) (st z lb h n)

/-- The output normalised over its head and gated. -/
def b (n h : ℕ) (t : Fin 64) (j : Fin 128) : ℝ :=
  o z lb n h t j * rs 128 (o z lb n h t) * gn j * (z (row n t) (band 4 h j) * sig (z (row n t) (band 4 h j)))

end

/-! ## The elementary operations on real numbers -/

theorem sig_coe (x : ℝ) : Ideal.div 1 (1 + Ideal.exp (0 - (x : EReal))) = (sig x : EReal) := by
  rw [show (0 : EReal) - (x : EReal) = ((-x : ℝ) : EReal) by rw [zero_sub, EReal.coe_neg], Ideal.exp_coe, ← EReal.coe_one, ← EReal.coe_add,
    div_real _ (by positivity)]
  rfl

theorem gate_coe (lb x : ℝ) : (lb : EReal) + (1 - (lb : EReal)) * (sig x : EReal) = (gate lb x : EReal) := by
  rw [← EReal.coe_one, ← EReal.coe_sub, ← EReal.coe_mul, ← EReal.coe_add]; rfl

/-- The floor under the logarithm's argument is not reached. -/
theorem log_floor {f : ℝ} (h : 1 / 128 ≤ f) : Ideal.log (max (f : EReal) (Ideal.ofBits .f32 0x0DA24260#32)) = (Real.log f : EReal) := by
  have hb : Ideal.ofBits .f32 0x0DA24260#32 ≤ ((1 / 128 : ℝ) : EReal) := by
    simp [Ideal.ofBits, Ideal.ieee, ← EReal.coe_mul]
    norm_num
  rw [max_eq_left (hb.trans (EReal.coe_le_coe_iff.2 h)), Ideal.log_coe, if_neg (by linarith)]

theorem bits_80 : Ideal.ofBits .f32 0x42A00000#32 = ((80 : ℝ) : EReal) := by
  simp [Ideal.ofBits, Ideal.ieee, ← EReal.coe_mul]; norm_num

theorem bits_128 : Ideal.ofBits .f32 0x43000000#32 = ((128 : ℝ) : EReal) := by
  simp [Ideal.ofBits, Ideal.ieee, ← EReal.coe_mul]; norm_num

end Cert.HgrnMath

end
-- ==== Proof.HgrnRead.lean ====
/- The kernel's chunk read at an index. -/
module

public import proofs.«01_k».proof.Proof.HgrnHead
public import proofs.«01_k».proof.Proof.HgrnMath
public import Idealize.ShloMosaic.Lib.Pointwise

@[expose] public section

set_option maxRecDepth 16384

noncomputable section

namespace Cert.HgrnFwdIdeal.Head

open Idealize.ShloMosaic Idealize.ShloMosaic.TcCoe Cert.HgrnFwdIdeal Cert.HgrnFwdIdeal.Gen Cert.Reals Cert.HgrnMath

/-- The causal mask. -/
theorem mask_at : ∀ t s : Fin 64, k0_pay2 (ix2 t s) = if s ≤ t then 1#1 else 0#1 := by decide +kernel

/-- The mask of the earlier blocks of sixteen. -/
theorem before_at : ∀ t s : Fin 64, k0_pay3 (ix2 t s) = if s.val < 16 * (t.val / 16) then 1#1 else 0#1 := by decide +kernel

/-- A bit as a number. -/
theorem bit_coe {p : Prop} [Decidable p] :
    FloatOps.sitofp (F := Ideal) .f32 (BitVec.setWidth 32 (if p then 1#1 else 0#1)) = ((if p then 1 else 0 : ℝ) : EReal) := by
  show (((BitVec.setWidth 32 (if p then 1#1 else 0#1)).toInt : ℝ) : EReal) = _
  split <;> simp

/-- The sum of masked real numbers in three parts, of which the second and third vanish. -/
theorem masked_sum {p : Fin 64 → Prop} [DecidablePred p] (g : Fin 64 → ℝ) :
    (∑ x, ((if p x then 1 else 0 : ℝ) : EReal) * (g x : EReal) + ∑ x, ((if p x then 1 else 0 : ℝ) : EReal) * ((g x : EReal) - (g x : EReal)))
      + ∑ x, ((if p x then 1 else 0 : ℝ) : EReal) * ((g x : EReal) - (g x : EReal) - ((g x : EReal) - (g x : EReal)))
      = ((∑ x, if p x then g x else 0 : ℝ) : EReal) := by
  simp only [← EReal.coe_sub, ← EReal.coe_mul, sum_coe, ← EReal.coe_add, sub_self, mul_zero, Finset.sum_const_zero, add_zero, ite_mul, one_mul,
    zero_mul]

section
variable {lb : FVec Ideal S1x1024 .f32} {hf : FVec Ideal S64x1024 .f32} {lbr : Fin 1024 → ℝ} {fr : Fin 64 → Fin 1024 → ℝ}
  (hlb : ∀ l, lb (ix2 (0 : Fin 1) l) = (lbr l : EReal)) (hhf : ∀ t l, hf (ix2 t l) = (fr t l : EReal))
  (hlow : ∀ t l, 1 / 128 ≤ gate (lbr l) (fr t l))
include hlb hhf

theorem key_at (t : Fin 64) (l : Fin 1024) : key (F := Ideal) lb hf (ix2 t l) = ((1 - gate (lbr l) (fr t l) : ℝ) : EReal) := by
  pointwise [key, k0_pay8, k0_pay6, k0_pay5, k0_pay4]
  rw [hlb, hhf, sig_coe, gate_coe, ← EReal.coe_one, ← EReal.coe_sub]

include hlow
theorem logf_at (t : Fin 64) (l : Fin 1024) : logf (F := Ideal) lb hf (ix2 t l) = (Real.log (gate (lbr l) (fr t l)) : EReal) := by
  pointwise [logf, k0_pay7, k0_pay6, k0_pay5, k0_pay4]
  rw [hlb, hhf, sig_coe, gate_coe]
  exact log_floor (hlow t l)

theorem cum_at (t : Fin 64) (l : Fin 1024) :
    cum (F := Ideal) lb hf (ix2 t l) = ((∑ s, if s ≤ t then Real.log (gate (lbr l) (fr s l)) else 0 : ℝ) : EReal) := by
  have hG : ∀ s, k0_pay7 (F := Ideal) lb (k0_pay4 hf) k0_pay5 (ix2 s l) = (Real.log (gate (lbr l) (fr s l)) : EReal) := fun s =>
    logf_at hlb hhf hlow s l
  pointwise [cum, k0_pay11, k0_pay10]
  simp only [mask_at, bit_coe, hG]
  exact masked_sum _

theorem base_at (t : Fin 64) (l : Fin 1024) :
    base (F := Ideal) lb hf (ix2 t l)
      = ((∑ s : Fin 64, if s.val < 16 * (t.val / 16) then Real.log (gate (lbr l) (fr s l)) else 0 : ℝ) : EReal) := by
  have hG : ∀ s, k0_pay7 (F := Ideal) lb (k0_pay4 hf) k0_pay5 (ix2 s l) = (Real.log (gate (lbr l) (fr s l)) : EReal) := fun s =>
    logf_at hlb hhf hlow s l
  pointwise [base, k0_pay12, k0_pay10]
  simp only [before_at, bit_coe, hG]
  exact masked_sum _

end

theorem q_at {hq : FVec Ideal S64x1024 .f32} {r : Fin 64 → Fin 1024 → ℝ} (h : ∀ t l, hq (ix2 t l) = (r t l : EReal)) (t : Fin 64) (l : Fin 1024) :
    k0_pay9 (F := Ideal) hq (ix2 t l) = ((r t l * HgrnMath.sig (r t l) : ℝ) : EReal) := by
  pointwise [k0_pay9]
  rw [h, sig_coe, ← EReal.coe_mul]

theorem head_at (h : ℕ) (x : FVec Ideal S64x1024 .f32) (t : Fin 64) (l : Fin 128) :
    head (F := Ideal) h x (ix2 t l) = x (ix2 t (col h l)) := by
  pointwise [head]
  rfl

section
variable {g q k v : Fin 64 → Fin 128 → ℝ} {S : Fin 128 → Fin 128 → ℝ} {q' k' c' b' l' v' : FVec Ideal S64x128 .f32}
  {st' : FVec Ideal S1x128x128 .f32}

/-- A summand of a score: the two exponentials through the base are one. -/
theorem score_term {q k c b c' : ℝ} {q' k' cc bb bb' cc' z : EReal} (h : b - c' ≤ 80) (hq : q' = (q : EReal)) (hc : cc = (c : EReal))
    (hb : bb = (b : EReal)) (hk : k' = (k : EReal)) (hb' : bb' = (b : EReal)) (hc' : cc' = (c' : EReal)) (hz : z = ((80 : ℝ) : EReal)) :
    q' * Ideal.exp (cc - bb) * (k' * Ideal.exp (min (bb' - cc') z)) = ((q * k * Real.exp (c - c') : ℝ) : EReal) := by
  subst hq hc hb hk hb' hc' hz
  rw [← EReal.coe_sub, ← EReal.coe_sub, min_eq_left (EReal.coe_le_coe_iff.2 h), Ideal.exp_coe, Ideal.exp_coe, ← EReal.coe_mul, ← EReal.coe_mul,
    ← EReal.coe_mul, ← exp_split c b c']
  congr 1; ring

set_option maxHeartbeats 1000000 in
theorem scores_at (hq : ∀ t d, q' (ix2 t d) = (q t d : EReal)) (hk : ∀ t d, k' (ix2 t d) = (k t d : EReal))
    (hc : ∀ t d, c' (ix2 t d) = (HgrnMath.cum g t d : EReal)) (hb : ∀ t d, b' (ix2 t d) = (HgrnMath.base g t d : EReal))
    (h5 : ∀ s d, -5 ≤ g s d) (h0 : ∀ s d, g s d ≤ 0) (i : ℕ) (hi : i < 4) (r : Fin 16) (s : Fin 64) (t : Fin 64) (ht : t.val = 16 * i + r.val) :
    scores (F := Ideal) i q' k' c' b' (ix2 r s) = (score g q k t s : EReal) := by
  have hD : ∀ (x : Fin 128) (y : Fin 64), y.val / 16 = t.val / 16 → b' (ix2 y x) = (HgrnMath.base g t x : EReal) := fun x y hy => by
    rw [hb, HgrnMath.base, hy]; rfl
  have hrow : (⟨16 * (i % 4) + r.val, by omega⟩ : Fin 64) = t := Fin.ext (by show 16 * (i % 4) + r.val = _; omega)
  pointwise [scores]
  rw [hrow, mask_at]
  by_cases hs : s ≤ t
  · rw [if_pos hs, score, if_pos hs, ← sum_coe]
    refine (Idealize.ShloMosaic.ValueIdx.select_one _ _).trans ?_
    refine Finset.sum_congr rfl fun x _ => ?_
    refine score_term (base_sub_cum h5 h0 hs x) (hrow ▸ hq _ x) (hrow ▸ hc _ x) (hrow ▸ hb _ x) (hk s x) ?_ (hc s x) bits_80
    split_ifs
    all_goals
      refine hD x _ ?_
      first
        | (show (16 * (i % 4) + s.val) / 16 = t.val / 16; omega)
        | (show (16 * (i % 4) + (s.val - 16)) / 16 = t.val / 16; omega)
        | (show (16 * (i % 4) + (s.val - 16 - 16)) / 16 = t.val / 16; omega)
        | (show (16 * (i % 4) + (s.val - 16 - 16 - 16)) / 16 = t.val / 16; omega)
  · rw [if_neg hs, score, if_neg hs]
    exact EReal.coe_zero.symm

set_option maxHeartbeats 400000 in
theorem outH_at (hq : ∀ t d, q' (ix2 t d) = (q t d : EReal)) (hk : ∀ t d, k' (ix2 t d) = (k t d : EReal))
    (hc : ∀ t d, c' (ix2 t d) = (HgrnMath.cum g t d : EReal)) (hb : ∀ t d, b' (ix2 t d) = (HgrnMath.base g t d : EReal))
    (hv : ∀ t d, v' (ix2 t d) = (v t d : EReal)) (hs : ∀ d j, st' (ix3 (0 : Fin 1) j d) = (S d j : EReal))
    (h5 : ∀ s d, -5 ≤ g s d) (h0 : ∀ s d, g s d ≤ 0) (t : Fin 64) (j : Fin 128) :
    outH (F := Ideal) q' k' c' b' v' st' (ix2 t j) = (out g q k v S t j : EReal) := by
  have hsc : ∀ (i : ℕ) (hi : i < 4) (r : Fin 16) (s : Fin 64), t.val = 16 * i + r.val →
      scores (F := Ideal) i q' k' c' b' (ix2 r s) = (score g q k t s : EReal) := fun i hi r s ht =>
    scores_at hq hk hc hb h5 h0 i hi r s t ht
  have hs0 := hsc 0 (by decide)
  have hs1 := hsc 1 (by decide)
  have hs2 := hsc 2 (by decide)
  have hs3 := hsc 3 (by decide)
  unfold outH
  generalize scores (F := Ideal) 0 q' k' c' b' = s0 at hs0 ⊢
  generalize scores (F := Ideal) 1 q' k' c' b' = s1 at hs1 ⊢
  generalize scores (F := Ideal) 2 q' k' c' b' = s2 at hs2 ⊢
  generalize scores (F := Ideal) 3 q' k' c' b' = s3 at hs3 ⊢
  pointwise
  rw [out, EReal.coe_add, ← sum_coe, ← sum_coe]
  refine congrArg₂ _ (Finset.sum_congr rfl fun x _ => ?_) (Finset.sum_congr rfl fun x _ => ?_)
  · rw [hq, hc, hs, Ideal.exp_coe, ← EReal.coe_mul, ← EReal.coe_mul]
  · rw [hv, EReal.coe_mul]
    refine congrArg (· * _) ?_
    split_ifs
    all_goals first
      | (refine hs0 _ x ?_; show t.val = 16 * 0 + t.val; omega)
      | (refine hs1 _ x ?_; show t.val = 16 * 1 + (t.val - 16); omega)
      | (refine hs2 _ x ?_; show t.val = 16 * 2 + (t.val - 16 - 16); omega)
      | (refine hs3 _ x ?_; show t.val = 16 * 3 + (t.val - 16 - 16 - 16); omega)

theorem stateH_at (hk : ∀ t d, k' (ix2 t d) = (k t d : EReal))
    (hc : ∀ t d, c' (ix2 t d) = (HgrnMath.cum g t d : EReal)) (hl : ∀ t d, l' (ix2 t d) = (g t d : EReal))
    (hv : ∀ t d, v' (ix2 t d) = (v t d : EReal)) (hs : ∀ d j, st' (ix3 (0 : Fin 1) j d) = (S d j : EReal)) (d j : Fin 128) :
    stateH (F := Ideal) k' c' l' v' st' (ix3 (0 : Fin 1) j d) = (next g k v S d j : EReal) := by
  pointwise [stateH]
  simp only [hk, hc, hl, hv, hs, sum_coe, Ideal.exp_coe, ← EReal.coe_sub, ← EReal.coe_mul, ← EReal.coe_add]
  unfold next tot
  congr 1
  refine congrArg₂ _ (mul_comm _ _) (Finset.sum_congr rfl fun x _ => by ring)

end

theorem b_at {o g : FVec Ideal S64x128 .f32} {gn : FVec Ideal S1x128 .f32} {or gr : Fin 64 → Fin 128 → ℝ} {gnr : Fin 128 → ℝ}
    (ho : ∀ t d, o (ix2 t d) = (or t d : EReal)) (hg : ∀ t d, g (ix2 t d) = (gr t d : EReal)) (hgn : ∀ d, gn (ix2 (0 : Fin 1) d) = (gnr d : EReal))
    (t : Fin 64) (j : Fin 128) :
    k0_pay26 (F := Ideal) o g gn (ix2 t j) = ((or t j * rs 128 (or t) * gnr j * (gr t j * HgrnMath.sig (gr t j)) : ℝ) : EReal) := by
  pointwise [k0_pay26]
  simp only [ho, hg, hgn, bits_128, bits_eps, sig_coe]
  rw [rsqrt_row (by norm_num)]
  simp only [← EReal.coe_mul]

end Cert.HgrnFwdIdeal.Head

end
-- ==== Proof.HgrnKernel.lean ====
/- The kernel's chunks over the real numbers: its states, outputs and gated outputs are those of `HgrnMath`. -/
module

public import proofs.«01_k».proof.Proof.HgrnState
public import proofs.«01_k».proof.Proof.HgrnRead

@[expose] public section

set_option maxRecDepth 16384

noncomputable section

namespace Cert.HgrnFwdIdeal.Head

open Idealize.ShloMosaic Idealize.ShloMosaic.TcCoe Cert.HgrnFwdIdeal Cert.HgrnFwdIdeal.Gen Cert.Reals
open Cert.HgrnMath (row col band fv gv kv qv vv st)

/-- Column `l` of band `b` of the projection. -/
def wide (b : Fin 7) (l : Fin 1024) : Fin 7168 := ⟨1024 * b.val + l.val, by omega⟩

/-- A head's column of a chunk's array is its column of the band. -/
theorem wide_col (b : Fin 7) (h : ℕ) (d : Fin 128) : wide b (col h d) = band b h d := rfl

/-- The head of a step. -/
theorem col_step (c h : ℕ) (d : Fin 128) : col (8 * c + h) d = col h d :=
  Fin.ext (by show 128 * ((8 * c + h) % 8) + d.val = 128 * (h % 8) + d.val; omega)

theorem band_step (b : Fin 7) (c h : ℕ) (d : Fin 128) : band b (8 * c + h) d = band b h d :=
  Fin.ext (by show 1024 * b.val + (128 * ((8 * c + h) % 8) + d.val) = 1024 * b.val + (128 * (h % 8) + d.val); omega)

section
variable {zr : Fin 2048 → Fin 7168 → ℝ} {lbr : Fin 1024 → ℝ} {gnr : Fin 128 → ℝ} {p : ℕ}
  {q f : ℕ → Vec Ideal S64x1024 .f32} {v g : ℕ → ℕ → Vec Ideal S64x128 .f32} {lb : Vec Ideal S1x1024 .f32} {gn : Vec Ideal S1x128 .f32}

/-- What a point's buffers hold: its rows of four bands of the projection, the lower bounds, and the weight of the norm. -/
structure Holds (zr : Fin 2048 → Fin 7168 → ℝ) (lbr : Fin 1024 → ℝ) (gnr : Fin 128 → ℝ) (p : ℕ) (q f : ℕ → Vec Ideal S64x1024 .f32)
    (v g : ℕ → ℕ → Vec Ideal S64x128 .f32) (lb : Vec Ideal S1x1024 .f32) (gn : Vec Ideal S1x128 .f32) : Prop where
  q : ∀ c < 8, ∀ t l, q c (ix2 t l) = (zr (row (8 * p + c) t) (wide 1 l) : EReal)
  f : ∀ c < 8, ∀ t l, f c (ix2 t l) = (zr (row (8 * p + c) t) (wide 2 l) : EReal)
  v : ∀ c < 8, ∀ h t d, v c h (ix2 t d) = (zr (row (8 * p + c) t) (band 3 h d) : EReal)
  g : ∀ c < 8, ∀ h t d, g c h (ix2 t d) = (zr (row (8 * p + c) t) (band 4 h d) : EReal)
  lb : ∀ l, lb (ix2 (0 : Fin 1) l) = (lbr l : EReal)
  gn : ∀ d, gn (ix2 (0 : Fin 1) d) = (gnr d : EReal)
  low : ∀ (n h : ℕ) t d, 1 / 128 ≤ fv zr lbr n h t d
  one : ∀ l, lbr l ≤ 1

variable (H : Holds zr lbr gnr p q f v g lb gn)
include H

theorem Holds.gates {c : ℕ} (t : Fin 64) (l : Fin 1024) : 1 / 128 ≤ HgrnMath.gate (lbr l) (zr (row (8 * p + c) t) (wide 2 l)) := by
  have := H.low (8 * p + c) (l.val / 128) t (⟨l.val % 128, Nat.mod_lt _ (by decide)⟩ : Fin 128)
  have e : col (l.val / 128) (⟨l.val % 128, Nat.mod_lt _ (by decide)⟩ : Fin 128) = l :=
    Fin.ext (by show 128 * (l.val / 128 % 8) + l.val % 128 = l.val; omega)
  unfold fv at this
  rwa [← wide_col, e] at this

theorem Holds.log_low (n h : ℕ) (t : Fin 64) (d : Fin 128) : -5 ≤ gv zr lbr n h t d :=
  (HgrnMath.log_gate (H.low n h t d) (HgrnMath.gate_le (H.one _) _)).1

theorem Holds.log_neg (n h : ℕ) (t : Fin 64) (d : Fin 128) : gv zr lbr n h t d ≤ 0 :=
  (HgrnMath.log_gate (H.low n h t d) (HgrnMath.gate_le (H.one _) _)).2

variable {c : ℕ} (hc : c < 8) (h : ℕ) (t : Fin 64) (d : Fin 128)
include hc

theorem Holds.key_head : head (8 * c + h) (key lb (f c)) (ix2 t d) = (kv zr lbr (8 * p + c) h t d : EReal) := by
  rw [head_at, col_step, key_at H.lb (H.f c hc)]; rfl

theorem Holds.log_head : head (8 * c + h) (logf lb (f c)) (ix2 t d) = (gv zr lbr (8 * p + c) h t d : EReal) := by
  rw [head_at, col_step, logf_at H.lb (H.f c hc) H.gates]; rfl

theorem Holds.cum_head : head (8 * c + h) (cum lb (f c)) (ix2 t d) = (HgrnMath.cum (gv zr lbr (8 * p + c) h) t d : EReal) := by
  rw [head_at, col_step, cum_at H.lb (H.f c hc) H.gates]; rfl

theorem Holds.base_head : head (8 * c + h) (base lb (f c)) (ix2 t d) = (HgrnMath.base (gv zr lbr (8 * p + c) h) t d : EReal) := by
  rw [head_at, col_step, base_at H.lb (H.f c hc) H.gates]; rfl

theorem Holds.q_head : head (8 * c + h) (k0_pay9 (q c)) (ix2 t d) = (qv zr (8 * p + c) h t d : EReal) := by
  rw [head_at, col_step, q_at (H.q c hc)]; rfl

theorem Holds.v_head : v c (8 * c + h) (ix2 t d) = (vv zr (8 * p + c) h t d : EReal) := by
  rw [H.v c hc, band_step]; rfl

omit hc
variable {S : Vec Ideal S1x128x128 .f32} (hh : h < 8)
include hh

/-- One step's state. -/
theorem Holds.state_step (hc : c < 8) (hS : ∀ d j, S (ix3 (0 : Fin 1) j d) = (st zr lbr h (8 * p + c) d j : EReal)) (d j : Fin 128) :
    sAt f v lb (8 * c + h) S (ix3 (0 : Fin 1) j d) = (st zr lbr h (8 * p + (c + 1)) d j : EReal) := by
  have e : (8 * c + h) / 8 = c := by omega
  unfold sAt
  rw [e]
  exact stateH_at (H.key_head hc h) (H.cum_head hc h) (H.log_head hc h) (H.v_head hc h) hS d j

/-- One step's output. -/
theorem Holds.out_step (hc : c < 8) (hS : ∀ d j, S (ix3 (0 : Fin 1) j d) = (st zr lbr h (8 * p + c) d j : EReal)) (t : Fin 64) (j : Fin 128) :
    oAt q f v lb (8 * c + h) S (ix2 t j) = (HgrnMath.o zr lbr (8 * p + c) h t j : EReal) := by
  have e : (8 * c + h) / 8 = c := by omega
  unfold oAt
  rw [e]
  exact outH_at (H.q_head hc h) (H.key_head hc h) (H.cum_head hc h) (H.base_head hc h) (H.v_head hc h) hS (H.log_low _ _) (H.log_neg _ _) t j

/-- One step's gated output. -/
theorem Holds.gated_step (hc : c < 8) (hS : ∀ d j, S (ix3 (0 : Fin 1) j d) = (st zr lbr h (8 * p + c) d j : EReal)) (t : Fin 64) (j : Fin 128) :
    bAt q f v g lb gn (8 * c + h) S (ix2 t j) = (HgrnMath.b zr lbr gnr (8 * p + c) h t j : EReal) := by
  have e : (8 * c + h) / 8 = c := by omega
  have hg : ∀ t d, g c (8 * c + h) (ix2 t d) = (zr (row (8 * p + c) t) (band 4 h d) : EReal) := fun t d => by
    rw [H.g c hc, band_step]
  unfold bAt
  rw [e]
  exact b_at (H.out_step h hh hc hS) hg H.gn t j

/-- The states of a point, chunk by chunk. -/
theorem Holds.states {x : Vec Ideal S8x128x128 .f32}
    (hx : ∀ (h : Fin 8) (d j : Fin 128), x (ix3 h j d) = (st zr lbr h.val (8 * p) d j : EReal)) :
    ∀ k ≤ 8, ∀ d j : Fin 128, hst f v lb x h k (ix3 (0 : Fin 1) j d) = (st zr lbr h (8 * p + k) d j : EReal)
  | 0, _, d, j => by
    show x (ix3 (⟨h % 8, Nat.mod_lt _ (by decide)⟩ : Fin 8) j d) = _
    rw [hx]
    show (st zr lbr (h % 8) (8 * p) d j : EReal) = _
    rw [Nat.mod_eq_of_lt hh]; rfl
  | k + 1, hk, d, j => H.state_step h hh (by omega) (fun d j => Holds.states hx k (by omega) d j) d j

end

end Cert.HgrnFwdIdeal.Head

end
-- ==== Proof.HgrnPoint.lean ====
/- What the recurrence's kernel leaves at each point, and in its two arrays at the end. -/
module

public import proofs.«01_k».proof.Proof.HgrnKernel
public import proofs.«01_k».proof.Proof.Gen.HgrnFwdIdeal.Value

@[expose] public section

set_option maxRecDepth 16384

noncomputable section

namespace Cert.HgrnFwdIdeal.Hand

open Idealize.ShloMosaic Idealize.ShloMosaic.TcCoe Idealize.SL.Sem Cert.HgrnFwdIdeal Cert.HgrnFwdIdeal.Gen Cert.HgrnFwdIdeal.Head
open Idealize.ShloMosaic.Pipeline (Dat)
open Cert.HgrnMath (row col band fv gv kv qv vv st)

variable (m : (ℓ : Loc nD τ sig) → Buf (Elt Ideal) ℓ)

/-! ## The blocks of a point -/

theorem idx_val : ∀ t : Fin cfg0.N, win0_0.index t = ![t.val, 1] ∧ win0_1.index t = ![t.val, 2] ∧ win0_2.index t = ![t.val, 3]
    ∧ win0_3.index t = ![t.val, 4] ∧ win0_4.index t = ![0, 0] ∧ win0_5.index t = ![0, 0] ∧ win0_6.index t = ![t.val, 0]
    ∧ win0_7.index t = ![t.val, 0] := by decide +kernel

section
variable (c : Dev nD) (t : Fin 4) (r : Fin 512) (l : Fin 1024)

theorem q_point : iblk m c 0 t (ix2 r l) = m ((c.tc : Thread nD τ).loc main_arg0) (ix2 (⟨512 * t.val + r.val, by omega⟩ : Fin 2048) (wide 1 l)) := by
  blk_point [iblk, V, idx_val t, wide]

theorem f_point : iblk m c 1 t (ix2 r l) = m ((c.tc : Thread nD τ).loc main_arg0) (ix2 (⟨512 * t.val + r.val, by omega⟩ : Fin 2048) (wide 2 l)) := by
  blk_point [iblk, V, idx_val t, wide]

theorem v_point : iblk m c 2 t (ix2 r l) = m ((c.tc : Thread nD τ).loc main_arg0) (ix2 (⟨512 * t.val + r.val, by omega⟩ : Fin 2048) (wide 3 l)) := by
  blk_point [iblk, V, idx_val t, wide]

theorem g_point : iblk m c 3 t (ix2 r l) = m ((c.tc : Thread nD τ).loc main_arg0) (ix2 (⟨512 * t.val + r.val, by omega⟩ : Fin 2048) (wide 4 l)) := by
  blk_point [iblk, V, idx_val t, wide]

theorem lb_point : iblk m c 4 t (ix2 (0 : Fin 1) l) = m ((c.tc : Thread nD τ).loc main_arg1) (ix2 (0 : Fin 1) l) := by
  blk_point [iblk, V, idx_val t]

theorem gn_point (d : Fin 128) : iblk m c 5 t (ix2 (0 : Fin 1) d) = m ((c.tc : Thread nD τ).loc main_arg2) (ix2 (0 : Fin 1) d) := by
  blk_point [iblk, V, idx_val t]

end

/-! ## Loads from a whole buffer -/

theorem rows_at (a : Memref sig .tc .vmem S512x1024 .f32) (ha : a.IsWhole) (x : Vec Ideal S512x1024 .f32) (c : ℕ) (hc : c < 8) (t : Fin 64)
    (l : Fin 1024) : rowsLd a ha x c (ix2 t l) = x (ix2 (⟨64 * c + t.val, by omega⟩ : Fin 512) l) := by
  unfold rowsLd
  rw [View.readAt_apply, ha.read_unread]
  refine congrArg x ?_
  funext i
  fin_cases i
  · exact Fin.ext (by show 64 * (c % 8) + 1 * t.val = 64 * c + t.val; omega)
  · exact Fin.ext (by show 0 + 1 * l.val = l.val; omega)

theorem tile_at (a : Memref sig .tc .vmem S512x1024 .f32) (ha : a.IsWhole) (x : Vec Ideal S512x1024 .f32) (c h : ℕ) (hc : c < 8) (t : Fin 64)
    (d : Fin 128) : tileLd a ha x c h (ix2 t d) = x (ix2 (⟨64 * c + t.val, by omega⟩ : Fin 512) (col h d)) := by
  unfold tileLd
  rw [View.readAt_apply, ha.read_unread]
  refine congrArg x ?_
  funext i
  fin_cases i
  · exact Fin.ext (by show 64 * (c % 8) + 1 * t.val = 64 * c + t.val; omega)
  · exact Fin.ext (by show 128 * (h % 8) + 1 * d.val = 128 * (h % 8) + d.val; omega)

theorem row_at (a : Memref sig .tc .vmem S1x1024 .f32) (ha : a.IsWhole) (x : Vec Ideal S1x1024 .f32) (l : Fin 1024) :
    rowLd a ha x (ix2 (0 : Fin 1) l) = x (ix2 (0 : Fin 1) l) := by
  unfold rowLd
  rw [View.readAt_apply, ha.read_unread]
  refine congrArg x ?_
  funext i
  fin_cases i
  · rfl
  · exact Fin.ext (by show 0 + 1 * l.val = l.val; omega)

theorem gn_at (a : Memref sig .tc .vmem S1x128 .f32) (ha : a.IsWhole) (x : Vec Ideal S1x128 .f32) (d : Fin 128) :
    gnLd a ha x (ix2 (0 : Fin 1) d) = x (ix2 (0 : Fin 1) d) := by
  unfold gnLd
  rw [View.readAt_apply, ha.read_unread]
  refine congrArg x ?_
  funext i
  fin_cases i
  · rfl
  · exact Fin.ext (by show 0 + 1 * d.val = d.val; omega)

/-! ## The arguments as real numbers -/

/-- The three arguments hold real numbers whose forget gates are at least 1/128. -/
structure Args (c : Dev nD) (zr : Fin 2048 → Fin 7168 → ℝ) (lbr : Fin 1024 → ℝ) (gnr : Fin 128 → ℝ) : Prop where
  z : ∀ r l, m ((c.tc : Thread nD τ).loc main_arg0) (ix2 r l) = (zr r l : EReal)
  lb : ∀ l, m ((c.tc : Thread nD τ).loc main_arg1) (ix2 (0 : Fin 1) l) = (lbr l : EReal)
  gn : ∀ d, m ((c.tc : Thread nD τ).loc main_arg2) (ix2 (0 : Fin 1) d) = (gnr d : EReal)
  low : ∀ (n h : ℕ) t d, 1 / 128 ≤ fv zr lbr n h t d
  one : ∀ l, lbr l ≤ 1

variable {m} {c : Dev nD} {zr : Fin 2048 → Fin 7168 → ℝ} {lbr : Fin 1024 → ℝ} {gnr : Fin 128 → ℝ} (A : Args m c zr lbr gnr)
include A

/-- A row of a point is a row of its chunk. -/
theorem row_point {t : ℕ} (ht : t < 4) {k : ℕ} (hk : k < 8) (r : Fin 64) (h : 512 * t + (64 * k + r.val) < 2048) :
    (⟨512 * t + (64 * k + r.val), h⟩ : Fin 2048) = row (8 * t + k) r :=
  Fin.ext (by show 512 * t + (64 * k + r.val) = 64 * ((8 * t + k) % 32) + r.val; omega)

/-- The loads of a point hold its rows. -/
theorem holds (t : Fin 4) (a1 a2 a3 a4 : Memref sig .tc .vmem S512x1024 .f32) (h1 : a1.IsWhole) (h2 : a2.IsWhole) (h3 : a3.IsWhole)
    (h4 : a4.IsWhole) (a5 : Memref sig .tc .vmem S1x1024 .f32) (h5 : a5.IsWhole) (a6 : Memref sig .tc .vmem S1x128 .f32) (h6 : a6.IsWhole) :
    Holds zr lbr gnr t.val (rowsLd a1 h1 (iblk m c 0 t)) (rowsLd a2 h2 (iblk m c 1 t)) (tileLd a3 h3 (iblk m c 2 t)) (tileLd a4 h4 (iblk m c 3 t))
      (rowLd a5 h5 (iblk m c 4 t)) (gnLd a6 h6 (iblk m c 5 t)) where
  q k hk r l := by rw [rows_at _ _ _ _ hk, q_point, A.z, ← row_point A t.isLt hk]
  f k hk r l := by rw [rows_at _ _ _ _ hk, f_point, A.z, ← row_point A t.isLt hk]
  v k hk h r d := by rw [tile_at _ _ _ _ _ hk, v_point, A.z, ← row_point A t.isLt hk, wide_col]
  g k hk h r d := by rw [tile_at _ _ _ _ _ hk, g_point, A.z, ← row_point A t.isLt hk, wide_col]
  lb l := by rw [row_at, lb_point, A.lb]
  gn d := by rw [gn_at, gn_point, A.gn]
  low := A.low
  one := A.one

/-! ## What a point leaves -/

section
variable (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32) (harg3 : arg3.IsWhole)
  (arg4 : Memref sig .tc .vmem S512x1024 .f32) (harg4 : arg4.IsWhole) (arg5 : Memref sig .tc .vmem S1x1024 .f32) (harg5 : arg5.IsWhole)
  (arg6 : Memref sig .tc .vmem S1x128 .f32) (harg6 : arg6.IsWhole) (arg7 : Memref sig .tc .vmem S512x1024 .f32) (harg7 : arg7.IsWhole)
  (arg8 : Memref sig .tc .vmem S512x1024 .bf16) (harg8 : arg8.IsWhole) (arg9 : Memref sig .tc .vmem S8x8x128x128 .f32) (harg9 : arg9.IsWhole)
  (arg10 : Memref sig .tc .vmem S512x2048 .f32) (harg10 : arg10.IsWhole) (arg11 : Memref sig .tc .vmem S8x128x128 .f32) (harg11 : arg11.IsWhole)
  (x0 x1 x2 x3 : Vec Ideal S512x1024 .f32) (x4 : Vec Ideal S1x1024 .f32) (x5 : Vec Ideal S1x128 .f32) (xs0 : Vec Ideal S8x128x128 .f32)

omit A in
theorem o_A (hc0 : cond0_0 i) :
    out0_A_6 c i arg1 harg1 arg2 harg2 arg3 harg3 arg4 harg4 arg5 harg5 arg6 harg6 arg7 harg7 arg8 harg8 arg9 harg9 arg10 harg10 arg11 harg11 hc0 x0 x1 x2 x3 x4 x5
      = View.canon (oList (rowsLd arg1 harg1 x0) (rowsLd arg2 harg2 x1) (tileLd arg3 harg3 x2) (rowLd arg5 harg5 x4) zeroL (ldA arg11) 64) :=
  (View.read_writes_junk_eq_canon _ _).trans (congrArg View.canon (oList_A c i arg1 harg1 arg2 harg2 arg3 harg3 arg4 harg4 arg5 harg5 arg6 harg6 arg7 harg7 arg8 harg8 arg9 harg9 arg10 harg10 arg11 harg11 x0 x1 x2 x3 x4 x5 hc0))

omit A in
theorem b_A (hc0 : cond0_0 i) :
    out0_A_7 c i arg1 harg1 arg2 harg2 arg3 harg3 arg4 harg4 arg5 harg5 arg6 harg6 arg7 harg7 arg8 harg8 arg9 harg9 arg10 harg10 arg11 harg11 hc0 x0 x1 x2 x3 x4 x5
      = View.canon (bList (rowsLd arg1 harg1 x0) (rowsLd arg2 harg2 x1) (tileLd arg3 harg3 x2) (tileLd arg4 harg4 x3) (rowLd arg5 harg5 x4) (gnLd arg6 harg6 x5) zeroL (ldA arg11) 64) :=
  (View.read_writes_junk_eq_canon _ _).trans (congrArg View.canon (bList_A c i arg1 harg1 arg2 harg2 arg3 harg3 arg4 harg4 arg5 harg5 arg6 harg6 arg7 harg7 arg8 harg8 arg9 harg9 arg10 harg10 arg11 harg11 x0 x1 x2 x3 x4 x5 hc0))

omit A in
theorem s_A (hc0 : cond0_0 i) :
    sout0_A_0 c i arg1 harg1 arg2 harg2 arg3 harg3 arg4 harg4 arg5 harg5 arg6 harg6 arg7 harg7 arg8 harg8 arg9 harg9 arg10 harg10 arg11 harg11 hc0 x0 x1 x2 x3 x4 x5
      = View.canon (sList (rowsLd arg2 harg2 x1) (tileLd arg3 harg3 x2) (rowLd arg5 harg5 x4) zeroL (ldA arg11) 64) :=
  (View.read_writes_junk_eq_canon _ _).trans (congrArg View.canon (sList_A c i arg1 harg1 arg2 harg2 arg3 harg3 arg4 harg4 arg5 harg5 arg6 harg6 arg7 harg7 arg8 harg8 arg9 harg9 arg10 harg10 arg11 harg11 x0 x1 x2 x3 x4 x5 hc0))

omit A in
theorem o_B (hc0 : ¬cond0_0 i) :
    out0_B_6 c i arg1 harg1 arg2 harg2 arg3 harg3 arg4 harg4 arg5 harg5 arg6 harg6 arg7 harg7 arg8 harg8 arg9 harg9 arg10 harg10 arg11 harg11 hc0 x0 x1 x2 x3 x4 x5 xs0
      = View.canon (oList (rowsLd arg1 harg1 x0) (rowsLd arg2 harg2 x1) (tileLd arg3 harg3 x2) (rowLd arg5 harg5 x4) [] (ldB arg11 harg11 xs0) 64) :=
  (View.read_writes_junk_eq_canon _ _).trans (congrArg View.canon (oList_B c i arg1 harg1 arg2 harg2 arg3 harg3 arg4 harg4 arg5 harg5 arg6 harg6 arg7 harg7 arg8 harg8 arg9 harg9 arg10 harg10 arg11 harg11 x0 x1 x2 x3 x4 x5 xs0 hc0))

omit A in
theorem b_B (hc0 : ¬cond0_0 i) :
    out0_B_7 c i arg1 harg1 arg2 harg2 arg3 harg3 arg4 harg4 arg5 harg5 arg6 harg6 arg7 harg7 arg8 harg8 arg9 harg9 arg10 harg10 arg11 harg11 hc0 x0 x1 x2 x3 x4 x5 xs0
      = View.canon (bList (rowsLd arg1 harg1 x0) (rowsLd arg2 harg2 x1) (tileLd arg3 harg3 x2) (tileLd arg4 harg4 x3) (rowLd arg5 harg5 x4) (gnLd arg6 harg6 x5) [] (ldB arg11 harg11 xs0) 64) :=
  (View.read_writes_junk_eq_canon _ _).trans (congrArg View.canon (bList_B c i arg1 harg1 arg2 harg2 arg3 harg3 arg4 harg4 arg5 harg5 arg6 harg6 arg7 harg7 arg8 harg8 arg9 harg9 arg10 harg10 arg11 harg11 x0 x1 x2 x3 x4 x5 xs0 hc0))

omit A in
theorem s_B (hc0 : ¬cond0_0 i) :
    sout0_B_0 c i arg1 harg1 arg2 harg2 arg3 harg3 arg4 harg4 arg5 harg5 arg6 harg6 arg7 harg7 arg8 harg8 arg9 harg9 arg10 harg10 arg11 harg11 hc0 x0 x1 x2 x3 x4 x5 xs0
      = View.canon (sList (rowsLd arg2 harg2 x1) (tileLd arg3 harg3 x2) (rowLd arg5 harg5 x4) [] (ldB arg11 harg11 xs0) 64) :=
  (View.read_writes_junk_eq_canon _ _).trans (congrArg View.canon (sList_B c i arg1 harg1 arg2 harg2 arg3 harg3 arg4 harg4 arg5 harg5 arg6 harg6 arg7 harg7 arg8 harg8 arg9 harg9 arg10 harg10 arg11 harg11 x0 x1 x2 x3 x4 x5 xs0 hc0))

end

/-- The three contents that a point leaves. -/
structure Leaves (t : ℕ) (o : Vec Ideal S512x1024 .f32) (b : Vec Ideal S512x1024 .bf16) (s : Vec Ideal S8x128x128 .f32) (zr : Fin 2048 → Fin 7168 → ℝ)
    (lbr : Fin 1024 → ℝ) (gnr : Fin 128 → ℝ) : Prop where
  o : ∀ (r : Fin 512) (l : Fin 1024), o (ix2 r l) = (HgrnMath.o zr lbr (8 * t + r.val / 64) (l.val / 128)
    (⟨r.val % 64, Nat.mod_lt _ (by decide)⟩ : Fin 64) (⟨l.val % 128, Nat.mod_lt _ (by decide)⟩ : Fin 128) : EReal)
  b : ∀ (r : Fin 512) (l : Fin 1024), b (ix2 r l) = (HgrnMath.b zr lbr gnr (8 * t + r.val / 64) (l.val / 128)
    (⟨r.val % 64, Nat.mod_lt _ (by decide)⟩ : Fin 64) (⟨l.val % 128, Nat.mod_lt _ (by decide)⟩ : Fin 128) : EReal)
  s : ∀ (h : Fin 8) (d j : Fin 128), s (ix3 h j d) = (st zr lbr h.val (8 * (t + 1)) d j : EReal)

omit A in
/-- The lists of stores leave them, from the states before the point. -/
theorem leaves {t : ℕ} {q f : ℕ → Vec Ideal S64x1024 .f32} {v g : ℕ → ℕ → Vec Ideal S64x128 .f32} {lb : Vec Ideal S1x1024 .f32}
    {gn : Vec Ideal S1x128 .f32} (H : Holds zr lbr gnr t q f v g lb gn) {x : Vec Ideal S8x128x128 .f32} {full : Prop}
    {L0 : List (View.Piece (Elt Ideal) S8x128x128 .f32)} {ld : ℕ → List (View.Piece (Elt Ideal) S8x128x128 .f32) → Vec Ideal S1x128x128 .f32}
    (hld : Loads f v lb x full ld) (h0 : full → ∀ (h : Fin 8) (a b : Fin 128), View.canon L0 (ix3 h a b) = x (ix3 h a b))
    (hx : ∀ (h : Fin 8) (d j : Fin 128), x (ix3 h j d) = (st zr lbr h.val (8 * t) d j : EReal)) :
    Leaves t (View.canon (oList q f v lb L0 ld 64)) (View.canon (bList q f v g lb gn L0 ld 64)) (View.canon (sList f v lb L0 ld 64)) zr lbr gnr where
  o r l := by
    rw [canon_oList q hld h0 r l 64 le_rfl (by omega)]
    exact H.out_step (l.val / 128) (by omega) (by omega) (H.states (l.val / 128) (by omega) hx (r.val / 64) (by omega)) _ _
  b r l := by
    rw [canon_bList q g gn hld h0 r l 64 le_rfl (by omega)]
    exact H.gated_step (l.val / 128) (by omega) (by omega) (H.states (l.val / 128) (by omega) hx (r.val / 64) (by omega)) _ _
  s h d j := by
    rw [canon_state_end hld h0]
    exact H.states h.val h.isLt hx 8 le_rfl d j

/-- The first point's. -/
theorem leaves_first (t : Fin cfg0.N) (ht : t.val % 4 = 0) (hz : t.val = 0) :
    Leaves t.val (outsAt0 m c t.val t.isLt).1 (outsAt0 m c t.val t.isLt).2.1 (outsAt0 m c t.val t.isLt).2.2.2.2 zr lbr gnr := by
  rw [outsAt0_A m c t ht]
  dsimp only
  rw [o_A, b_A, s_A]
  refine leaves (holds A t _ _ _ _ _ _ _ _ _ _ _ _) (loads_A scM0_0 k0_pay1) (fun _ h a b => ?_) (fun h d j => ?_)
  · have e : (Rect.unit (s := S8x128x128) ![0, 0, 0] S8x128x128.size inb_S8x128x128_S8x128x128_0_0_0).emb (ix3 h a b) = ix3 h a b := by
      funext i
      fin_cases i
      · exact Fin.ext (by show 0 + 1 * h.val = h.val; omega)
      · exact Fin.ext (by show 0 + 1 * a.val = a.val; omega)
      · exact Fin.ext (by show 0 + 1 * b.val = b.val; omega)
    exact (congrArg (View.canon _) e.symm).trans (View.canon_cons_emb _ _ _ _)
  · rw [hz]
    pointwise [k0_pay1]
    rfl

/-- A later point's, from the one before. -/
theorem leaves_next (t : Fin cfg0.N) (ht : ¬ t.val % 4 = 0)
    (ih : ∀ (h : Fin 8) (d j : Fin 128), (outsAt0 m c (t.val - 1) (Nat.lt_of_le_of_lt (Nat.sub_le _ _) t.isLt)).2.2.2.2 (ix3 h j d)
      = (st zr lbr h.val (8 * t.val) d j : EReal)) :
    Leaves t.val (outsAt0 m c t.val t.isLt).1 (outsAt0 m c t.val t.isLt).2.1 (outsAt0 m c t.val t.isLt).2.2.2.2 zr lbr gnr := by
  rw [outsAt0_B m c t ht]
  dsimp only
  rw [o_B, b_B, s_B]
  exact leaves (holds A t _ _ _ _ _ _ _ _ _ _ _ _) (loads_B scM0_0 (Memref.isWhole_whole _) _) (fun hf => hf.elim) ih

/-- Every point's. -/
theorem leaves_all : ∀ (n : ℕ) (hn : n < cfg0.N),
    Leaves n (outsAt0 m c n hn).1 (outsAt0 m c n hn).2.1 (outsAt0 m c n hn).2.2.2.2 zr lbr gnr
  | 0, hn => leaves_first A ⟨0, hn⟩ rfl rfl
  | n + 1, hn => leaves_next A ⟨n + 1, hn⟩ (by have : n + 1 < 4 := hn; show ¬ (n + 1) % 4 = 0; omega)
      (leaves_all n (Nat.lt_of_succ_lt hn)).s

/-! ## The arrays after the run -/

omit A in
/-- The two arrays of results, at a row and a column. -/
def oG (zr : Fin 2048 → Fin 7168 → ℝ) (lbr : Fin 1024 → ℝ) (r : Fin 2048) (l : Fin 1024) : EReal :=
  (HgrnMath.o zr lbr (r.val / 64) (l.val / 128) (⟨r.val % 64, Nat.mod_lt _ (by decide)⟩ : Fin 64) (⟨l.val % 128, Nat.mod_lt _ (by decide)⟩ : Fin 128) : EReal)

def bG (zr : Fin 2048 → Fin 7168 → ℝ) (lbr : Fin 1024 → ℝ) (gnr : Fin 128 → ℝ) (r : Fin 2048) (l : Fin 1024) : EReal :=
  (HgrnMath.b zr lbr gnr (r.val / 64) (l.val / 128) (⟨r.val % 64, Nat.mod_lt _ (by decide)⟩ : Fin 64) (⟨l.val % 128, Nat.mod_lt _ (by decide)⟩ : Fin 128) : EReal)

omit A in
/-- A point's row in the array. -/
theorem split_row (t r : ℕ) (hr : r < 512) : (512 * t + r) / 64 = 8 * t + r / 64 ∧ (512 * t + r) % 64 = r % 64 := ⟨by omega, by omega⟩

omit A in
theorem oG_row (t : ℕ) (r : Fin 512) (h : 512 * t + r.val < 2048) (l : Fin 1024) : oG zr lbr ⟨512 * t + r.val, h⟩ l
    = (HgrnMath.o zr lbr (8 * t + r.val / 64) (l.val / 128)
      (⟨r.val % 64, Nat.mod_lt _ (by decide)⟩ : Fin 64) (⟨l.val % 128, Nat.mod_lt _ (by decide)⟩ : Fin 128) : EReal) := by
  simp only [oG, split_row t r.val r.isLt]

omit A in
theorem bG_row (t : ℕ) (r : Fin 512) (h : 512 * t + r.val < 2048) (l : Fin 1024) : bG zr lbr gnr ⟨512 * t + r.val, h⟩ l
    = (HgrnMath.b zr lbr gnr (8 * t + r.val / 64) (l.val / 128)
      (⟨r.val % 64, Nat.mod_lt _ (by decide)⟩ : Fin 64) (⟨l.val % 128, Nat.mod_lt _ (by decide)⟩ : Fin 128) : EReal) := by
  simp only [bG, split_row t r.val r.isLt]

theorem o_array (r : Fin 2048) (l : Fin 1024) : (dats m 0 c).arrAt 6 cfg0.N (ix2 r l) = oG zr lbr r l := by
  refine congrFun ((dats m 0 c).arrAt_eq_of_covers 6 (fun i => oG zr lbr (i 0) (i 1)) (by decide +kernel) fun t _ y => ?_) (ix2 r l)
  blk_simp
  rw [after0_6]
  obtain ⟨r, l, rfl⟩ : ∃ (r : Fin 512) (l : Fin 1024), y = ix2 r l := ⟨y 0, y 1, by idx_vars y⟩
  obtain ⟨t, ht⟩ := t
  change t < 4 at ht
  have he : (win0_6.blk ⟨t, ht⟩).view.emb (ix2 r l) = ix2 (⟨512 * t + r.val, by omega⟩ : Fin 2048) l := by blk_ext [idx_val ⟨t, ht⟩]
  refine ((leaves_all A t ht).o r l).trans ((oG_row t r (by omega) l).symm.trans ?_)
  rw [he]; rfl

theorem b_array (r : Fin 2048) (l : Fin 1024) : (dats m 0 c).arrAt 7 cfg0.N (ix2 r l) = bG zr lbr gnr r l := by
  refine congrFun ((dats m 0 c).arrAt_eq_of_covers 7 (fun i => bG zr lbr gnr (i 0) (i 1)) (by decide +kernel) fun t _ y => ?_) (ix2 r l)
  blk_simp
  rw [after0_7]
  obtain ⟨r, l, rfl⟩ : ∃ (r : Fin 512) (l : Fin 1024), y = ix2 r l := ⟨y 0, y 1, by idx_vars y⟩
  obtain ⟨t, ht⟩ := t
  change t < 4 at ht
  have he : (win0_7.blk ⟨t, ht⟩).view.emb (ix2 r l) = ix2 (⟨512 * t + r.val, by omega⟩ : Fin 2048) l := by blk_ext [idx_val ⟨t, ht⟩]
  refine ((leaves_all A t ht).b r l).trans ((bG_row t r (by omega) l).symm.trans ?_)
  rw [he]; rfl

end Cert.HgrnFwdIdeal.Hand

end
-- ==== Proof.HgrnPre.lean ====
/- The precondition of the recurrence's claims, read: real numbers, lower bounds between zero and one, and forget gates of at
   least 1/128. -/
module

public import proofs.«01_k».proof.Defs
public import proofs.«01_k».proof.Proof.HgrnMath
public import Idealize.ShloMosaic.Lib.Pointwise

@[expose] public section

set_option maxRecDepth 16384

noncomputable section

open Idealize.ShloMosaic

namespace Cert.Pre_hgrn_finite

theorem facts : Facts where
  bcast_S_S1x1024 := by decide
  slices_S2048x7168_S2048x1024_0_2048 := by decide
  bcast_S_S2048x1024 := by decide
  bcast_S1x1024_S2048x1024_0_1 := by decide
  bcast_S_S2048x7168 := by decide
  reducesTo_S2048x7168_S_d0_1 := by decide
  h_S_ := by decide
  bcast_S_S1x128 := by decide
  reducesTo_S1x128_S_d0_1 := by decide
  reducesTo_S1x1024_S_d0_1 := by decide
  reducesTo_S2048x1024_S_d0_1 := by decide

/-- The pattern of 1/128. -/
theorem bits_low : Ideal.ofBits .f32 0x3C000000#32 = ((1 / 128 : ℝ) : EReal) := by
  simp [Ideal.ofBits, Ideal.ieee, ← EReal.coe_mul]
  norm_num

/-- A number between zero and one is real. -/
theorem unit_real {x : EReal} (h0 : 0 ≤ x) (h1 : x ≤ 1) : ∃ r : ℝ, x = (r : EReal) ∧ r ≤ 1 := by
  induction x with
  | bot => simp at h0
  | coe r => exact ⟨r, rfl, by rwa [← EReal.coe_one, EReal.coe_le_coe_iff] at h1⟩
  | top => exact absurd h1 (by rw [← EReal.coe_one]; exact not_le.2 (EReal.coe_lt_top 1))

/-- A bound's bit is one where the bound holds. -/
theorem of_bit {p : Prop} [Decidable p] (h : BitVec.ofBool (decide p) = 1#1) : p := of_decide_eq_true ((WordCmp.ofBool_eq_one_iff _).1 h)

theorem reals [Facts] {z : FVec Ideal S2048x7168 .f32} {lb : FVec Ideal S1x1024 .f32} {gn : FVec Ideal S1x128 .f32}
    (h : fn (F := Ideal) z lb gn = fun _ => 1#1) :
    ∃ (zr : Fin 2048 → Fin 7168 → ℝ) (lbr : Fin 1024 → ℝ) (gnr : Fin 128 → ℝ), (∀ r l, z (ix2 r l) = (zr r l : EReal))
      ∧ (∀ l, lb (ix2 (0 : Fin 1) l) = (lbr l : EReal)) ∧ (∀ d, gn (ix2 (0 : Fin 1) d) = (gnr d : EReal)) ∧ (∀ l, lbr l ≤ 1)
      ∧ ∀ (n h : ℕ) t d, 1 / 128 ≤ HgrnMath.fv zr lbr n h t d := by
  have h0 := congrFun h ix0
  simp only [fn, fn_part1, andi, Reals.and_bits] at h0
  obtain ⟨⟨⟨⟨h1, h2⟩, h3⟩, h4⟩, h5⟩ := h0
  obtain ⟨zr, hz⟩ := Reals.real_of_all _ _ _ _ _ _ h1
  obtain ⟨gnr, hgn⟩ := Reals.real_of_all _ _ _ _ _ _ h2
  have hl : ∀ l : Fin 1024, ∃ r : ℝ, lb (ix2 (0 : Fin 1) l) = (r : EReal) ∧ r ≤ 1 := fun l => by
    have h3 := Host.reduce_andi_all _ _ _ _ _ h3 (ix2 (0 : Fin 1) l)
    have h4 := Host.reduce_andi_all _ _ _ _ _ h4 (ix2 (0 : Fin 1) l)
    pointwise at h3 h4
    exact unit_real (of_bit h3) (of_bit h4)
  choose lbr hlb hone using hl
  refine ⟨fun r l => zr (ix2 r l), lbr, fun d => gnr (ix2 (0 : Fin 1) d), fun r l => hz _, hlb, fun d => hgn _, hone, fun n h t d => ?_⟩
  have h5 := Host.reduce_andi_all _ _ _ _ _ h5 (ix2 (HgrnMath.row n t) (HgrnMath.col h d))
  pointwise [bits_low] at h5
  have h6 := of_bit h5
  have hb : (⟨2048 + (HgrnMath.col h d).val, by omega⟩ : Fin 7168) = HgrnMath.band 2 h d := rfl
  rw [hlb, hb, hz, ← zero_sub, HgrnMath.sig_coe, HgrnMath.gate_coe] at h6
  exact EReal.coe_le_coe_iff.1 h6

end Cert.Pre_hgrn_finite

end
-- ==== Proof.HgrnCumsum.lean ====
/- The running sum over a chunk's rows, which the reference writes as a window sum over a padded operand. -/
module

public import proofs.«01_k».proof.Proof.Gen.HgrnRefIdeal
public import Idealize.ShloMosaic.Lib.Pointwise

@[expose] public section

noncomputable section

namespace Cert.HgrnRefIdeal.Chunks

open Idealize.ShloMosaic Idealize.ShloMosaic.TcCoe Cert.HgrnRefIdeal Cert.HgrnRefIdeal.Gen

/-- A fold of additions is the start plus the sum. -/
theorem foldl_add {n : ℕ} (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, Fin.sum_univ_def]

/-- The window's positions, one for each row. -/
def winEquiv : (⟨4, ![1, 1, 64, 1]⟩ : Shape).Idx ≃ Fin 64 where
  toFun p := p 2
  invFun w := ix4 (0 : Fin 1) (0 : Fin 1) w (0 : Fin 1)
  left_inv p := by
    funext a
    fin_cases a
    · exact Subsingleton.elim (α := Fin 1) _ _
    · exact Subsingleton.elim (α := Fin 1) _ _
    · rfl
    · exact Subsingleton.elim (α := Fin 1) _ _
  right_inv _ := rfl

/-- The window's sum over the padded rows is the sum of the rows up to the window's. -/
theorem window_sum (f : Fin 64 → EReal) (t : Fin 64) :
    (∑ w : Fin 64, if h : 63 ≤ t.val + w.val ∧ t.val + w.val - 63 < 64 then f ⟨t.val + w.val - 63, h.2⟩ else 0) = ∑ s, if s ≤ t then f s else 0 := by
  have ht := t.isLt
  have e : ∀ w : Fin 64, (if h : 63 ≤ t.val + w.val ∧ t.val + w.val - 63 < 64 then f ⟨t.val + w.val - 63, h.2⟩ else 0)
      = if 63 ≤ t.val + w.val then f ⟨(t.val + w.val - 63) % 64, Nat.mod_lt _ (by decide)⟩ else 0 := fun w => by
    have hw := w.isLt
    by_cases h : 63 ≤ t.val + w.val
    · rw [dif_pos ⟨h, by omega⟩, if_pos h]
      congr 1
      exact Fin.ext (by show t.val + w.val - 63 = (t.val + w.val - 63) % 64; omega)
    · rw [dif_neg (fun q => h q.1), if_neg h]
  rw [Finset.sum_congr rfl fun w _ => e w, ← Finset.sum_filter, ← Finset.sum_filter]
  refine Finset.sum_bij' (fun w _ => ⟨(t.val + w.val - 63) % 64, Nat.mod_lt _ (by decide)⟩) (fun s _ => ⟨(s.val + 63 - t.val) % 64, Nat.mod_lt _ (by decide)⟩)
    ?_ ?_ ?_ ?_ fun _ _ => rfl
  · intro w hw
    have hw' := (Finset.mem_filter.1 hw).2
    have := w.isLt
    refine Finset.mem_filter.2 ⟨Finset.mem_univ _, ?_⟩
    show (t.val + w.val - 63) % 64 ≤ t.val
    omega
  · intro s hs
    have hs' : s.val ≤ t.val := (Finset.mem_filter.1 hs).2
    refine Finset.mem_filter.2 ⟨Finset.mem_univ _, ?_⟩
    show 63 ≤ t.val + (s.val + 63 - t.val) % 64
    omega
  · intro w hw
    have hw' := (Finset.mem_filter.1 hw).2
    have := w.isLt
    refine Fin.ext ?_
    show ((t.val + w.val - 63) % 64 + 63 - t.val) % 64 = w.val
    omega
  · intro s hs
    have hs' : s.val ≤ t.val := (Finset.mem_filter.1 hs).2
    refine Fin.ext ?_
    show (t.val + (s.val + 63 - t.val) % 64 - 63) % 64 = s.val
    omega

/-- The reference's running sum at an index. -/
theorem cumsum_at (x : FVec Ideal S1x8x64x128 .f32) (init : FVec Ideal S_ .f32) (hi : init ix0 = 0) (h : Fin 8) (t : Fin 64) (d : Fin 128) :
    Host.reduceWindowAdd (F := Ideal) ![1, 1, 64, 1] ![1, 1, 1, 1] ![0, 0, 63, 0] ![0, 0, 0, 0] x init
        reduceWindows_S1x8x64x128_S1x8x64x128_w1s1p0_0_w1s1p0_0_w64s1p63_0_w1s1p0_0 h_S_ (ix4 (0 : Fin 1) h t d)
      = ∑ s : Fin 64, if s ≤ t then x (ix4 (0 : Fin 1) h s d) else 0 := by
  have hv : init (Shape.Idx.first h_S_) = 0 := (congrArg init (funext fun a => a.elim0)).trans hi
  have hh := h.isLt
  have hd := d.isLt
  show Host.reduceWindow (· + ·) ![1, 1, 64, 1] ![1, 1, 1, 1] ![0, 0, 63, 0] ![0, 0, 0, 0] x
    (fun _ : (⟨0, ![]⟩ : Shape).Idx => init (Shape.Idx.first h_S_)) reduceWindows_S1x8x64x128_S1x8x64x128_w1s1p0_0_w1s1p0_0_w64s1p63_0_w1s1p0_0 h_S_ (ix4 (0 : Fin 1) h t d) = _
  unfold Host.reduceWindow
  dsimp only
  rw [hv, foldl_add, zero_add]
  rw [← window_sum (fun s => x (ix4 (0 : Fin 1) h s d)) t, ← Equiv.sum_comp winEquiv,
    ← Equiv.sum_comp ((⟨4, ![1, 1, 64, 1]⟩ : Shape).rowMajor.symm)]
  refine Finset.sum_congr rfl fun n _ => ?_
  let p := (⟨4, ![1, 1, 64, 1]⟩ : Shape).rowMajor.symm n
  have h0 : (p 0).val = 0 := Nat.lt_one_iff.1 (p 0).isLt
  have h1 : (p 1).val = 0 := Nat.lt_one_iff.1 (p 1).isLt
  have h3 : (p 3).val = 0 := Nat.lt_one_iff.1 (p 3).isLt
  have hw : (winEquiv ((⟨4, ![1, 1, 64, 1]⟩ : Shape).rowMajor.symm n)).val = (p 2).val := rfl
  by_cases hc : 63 ≤ t.val + (winEquiv ((⟨4, ![1, 1, 64, 1]⟩ : Shape).rowMajor.symm n)).val
      ∧ t.val + (winEquiv ((⟨4, ![1, 1, 64, 1]⟩ : Shape).rowMajor.symm n)).val - 63 < 64
  · rw [dif_pos (by
      intro a
      fin_cases a
      · show 0 ≤ 0 * 1 + (p 0).val ∧ 0 * 1 + (p 0).val - 0 < 1; omega
      · show 0 ≤ h.val * 1 + (p 1).val ∧ h.val * 1 + (p 1).val - 0 < 8; omega
      · show 63 ≤ t.val * 1 + (p 2).val ∧ t.val * 1 + (p 2).val - 63 < 64; omega
      · show 0 ≤ d.val * 1 + (p 3).val ∧ d.val * 1 + (p 3).val - 0 < 128; omega)]
    rw [dif_pos hc]
    refine congrArg x ?_
    funext a
    fin_cases a
    · exact Fin.ext (by show 0 * 1 + (p 0).val - 0 = 0; omega)
    · exact Fin.ext (by show h.val * 1 + (p 1).val - 0 = h.val; omega)
    · exact Fin.ext (by show t.val * 1 + (p 2).val - 63 = t.val + (p 2).val - 63; omega)
    · exact Fin.ext (by show d.val * 1 + (p 3).val - 0 = d.val; omega)
  · rw [dif_neg (fun q => hc (by
      have q2 : 63 ≤ t.val * 1 + (p 2).val ∧ t.val * 1 + (p 2).val - 63 < 64 := q 2
      omega))]
    rw [dif_neg hc]

end Cert.HgrnRefIdeal.Chunks

end
-- ==== Proof.HgrnRefRead.lean ====
/- One chunk of the reference read at an index: on arrays of real numbers it is the recurrence of `HgrnMath`. -/
module

public import proofs.«01_k».proof.Proof.HgrnCumsum
public import proofs.«01_k».proof.Proof.Gen.HgrnRefIdeal.Step
public import proofs.«01_k».proof.Proof.HgrnMath
public import Idealize.ShloMosaic.Lib.Pointwise

@[expose] public section

set_option maxRecDepth 16384

noncomputable section

namespace Cert.HgrnRefIdeal.Chunks

open Idealize.ShloMosaic Idealize.ShloMosaic.TcCoe Cert.HgrnRefIdeal Cert.HgrnRefIdeal.Gen Cert.HgrnRefIdeal.Step Cert.Reals Cert.HgrnMath

/-! ## Where the chunks lie -/

theorem start_first (j : ℕ) (hj : j < 32) (o : Fin 5 → ℤ) (h0 : o 0 = (BitVec.ofNat 32 j).toInt) (ht : (5 : ℕ) = 5) :
    Host.clampedStart S32x1x8x64x128 S1x1x8x64x128 ht o 0 = j := by
  refine Host.clampedStart_of_le (s := S32x1x8x64x128) (t := S1x1x8x64x128) ht o 0 j (h0.trans ?_) (by show j + 1 ≤ 32; omega)
  rw [BitVec.toInt_eq_toNat_of_lt] <;> simp <;> omega

theorem start_rest (o : Fin 5 → ℤ) (ht : (5 : ℕ) = 5) (a : Fin 5) (h0 : o a = 0) : Host.clampedStart S32x1x8x64x128 S1x1x8x64x128 ht o a = 0 := by
  unfold Host.clampedStart
  rw [h0]
  simp

/-- A chunk's slice of an array of chunks. -/
theorem chunk_at (x : FVec Ideal S32x1x8x64x128 .f32) (j : ℕ) (hj : j < 32) (o : Fin 5 → ℤ) (h0 : o 0 = (BitVec.ofNat 32 j).toInt)
    (h1 : ∀ a, a ≠ 0 → o a = 0) (h : Fin 8) (t : Fin 64) (d : Fin 128) :
    shapeCast S1x8x64x128 (Host.dynamicSlice S1x1x8x64x128 x o sliceFits_S32x1x8x64x128_S1x1x8x64x128) shapeCasts_S1x1x8x64x128_S1x8x64x128
      (ix4 (0 : Fin 1) h t d) = x (ix5 (⟨j, hj⟩ : Fin 32) (0 : Fin 1) h t d) := by
  pointwise
  refine congrArg x ?_
  have e0 := start_first j hj o h0 rfl
  have e1 := start_rest o rfl 1 (h1 1 (by decide))
  have e2 := start_rest o rfl 2 (h1 2 (by decide))
  have e3 := start_rest o rfl 3 (h1 3 (by decide))
  have e4 := start_rest o rfl 4 (h1 4 (by decide))
  funext a
  fin_cases a
  · exact Fin.ext e0
  · exact Fin.ext e1
  · exact Fin.ext ((congrArg (· + h.val) e2).trans (Nat.zero_add _))
  · exact Fin.ext ((congrArg (· + t.val) e3).trans (Nat.zero_add _))
  · exact Fin.ext ((congrArg (· + d.val) e4).trans (Nat.zero_add _))

/-- A chunk written into an array of chunks. -/
theorem update_at (x : FVec Ideal S32x1x8x64x128 .f32) (y : FVec Ideal S1x1x8x64x128 .f32) (j : ℕ) (hj : j < 32) (o : Fin 5 → ℤ)
    (h0 : o 0 = (BitVec.ofNat 32 j).toInt) (h1 : ∀ a, a ≠ 0 → o a = 0) (n : Fin 32) (h : Fin 8) (t : Fin 64) (d : Fin 128) :
    Host.dynamicUpdateSlice x y o updateFits_S32x1x8x64x128_S1x1x8x64x128 (ix5 n (0 : Fin 1) h t d)
      = if n.val = j then y (ix5 (0 : Fin 1) (0 : Fin 1) h t d) else x (ix5 n (0 : Fin 1) h t d) := by
  have e0 := start_first j hj o h0 rfl
  have e1 := start_rest o rfl 1 (h1 1 (by decide))
  have e2 := start_rest o rfl 2 (h1 2 (by decide))
  have e3 := start_rest o rfl 3 (h1 3 (by decide))
  have e4 := start_rest o rfl 4 (h1 4 (by decide))
  have hh := h.isLt
  have hl := t.isLt
  have hd := d.isLt
  have lt0 : ∀ {x c : ℕ}, c = j → x = j → x < c + 1 := by omega
  have lt1 : ∀ {x c n : ℕ}, c = 0 → x < n → x < c + n := by omega
  rw [Host.dynamicUpdateSlice_apply]
  by_cases hn : n.val = j
  · rw [dif_pos (by
      intro a
      fin_cases a
      · exact ⟨e0.trans_le hn.ge, lt0 e0 hn⟩
      · exact ⟨e1.trans_le (Nat.zero_le _), lt1 e1 Nat.zero_lt_one⟩
      · exact ⟨e2.trans_le (Nat.zero_le _), lt1 e2 hh⟩
      · exact ⟨e3.trans_le (Nat.zero_le _), lt1 e3 hl⟩
      · exact ⟨e4.trans_le (Nat.zero_le _), lt1 e4 hd⟩), if_pos hn]
    refine congrArg y ?_
    funext b
    fin_cases b
    · exact Subsingleton.elim (α := Fin 1) _ _
    · exact Subsingleton.elim (α := Fin 1) _ _
    · exact Fin.ext ((congrArg (h.val - ·) e2).trans (Nat.sub_zero _))
    · exact Fin.ext ((congrArg (t.val - ·) e3).trans (Nat.sub_zero _))
    · exact Fin.ext ((congrArg (d.val - ·) e4).trans (Nat.sub_zero _))
  · have ne : ∀ {c : ℕ}, c = j → c ≤ n.val ∧ n.val < c + 1 → False := by omega
    rw [dif_neg (fun q => ne e0 (q 0)), if_neg hn]

/-! ## The arrays of chunks -/

section
variable {z : FVec Ideal S2048x7168 .f32} {lb : FVec Ideal S1x1024 .f32} {zr : Fin 2048 → Fin 7168 → ℝ} {lbr : Fin 1024 → ℝ}
  (hz : ∀ r c, z (ix2 r c) = (zr r c : EReal)) (hlb : ∀ c, lb (ix2 (0 : Fin 1) c) = (lbr c : EReal))
  (hlow : ∀ (n h : ℕ) t d, 1 / 128 ≤ fv zr lbr n h t d)

include hz in
theorem z_at {r r' : Fin 2048} {c c' : Fin 7168} (h1 : r.val = r'.val) (h2 : c.val = c'.val) : z (ix2 r c) = (zr r' c' : EReal) := by
  rw [hz, Fin.ext h1, Fin.ext h2]

include hlb in
theorem lb_at {c c' : Fin 1024} (h2 : c.val = c'.val) : lb (ix2 (0 : Fin 1) c) = (lbr c' : EReal) := by
  rw [hlb, Fin.ext h2]

theorem sig_neg (x : ℝ) : Ideal.div 1 (1 + Ideal.exp (-(x : EReal))) = (HgrnMath.sig x : EReal) := by
  rw [← sig_coe, zero_sub]

variable (n : Fin 32) (h : Fin 8) (t : Fin 64) (d : Fin 128)

include hz in
theorem q_at : A_main_v30 (F := Ideal) z lb (ix5 n (0 : Fin 1) h t d) = (qv zr n h t d : EReal) := by
  have hn := n.isLt
  have hh := h.isLt
  pointwise [A_main_v30, A_main_v29, A_main_v26, A_main_v25, A_main_v0, A_main_call0_v5, A_main_call0_v3, A_main_call0_v1, A_main_call0_v0,
    K_main_call0_v2, K_main_call0_v4, K_main_call0_cst, K_main_call0_cst_0]
  rw [z_at hz (r' := row n t) (c' := band 1 h d) ?_ ?_, sig_neg, ← EReal.coe_mul]
  · rfl
  · show n.val * 64 + t.val = 64 * (n.val % 32) + t.val; omega
  · show 1024 + (h.val * 128 + d.val) = 1024 * 1 + (128 * (h.val % 8) + d.val); omega

include hz in
theorem v_at : A_main_v34 (F := Ideal) z lb (ix5 n (0 : Fin 1) h t d) = (vv zr n h t d : EReal) := by
  have hn := n.isLt
  have hh := h.isLt
  pointwise [A_main_v34, A_main_v33, A_main_v27, A_main_v2]
  rw [z_at hz (r' := row n t) (c' := band 3 h d) ?_ ?_]
  · rfl
  · show n.val * 64 + t.val = 64 * (n.val % 32) + t.val; omega
  · show 3072 + (h.val * 128 + d.val) = 1024 * 3 + (128 * (h.val % 8) + d.val); omega

include hz hlb in
theorem k_at : A_main_v32 (F := Ideal) z lb (ix5 n (0 : Fin 1) h t d) = (kv zr lbr n h t d : EReal) := by
  have hn := n.isLt
  have hh := h.isLt
  pointwise [A_main_v32, A_main_v31, A_main_v24, A_main_v19, A_main_v18, A_main_v17, A_main_v16, A_main_v15, A_main_v14, A_main_v13, A_main_v11, A_main_v9, A_main_v8,
    A_main_v7, A_main_v5, A_main_v4, A_main_v3, A_main_v1, K_main_v6, K_main_v12, K_main_v10, K_main_v23, K_main_cst, K_main_cst_0, K_main_cst_1, K_main_cst_3]
  rw [z_at hz (r' := row n t) (c' := band 2 h d) ?_ ?_, lb_at hlb (c' := col h d) ?_, sig_neg, gate_coe, ← EReal.coe_one, ← EReal.coe_sub]
  · rfl
  · show h.val * 128 + d.val = 128 * (h.val % 8) + d.val; omega
  · show n.val * 64 + t.val = 64 * (n.val % 32) + t.val; omega
  · show 2048 + (h.val * 128 + d.val) = 1024 * 2 + (128 * (h.val % 8) + d.val); omega

include hz hlb hlow in
theorem g_at : A_main_v36 (F := Ideal) z lb (ix5 n (0 : Fin 1) h t d) = (gv zr lbr n h t d : EReal) := by
  have hn := n.isLt
  have hh := h.isLt
  pointwise [A_main_v36, A_main_v35, A_main_v22, A_main_v21, A_main_v19, A_main_v18, A_main_v17, A_main_v16, A_main_v15, A_main_v14, A_main_v13, A_main_v11, A_main_v9,
    A_main_v8, A_main_v7, A_main_v5, A_main_v4, A_main_v3, A_main_v1, K_main_v6, K_main_v12, K_main_v10, K_main_v20, K_main_cst, K_main_cst_0, K_main_cst_1, K_main_cst_2]
  rw [z_at hz (r' := row n t) (c' := band 2 h d) ?_ ?_, lb_at hlb (c' := col h d) ?_, sig_neg, gate_coe]
  · exact log_floor (hlow n h t d)
  · show h.val * 128 + d.val = 128 * (h.val % 8) + d.val; omega
  · show n.val * 64 + t.val = 64 * (n.val % 32) + t.val; omega
  · show 2048 + (h.val * 128 + d.val) = 1024 * 2 + (128 * (h.val % 8) + d.val); omega

end

end Cert.HgrnRefIdeal.Chunks

end
-- ==== Proof.HgrnRefRun.lean ====
/- The reference of the recurrence, run: its chunks one after another, each the step of the one before.  The buffers
   the loop carries hold a state at every trip, and the results are read off the last state. -/
module

public import proofs.«01_k».proof.Proof.Gen.HgrnRefIdeal.Run
public import proofs.«01_k».proof.Proof.Gen.HgrnRefIdeal.Step

@[expose] public section

noncomputable section

namespace Cert.HgrnRefIdeal.Chunks

open Idealize.ShloMosaic Idealize.ShloMosaic.TcCoe Idealize.SL.Sem Idealize.ShloMosaic.StableHlo
open Cert.HgrnRefIdeal Cert.HgrnRefIdeal.Gen Cert.HgrnRefIdeal.Value

variable {F : FTy → Type} [FloatOps F]

/-- The carried buffers hold the state `s` and the number `n` of the trip. -/
def Carries (V : Valuation τ sig (Elt F)) (s : Step.State F) (n : ℕ) : Prop :=
  (V (Proc.devRef .tc main_v38_0) = s.main_v38_0 ∧ V (Proc.devRef .tc main_v38_1) = s.main_v38_1
      ∧ V (Proc.devRef .tc main_v38_2) = s.main_v38_2 ∧ V (Proc.devRef .tc main_v38_3) = s.main_v38_3)
    ∧ V (Proc.devRef .tc main_v38_4) = constantI S_ 32 (BitVec.ofNat 32 n)
    ∧ V (Proc.devRef .tc main_v38_5) = s.main_v38_5 ∧ V (Proc.devRef .tc main_v38_6) = s.main_v38_6

set_option maxRecDepth 65536 in
/-- The new state of the recurrence. -/
theorem state_step {V : Valuation τ sig (Elt F)} {s : Step.State F} {n : ℕ} (h : Carries V s n) :
    step_main_v38_5 V = Step.b77 n s := by
  obtain ⟨⟨h0, h1, h2, h3⟩, h4, h5, -⟩ := h
  unfold step_main_v38_5 res_main_while0b_v90 res_main_while0b_v65 res_main_while0b_v62 res_main_while0b_v63
  rw [h1, h2, h3, h4, h5]
  rfl

set_option maxRecDepth 65536 in
/-- The new outputs. -/
theorem out_step {V : Valuation τ sig (Elt F)} {s : Step.State F} {n : ℕ} (h : Carries V s n) :
    step_main_v38_6 V = Step.b83 n s := by
  obtain ⟨⟨h0, h1, h2, h3⟩, h4, h5, h6⟩ := h
  unfold step_main_v38_6 res_main_while0b_v65 res_main_while0b_v61 res_main_while0b_v62 res_main_while0b_v63
  rw [h0, h1, h2, h3, h4, h5, h6]
  rfl

/-- The counter's new value. -/
theorem count_step {V : Valuation τ sig (Elt F)} {s : Step.State F} {n : ℕ} (h : Carries V s n) :
    step_main_v38_4 V = constantI S_ 32 (BitVec.ofNat 32 (n + 1)) := by
  unfold step_main_v38_4
  rw [h.2.1]
  funext i
  show BitVec.ofNat 32 n + 1#32 = BitVec.ofNat 32 (n + 1)
  rw [BitVec.ofNat_add]

/-- One trip carries the state to its step. -/
theorem carries_step {V : Valuation τ sig (Elt F)} {s : Step.State F} {n : ℕ} (h : Carries V s n) :
    Carries (STEP V) (Step.step n s) (n + 1) :=
  ⟨⟨(STEP_main_v38_0 V).trans h.1.1, (STEP_main_v38_1 V).trans h.1.2.1, (STEP_main_v38_2 V).trans h.1.2.2.1,
      (STEP_main_v38_3 V).trans h.1.2.2.2⟩,
    (STEP_main_v38_4 V).trans (count_step h), (STEP_main_v38_5 V).trans (state_step h),
    (STEP_main_v38_6 V).trans (out_step h)⟩

variable (m : (ℓ : Loc nD τ sig) → Buf (Elt F) ℓ) (ρ : Dev nD → PrngReg)

/-- The state before chunk `n`. -/
def at_ (z : (⟨S2048x7168, .f32⟩ : BufTy).Contents (Elt F)) (lb : (⟨S1x1024, .f32⟩ : BufTy).Contents (Elt F)) :
    ℕ → Step.State F
  | 0 => Step.init z lb
  | n + 1 => Step.step n (at_ z lb n)

/-- The state before chunk `n`, of the arguments in memory. -/
abbrev stateAt (c : Dev nD) : ℕ → Step.State F :=
  at_ (m ((c.tc : Thread nD τ).loc main_arg0)) (m ((c.tc : Thread nD τ).loc main_arg1))

set_option maxRecDepth 65536 in
set_option maxHeartbeats 400000 in
/-- Before the first chunk the buffers carry the first state. -/
theorem carries_zero (c : Dev nD) : Carries (entryContents preI m c) (stateAt m c 0) 0 := by
  refine ⟨⟨?_, ?_, ?_, ?_⟩, ?_, ?_, ?_⟩ <;>
    (simp only [entryContents, afterL_cons, afterL_nil]; after_reads_simp) <;> rfl

/-- Before every chunk they carry the state reached so far. -/
theorem carries (c : Dev nD) (n : ℕ) : Carries (STEP^[n] (entryContents preI m c)) (stateAt m c n) n := by
  induction n with
  | zero => exact carries_zero m c
  | succ n ih => rw [Function.iterate_succ_apply']; exact carries_step ih

set_option maxRecDepth 65536 in
/-- The reference runs: its results are read off the state after the last chunk, and its arguments stay. -/
theorem run :
    θ_run (defs (F := F)) (onTc (τ := τ) (main (F := F))) ⟨m, fun _ => 0, ρ⟩ fun r => ∀ c : Dev nD,
      r.2.mem ((c.tc : Thread nD τ).loc main_v42) = Step.R_main_v42 (stateAt m c 32)
      ∧ r.2.mem ((c.tc : Thread nD τ).loc main_v60) = Step.R_main_v60 (stateAt m c 32)
          (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨ho, hb, ha⟩ := h c
    have h6 := (carries m c 32).2.2.2
    refine ⟨ho.trans ?_, hb.trans ?_, ha⟩
    · unfold out_main_v42 Step.R_main_v42
      rw [h6]; rfl
    · unfold out_main_v60 Step.R_main_v60
      rw [h6, iter_main_arg0 m c 32, iter_main_arg2 m c 32]; rfl) (Value.run m ρ)

end Cert.HgrnRefIdeal.Chunks

end
-- ==== Proof.HgrnRefChunk.lean ====
/- The reference's trips over the real numbers: before chunk `n` the carried state is the recurrence's, and the outputs of
   the chunks before it are written. -/
module

public import proofs.«01_k».proof.Proof.HgrnRefRead
public import proofs.«01_k».proof.Proof.HgrnRefRun

@[expose] public section

set_option maxRecDepth 16384

noncomputable section

namespace Cert.HgrnRefIdeal.Chunks

open Idealize.ShloMosaic Idealize.ShloMosaic.TcCoe Cert.HgrnRefIdeal Cert.HgrnRefIdeal.Gen Cert.HgrnRefIdeal.Step Cert.Reals Cert.HgrnMath

/-! ## One chunk -/

section
variable (j : ℕ) (hj : j < 32) (s : State Ideal) (h : Fin 8) (t u : Fin 64) (d : Fin 128)

theorem b5_at : b5 j s (ix4 (0 : Fin 1) h t d) = s.main_v38_0 (ix5 (⟨j, hj⟩ : Fin 32) (0 : Fin 1) h t d) :=
  chunk_at _ j hj _ rfl (fun a ha => by fin_cases a <;> first | exact absurd rfl ha | rfl) h t d

theorem b11_at : b11 j s (ix4 (0 : Fin 1) h t d) = s.main_v38_1 (ix5 (⟨j, hj⟩ : Fin 32) (0 : Fin 1) h t d) :=
  chunk_at _ j hj _ rfl (fun a ha => by fin_cases a <;> first | exact absurd rfl ha | rfl) h t d

theorem b17_at : b17 j s (ix4 (0 : Fin 1) h t d) = s.main_v38_2 (ix5 (⟨j, hj⟩ : Fin 32) (0 : Fin 1) h t d) :=
  chunk_at _ j hj _ rfl (fun a ha => by fin_cases a <;> first | exact absurd rfl ha | rfl) h t d

theorem b23_at : b23 j s (ix4 (0 : Fin 1) h t d) = s.main_v38_3 (ix5 (⟨j, hj⟩ : Fin 32) (0 : Fin 1) h t d) :=
  chunk_at _ j hj _ rfl (fun a ha => by fin_cases a <;> first | exact absurd rfl ha | rfl) h t d

include hj in
theorem b83_at (n : Fin 32) : b83 j s (ix5 n (0 : Fin 1) h t d)
    = if n.val = j then b78 j s (ix5 (0 : Fin 1) (0 : Fin 1) h t d) else s.main_v38_6 (ix5 n (0 : Fin 1) h t d) :=
  update_at _ _ j hj _ rfl (fun a ha => by fin_cases a <;> first | exact absurd rfl ha | rfl) n h t d

theorem b78_at : b78 j s (ix5 (0 : Fin 1) (0 : Fin 1) h t d) = b65 j s (ix4 (0 : Fin 1) h t d) := by
  pointwise [b78]

/-- The reference's causal mask. -/
theorem causal_at : ∀ t u : Fin 64, IntOp.cmpi .sge (IntOp.addi (BitVec.ofNat 32 t.val) 0#32) (BitVec.ofNat 32 u.val) = if u ≤ t then 1#1 else 0#1 := by
  decide +kernel

variable {j s}
variable {g q k v : Fin 64 → Fin 128 → ℝ} {S : Fin 128 → Fin 128 → ℝ}

theorem b26_at (hg : ∀ t d, b23 j s (ix4 (0 : Fin 1) h t d) = (g t d : EReal)) :
    b26 j s (ix4 (0 : Fin 1) h t d) = (cum g t d : EReal) := by
  have hi : b25 (F := Ideal) j s ix0 = 0 := by pointwise [b25, b24]
  refine (cumsum_at (b23 j s) (b25 j s) hi h t d).trans ?_
  rw [cum, ← sum_coe]
  refine Finset.sum_congr rfl fun x _ => ?_
  split
  · exact hg x d
  · exact EReal.coe_zero.symm

theorem b55_at (hc : ∀ t d, b26 j s (ix4 (0 : Fin 1) h t d) = (cum g t d : EReal)) (h0 : ∀ s d, g s d ≤ 0) :
    b55 j s (ix5 (0 : Fin 1) h t u d) = ((if u ≤ t then Real.exp (cum g t d - cum g u d) else 0 : ℝ) : EReal) := by
  pointwise [b55, b54, b53, b52, b51, b50, b49, b48, b47, b46, b45, b44, b43, b42, b41, b40, b39, b38, b37, b36, b35, b34, b33, b32, b31, b30]
  rw [causal_at, hc, hc]
  by_cases ht : u ≤ t
  · rw [if_pos ht, if_pos ht, ← EReal.coe_sub, min_eq_left, Ideal.exp_coe]
    · rfl
    · rw [← EReal.coe_zero, EReal.coe_le_coe_iff]; exact cum_anti h0 ht d
  · rw [if_neg ht, if_neg ht]; exact EReal.coe_zero.symm

theorem b63_at (hq : ∀ t d, b5 j s (ix4 (0 : Fin 1) h t d) = (q t d : EReal)) (hk : ∀ t d, b11 j s (ix4 (0 : Fin 1) h t d) = (k t d : EReal))
    (hc : ∀ t d, b26 j s (ix4 (0 : Fin 1) h t d) = (cum g t d : EReal)) (h0 : ∀ s d, g s d ≤ 0) :
    b63 j s (ix4 (0 : Fin 1) h t u) = (score g q k t u : EReal) := by
  pointwise [b63, b62, b61, b60, b59, b58, b57, b56]
  simp only [hq, hk, b55_at h t u _ hc h0, ← EReal.coe_mul, sum_coe]
  unfold score
  split
  · rfl
  · simp

theorem b65_at (hq : ∀ t d, b5 j s (ix4 (0 : Fin 1) h t d) = (q t d : EReal)) (hk : ∀ t d, b11 j s (ix4 (0 : Fin 1) h t d) = (k t d : EReal))
    (hv : ∀ t d, b17 j s (ix4 (0 : Fin 1) h t d) = (v t d : EReal))
    (hc : ∀ t d, b26 j s (ix4 (0 : Fin 1) h t d) = (cum g t d : EReal)) (hS : ∀ a b, s.main_v38_5 (ix4 (0 : Fin 1) h a b) = (S a b : EReal))
    (h0 : ∀ s d, g s d ≤ 0) : b65 j s (ix4 (0 : Fin 1) h t d) = (out g q k v S t d : EReal) := by
  pointwise [b65, b64, b29, b28, b27]
  simp only [hq, hc, hS, hv, b63_at h t _ hq hk hc h0, Ideal.exp_coe, ← EReal.coe_mul, sum_coe, ← EReal.coe_add]
  rfl

/-- The sum over all rows is the running sum at the last. -/
theorem cum_last (g : Fin 64 → Fin 128 → ℝ) (d : Fin 128) : cum g 63 d = tot g d :=
  Finset.sum_congr rfl fun x _ => if_pos (Fin.le_last x)

theorem b77_at (a b : Fin 128) (hk : ∀ t d, b11 j s (ix4 (0 : Fin 1) h t d) = (k t d : EReal))
    (hv : ∀ t d, b17 j s (ix4 (0 : Fin 1) h t d) = (v t d : EReal))
    (hc : ∀ t d, b26 j s (ix4 (0 : Fin 1) h t d) = (cum g t d : EReal)) (hS : ∀ a b, s.main_v38_5 (ix4 (0 : Fin 1) h a b) = (S a b : EReal)) :
    b77 j s (ix4 (0 : Fin 1) h a b) = (next g k v S a b : EReal) := by
  pointwise [b77, b76, b75, b74, b73, b72, b71, b70, b69, b68, b67, b66]
  simp only [hk, hc, hS, hv, cum_last, Ideal.exp_coe, ← EReal.coe_sub, ← EReal.coe_mul, sum_coe, ← EReal.coe_add]
  rfl

end

/-! ## All chunks -/

/-- The reference's second result of the outputs and the arguments. -/
theorem gated_at (s : State Ideal) (z : FVec Ideal S2048x7168 .f32) (gn : FVec Ideal S1x128 .f32) (r : Fin 2048) (l : Fin 1024) (x : Fin 128 → EReal)
    (hx : ∀ d, s.main_v38_6 (ix5 (⟨r.val / 64, by omega⟩ : Fin 32) (0 : Fin 1) (⟨l.val / 128, by omega⟩ : Fin 8)
      (⟨r.val % 64, Nat.mod_lt _ (by decide)⟩ : Fin 64) d) = x d) :
    R_main_v60 s z gn (ix2 r l)
      = x ⟨l.val % 128, Nat.mod_lt _ (by decide)⟩ * Ideal.rsqrt (Ideal.div (∑ d, x d * x d) (Ideal.ofBits .f32 0x43000000#32) + Ideal.ofBits .f32 0x358637BD#32)
          * gn (ix2 (0 : Fin 1) (⟨l.val % 128, Nat.mod_lt _ (by decide)⟩ : Fin 128))
        * (z (ix2 r (⟨4096 + l.val, by omega⟩ : Fin 7168)) * Ideal.div 1 (1 + Ideal.exp (-z (ix2 r (⟨4096 + l.val, by omega⟩ : Fin 7168))))) := by
  pointwise [R_main_v60]
  simp only [hx]

section
variable (zr : Fin 2048 → Fin 7168 → ℝ) (lbr : Fin 1024 → ℝ)

/-- The state before chunk `n` is the recurrence's, over the real numbers. -/
structure Holds (n : ℕ) (s : State Ideal) : Prop where
  hq : ∀ (m : Fin 32) (h : Fin 8) t d, s.main_v38_0 (ix5 m (0 : Fin 1) h t d) = (qv zr m h t d : EReal)
  hk : ∀ (m : Fin 32) (h : Fin 8) t d, s.main_v38_1 (ix5 m (0 : Fin 1) h t d) = (kv zr lbr m h t d : EReal)
  hv : ∀ (m : Fin 32) (h : Fin 8) t d, s.main_v38_2 (ix5 m (0 : Fin 1) h t d) = (vv zr m h t d : EReal)
  hg : ∀ (m : Fin 32) (h : Fin 8) t d, s.main_v38_3 (ix5 m (0 : Fin 1) h t d) = (gv zr lbr m h t d : EReal)
  hS : ∀ (h : Fin 8) a b, s.main_v38_5 (ix4 (0 : Fin 1) h a b) = (st zr lbr h n a b : EReal)
  ho : ∀ (m : Fin 32), m.val < n → ∀ (h : Fin 8) t d, s.main_v38_6 (ix5 m (0 : Fin 1) h t d) = (o zr lbr m h t d : EReal)

variable {zr lbr}

/-- One trip. -/
theorem Holds.step {n : ℕ} {s : State Ideal} (hn : n < 32) (h0 : ∀ (n h : ℕ) t d, gv zr lbr n h t d ≤ 0) (H : Holds zr lbr n s) :
    Holds zr lbr (n + 1) (Step.step n s) := by
  have hq := fun (h : Fin 8) t d => (b5_at n hn s h t d).trans (H.hq ⟨n, hn⟩ h t d)
  have hk := fun (h : Fin 8) t d => (b11_at n hn s h t d).trans (H.hk ⟨n, hn⟩ h t d)
  have hv := fun (h : Fin 8) t d => (b17_at n hn s h t d).trans (H.hv ⟨n, hn⟩ h t d)
  have hc := fun (h : Fin 8) t d => b26_at h t d fun t d => (b23_at n hn s h t d).trans (H.hg ⟨n, hn⟩ h t d)
  refine ⟨H.hq, H.hk, H.hv, H.hg, fun h a b => ?_, fun m hm h t d => ?_⟩
  · exact b77_at h a b (hk h) (hv h) (hc h) (H.hS h)
  · show b83 n s _ = _
    rw [b83_at n hn s h t d m]
    split
    · next e =>
      rw [b78_at, b65_at h t d (hq h) (hk h) (hv h) (hc h) (H.hS h) (h0 n h)]
      rw [e]; rfl
    · next e => exact H.ho m (by omega) h t d

variable {z : FVec Ideal S2048x7168 .f32} {lb : FVec Ideal S1x1024 .f32}
  (hz : ∀ r c, z (ix2 r c) = (zr r c : EReal)) (hlb : ∀ c, lb (ix2 (0 : Fin 1) c) = (lbr c : EReal))
  (hlow : ∀ (n h : ℕ) t d, 1 / 128 ≤ fv zr lbr n h t d) (h0 : ∀ (n h : ℕ) t d, gv zr lbr n h t d ≤ 0)
include hz hlb hlow h0

/-- Before every chunk. -/
theorem holds : ∀ n : ℕ, n ≤ 32 → Holds zr lbr n (at_ (F := Ideal) z lb n)
  | 0, _ => ⟨fun m h t d => q_at (lb := lb) hz m h t d, fun m h t d => k_at hz hlb m h t d, fun m h t d => v_at (lb := lb) hz m h t d,
      fun m h t d => g_at hz hlb hlow m h t d, fun h a b => by
        show K_main_v28 (F := Ideal) (ix4 (0 : Fin 1) h a b) = _
        pointwise [K_main_v28, K_main_cst_4]
        exact EReal.coe_zero.symm, fun m hm => absurd hm (Nat.not_lt_zero _)⟩
  | n + 1, hn => (holds n (by omega)).step (by omega) h0

/-- The reference's first result. -/
theorem o_at (r : Fin 2048) (l : Fin 1024) : R_main_v42 (at_ (F := Ideal) z lb 32) (ix2 r l)
    = (o zr lbr (r.val / 64) (l.val / 128) ⟨r.val % 64, Nat.mod_lt _ (by decide)⟩ ⟨l.val % 128, Nat.mod_lt _ (by decide)⟩ : EReal) := by
  have H := (holds hz hlb hlow h0 32 le_rfl).ho
  pointwise [R_main_v42]
  exact H ⟨r.val / 64, by omega⟩ (by show r.val / 64 < 32; omega) ⟨l.val / 128, by omega⟩ _ _

/-- The reference's second result. -/
theorem b_at {gn : FVec Ideal S1x128 .f32} {gnr : Fin 128 → ℝ} (hgn : ∀ c, gn (ix2 (0 : Fin 1) c) = (gnr c : EReal)) (r : Fin 2048) (l : Fin 1024) :
    R_main_v60 (at_ (F := Ideal) z lb 32) z gn (ix2 r l)
    = (b zr lbr gnr (r.val / 64) (l.val / 128) ⟨r.val % 64, Nat.mod_lt _ (by decide)⟩ ⟨l.val % 128, Nat.mod_lt _ (by decide)⟩ : EReal) := by
  have H := (holds hz hlb hlow h0 32 le_rfl).ho
  have hr := r.isLt
  have hl := l.isLt
  have Hr : ∀ x, (at_ (F := Ideal) z lb 32).main_v38_6 (ix5 (⟨r.val / 64, by omega⟩ : Fin 32) (0 : Fin 1) (⟨l.val / 128, by omega⟩ : Fin 8)
      (⟨r.val % 64, Nat.mod_lt _ (by decide)⟩ : Fin 64) x) = (o zr lbr (r.val / 64) (l.val / 128) ⟨r.val % 64, Nat.mod_lt _ (by decide)⟩ x : EReal) := fun x =>
    H ⟨r.val / 64, by omega⟩ (by show r.val / 64 < 32; omega) ⟨l.val / 128, by omega⟩ _ x
  rw [gated_at _ z gn r l _ Hr, hgn, bits_128, bits_eps]
  rw [rsqrt_row (by norm_num), z_at hz (r' := row (r.val / 64) ⟨r.val % 64, Nat.mod_lt _ (by decide)⟩)
    (c' := band 4 (l.val / 128) ⟨l.val % 128, Nat.mod_lt _ (by decide)⟩) ?_ ?_, sig_neg]
  · simp only [← EReal.coe_mul]
    rw [HgrnMath.b]
  · show r.val = 64 * (r.val / 64 % 32) + r.val % 64; omega
  · show 4096 + l.val = 1024 * 4 + (128 * (l.val / 128 % 8) + l.val % 128); omega

end

end Cert.HgrnRefIdeal.Chunks

end
-- ==== Proof.HgrnValue.lean ====
/- The recurrence's value claim: the kernel's two results are those of the chunk-by-chunk scan. -/
module

public import proofs.«01_k».proof.Proof.HgrnPoint
public import proofs.«01_k».proof.Proof.HgrnPre
public import proofs.«01_k».proof.Proof.HgrnRefChunk
public import proofs.«01_k».proof.Proof.HgrnRefRun

@[expose] public section

set_option maxRecDepth 16384

noncomputable section

open Idealize.ShloMosaic Idealize.ShloMosaic.TcCoe Idealize.SL.Sem

namespace Cert.HgrnFwd.Hand

/-- The reference's frame. -/
theorem frame_ref : Cert.quiescent_HgrnRefIdeal (hHgrnRefIdeal := Cert.HgrnRefIdeal.Gen.facts) := fun m ρ _ =>
  (θ_run Cert.HgrnRefIdeal.defs _ _).mono (fun r h => ⟨fun c => (h c).2.2, sem_eq_zero_of_no_sems (by decide) r.2⟩)
    (Cert.HgrnRefIdeal.Chunks.run (F := Ideal) m ρ)

theorem value : Cert.algebraic_HgrnFwdIdeal_HgrnRefIdeal_pre_hgrn_finite (hHgrnFwdIdeal := Cert.HgrnFwdIdeal.Gen.facts)
    (hHgrnRefIdeal := Cert.HgrnRefIdeal.Gen.facts) (hPre_hgrn_finite := Cert.Pre_hgrn_finite.facts) := by
  intro m ρ m' ρ' hpre hargs
  refine ⟨fun c => (Cert.HgrnFwdIdeal.Gen.dats m 0 c).arrAt 6 _, fun c => (Cert.HgrnFwdIdeal.Gen.dats m 0 c).arrAt 7 _,
    (θ_run Cert.HgrnFwdIdeal.defs _ _).mono (fun r h c => ⟨(h c).1, (h c).2.1, (h c).2.2.2.2⟩) (Cert.HgrnFwdIdeal.Value.run_blocks m ρ), ?_⟩
  refine (θ_run Cert.HgrnRefIdeal.defs _ _).mono (fun r h c => ?_) (Cert.HgrnRefIdeal.Chunks.run m' ρ')
  obtain ⟨h1, h2, hk⟩ := h c
  obtain ⟨a0, a1, a2⟩ := hargs c
  obtain ⟨zr, lbr, gnr, hz, hlb, hgn, hone, hlow⟩ := @Cert.Pre_hgrn_finite.reals Cert.Pre_hgrn_finite.facts _ _ _ (hpre c)
  have A : Cert.HgrnFwdIdeal.Hand.Args m c zr lbr gnr := ⟨hz, hlb, hgn, hlow, hone⟩
  have hneg : ∀ (n h : ℕ) t d, HgrnMath.gv zr lbr n h t d ≤ 0 := fun n h t d =>
    (HgrnMath.log_gate (hlow n h t d) (HgrnMath.gate_le (hone _) _)).2
  refine ⟨h1.trans ?_, h2.trans ?_, hk⟩
  · funext i
    idx_vars i
    rw [Cert.HgrnRefIdeal.Chunks.stateAt, a0, a1]
    exact (Cert.HgrnRefIdeal.Chunks.o_at hz hlb hlow hneg _ _).trans (Cert.HgrnFwdIdeal.Hand.o_array A _ _).symm
  · funext i
    idx_vars i
    rw [Cert.HgrnRefIdeal.Chunks.stateAt, a0, a1, a2]
    exact (Cert.HgrnRefIdeal.Chunks.b_at hz hlb hlow hneg hgn _ _).trans (Cert.HgrnFwdIdeal.Hand.b_array A _ _).symm

end Cert.HgrnFwd.Hand

end
-- ==== Proof.LossRow.lean ====
/- The forward pass's last step and the loss, row by row: what the kernel computes, what the reference does, and why they are one. -/
module

public import proofs.«01_k».proof.Proof.Reals

@[expose] public section

noncomputable section

open Idealize.ShloMosaic

namespace Cert.LossRow

/-- One row of the inputs: the two branches, their two gates, the residual and the target. -/
@[ext] structure Row where
  a : Fin 512 → EReal
  b : Fin 1024 → EReal
  p : Fin 1024 → EReal
  q : Fin 1024 → EReal
  x : Fin 1024 → EReal
  t : Fin 1024 → EReal

/-- The weights all rows share. -/
@[ext] structure Wts where
  wp : Fin 512 → Fin 1024 → EReal
  wh : Fin 1024 → Fin 1024 → EReal
  wo : Fin 1024 → Fin 1024 → EReal
  gate : Fin 1024 → EReal
  g : Fin 1024 → EReal

/-- The sigmoid. -/
def sg (v : EReal) : EReal := Ideal.div 1 (1 + Ideal.exp (-v))

variable (W : Wts) (R : Row)

/-- The two branches' products. -/
def ba (l : Fin 1024) : EReal := ∑ k, R.a k * W.wp k l
def bb (l : Fin 1024) : EReal := ∑ k, R.b k * W.wh k l

/-- Their gated sum, -/
def merged (l : Fin 1024) : EReal := sg (R.p l) * ba W R l + sg (R.q l) * bb W R l

/-- and its product with the last weight. -/
def y (l : Fin 1024) : EReal := ∑ k, merged W R k * W.wo k l

/-- The normalised row. -/
def yn (l : Fin 1024) : EReal :=
  y W R l * Ideal.rsqrt (Ideal.div (∑ k, y W R k * y W R k) (Ideal.ofBits .f32 0x44800000#32) + Ideal.ofBits .f32 0x358637BD#32)

/-- The residual's new value less the target. -/
def err (l : Fin 1024) : EReal := R.x l + W.gate l * (yn W R l * W.g l) - R.t l

/-- The mean square of a row's error. -/
def ms : EReal := Ideal.div (∑ k, err W R k * err W R k) (Ideal.ofBits .f32 0x44800000#32)

/-- The loss's gradient as the kernel writes it, and as differentiation gives it. -/
def dxK (l : Fin 1024) : EReal := err W R l * Ideal.ofBits .f32 0x3A800000#32

def dxR (l : Fin 1024) : EReal :=
  Ideal.div (Ideal.ofBits .f32 0x3F000000#32 * 1) (Ideal.ofBits .f32 0x44800000#32) * (Ideal.ofBits .f32 0x40000000#32 * err W R l)

theorem bits_half : Ideal.ofBits .f32 0x3F000000#32 = ((1 / 2 : ℝ) : EReal) := by
  simp [Ideal.ofBits, Ideal.ieee, ← EReal.coe_mul]; norm_num

theorem bits_two : Ideal.ofBits .f32 0x40000000#32 = ((2 : ℝ) : EReal) := by
  simp [Ideal.ofBits, Ideal.ieee, ← EReal.coe_mul]; norm_num

theorem bits_inv1024 : Ideal.ofBits .f32 0x3A800000#32 = ((1 / 1024 : ℝ) : EReal) := by
  simp [Ideal.ofBits, Ideal.ieee, ← EReal.coe_mul]; norm_num

theorem dx_eq (l : Fin 1024) : dxR W R l = dxK W R l := by
  rw [dxR, dxK, bits_half, bits_two, bits_inv1024, Reals.bits_1024, mul_one, Reals.div_real _ (by norm_num), ← mul_assoc, ← EReal.coe_mul, mul_comm]
  congr 2
  norm_num

/-- A half distributes over any sum. -/
theorem half_sum {ι : Type} (s : Finset ι) (f : ι → EReal) :
    ∑ i ∈ s, ((1 / 2 : ℝ) : EReal) * f i = ((1 / 2 : ℝ) : EReal) * ∑ i ∈ s, f i := by
  classical
  induction s using Finset.induction_on with
  | empty => simp
  | insert a s ha ih =>
    rw [Finset.sum_insert ha, Finset.sum_insert ha, ih,
      EReal.left_distrib_of_nonneg_of_ne_top (by exact_mod_cast (by norm_num : (0 : ℝ) ≤ 1 / 2)) (EReal.coe_ne_top _)]

/-- The four tiles' shares of the loss are the whole of it. -/
theorem loss_tiles (f : Fin 2048 → EReal) :
    ∑ t : Fin 4, Ideal.ofBits .f32 0x3F000000#32 * ∑ r : Fin 512, f ⟨512 * t.val + r.val, by omega⟩ = Ideal.ofBits .f32 0x3F000000#32 * ∑ r, f r := by
  rw [bits_half, half_sum]
  congr 1
  rw [← Fintype.sum_prod_type']
  exact Fintype.sum_equiv (finProdFinEquiv (m := 4) (n := 512)) _ f fun p => congrArg f (Fin.ext (Nat.add_comm _ _))

/-- Row `r` of the input arrays. -/
def rowOf (a : FVec Ideal ⟨2, ![2048, 512]⟩ .bf16) (b : FVec Ideal ⟨2, ![2048, 1024]⟩ .bf16) (z : FVec Ideal ⟨2, ![2048, 7168]⟩ .f32)
    (x t : FVec Ideal ⟨2, ![2048, 1024]⟩ .f32) (r : Fin 2048) : Row where
  a k := a (ix2 r k)
  b k := b (ix2 r k)
  p l := z (ix2 r (⟨5120 + l.val, by omega⟩ : Fin 7168))
  q l := z (ix2 r (⟨6144 + l.val, by omega⟩ : Fin 7168))
  x l := x (ix2 r l)
  t l := t (ix2 r l)

/-- The shared weights. -/
def wtsOf (wp : FVec Ideal ⟨2, ![512, 1024]⟩ .f32) (wh wo : FVec Ideal ⟨2, ![1024, 1024]⟩ .f32) (gate g : FVec Ideal ⟨2, ![1, 1024]⟩ .f32) : Wts where
  wp k l := wp (ix2 k l)
  wh k l := wh (ix2 k l)
  wo k l := wo (ix2 k l)
  gate l := gate (ix2 0 l)
  g l := g (ix2 0 l)

end Cert.LossRow

end
-- ==== Proof.LossBlock.lean ====
/- What the last step's kernel leaves in its six arrays. -/
module

public import proofs.«01_k».proof.Proof.Gen.LossIdeal.Value
public import proofs.«01_k».proof.Proof.Rows
public import proofs.«01_k».proof.Proof.LossRow
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossIdeal.Hand

open Cert.LossIdeal Cert.LossIdeal.Gen Cert.LossRow

/-- Row `r` of a point's blocks, and the point's weights. -/
def rowB (a : FVec Ideal S512x512 .bf16) (b : FVec Ideal S512x1024 .bf16) (p q x t : FVec Ideal S512x1024 .f32) (r : Fin 512) : Row where
  a k := a (ix2 r k)
  b k := b (ix2 r k)
  p l := p (ix2 r l)
  q l := q (ix2 r l)
  x l := x (ix2 r l)
  t l := t (ix2 r l)

def wtsB (wp : FVec Ideal S8x512x128 .bf16) (wh wo : FVec Ideal S1024x1024 .bf16) (gate g : FVec Ideal S1x1024 .f32) : Wts where
  wp k l := wp (ix3 (⟨l.val / 128, by omega⟩ : Fin 8) k (⟨l.val % 128, by omega⟩ : Fin 128))
  wh k l := wh (ix2 k l)
  wo k l := wo (ix2 k l)
  gate l := gate (ix2 0 l)
  g l := g (ix2 0 l)

variable (a : FVec Ideal S512x512 .bf16) (b : FVec Ideal S512x1024 .bf16) (p q x t : FVec Ideal S512x1024 .f32)
  (wp : FVec Ideal S8x512x128 .bf16) (wh wo : FVec Ideal S1024x1024 .bf16) (gate g : FVec Ideal S1x1024 .f32)

/-- One of the eight slices of the first weight, read from it. -/
theorem ld_at {o : ℕ} (ho : o < 8) (inb : ∀ i : Fin 3, (![o, 0, 0] : Fin 3 → ℕ) i + (![1, 512, 128] : Fin 3 → ℕ) i ≤ (![8, 512, 128] : Fin 3 → ℕ) i)
    (k : Fin 512) (j : Fin 128) :
    View.ld (Val := Elt Ideal) (e' := .bf16) wp (Rect.unit (s := S8x512x128) ![o, 0, 0] ![1, 512, 128] inb) (ix3 (0 : Fin 1) k j)
      = wp (ix3 (⟨o, ho⟩ : Fin 8) k j) := by
  refine congrArg wp (funext fun i => Fin.ext ?_)
  fin_cases i <;> simp [ix3, Rect.emb, Rect.unit]

/-- The first product, of the weight as the kernel puts it together. -/
abbrev BA : FVec Ideal S512x1024 .f32 :=
  k0_pay1 (F := Ideal) a (View.ld (Val := Elt Ideal) (e' := .bf16) wp (Rect.unit (s := S8x512x128) ![0, 0, 0] ![1, 512, 128] inb_S8x512x128_S1x512x128_0_0_0))
    (View.ld (Val := Elt Ideal) (e' := .bf16) wp (Rect.unit (s := S8x512x128) ![1, 0, 0] ![1, 512, 128] inb_S8x512x128_S1x512x128_1_0_0))
    (View.ld (Val := Elt Ideal) (e' := .bf16) wp (Rect.unit (s := S8x512x128) ![2, 0, 0] ![1, 512, 128] inb_S8x512x128_S1x512x128_2_0_0))
    (View.ld (Val := Elt Ideal) (e' := .bf16) wp (Rect.unit (s := S8x512x128) ![3, 0, 0] ![1, 512, 128] inb_S8x512x128_S1x512x128_3_0_0))
    (View.ld (Val := Elt Ideal) (e' := .bf16) wp (Rect.unit (s := S8x512x128) ![4, 0, 0] ![1, 512, 128] inb_S8x512x128_S1x512x128_4_0_0))
    (View.ld (Val := Elt Ideal) (e' := .bf16) wp (Rect.unit (s := S8x512x128) ![5, 0, 0] ![1, 512, 128] inb_S8x512x128_S1x512x128_5_0_0))
    (View.ld (Val := Elt Ideal) (e' := .bf16) wp (Rect.unit (s := S8x512x128) ![6, 0, 0] ![1, 512, 128] inb_S8x512x128_S1x512x128_6_0_0))
    (View.ld (Val := Elt Ideal) (e' := .bf16) wp (Rect.unit (s := S8x512x128) ![7, 0, 0] ![1, 512, 128] inb_S8x512x128_S1x512x128_7_0_0))

theorem ba_of (v : Fin 8 → FVec Ideal S1x512x128 .bf16) (hv : ∀ n k j, v n (ix3 (0 : Fin 1) k j) = wp (ix3 n k j)) (r : Fin 512) (l : Fin 1024) :
    k0_pay1 (F := Ideal) a (v 0) (v 1) (v 2) (v 3) (v 4) (v 5) (v 6) (v 7) (ix2 r l) = ba (wtsB wp wh wo gate g) (rowB a b p q x t r) l := by
  obtain ⟨o, d, rfl⟩ : ∃ (o : Fin 8) (d : Fin 128), l = ⟨128 * o.val + d.val, by omega⟩ :=
    ⟨⟨l.val / 128, by omega⟩, ⟨l.val % 128, by omega⟩, Fin.ext (Nat.div_add_mod _ _).symm⟩
  pointwise [k0_pay1]
  refine Finset.sum_congr rfl fun k _ => congrArg (a (ix2 r k) * ·) ?_
  have e : ∀ (n : Fin 8) (j : Fin 128) (i : Fin 1024), 128 * n.val + j.val = i.val →
      v n (ix3 (0 : Fin 1) k j) = (wtsB wp wh wo gate g).wp k i := fun n j i h => by
    have h1 : n = ⟨i.val / 128, by omega⟩ := Fin.ext (by simp only; omega)
    have h2 : j = ⟨i.val % 128, by omega⟩ := Fin.ext (by simp only; omega)
    rw [hv]
    show _ = wp (ix3 _ k _)
    rw [← h1, ← h2]
  split_ifs <;> exact e _ _ _ (by simp only [Fin.isValue]; omega)

theorem ba_at (r : Fin 512) (l : Fin 1024) : BA a wp (ix2 r l) = ba (wtsB wp wh wo gate g) (rowB a b p q x t r) l :=
  ba_of a b p q x t wp wh wo gate g ![_, _, _, _, _, _, _, _] (fun n k j => by
    fin_cases n <;> exact ld_at wp (by decide) _ k j) r l

theorem bb_at (r : Fin 512) (l : Fin 1024) : k0_pay2 (F := Ideal) b wh (ix2 r l) = bb (wtsB wp wh wo gate g) (rowB a b p q x t r) l := by
  pointwise [k0_pay2]
  rfl

/-- What is stored is what was computed. -/
theorem pay6_at (u : FVec Ideal S512x1024 .f32) (r : Fin 512) (l : Fin 1024) : k0_pay6 (F := Ideal) u (ix2 r l) = u (ix2 r l) := by
  pointwise [k0_pay6]

theorem pay7_at (u : FVec Ideal S512x1024 .f32) (r : Fin 512) (l : Fin 1024) : k0_pay7 (F := Ideal) u (ix2 r l) = u (ix2 r l) := by
  pointwise [k0_pay7]

theorem pay9_at (u : FVec Ideal S512x1024 .f32) (r : Fin 512) (l : Fin 1024) : k0_pay9 (F := Ideal) u (ix2 r l) = u (ix2 r l) := by
  pointwise [k0_pay9]

theorem pay8_at (u v : FVec Ideal S512x1024 .f32) (z : EReal) (r : Fin 512) (l : Fin 1024) :
    k0_pay8 (F := Ideal) u v p z q (ix2 r l) = k0_pay3 (F := Ideal) u v p z q (ix2 r l) := by
  rw [k0_pay8]
  generalize k0_pay3 (F := Ideal) u v p z q = w
  pointwise

theorem merged_of (u v : FVec Ideal S512x1024 .f32) (hu : ∀ r l, u (ix2 r l) = ba (wtsB wp wh wo gate g) (rowB a b p q x t r) l)
    (hv : ∀ r l, v (ix2 r l) = bb (wtsB wp wh wo gate g) (rowB a b p q x t r) l) (r : Fin 512) (l : Fin 1024) :
    k0_pay3 (F := Ideal) u v p (Ideal.ofBits .f32 0x00000000#32) q (ix2 r l) = merged (wtsB wp wh wo gate g) (rowB a b p q x t r) l := by
  rw [merged, ← hu, ← hv]
  pointwise [k0_pay3]
  simp only [zero_sub]
  rfl

theorem y_of (u v : FVec Ideal S512x1024 .f32) (hu : ∀ r l, u (ix2 r l) = ba (wtsB wp wh wo gate g) (rowB a b p q x t r) l)
    (hv : ∀ r l, v (ix2 r l) = bb (wtsB wp wh wo gate g) (rowB a b p q x t r) l) (r : Fin 512) (l : Fin 1024) :
    k0_pay4 (F := Ideal) u v p (Ideal.ofBits .f32 0x00000000#32) q wo (ix2 r l) = y (wtsB wp wh wo gate g) (rowB a b p q x t r) l := by
  simp only [y, ← merged_of a b p q x t wp wh wo gate g u v hu hv]
  pointwise [k0_pay4]
  rfl

theorem yn_of (u v : FVec Ideal S512x1024 .f32) (hu : ∀ r l, u (ix2 r l) = ba (wtsB wp wh wo gate g) (rowB a b p q x t r) l)
    (hv : ∀ r l, v (ix2 r l) = bb (wtsB wp wh wo gate g) (rowB a b p q x t r) l) (r : Fin 512) (l : Fin 1024) :
    k0_pay5 (F := Ideal) u v p (Ideal.ofBits .f32 0x00000000#32) q wo (ix2 r l) = yn (wtsB wp wh wo gate g) (rowB a b p q x t r) l := by
  simp only [yn, ← y_of a b p q x t wp wh wo gate g u v hu hv]
  pointwise [k0_pay5]

theorem err_of (n : FVec Ideal S512x1024 .f32) (hn : ∀ r l, n (ix2 r l) = yn (wtsB wp wh wo gate g) (rowB a b p q x t r) l) (r : Fin 512) (l : Fin 1024) :
    k0_pay11 (F := Ideal) n x gate g t (ix2 r l) = err (wtsB wp wh wo gate g) (rowB a b p q x t r) l := by
  rw [err, ← hn]
  pointwise [k0_pay11]
  rfl

theorem dx_of (n : FVec Ideal S512x1024 .f32) (hn : ∀ r l, n (ix2 r l) = yn (wtsB wp wh wo gate g) (rowB a b p q x t r) l) (r : Fin 512) (l : Fin 1024) :
    k0_pay13 (F := Ideal) n x gate g t (ix2 r l) = dxK (wtsB wp wh wo gate g) (rowB a b p q x t r) l := by
  rw [dxK, ← err_of a b p q x t wp wh wo gate g n hn]
  pointwise [k0_pay13]

theorem loss_of (n : FVec Ideal S512x1024 .f32) (hn : ∀ r l, n (ix2 r l) = yn (wtsB wp wh wo gate g) (rowB a b p q x t r) l) (s : FVec Ideal S1x1 .f32) :
    k0_pay12 (F := Ideal) n x gate g t s (ix2 0 0)
      = s (ix2 0 0) + Ideal.ofBits .f32 0x3F000000#32 * ∑ r, ms (wtsB wp wh wo gate g) (rowB a b p q x t r) := by
  simp only [ms, ← err_of a b p q x t wp wh wo gate g n hn]
  pointwise [k0_pay12]
  try rfl

variable (m : (ℓ : Loc nD τ sig) → Buf (Elt Ideal) ℓ)

/-- Row `r` of point `t`, and its weights. -/
abbrev rowI (c : Dev nD) (t : Fin cfg0.N) (r : Fin 512) : Row :=
  rowB (iblk m c 0 t) (iblk m c 1 t) (iblk m c 2 t) (iblk m c 3 t) (iblk m c 4 t) (iblk m c 10 t) r

abbrev wtsI (c : Dev nD) (t : Fin cfg0.N) : Wts := wtsB (iblk m c 5 t) (iblk m c 6 t) (iblk m c 7 t) (iblk m c 8 t) (iblk m c 9 t)

variable {m} in
/-- The normalised row of a point. -/
theorem yn_at (c : Dev nD) (t : Fin cfg0.N) (r : Fin 512) (l : Fin 1024) :
    k0_pay5 (F := Ideal) (BA (iblk m c 0 t) (iblk m c 5 t)) (k0_pay2 (iblk m c 1 t) (iblk m c 6 t)) (iblk m c 2 t) (FloatOps.ofBits FTy.f32 0#32)
      (iblk m c 3 t) (iblk m c 7 t) (ix2 r l) = yn (wtsI m c t) (rowI m c t r) l :=
  yn_of _ _ _ _ _ _ _ _ _ _ _ _ _ (ba_at _ _ _ _ _ _ _ _ _ _ _) (bb_at _ _ _ _ _ _ _ _ _ _ _) r l

theorem out_ba (c : Dev nD) (t : Fin cfg0.N) (r : Fin 512) (l : Fin 1024) :
    (outsAt0 m c t.val t.isLt).1 (ix2 r l) = ba (wtsI m c t) (rowI m c t r) l := by
  by_cases h : t.val % 4 = 0
  · rw [outsAt0_A m c t h]
    dsimp only
    frame_out
    exact (pay6_at _ r l).trans <| ba_at _ _ _ _ _ _ _ _ _ _ _ r l
  · rw [outsAt0_B m c t h]
    dsimp only
    frame_out
    exact (pay6_at _ r l).trans <| ba_at _ _ _ _ _ _ _ _ _ _ _ r l

theorem out_bb (c : Dev nD) (t : Fin cfg0.N) (r : Fin 512) (l : Fin 1024) :
    (outsAt0 m c t.val t.isLt).2.1 (ix2 r l) = bb (wtsI m c t) (rowI m c t r) l := by
  by_cases h : t.val % 4 = 0
  · rw [outsAt0_A m c t h]
    dsimp only
    frame_out
    exact (pay7_at _ r l).trans <| bb_at _ _ _ _ _ _ _ _ _ _ _ r l
  · rw [outsAt0_B m c t h]
    dsimp only
    frame_out
    exact (pay7_at _ r l).trans <| bb_at _ _ _ _ _ _ _ _ _ _ _ r l

theorem out_merged (c : Dev nD) (t : Fin cfg0.N) (r : Fin 512) (l : Fin 1024) :
    (outsAt0 m c t.val t.isLt).2.2.1 (ix2 r l) = merged (wtsI m c t) (rowI m c t r) l := by
  by_cases h : t.val % 4 = 0
  · rw [outsAt0_A m c t h]
    dsimp only
    frame_out
    exact (pay8_at _ _ _ _ _ r l).trans <| merged_of _ _ _ _ _ _ _ _ _ _ _ _ _ (ba_at _ _ _ _ _ _ _ _ _ _ _) (bb_at _ _ _ _ _ _ _ _ _ _ _) r l
  · rw [outsAt0_B m c t h]
    dsimp only
    frame_out
    exact (pay8_at _ _ _ _ _ r l).trans <| merged_of _ _ _ _ _ _ _ _ _ _ _ _ _ (ba_at _ _ _ _ _ _ _ _ _ _ _) (bb_at _ _ _ _ _ _ _ _ _ _ _) r l

theorem out_y (c : Dev nD) (t : Fin cfg0.N) (r : Fin 512) (l : Fin 1024) :
    (outsAt0 m c t.val t.isLt).2.2.2.1 (ix2 r l) = y (wtsI m c t) (rowI m c t r) l := by
  by_cases h : t.val % 4 = 0
  · rw [outsAt0_A m c t h]
    dsimp only
    frame_out
    exact (pay9_at _ r l).trans <| y_of _ _ _ _ _ _ _ _ _ _ _ _ _ (ba_at _ _ _ _ _ _ _ _ _ _ _) (bb_at _ _ _ _ _ _ _ _ _ _ _) r l
  · rw [outsAt0_B m c t h]
    dsimp only
    frame_out
    exact (pay9_at _ r l).trans <| y_of _ _ _ _ _ _ _ _ _ _ _ _ _ (ba_at _ _ _ _ _ _ _ _ _ _ _) (bb_at _ _ _ _ _ _ _ _ _ _ _) r l

theorem out_dx (c : Dev nD) (t : Fin cfg0.N) (r : Fin 512) (l : Fin 1024) :
    (outsAt0 m c t.val t.isLt).2.2.2.2.1 (ix2 r l) = dxK (wtsI m c t) (rowI m c t r) l := by
  by_cases h : t.val % 4 = 0
  · rw [outsAt0_A m c t h]
    dsimp only
    frame_out
    exact dx_of _ _ _ _ _ _ _ _ _ _ _ _ (yn_at c t) r l
  · rw [outsAt0_B m c t h]
    dsimp only
    frame_out
    exact dx_of _ _ _ _ _ _ _ _ _ _ _ _ (yn_at c t) r l

/-- A point's share of the loss. -/
def term (c : Dev nD) (t : Fin cfg0.N) : EReal := Ideal.ofBits .f32 0x3F000000#32 * ∑ r, ms (wtsI m c t) (rowI m c t r)

theorem out_lossA (c : Dev nD) (t : Fin cfg0.N) (h : t.val % 4 = 0) :
    (outsAt0 m c t.val t.isLt).2.2.2.2.2 (ix2 0 0) = (0 : EReal) + term m c t := by
  rw [outsAt0_A m c t h]
  dsimp only
  frame_out
  have hz : k0_pay10 (F := Ideal) (ix2 0 0) = (0 : EReal) := by pointwise [k0_pay10]
  exact (loss_of _ _ _ _ _ _ _ _ _ _ _ _ (yn_at c t) _).trans (congrArg (· + term m c t) hz)

theorem out_lossB (c : Dev nD) (t : Fin cfg0.N) (h : ¬ t.val % 4 = 0) :
    (outsAt0 m c t.val t.isLt).2.2.2.2.2 (ix2 0 0)
      = (outsAt0 m c (t.val - 1) (Nat.lt_of_le_of_lt (Nat.sub_le _ _) t.isLt)).2.2.2.2.2 (ix2 0 0) + term m c t := by
  rw [outsAt0_B m c t h]
  dsimp only
  frame_out
  exact loss_of _ _ _ _ _ _ _ _ _ _ _ _ (yn_at c t) _

/-- A block's rows in the whole arrays. -/
theorem idx_val : ∀ t : Fin cfg0.N, win0_0.index t = ![t.val, 0] ∧ win0_1.index t = ![t.val, 0] ∧ win0_2.index t = ![t.val, 5]
    ∧ win0_3.index t = ![t.val, 6] ∧ win0_4.index t = ![t.val, 0] ∧ win0_5.index t = ![0, 0, 0] ∧ win0_6.index t = ![0, 0] ∧ win0_7.index t = ![0, 0]
    ∧ win0_8.index t = ![0, 0] ∧ win0_9.index t = ![0, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![0, 0] := by decide +kernel

theorem V_v2 (c : Dev nD) : V m c main_v2 = (transpose S8x512x128 [1, 0, 2] (shapeCast S512x8x128 (truncf .bf16 (m (c.tc.loc main_arg4) : FVec Ideal S512x1024 .f32) bitsLt_bf16_f32)
    shapeCasts_S512x1024_S512x8x128) transposes_S512x8x128_S8x512x128_1_0_2 : FVec Ideal S8x512x128 .bf16) := by
  show StableHlo.after hostOps0 _ _ = _
  after_results_simp <;> rfl

theorem V_v3 (c : Dev nD) : V m c main_v3 = (truncf .bf16 (m (c.tc.loc main_arg5) : FVec Ideal S1024x1024 .f32) bitsLt_bf16_f32 : FVec Ideal S1024x1024 .bf16) := by
  show StableHlo.after hostOps0 _ _ = _
  after_results_simp <;> rfl

theorem V_v4 (c : Dev nD) : V m c main_v4 = (truncf .bf16 (m (c.tc.loc main_arg6) : FVec Ideal S1024x1024 .f32) bitsLt_bf16_f32 : FVec Ideal S1024x1024 .bf16) := by
  show StableHlo.after hostOps0 _ _ = _
  after_results_simp <;> rfl

theorem a_point (c : Dev nD) (t : Fin 4) (r k : Fin 512) :
    iblk m c 0 t (ix2 r k) = m (c.tc.loc main_arg0) (ix2 (⟨512 * t.val + r.val, by omega⟩ : Fin 2048) k) := by
  blk_point [iblk, V_main_arg0, idx_val t]

theorem b_point (c : Dev nD) (t : Fin 4) (r : Fin 512) (k : Fin 1024) :
    iblk m c 1 t (ix2 r k) = m (c.tc.loc main_arg1) (ix2 (⟨512 * t.val + r.val, by omega⟩ : Fin 2048) k) := by
  blk_point [iblk, V_main_arg1, idx_val t]

theorem p_point (c : Dev nD) (t : Fin 4) (r : Fin 512) (k : Fin 1024) :
    iblk m c 2 t (ix2 r k) = m (c.tc.loc main_arg2) (ix2 (⟨512 * t.val + r.val, by omega⟩ : Fin 2048) (⟨5120 + k.val, by omega⟩ : Fin 7168)) := by
  blk_point [iblk, V_main_arg2, idx_val t]

theorem q_point (c : Dev nD) (t : Fin 4) (r : Fin 512) (k : Fin 1024) :
    iblk m c 3 t (ix2 r k) = m (c.tc.loc main_arg2) (ix2 (⟨512 * t.val + r.val, by omega⟩ : Fin 2048) (⟨6144 + k.val, by omega⟩ : Fin 7168)) := by
  blk_point [iblk, V_main_arg2, idx_val t]

theorem x_point (c : Dev nD) (t : Fin 4) (r : Fin 512) (k : Fin 1024) :
    iblk m c 4 t (ix2 r k) = m (c.tc.loc main_arg3) (ix2 (⟨512 * t.val + r.val, by omega⟩ : Fin 2048) k) := by
  blk_point [iblk, V_main_arg3, idx_val t]

theorem t_point (c : Dev nD) (t : Fin 4) (r : Fin 512) (k : Fin 1024) :
    iblk m c 10 t (ix2 r k) = m (c.tc.loc main_arg9) (ix2 (⟨512 * t.val + r.val, by omega⟩ : Fin 2048) k) := by
  blk_point [iblk, V_main_arg9, idx_val t]

theorem wp_point (c : Dev nD) (t : Fin 4) (o : Fin 8) (k : Fin 512) (d : Fin 128) :
    iblk m c 5 t (ix3 o k d) = m (c.tc.loc main_arg4) (ix2 k (⟨128 * o.val + d.val, by omega⟩ : Fin 1024)) := by
  blk_point [iblk, V_v2, idx_val t]

theorem wh_point (c : Dev nD) (t : Fin 4) (k l : Fin 1024) : iblk m c 6 t (ix2 k l) = m (c.tc.loc main_arg5) (ix2 k l) := by
  blk_point [iblk, V_v3, idx_val t]

theorem wo_point (c : Dev nD) (t : Fin 4) (k l : Fin 1024) : iblk m c 7 t (ix2 k l) = m (c.tc.loc main_arg6) (ix2 k l) := by
  blk_point [iblk, V_v4, idx_val t]

theorem gate_point (c : Dev nD) (t : Fin 4) (l : Fin 1024) : iblk m c 8 t (ix2 (0 : Fin 1) l) = m (c.tc.loc main_arg7) (ix2 (0 : Fin 1) l) := by
  blk_point [iblk, V_main_arg7, idx_val t]

theorem g_point (c : Dev nD) (t : Fin 4) (l : Fin 1024) : iblk m c 9 t (ix2 (0 : Fin 1) l) = m (c.tc.loc main_arg8) (ix2 (0 : Fin 1) l) := by
  blk_point [iblk, V_main_arg8, idx_val t]

/-- Row `r` of a device's arguments, and its weights. -/
abbrev row (c : Dev nD) (r : Fin 2048) : Row :=
  rowOf (m (c.tc.loc main_arg0)) (m (c.tc.loc main_arg1)) (m (c.tc.loc main_arg2)) (m (c.tc.loc main_arg3)) (m (c.tc.loc main_arg9)) r

abbrev wts (c : Dev nD) : Wts :=
  wtsOf (m (c.tc.loc main_arg4)) (m (c.tc.loc main_arg5)) (m (c.tc.loc main_arg6)) (m (c.tc.loc main_arg7)) (m (c.tc.loc main_arg8))

theorem row_eq (c : Dev nD) (t : Fin 4) (r : Fin 512) : rowI m c t r = row m c (⟨512 * t.val + r.val, by omega⟩ : Fin 2048) :=
  Row.ext (funext fun k => a_point m c t r k) (funext fun k => b_point m c t r k) (funext fun k => p_point m c t r k)
    (funext fun k => q_point m c t r k) (funext fun k => x_point m c t r k) (funext fun k => t_point m c t r k)

theorem wts_eq (c : Dev nD) (t : Fin 4) : wtsI m c t = wts m c :=
  Wts.ext (funext fun k => funext fun l => (wp_point m c t _ k _).trans (congrArg (fun i => m (c.tc.loc main_arg4) (ix2 k i)) (Fin.ext (Nat.div_add_mod _ _))))
    (funext fun k => funext fun l => wh_point m c t k l) (funext fun k => funext fun l => wo_point m c t k l)
    (funext fun l => gate_point m c t l) (funext fun l => g_point m c t l)

/-- The arrays after the run, by rows. -/
def fba (c : Dev nD) : S2048x1024.Idx → EReal := fun i => ba (wts m c) (row m c (i 0)) (i 1)
def fbb (c : Dev nD) : S2048x1024.Idx → EReal := fun i => bb (wts m c) (row m c (i 0)) (i 1)
def fmerged (c : Dev nD) : S2048x1024.Idx → EReal := fun i => merged (wts m c) (row m c (i 0)) (i 1)
def fy (c : Dev nD) : S2048x1024.Idx → EReal := fun i => y (wts m c) (row m c (i 0)) (i 1)
def fdx (c : Dev nD) : S2048x1024.Idx → EReal := fun i => dxK (wts m c) (row m c (i 0)) (i 1)
def floss (c : Dev nD) : S1x1.Idx → EReal := fun _ => Ideal.ofBits .f32 0x3F000000#32 * ∑ r, ms (wts m c) (row m c r)

theorem arr_ba (c : Dev nD) : (dats m 0 c).arrAt 11 cfg0.N = fba m c := by
  refine (dats m 0 c).arrAt_eq_of_covers 11 (fba m c) (by decide +kernel) fun t _ j => ?_
  blk_simp
  rw [after0_11]
  obtain ⟨r, l, rfl⟩ : ∃ (r : Fin 512) (l : Fin 1024), j = ix2 r l := ⟨j 0, j 1, by idx_vars j⟩
  have he : (win0_11.blk t).view.emb (ix2 r l) = ix2 (⟨512 * t.val + r.val, by have : t.val < 4 := t.isLt; omega⟩ : Fin 2048) l := by blk_ext [idx_val t]
  exact (out_ba m c t r l).trans (by rw [he, row_eq m c t, wts_eq m c t]; rfl)

theorem arr_bb (c : Dev nD) : (dats m 0 c).arrAt 12 cfg0.N = fbb m c := by
  refine (dats m 0 c).arrAt_eq_of_covers 12 (fbb m c) (by decide +kernel) fun t _ j => ?_
  blk_simp
  rw [after0_12]
  obtain ⟨r, l, rfl⟩ : ∃ (r : Fin 512) (l : Fin 1024), j = ix2 r l := ⟨j 0, j 1, by idx_vars j⟩
  have he : (win0_12.blk t).view.emb (ix2 r l) = ix2 (⟨512 * t.val + r.val, by have : t.val < 4 := t.isLt; omega⟩ : Fin 2048) l := by blk_ext [idx_val t]
  exact (out_bb m c t r l).trans (by rw [he, row_eq m c t, wts_eq m c t]; rfl)

theorem arr_merged (c : Dev nD) : (dats m 0 c).arrAt 13 cfg0.N = fmerged m c := by
  refine (dats m 0 c).arrAt_eq_of_covers 13 (fmerged m c) (by decide +kernel) fun t _ j => ?_
  blk_simp
  rw [after0_13]
  obtain ⟨r, l, rfl⟩ : ∃ (r : Fin 512) (l : Fin 1024), j = ix2 r l := ⟨j 0, j 1, by idx_vars j⟩
  have he : (win0_13.blk t).view.emb (ix2 r l) = ix2 (⟨512 * t.val + r.val, by have : t.val < 4 := t.isLt; omega⟩ : Fin 2048) l := by blk_ext [idx_val t]
  exact (out_merged m c t r l).trans (by rw [he, row_eq m c t, wts_eq m c t]; rfl)

theorem arr_y (c : Dev nD) : (dats m 0 c).arrAt 14 cfg0.N = fy m c := by
  refine (dats m 0 c).arrAt_eq_of_covers 14 (fy m c) (by decide +kernel) fun t _ j => ?_
  blk_simp
  rw [after0_14]
  obtain ⟨r, l, rfl⟩ : ∃ (r : Fin 512) (l : Fin 1024), j = ix2 r l := ⟨j 0, j 1, by idx_vars j⟩
  have he : (win0_14.blk t).view.emb (ix2 r l) = ix2 (⟨512 * t.val + r.val, by have : t.val < 4 := t.isLt; omega⟩ : Fin 2048) l := by blk_ext [idx_val t]
  exact (out_y m c t r l).trans (by rw [he, row_eq m c t, wts_eq m c t]; rfl)

theorem arr_dx (c : Dev nD) : (dats m 0 c).arrAt 15 cfg0.N = fdx m c := by
  refine (dats m 0 c).arrAt_eq_of_covers 15 (fdx m c) (by decide +kernel) fun t _ j => ?_
  blk_simp
  rw [after0_15]
  obtain ⟨r, l, rfl⟩ : ∃ (r : Fin 512) (l : Fin 1024), j = ix2 r l := ⟨j 0, j 1, by idx_vars j⟩
  have he : (win0_15.blk t).view.emb (ix2 r l) = ix2 (⟨512 * t.val + r.val, by have : t.val < 4 := t.isLt; omega⟩ : Fin 2048) l := by blk_ext [idx_val t]
  exact (out_dx m c t r l).trans (by rw [he, row_eq m c t, wts_eq m c t]; rfl)

theorem arr_loss (c : Dev nD) : (dats m 0 c).arrAt 16 cfg0.N = floss m c := by
  refine (dats m 0 c).arrAt_eq_of_after_last 16 t0_3 (by decide +kernel) (floss m c) fun j => ?_
  blk_simp
  rw [after0_16]
  refine (Pipeline.eq_sum_fin_of_reset_step_apply_last (fun n h => (outsAt0 m c n h).2.2.2.2.2) 4 (fun _ => (0 : EReal)) (fun t _ => term m c t)
    (fun t h j => ?_) (fun t h j => ?_) (le_of_eq N_0) t0_3 rfl j).trans ?_
  · idx_vars j
    obtain ⟨rfl, rfl⟩ : j0 = 0 ∧ j1 = 0 := ⟨Subsingleton.elim _ _, Subsingleton.elim _ _⟩
    exact out_lossA m c t h
  · idx_vars j
    obtain ⟨rfl, rfl⟩ : j0 = 0 ∧ j1 = 0 := ⟨Subsingleton.elim _ _, Subsingleton.elim _ _⟩
    exact out_lossB m c t h
  · rw [zero_add]
    refine Eq.trans (Finset.sum_congr rfl fun t _ => ?_) (loss_tiles fun r => ms (wts m c) (row m c r))
    exact congrArg (_ * ·) (Finset.sum_congr rfl fun r _ => by rw [row_eq m c t, wts_eq m c t])

end Cert.LossIdeal.Hand

end
-- ==== Proof.LossRef.lean ====
/- What the reference of the last step and the loss computes, row by row. -/
module

public import proofs.«01_k».proof.Proof.Gen.LossRefIdeal.Run
public import proofs.«01_k».proof.Defs
public import proofs.«01_k».proof.Proof.LossRow
public import Idealize.ShloMosaic.Lib.Pointwise

@[expose] public section

set_option maxRecDepth 16384

noncomputable section

open Idealize.ShloMosaic Idealize.ShloMosaic.TcCoe Idealize.SL.Sem

namespace Cert.LossRefIdeal.Hand

open Cert.LossRefIdeal Cert.LossRefIdeal.Gen Cert.LossRow

variable (a : FVec Ideal ⟨2, ![2048, 512]⟩ .bf16) (b : FVec Ideal ⟨2, ![2048, 1024]⟩ .bf16) (z : FVec Ideal ⟨2, ![2048, 7168]⟩ .f32)
  (x t : FVec Ideal ⟨2, ![2048, 1024]⟩ .f32) (wp : FVec Ideal ⟨2, ![512, 1024]⟩ .f32) (wh wo : FVec Ideal ⟨2, ![1024, 1024]⟩ .f32)
  (gate g : FVec Ideal ⟨2, ![1, 1024]⟩ .f32)

/-- The gated sum of the two branches. -/
def M : FVec Ideal S2048x1024 .f32 :=
  addf (mulf (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 5120] z slices_S2048x7168_S2048x1024_0_5120)))))
      (Host.dotGeneral dot_S2048x512_S512x1024_S2048x1024_1_0_0_1_n_n none (extf .f32 a bitsLt_bf16_f32) wp))
    (mulf (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 6144] z slices_S2048x7168_S2048x1024_0_6144)))))
      (Host.dotGeneral dot_S2048x1024_S1024x1024_S2048x1024_1_0_0_1_n_n none (extf .f32 b bitsLt_bf16_f32) wh))

theorem ba_at (r : Fin 2048) (l : Fin 1024) :
    Host.dotGeneral (F := Ideal) dot_S2048x512_S512x1024_S2048x1024_1_0_0_1_n_n none (extf .f32 a bitsLt_bf16_f32) wp (ix2 r l)
      = ba (wtsOf wp wh wo gate g) (rowOf a b z x t r) l := by
  pointwise
  rfl

theorem bb_at (r : Fin 2048) (l : Fin 1024) :
    Host.dotGeneral (F := Ideal) dot_S2048x1024_S1024x1024_S2048x1024_1_0_0_1_n_n none (extf .f32 b bitsLt_bf16_f32) wh (ix2 r l)
      = bb (wtsOf wp wh wo gate g) (rowOf a b z x t r) l := by
  pointwise
  rfl

theorem M_at (r : Fin 2048) (l : Fin 1024) : M a b z wp wh (ix2 r l) = merged (wtsOf wp wh wo gate g) (rowOf a b z x t r) l := by
  rw [merged, ← ba_at, ← bb_at]
  pointwise [M]
  rfl

/-- Its product with the last weight, -/
def Y (Mv : FVec Ideal S2048x1024 .f32) : FVec Ideal S2048x1024 .f32 :=
  Host.dotGeneral dot_S2048x1024_S1024x1024_S2048x1024_1_0_0_1_n_n none Mv wo

theorem Y_at (r : Fin 2048) (l : Fin 1024) : Y wo (M a b z wp wh) (ix2 r l) = y (wtsOf wp wh wo gate g) (rowOf a b z x t r) l := by
  simp only [y, ← M_at]
  generalize M a b z wp wh = Mv
  pointwise [Y]
  rfl

/-- and the residual's new value less the target. -/
def E (Yv : FVec Ideal S2048x1024 .f32) : FVec Ideal S2048x1024 .f32 :=
  subf (addf x (mulf (broadcastInDim S2048x1024 ![0, 1] bcast_S1x1024_S2048x1024_0_1 (broadcastInDim S1x1024 ![1] bcast_S1024_S1x1024_1 (shapeCast _ gate shapeCasts_S1x1024_S1024)))
    (mulf (mulf Yv (broadcastInDim S2048x1024 ![0, 1] bcast_S2048x1_S2048x1024_0_1 (Host.rsqrt (addf (Host.divf (broadcastInDim S2048x1 ![0] bcast_S2048_S2048x1_0
      (Host.reduceAdd (mulf Yv Yv) (constant S_ .f32 0x00000000#32) reducesTo_S2048x1024_S2048_d1 h_S_)) (broadcastInDim S2048x1 ![] bcast_S_S2048x1 (constant S_ .f32 0x44800000#32)))
      (broadcastInDim S2048x1 ![] bcast_S_S2048x1 (constant S_ .f32 0x358637BD#32))))))
      (broadcastInDim S2048x1024 ![0, 1] bcast_S1x1024_S2048x1024_0_1 (broadcastInDim S1x1024 ![1] bcast_S1024_S1x1024_1 (shapeCast _ g shapeCasts_S1x1024_S1024)))))) t

theorem E_at (r : Fin 2048) (l : Fin 1024) :
    E x t gate g (Y wo (M a b z wp wh)) (ix2 r l) = err (wtsOf wp wh wo gate g) (rowOf a b z x t r) l := by
  simp only [err, yn, ← Y_at]
  generalize Y wo (M a b z wp wh) = Yv
  pointwise [E]
  rfl

/-- The loss's gradient; -/
theorem dx_at (Ev : FVec Ideal S2048x1024 .f32) (hE : ∀ r l, Ev (ix2 r l) = err (wtsOf wp wh wo gate g) (rowOf a b z x t r) l) (r : Fin 2048) (l : Fin 1024) :
    mulf (broadcastInDim S2048x1024 ![0] bcast_S2048_S2048x1024_0 (Host.divf (broadcastInDim S2048 ![] bcast_S_S2048 (mulf (constant S_ .f32 0x3F000000#32) (constant S_ .f32 0x3F800000#32)))
      (broadcastInDim S2048 ![] bcast_S_S2048 (constant S_ .f32 0x44800000#32)))) (mulf (broadcastInDim S2048x1024 ![] bcast_S_S2048x1024 (constant S_ .f32 0x40000000#32)) Ev) (ix2 r l)
      = dxR (wtsOf wp wh wo gate g) (rowOf a b z x t r) l := by
  rw [dxR, ← hE]
  pointwise
  try rfl

/-- the loss. -/
theorem loss_at (Ev : FVec Ideal S2048x1024 .f32) (hE : ∀ r l, Ev (ix2 r l) = err (wtsOf wp wh wo gate g) (rowOf a b z x t r) l) :
    shapeCast S1x1 (mulf (constant S_ .f32 0x3F000000#32) (Host.reduceAdd (Host.divf (Host.reduceAdd (mulf Ev Ev) (constant S_ .f32 0x00000000#32) reducesTo_S2048x1024_S2048_d1 h_S_)
      (broadcastInDim S2048 ![] bcast_S_S2048 (constant S_ .f32 0x44800000#32))) (constant S_ .f32 0x00000000#32) reducesTo_S2048_S_d0 h_S_)) shapeCasts_S_S1x1 (ix2 0 0)
      = Ideal.ofBits .f32 0x3F000000#32 * ∑ r, ms (wtsOf wp wh wo gate g) (rowOf a b z x t r) := by
  simp only [ms, ← hE]
  pointwise
  try rfl

variable (m : (ℓ : Loc nD τ sig) → Buf (Elt Ideal) ℓ)

/-- Row `r` of a device's arguments, and its weights. -/
abbrev row (c : Dev nD) (r : Fin 2048) : Row :=
  rowOf (m (c.tc.loc main_arg0)) (m (c.tc.loc main_arg1)) (m (c.tc.loc main_arg2)) (m (c.tc.loc main_arg3)) (m (c.tc.loc main_arg9)) r

abbrev wts (c : Dev nD) : Wts :=
  wtsOf (m (c.tc.loc main_arg4)) (m (c.tc.loc main_arg5)) (m (c.tc.loc main_arg6)) (m (c.tc.loc main_arg7)) (m (c.tc.loc main_arg8))

/-- What the run leaves, by rows. -/
theorem run (ρ : Dev nD → PrngReg) : θ_run defs (onTc (τ := τ) (main (F := Ideal))) ⟨m, fun _ => 0, ρ⟩ fun r => ∀ c : Dev nD,
      r.2.mem (c.tc.loc main_v56) = (fun i => ba (wts m c) (row m c (i 0)) (i 1))
      ∧ r.2.mem (c.tc.loc main_v57) = (fun i => bb (wts m c) (row m c (i 0)) (i 1))
      ∧ r.2.mem (c.tc.loc main_v58) = (fun i => merged (wts m c) (row m c (i 0)) (i 1))
      ∧ r.2.mem (c.tc.loc main_v59) = (fun i => y (wts m c) (row m c (i 0)) (i 1))
      ∧ r.2.mem (c.tc.loc main_v55) = (fun i => dxK (wts m c) (row m c (i 0)) (i 1))
      ∧ r.2.mem (c.tc.loc main_v60) = (fun _ => Ideal.ofBits .f32 0x3F000000#32 * ∑ r, ms (wts m c) (row m c r))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9) := by
  refine (θ_run defs _ _).mono (fun r h c => ?_) (Cert.LossRefIdeal.Value.run (F := Ideal) m ρ)
  obtain ⟨h1, h2, h3, h4, h5, h6, hk⟩ := h c
  refine ⟨h1.trans ?_, h2.trans ?_, h3.trans ?_, h4.trans ?_, h5.trans ?_, h6.trans ?_, hk⟩
  · funext i
    idx_vars i
    exact ba_at _ _ _ _ _ _ _ _ _ _ _ _
  · funext i
    idx_vars i
    exact bb_at _ _ _ _ _ _ _ _ _ _ _ _
  · funext i
    idx_vars i
    exact M_at _ _ _ _ _ _ _ _ _ _ _ _
  · funext i
    idx_vars i
    exact Y_at _ _ _ _ _ _ _ _ _ _ _ _
  · funext i
    idx_vars i
    exact (dx_at _ _ _ _ _ _ _ _ _ _ _ (fun r l => E_at _ _ _ _ _ _ _ _ _ _ r l) _ _).trans (dx_eq _ _ _)
  · funext i
    idx_vars i
    exact loss_at _ _ _ _ _ _ _ _ _ _ _ (fun r l => E_at _ _ _ _ _ _ _ _ _ _ r l)

/-- The arguments stay, and no counter moves. -/
theorem frame : Cert.quiescent_LossRefIdeal (hLossRefIdeal := Cert.LossRefIdeal.Gen.facts) := fun m ρ _ =>
  (θ_run defs _ _).mono (fun r h => ⟨fun c => (h c).2.2.2.2.2.2,
      Idealize.ShloMosaic.sem_eq_zero_of_no_sems (by decide) r.2⟩) (Cert.LossRefIdeal.Value.run (F := Ideal) m ρ)

end Cert.LossRefIdeal.Hand

end
-- ==== Proof.LossValue.lean ====
/- The value claim of the last step and the loss: the kernel's six arrays are the reference's. -/
module

public import proofs.«01_k».proof.Defs
public import proofs.«01_k».proof.Proof.LossBlock
public import proofs.«01_k».proof.Proof.LossRef

@[expose] public section

noncomputable section

open Idealize.ShloMosaic Idealize.ShloMosaic.TcCoe Idealize.SL.Sem

namespace Cert.Loss.Hand

theorem value : Cert.algebraic_LossIdeal_LossRefIdeal (hLossIdeal := Cert.LossIdeal.Gen.facts)
    (hLossRefIdeal := Cert.LossRefIdeal.Gen.facts) := by
  intro m ρ m' ρ' _ hargs
  refine ⟨_, _, _, _, _, _, Cert.LossIdeal.Value.run_blocks m ρ, ?_⟩
  refine (θ_run Cert.LossRefIdeal.defs _ _).mono (fun r h c => ?_) (Cert.LossRefIdeal.Hand.run m' ρ')
  obtain ⟨h1, h2, h3, h4, h5, h6, hk⟩ := h c
  obtain ⟨a0, a1, a2, a3, a4, a5, a6, a7, a8, a9⟩ := hargs c
  have hw : Cert.LossRefIdeal.Hand.wts m' c = Cert.LossIdeal.Hand.wts m c := by
    simp only [Cert.LossRefIdeal.Hand.wts, a4, a5, a6, a7, a8]
  have hr : Cert.LossRefIdeal.Hand.row m' c = Cert.LossIdeal.Hand.row m c := funext fun r => by
    simp only [Cert.LossRefIdeal.Hand.row, a0, a1, a2, a3, a9]
  rw [hw, hr] at h1 h2 h3 h4 h5 h6
  exact ⟨h1.trans (Cert.LossIdeal.Hand.arr_ba m c).symm, h2.trans (Cert.LossIdeal.Hand.arr_bb m c).symm, h3.trans (Cert.LossIdeal.Hand.arr_merged m c).symm,
    h4.trans (Cert.LossIdeal.Hand.arr_y m c).symm, h5.trans (Cert.LossIdeal.Hand.arr_dx m c).symm, h6.trans (Cert.LossIdeal.Hand.arr_loss m c).symm, hk⟩

end Cert.Loss.Hand

end
-- ==== Proof.AdaValue.lean ====
/- The conditioning weight's gradient: the kernel's array is the one differentiation gives. -/
module

public import proofs.«01_k».proof.Defs
public import proofs.«01_k».proof.Proof.Gen.AdaBwdIdeal.Value
public import proofs.«01_k».proof.Proof.Gen.AdaRefIdeal.Run
public import Idealize.ShloMosaic.Lib.Pointwise

@[expose] public section

set_option maxRecDepth 16384

noncomputable section

open Idealize.ShloMosaic Idealize.ShloMosaic.TcCoe Idealize.SL.Sem

namespace Cert.AdaBwd.Hand

/-- The conditioning's activation at an index. -/
def act (c : FVec Ideal ⟨2, ![8, 1024]⟩ .f32) (b : Fin 8) (k : Fin 1024) : EReal :=
  c (ix2 b k) * Ideal.div 1 (1 + Ideal.exp (0 - c (ix2 b k)))

/-- What the kernel stores at an index. -/
theorem pay_at (c : FVec Ideal ⟨2, ![8, 1024]⟩ .f32) (d : FVec Ideal ⟨2, ![8, 384]⟩ .f32) (k : Fin 1024) (l : Fin 384) :
    Cert.AdaBwdIdeal.Gen.k0_pay1 (F := Ideal) c d (ix3 (0 : Fin 1) k l) = ∑ b, act c b k * d (ix2 b l) := by
  pointwise [Cert.AdaBwdIdeal.Gen.k0_pay1]
  rfl

/-- The reference's arguments stay, and no counter moves. -/
theorem frame_ref : Cert.quiescent_AdaRefIdeal (hAdaRefIdeal := Cert.AdaRefIdeal.Gen.facts) := fun m ρ _ =>
  (θ_run Cert.AdaRefIdeal.defs _ _).mono (fun r h => ⟨fun c => (h c).2,
      Idealize.ShloMosaic.sem_eq_zero_of_no_sems (by decide) r.2⟩) (Cert.AdaRefIdeal.Value.run (F := Ideal) m ρ)

theorem value : Cert.algebraic_AdaBwdIdeal_AdaRefIdeal (hAdaBwdIdeal := Cert.AdaBwdIdeal.Gen.facts)
    (hAdaRefIdeal := Cert.AdaRefIdeal.Gen.facts) := by
  intro m ρ m' ρ' _ hargs
  refine ⟨_, Cert.AdaBwdIdeal.Value.run m ρ, ?_⟩
  refine (θ_run Cert.AdaRefIdeal.defs _ _).mono (fun r h c => ?_) (Cert.AdaRefIdeal.Value.run m' ρ')
  obtain ⟨h1, hk⟩ := h c
  obtain ⟨a0, a1⟩ := hargs c
  refine ⟨h1.trans ?_, hk⟩
  rw [a0, a1]
  generalize m (c.tc.loc Cert.AdaBwdIdeal.main_arg0) = x
  generalize m (c.tc.loc Cert.AdaBwdIdeal.main_arg1) = d
  funext i
  idx_vars i
  obtain rfl : i0 = 0 := Subsingleton.elim _ _
  refine Eq.trans ?_ (pay_at x d _ _).symm
  pointwise
  simp only [act, zero_sub]
  exact Finset.sum_congr rfl fun b _ => mul_comm _ _

end Cert.AdaBwd.Hand

end
-- ==== Proof.PrenfValue.lean ====
/- The pre-norm: the kernel's array is the reference's. -/
module

public import proofs.«01_k».proof.Defs
public import proofs.«01_k».proof.Proof.Gen.PrenFIdeal.Value
public import proofs.«01_k».proof.Proof.Gen.PrenFRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-- A row's normalised, weighted, scaled and shifted entry. -/
def Cert.PrenF.Hand.norm (x : Fin 1024 → EReal) (g s b : EReal) (l : Fin 1024) : EReal :=
  x l * Ideal.rsqrt (Ideal.div (∑ k, x k * x k) (Ideal.ofBits .f32 0x44800000#32) + Ideal.ofBits .f32 0x358637BD#32) * g * (1 + s) + b

namespace Cert.PrenFIdeal.Hand

open Cert.PrenFIdeal Cert.PrenFIdeal.Gen Cert.PrenF.Hand

variable (m : (ℓ : Loc nD τ sig) → Buf (Elt Ideal) ℓ)

theorem pay_at (x : FVec Ideal S512x1024 .f32) (g s b : FVec Ideal S1x1024 .f32) (r : Fin 512) (l : Fin 1024) :
    k0_pay1 (F := Ideal) x g s b (ix2 r l) = norm (fun k => x (ix2 r k)) (g (ix2 0 l)) (s (ix2 0 l)) (b (ix2 0 l)) l := by
  pointwise [k0_pay1]
  rfl

/-- A block's rows in the whole arrays. -/
theorem idx_val : ∀ t : Fin cfg0.N, win0_0.index t = ![t.val, 0] ∧ win0_1.index t = ![0, 0] ∧ win0_2.index t = ![0, 0]
    ∧ win0_3.index t = ![0, 0] ∧ win0_4.index t = ![t.val, 0] := by decide +kernel

theorem x_point (c : Dev nD) (t : Fin 4) (r : Fin 512) (k : Fin 1024) :
    iblk m c 0 t (ix2 r k) = m (c.tc.loc main_arg0) (ix2 (⟨512 * t.val + r.val, by omega⟩ : Fin 2048) k) := by
  blk_point [iblk, V_main_arg0, idx_val t]

theorem g_point (c : Dev nD) (t : Fin 4) (k : Fin 1024) : iblk m c 1 t (ix2 (0 : Fin 1) k) = m (c.tc.loc main_arg1) (ix2 (0 : Fin 1) k) := by
  blk_point [iblk, V_main_arg1, idx_val t]

theorem b_point (c : Dev nD) (t : Fin 4) (k : Fin 1024) : iblk m c 2 t (ix2 (0 : Fin 1) k) = m (c.tc.loc main_arg2) (ix2 (0 : Fin 1) k) := by
  blk_point [iblk, V_main_arg2, idx_val t]

theorem s_point (c : Dev nD) (t : Fin 4) (k : Fin 1024) : iblk m c 3 t (ix2 (0 : Fin 1) k) = m (c.tc.loc main_arg3) (ix2 (0 : Fin 1) k) := by
  blk_point [iblk, V_main_arg3, idx_val t]

/-- What the array holds after the run. -/
def out (c : Dev nD) : S2048x1024.Idx → EReal := fun i =>
  norm (fun k => m (c.tc.loc main_arg0) (ix2 (i 0) k)) (m (c.tc.loc main_arg1) (ix2 (0 : Fin 1) (i 1)))
    (m (c.tc.loc main_arg3) (ix2 (0 : Fin 1) (i 1))) (m (c.tc.loc main_arg2) (ix2 (0 : Fin 1) (i 1))) (i 1)

theorem arr (c : Dev nD) : (dats m 0 c).arrAt 4 cfg0.N = out m c := by
  refine (dats m 0 c).arrAt_eq_of_covers 4 (out m c) (by decide +kernel) fun t _ j => ?_
  blk_simp
  rw [after0_4]
  obtain ⟨r, l, rfl⟩ : ∃ (r : Fin 512) (l : Fin 1024), j = ix2 r l := ⟨j 0, j 1, by idx_vars j⟩
  have he : (win0_4.blk t).view.emb (ix2 r l) = ix2 (⟨512 * t.val + r.val, by have : t.val < 4 := t.isLt; omega⟩ : Fin 2048) l := by blk_ext [idx_val t]
  have key : out0_4 (iblk m c 0 t) (iblk m c 1 t) (iblk m c 2 t) (iblk m c 3 t) (ix2 r l)
      = norm (fun k => iblk m c 0 t (ix2 r k)) (iblk m c 1 t (ix2 (0 : Fin 1) l)) (iblk m c 3 t (ix2 (0 : Fin 1) l)) (iblk m c 2 t (ix2 (0 : Fin 1) l)) l := by
    unfold out0_4
    frame_out
    exact pay_at _ _ _ _ r l
  refine key.trans ?_
  rw [he, show iblk m c 1 t (ix2 (0 : Fin 1) l) = _ from g_point m c t l, show iblk m c 3 t (ix2 (0 : Fin 1) l) = _ from s_point m c t l,
    show iblk m c 2 t (ix2 (0 : Fin 1) l) = _ from b_point m c t l, show (fun k => iblk m c 0 t (ix2 r k)) = _ from funext fun k => x_point m c t r k]
  rfl

end Cert.PrenFIdeal.Hand

namespace Cert.PrenF.Hand

/-- The reference's arguments stay, and no counter moves. -/
theorem frame_ref : Cert.quiescent_PrenFRefIdeal (hPrenFRefIdeal := Cert.PrenFRefIdeal.Gen.facts) := fun m ρ _ =>
  (θ_run Cert.PrenFRefIdeal.defs _ _).mono (fun r h => ⟨fun c => (h c).2,
      Idealize.ShloMosaic.sem_eq_zero_of_no_sems (by decide) r.2⟩) (Cert.PrenFRefIdeal.Value.run (F := Ideal) m ρ)

theorem value : Cert.algebraic_PrenFIdeal_PrenFRefIdeal (hPrenFIdeal := Cert.PrenFIdeal.Gen.facts)
    (hPrenFRefIdeal := Cert.PrenFRefIdeal.Gen.facts) := by
  intro m ρ m' ρ' _ hargs
  refine ⟨_, Cert.PrenFIdeal.Value.run_blocks m ρ, ?_⟩
  refine (θ_run Cert.PrenFRefIdeal.defs _ _).mono (fun r h c => ?_) (Cert.PrenFRefIdeal.Value.run m' ρ')
  obtain ⟨h1, hk⟩ := h c
  obtain ⟨a0, a1, a2, a3⟩ := hargs c
  refine ⟨h1.trans ?_, hk⟩
  rw [a0, a1, a2, a3]
  refine Eq.trans ?_ (Cert.PrenFIdeal.Hand.arr m c).symm
  unfold Cert.PrenFIdeal.Hand.out
  generalize m (c.tc.loc Cert.PrenFIdeal.main_arg0) = x
  generalize m (c.tc.loc Cert.PrenFIdeal.main_arg1) = g
  generalize m (c.tc.loc Cert.PrenFIdeal.main_arg2) = b
  generalize m (c.tc.loc Cert.PrenFIdeal.main_arg3) = s
  funext i
  idx_vars i
  pointwise
  rfl

end Cert.PrenF.Hand

end
-- ==== Proof.AdafValue.lean ====
/- The layers' conditioning: the kernel's array is the reference's. -/
module

public import proofs.«01_k».proof.Defs
public import proofs.«01_k».proof.Proof.Gen.AdaFIdeal.Value
public import proofs.«01_k».proof.Proof.Gen.AdaFRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AdaF.Hand

open Cert.AdaFIdeal Cert.AdaFIdeal.Gen

/-- The conditioning's activation at an index. -/
def act (c : FVec Ideal S8x1024 .f32) (b : Fin 8) (k : Fin 1024) : EReal :=
  c (ix2 b k) * Ideal.div 1 (1 + Ideal.exp (0 - c (ix2 b k)))

variable (x : FVec Ideal S8x1024 .f32) (w : FVec Ideal S2x1024x384 .f32) (d : FVec Ideal S2x384 .f32)

/-- A layer's entry: the activation times that layer's weight, and its bias. -/
def cond (o : Fin 2) (b : Fin 8) (l : Fin 384) : EReal := (∑ k, act x b k * w (ix3 o k l)) + d (ix2 o l)

theorem pay2_at (v : FVec Ideal S1x1024x384 .f32) (e : FVec Ideal S1x384 .f32) (b : Fin 8) (l : Fin 384) :
    k0_pay2 (F := Ideal) x v e (ix3 (0 : Fin 1) b l) = (∑ k, act x b k * v (ix3 0 k l)) + e (ix2 0 l) := by
  pointwise [k0_pay2, k0_pay1]
  rfl

theorem pay3_at (v : FVec Ideal S1x1024x384 .f32) (e : FVec Ideal S1x384 .f32) (b : Fin 8) (l : Fin 384) :
    k0_pay3 (F := Ideal) x v e (ix3 (0 : Fin 1) b l) = (∑ k, act x b k * v (ix3 0 k l)) + e (ix2 0 l) := by
  pointwise [k0_pay3, k0_pay1]
  rfl

/-- A layer's weight and bias, read from the arrays of both. -/
theorem w_at {o : ℕ} (ho : o < 2) (inb : ∀ i : Fin 3, (![o, 0, 0] : Fin 3 → ℕ) i + (![1, 1024, 384] : Fin 3 → ℕ) i ≤ (![2, 1024, 384] : Fin 3 → ℕ) i)
    (k : Fin 1024) (l : Fin 384) :
    View.ld (Val := Elt Ideal) (e' := .f32) w (Rect.unit (s := S2x1024x384) ![o, 0, 0] ![1, 1024, 384] inb) (ix3 (0 : Fin 1) k l) = w (ix3 (⟨o, ho⟩ : Fin 2) k l) := by
  refine congrArg w (funext fun i => Fin.ext ?_)
  fin_cases i <;> simp [ix3, Rect.emb, Rect.unit]

theorem d_at {o : ℕ} (ho : o < 2) (inb : ∀ i : Fin 2, (![o, 0] : Fin 2 → ℕ) i + (![1, 384] : Fin 2 → ℕ) i ≤ (![2, 384] : Fin 2 → ℕ) i) (l : Fin 384) :
    View.ld (Val := Elt Ideal) (e' := .f32) d (Rect.unit (s := S2x384) ![o, 0] ![1, 384] inb) (ix2 (0 : Fin 1) l) = d (ix2 (⟨o, ho⟩ : Fin 2) l) := by
  refine congrArg d (funext fun i => Fin.ext ?_)
  fin_cases i <;> simp [ix2, Rect.emb, Rect.unit]

/-- Both layers' entries. -/
def conds : S2x8x384.Idx → EReal := fun i => cond x w d (i 0) (i 1) (i 2)

/-- Both pieces are the layers' entries. -/
theorem out_eq : Cert.AdaFIdeal.Value.G3 (F := Ideal) x w d = conds x w d := by
  funext y
  refine View.canon_apply_of_pieces (Val := Elt Ideal) (e := .f32) (conds x w d) _ ?_ y (cover0_3 _ _ y)
  intro pc hpc
  rcases List.mem_cons.mp hpc with rfl | hpc
  · intro j
    obtain ⟨o, b, l, rfl⟩ : ∃ (o : Fin 1) (b : Fin 8) (l : Fin 384), j = ix3 o b l := ⟨j 0, j 1, j 2, by idx_vars j⟩
    obtain rfl : o = 0 := Subsingleton.elim _ _
    have he : r0_6.emb (ix3 (0 : Fin 1) b l) = ix3 (1 : Fin 2) b l := by
      refine funext fun i => Fin.ext ?_
      fin_cases i <;> simp [ix3, Rect.emb, Rect.unit, r0_6]
    refine (pay3_at x _ _ b l).trans (Eq.trans ?_ (congrArg (conds x w d) he.symm))
    simp only [r0_4, r0_5]
    simp only [w_at w (by decide : 1 < 2), d_at d (by decide : 1 < 2)]
    rfl
  rcases List.mem_cons.mp hpc with rfl | hpc
  · intro j
    obtain ⟨o, b, l, rfl⟩ : ∃ (o : Fin 1) (b : Fin 8) (l : Fin 384), j = ix3 o b l := ⟨j 0, j 1, j 2, by idx_vars j⟩
    obtain rfl : o = 0 := Subsingleton.elim _ _
    have he : r0_3.emb (ix3 (0 : Fin 1) b l) = ix3 (0 : Fin 2) b l := by
      refine funext fun i => Fin.ext ?_
      fin_cases i <;> simp [ix3, Rect.emb, Rect.unit, r0_3]
    refine (pay2_at x _ _ b l).trans (Eq.trans ?_ (congrArg (conds x w d) he.symm))
    simp only [r0_1, r0_2]
    simp only [w_at w (by decide : 0 < 2), d_at d (by decide : 0 < 2)]
    rfl
  nomatch hpc

/-- The reference's arguments stay, and no counter moves. -/
theorem frame_ref : Cert.quiescent_AdaFRefIdeal (hAdaFRefIdeal := Cert.AdaFRefIdeal.Gen.facts) := fun m ρ _ =>
  (θ_run Cert.AdaFRefIdeal.defs _ _).mono (fun r h => ⟨fun c => (h c).2,
      Idealize.ShloMosaic.sem_eq_zero_of_no_sems (by decide) r.2⟩) (Cert.AdaFRefIdeal.Value.run (F := Ideal) m ρ)

theorem value : Cert.algebraic_AdaFIdeal_AdaFRefIdeal (hAdaFIdeal := Cert.AdaFIdeal.Gen.facts)
    (hAdaFRefIdeal := Cert.AdaFRefIdeal.Gen.facts) := by
  intro m ρ m' ρ' _ hargs
  refine ⟨_, Cert.AdaFIdeal.Value.run m ρ, ?_⟩
  refine (θ_run Cert.AdaFRefIdeal.defs _ _).mono (fun r h c => ?_) (Cert.AdaFRefIdeal.Value.run m' ρ')
  obtain ⟨h1, hk⟩ := h c
  obtain ⟨a0, a1, a2⟩ := hargs c
  refine ⟨h1.trans ?_, hk⟩
  rw [a0, a1, a2]
  generalize m (c.tc.loc Cert.AdaFIdeal.main_arg0) = x
  generalize m (c.tc.loc Cert.AdaFIdeal.main_arg1) = w
  generalize m (c.tc.loc Cert.AdaFIdeal.main_arg2) = d
  refine Eq.trans ?_ (out_eq x w d).symm
  funext i
  idx_vars i
  show _ = cond _ _ _ _ _ _
  pointwise
  rcases (by omega : i0.val = 0 ∨ i0.val = 1) with h | h
  · obtain rfl : i0 = 0 := Fin.ext h
    simp [cond, act]
  · obtain rfl : i0 = 1 := Fin.ext h
    simp [cond, act]

end Cert.AdaF.Hand

end
-- ==== Proof.LbfValue.lean ====
/- The layers' lower bounds: the kernel's array is the reference's. -/
module

public import proofs.«01_k».proof.Defs
public import proofs.«01_k».proof.Proof.Gen.LbFIdeal.Value
public import proofs.«01_k».proof.Proof.Gen.LbFRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.LbF.Hand

open Cert.LbFRefIdeal Cert.LbFRefIdeal.Gen

variable {q : Fin 1024}

theorem bits_neg_inf : Ideal.ofBits .f32 0xFF800000#32 = ⊥ := by
  simp [Ideal.ofBits, Ideal.ieee]

/-- The larger of two. -/
theorem max_two (f : Fin 2 → EReal) : Finset.fold max (⊥ : EReal) f Finset.univ = max (f 0) (f 1) := by
  rw [show (Finset.univ : Finset (Fin 2)) = {0, 1} from rfl, Finset.fold_insert (by decide), Finset.fold_singleton, max_bot_right]

/-- The window's positions, one for each row. -/
def winEquiv : (⟨2, ![2, 1]⟩ : Shape).Idx ≃ Fin 2 where
  toFun p := p 0
  invFun w := ix2 w (0 : Fin 1)
  left_inv p := by
    funext a
    fin_cases a
    · rfl
    · exact Subsingleton.elim (α := Fin 1) _ _
  right_inv _ := rfl

/-- A fold of additions is the start plus the sum. -/
theorem foldl_sum {n : ℕ} (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, Fin.sum_univ_def]

/-- A window of two rows over a column padded by `lo` rows above, at an index. -/
theorem window_at (lo hi : ℕ) (hw : S2x1024.ReduceWindows (![2, 1] : Fin 2 → Nat) ![1, 1] ![lo, 0] ![hi, 0] S2x1024)
    (x : FVec Ideal S2x1024 .f32) (init : FVec Ideal S_ .f32) (hi0 : init ix0 = 0) (o : Fin 2) :
    Host.reduceWindowAdd (F := Ideal) ![2, 1] ![1, 1] ![lo, 0] ![hi, 0] x init hw h_S_ (ix2 o q)
      = ∑ w : Fin 2, if h : lo ≤ o.val + w.val ∧ o.val + w.val - lo < 2 then x (ix2 ⟨o.val + w.val - lo, h.2⟩ q) else 0 := by
  have hv : init (Shape.Idx.first h_S_) = 0 := (congrArg init (funext fun a => a.elim0)).trans hi0
  have hq := q.isLt
  show Host.reduceWindow (· + ·) ![2, 1] ![1, 1] ![lo, 0] ![hi, 0] x
    (fun _ : (⟨0, ![]⟩ : Shape).Idx => init (Shape.Idx.first h_S_)) hw h_S_ (ix2 o q) = _
  unfold Host.reduceWindow
  dsimp only
  rw [hv, foldl_sum, zero_add, ← Equiv.sum_comp winEquiv, ← Equiv.sum_comp ((⟨2, ![2, 1]⟩ : Shape).rowMajor.symm)]
  refine Finset.sum_congr rfl fun n _ => ?_
  let p := (⟨2, ![2, 1]⟩ : Shape).rowMajor.symm n
  have h1 : (p 1).val = 0 := Nat.lt_one_iff.1 (p 1).isLt
  have hw : (winEquiv ((⟨2, ![2, 1]⟩ : Shape).rowMajor.symm n)).val = (p 0).val := rfl
  by_cases hc : lo ≤ o.val + (winEquiv ((⟨2, ![2, 1]⟩ : Shape).rowMajor.symm n)).val
      ∧ o.val + (winEquiv ((⟨2, ![2, 1]⟩ : Shape).rowMajor.symm n)).val - lo < 2
  · rw [dif_pos (by
      intro a
      fin_cases a
      · show lo ≤ o.val * 1 + (p 0).val ∧ o.val * 1 + (p 0).val - lo < 2; omega
      · show 0 ≤ q.val * 1 + (p 1).val ∧ q.val * 1 + (p 1).val - 0 < 1024; omega)]
    rw [dif_pos hc]
    refine congrArg x ?_
    funext a
    fin_cases a
    · exact Fin.ext (by show o.val * 1 + (p 0).val - lo = o.val + (p 0).val - lo; omega)
    · exact Fin.ext (by show q.val * 1 + (p 1).val - 0 = q.val; omega)
  · rw [dif_neg (fun e => hc (by
      have e0 : lo ≤ o.val * 1 + (p 0).val ∧ o.val * 1 + (p 0).val - lo < 2 := e 0
      omega))]
    rw [dif_neg hc]

variable (x : FVec Ideal S2x1024 .f32) (init : FVec Ideal S_ .f32) (hi0 : init ix0 = 0)
include hi0

/-- The sum from above: the first row alone, -/
theorem above0 : Host.reduceWindowAdd (F := Ideal) ![2, 1] ![1, 1] ![1, 0] ![0, 0] x init reduceWindows_S2x1024_S2x1024_w2s1p1_0_w1s1p0_0 h_S_ (ix2 0 q) = x (ix2 0 q) := by
  rw [window_at 1 0 _ _ _ hi0, Fin.sum_univ_two, dif_neg (by decide), dif_pos (by decide), zero_add]
  rfl

/-- then both. -/
theorem above1 : Host.reduceWindowAdd (F := Ideal) ![2, 1] ![1, 1] ![1, 0] ![0, 0] x init reduceWindows_S2x1024_S2x1024_w2s1p1_0_w1s1p0_0 h_S_ (ix2 1 q) = x (ix2 0 q) + x (ix2 1 q) := by
  rw [window_at 1 0 _ _ _ hi0, Fin.sum_univ_two, dif_pos (by decide), dif_pos (by decide)]
  rfl

omit hi0

/-- The share of a column's entry `a` beside `b`, and the larger one's place in it. -/
def share (a b : EReal) (x : EReal) : EReal :=
  Ideal.div (Ideal.exp (x - max a b)) (Ideal.exp (a - max a b) + Ideal.exp (b - max a b))

/-- A column's two bounds. -/
def bound (a b : EReal) (o : Fin 2) : EReal :=
  if o = 0 then min 1 (max 0 (share a b a - share a b a)) else min 1 (max 0 (share a b a + share a b b - share a b a))

/-- The kernel's two rows are the bounds. -/
theorem pay6_at (x : FVec Ideal S2x1024 .f32) :
    Cert.LbFIdeal.Gen.k0_pay6 (F := Ideal) x (ix2 (0 : Fin 1) q) = bound (x (ix2 0 q)) (x (ix2 1 q)) 0 := by
  pointwise [Cert.LbFIdeal.Gen.k0_pay6, Cert.LbFIdeal.Gen.k0_pay5, Cert.LbFIdeal.Gen.k0_pay4, Cert.LbFIdeal.Gen.k0_pay3, Cert.LbFIdeal.Gen.k0_pay2, Cert.LbFIdeal.Gen.k0_pay1]
  rfl

theorem pay7_at (x : FVec Ideal S2x1024 .f32) :
    Cert.LbFIdeal.Gen.k0_pay7 (F := Ideal) x (ix2 (0 : Fin 1) q) = bound (x (ix2 0 q)) (x (ix2 1 q)) 1 := by
  pointwise [Cert.LbFIdeal.Gen.k0_pay7, Cert.LbFIdeal.Gen.k0_pay5, Cert.LbFIdeal.Gen.k0_pay4, Cert.LbFIdeal.Gen.k0_pay3, Cert.LbFIdeal.Gen.k0_pay2, Cert.LbFIdeal.Gen.k0_pay1]
  rfl

/-- The reference's shares at an index. -/
def soft (x : FVec Ideal S2x1024 .f32) : FVec Ideal S2x1024 .f32 :=
  Host.divf (Host.exp (subf x (broadcastInDim S2x1024 ![0, 1] bcast_S1x1024_S2x1024_0_1 (broadcastInDim S1x1024 ![1] bcast_S1024_S1x1024_1
    (maximumf (broadcastInDim S1024 ![] bcast_S_S1024 (constant S_ .f32 0xFF800000#32)) (Host.reduce FloatOps.maximumf x (constant S_ .f32 0xFF800000#32)
      reducesTo_S2x1024_S1024_d0 h_S_))))))
    (broadcastInDim S2x1024 ![0, 1] bcast_S1x1024_S2x1024_0_1 (broadcastInDim S1x1024 ![1] bcast_S1024_S1x1024_1 (Host.reduceAdd
      (Host.exp (subf x (broadcastInDim S2x1024 ![0, 1] bcast_S1x1024_S2x1024_0_1 (broadcastInDim S1x1024 ![1] bcast_S1024_S1x1024_1
        (maximumf (broadcastInDim S1024 ![] bcast_S_S1024 (constant S_ .f32 0xFF800000#32)) (Host.reduce FloatOps.maximumf x (constant S_ .f32 0xFF800000#32)
          reducesTo_S2x1024_S1024_d0 h_S_)))))) (constant S_ .f32 0x00000000#32) reducesTo_S2x1024_S1024_d0 h_S_)))

theorem soft_at (x : FVec Ideal S2x1024 .f32) (o : Fin 2) : soft x (ix2 o q) = share (x (ix2 0 q)) (x (ix2 1 q)) (x (ix2 o q)) := by
  unfold soft share
  pointwise
  rw [bits_neg_inf, max_two, max_bot_left]
  simp only [Fin.sum_univ_two]

theorem id0 : (id (constant (F := Ideal) S_ .f32 0x00000000#32) : FVec Ideal S_ .f32) ix0 = 0 := by
  show constant (F := Ideal) S_ .f32 0x00000000#32 ix0 = 0
  pointwise

theorem id1 : (id (constant (F := Ideal) S_ .f32 0x3F800000#32) : FVec Ideal S_ .f32) ix0 = 1 := by
  show constant (F := Ideal) S_ .f32 0x3F800000#32 ix0 = 1
  pointwise

theorem init0 : (broadcastInDim S_ ![] bcast_S_S_ (constant (F := Ideal) S_ .f32 0x00000000#32) : FVec Ideal S_ .f32) ix0 = 0 := by
  pointwise

/-- The reference's result, of its shares. -/
theorem ref_eq (p : FVec Ideal S2x1024 .f32) (o : Fin 2) :
    (minimumf (broadcastInDim S2x1024 ![] bcast_S_S2x1024 (id (constant (F := Ideal) S_ .f32 0x3F800000#32)))
      (maximumf (broadcastInDim S2x1024 ![] bcast_S_S2x1024 (id (constant (F := Ideal) S_ .f32 0x00000000#32)))
        (subf (Host.reduceWindowAdd ![2, 1] ![1, 1] ![1, 0] ![0, 0] p (broadcastInDim S_ ![] bcast_S_S_ (constant (F := Ideal) S_ .f32 0x00000000#32))
            reduceWindows_S2x1024_S2x1024_w2s1p1_0_w1s1p0_0 h_S_)
          (broadcastInDim S2x1024 ![0, 1] bcast_S1x1024_S2x1024_0_1 (extractStridedSlice S1x1024 ![0, 0] p slices_S2x1024_S1x1024_0_0)))) : FVec Ideal S2x1024 .f32) (ix2 o q)
      = min 1 (max 0 ((if o = 0 then p (ix2 0 q) else p (ix2 0 q) + p (ix2 1 q)) - p (ix2 0 q))) := by
  have h : Host.reduceWindowAdd (F := Ideal) ![2, 1] ![1, 1] ![1, 0] ![0, 0] p (broadcastInDim S_ ![] bcast_S_S_ (constant (F := Ideal) S_ .f32 0x00000000#32))
      reduceWindows_S2x1024_S2x1024_w2s1p1_0_w1s1p0_0 h_S_ (ix2 o q) = if o = 0 then p (ix2 0 q) else p (ix2 0 q) + p (ix2 1 q) := by
    rcases (by omega : o.val = 0 ∨ o.val = 1) with h | h
    · obtain rfl : o = 0 := Fin.ext h
      rw [if_pos rfl]
      exact above0 _ _ init0
    · obtain rfl : o = 1 := Fin.ext h
      rw [if_neg (by decide)]
      exact above1 _ _ init0
  rw [← h]
  pointwise
  rw [id0, id1]
  try rfl

/-- All columns' bounds. -/
def bounds (x : FVec Ideal S2x1024 .f32) : S2x1024.Idx → EReal := fun i => bound (x (ix2 0 (i 1))) (x (ix2 1 (i 1))) (i 0)

theorem out_eq (x : FVec Ideal S2x1024 .f32) :
    Cert.LbFIdeal.Value.G1 (F := Ideal) x = bounds x := by
  funext y
  refine View.canon_apply_of_pieces (Val := Elt Ideal) (e := .f32) (bounds x) _ ?_ y
    (Cert.LbFIdeal.Gen.cover0_1 _ _ y)
  intro pc hpc
  rcases List.mem_cons.mp hpc with rfl | hpc
  · intro j
    obtain ⟨o, l, rfl⟩ : ∃ (o : Fin 1) (l : Fin 1024), j = ix2 o l := ⟨j 0, j 1, by idx_vars j⟩
    obtain rfl : o = 0 := Subsingleton.elim _ _
    have he : Cert.LbFIdeal.Gen.r0_2.emb (ix2 (0 : Fin 1) l) = ix2 (1 : Fin 2) l := by
      refine funext fun i => Fin.ext ?_
      fin_cases i <;> simp [ix2, Rect.emb, Rect.unit, Cert.LbFIdeal.Gen.r0_2]
    exact (pay7_at x).trans (congrArg (bounds x) he.symm)
  rcases List.mem_cons.mp hpc with rfl | hpc
  · intro j
    obtain ⟨o, l, rfl⟩ : ∃ (o : Fin 1) (l : Fin 1024), j = ix2 o l := ⟨j 0, j 1, by idx_vars j⟩
    obtain rfl : o = 0 := Subsingleton.elim _ _
    have he : Cert.LbFIdeal.Gen.r0_1.emb (ix2 (0 : Fin 1) l) = ix2 (0 : Fin 2) l := by
      refine funext fun i => Fin.ext ?_
      fin_cases i <;> simp [ix2, Rect.emb, Rect.unit, Cert.LbFIdeal.Gen.r0_1]
    exact (pay6_at x).trans (congrArg (bounds x) he.symm)
  nomatch hpc

/-- The reference's arguments stay, and no counter moves. -/
theorem frame_ref : Cert.quiescent_LbFRefIdeal (hLbFRefIdeal := Cert.LbFRefIdeal.Gen.facts) := fun m ρ _ =>
  (θ_run Cert.LbFRefIdeal.defs _ _).mono (fun r h => ⟨fun c => (h c).2,
      Idealize.ShloMosaic.sem_eq_zero_of_no_sems (by decide) r.2⟩) (Cert.LbFRefIdeal.Value.run (F := Ideal) m ρ)

theorem value : Cert.algebraic_LbFIdeal_LbFRefIdeal (hLbFIdeal := Cert.LbFIdeal.Gen.facts)
    (hLbFRefIdeal := Cert.LbFRefIdeal.Gen.facts) := by
  intro m ρ m' ρ' _ hargs
  refine ⟨_, Cert.LbFIdeal.Value.run m ρ, ?_⟩
  refine (θ_run Cert.LbFRefIdeal.defs _ _).mono (fun r h c => ?_) (Cert.LbFRefIdeal.Value.run m' ρ')
  obtain ⟨h1, hk⟩ := h c
  have a0 := hargs c
  refine ⟨h1.trans ?_, hk⟩
  rw [a0]
  generalize m (c.tc.loc Cert.LbFIdeal.main_arg0) = x
  refine Eq.trans ?_ (out_eq x).symm
  funext i
  obtain ⟨o, l, rfl⟩ : ∃ (o : Fin 2) (l : Fin 1024), i = ix2 o l := ⟨i 0, i 1, by idx_vars i⟩
  refine (ref_eq (soft x) o).trans ?_
  show _ = bound (x (ix2 0 l)) (x (ix2 1 l)) o
  rw [soft_at, soft_at, bound]
  split_ifs <;> rfl

end Cert.LbF.Hand

end
-- ==== Proof.PoolfMath.lean ====
/- The sums over the last rows: by doubling, and as a difference of running sums. -/
module

public import proofs.«01_k».proof.Defs

@[expose] public section

noncomputable section

namespace Cert.PoolMath

open Finset

/-- The sum of the last `w` of the numbers up to `t`, -/
def win (X : ℕ → ℝ) (w t : ℕ) : ℝ := ∑ j ∈ range w, if j ≤ t then X (t - j) else 0

/-- of all of them, -/
def cum (X : ℕ → ℝ) (t : ℕ) : ℝ := ∑ j ∈ range (t + 1), X j

/-- and the mean of the last `w`, less the number itself. -/
def mean (X : ℕ → ℝ) (w t : ℕ) : ℝ := win X w t / min ((t : ℝ) + 1) w - X t

variable (X : ℕ → ℝ)

theorem win_one (t : ℕ) : win X 1 t = X t := by simp [win]

/-- Twice as many: the last `w`, and the `w` before them. -/
theorem win_double (w t : ℕ) : win X w t + (if w ≤ t then win X w (t - w) else 0) = win X (w + w) t := by
  unfold win
  rw [sum_range_add]
  congr 1
  split_ifs with h
  · refine sum_congr rfl fun j _ => ?_
    by_cases hj : j ≤ t - w
    · rw [if_pos hj, if_pos (by omega), show t - w - j = t - (w + j) by omega]
    · rw [if_neg hj, if_neg (by omega)]
  · exact (sum_eq_zero fun j _ => if_neg (by omega)).symm

theorem cum_eq (t : ℕ) : cum X t = ∑ j ∈ range (t + 1), X (t - j) := by
  rw [cum, ← sum_range_reflect]
  exact sum_congr rfl fun j _ => by rw [show t + 1 - 1 - j = t - j by omega]

/-- The difference of two running sums. -/
theorem cum_sub (w t : ℕ) : cum X t - (if w ≤ t then cum X (t - w) else 0) = win X w t := by
  unfold win
  split_ifs with h
  · rw [cum_eq, cum_eq, show t + 1 = w + (t - w + 1) by omega, sum_range_add, sub_eq_iff_eq_add]
    congr 1
    · exact sum_congr rfl fun j hj => (if_pos (by have := mem_range.1 hj; omega)).symm
    · exact sum_congr rfl fun j _ => by rw [show t - (w + j) = t - w - j by omega]
  · obtain ⟨r, rfl⟩ : ∃ r, w = t + 1 + r := ⟨w - (t + 1), by omega⟩
    rw [sub_zero, cum_eq, sum_range_add _ (t + 1) r, sum_eq_zero (fun j _ => if_neg (by omega)) (s := range r), add_zero]
    exact sum_congr rfl fun j hj => (if_pos (by have := mem_range.1 hj; omega)).symm

end Cert.PoolMath

end
-- ==== Proof.PoolfKernel.lean ====
/- What the pooling kernel leaves in its array. -/
module

public import proofs.«01_k».proof.Defs
public import proofs.«01_k».proof.Proof.Gen.PoolFIdeal.Value
public import proofs.«01_k».proof.Proof.Reals
public import proofs.«01_k».proof.Proof.PoolfMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-- A column of the array as real numbers. -/
def Cert.PoolMath.col (z : FVec Ideal ⟨2, ![2048, 7168]⟩ .f32) (c : ℕ) (t : ℕ) : ℝ :=
  if h : t < 2048 ∧ c < 7168 then (z (ix2 ⟨t, h.1⟩ ⟨c, h.2⟩)).toReal else 0

/-- A group's entry: the means times the group's weight, scaled and gated. -/
def Cert.PoolMath.entry (p : Fin 128 → EReal) (w : Fin 128 → EReal) (s g : EReal) : EReal :=
  (∑ k, p k * w k) * s * (g * Ideal.div 1 (1 + Ideal.exp (0 - g)))

namespace Cert.PoolFIdeal.Hand

open Cert.PoolFIdeal Cert.PoolFIdeal.Gen Cert.PoolMath WordCmp

/-- A doubling: the array and itself `k` rows up. -/
def step (k : ℕ) (v : FVec Ideal S2048x128 .f32) : FVec Ideal S2048x128 .f32 :=
  addf v (select (cmpi .sge (iota .tc S2048x128 32 [0] iota_S2048x128_d0_w32) (broadcast S2048x128 (BitVec.ofNat 32 k)))
    (dynamicRotate 0 (BitVec.ofNat 32 k) none v rotates_S2048x128_d0) (broadcast S2048x128 (Scalar.ofBits .f32 0x00000000#32)))

/-- One over how many rows there are to sum. -/
def inv (a b : BitVec 32) : FVec Ideal S2048x128 .f32 :=
  concatenate S2048x128 0 [⟨S16x128, divf (broadcast S16x128 (Scalar.ofBits .f32 0x3F800000#32)) (minimumf (addf (sitofp .f32 (iota .tc S16x128 32 [0] iota_S16x128_d0_w32))
    (broadcast S16x128 (Scalar.ofBits .f32 0x3F800000#32))) (broadcast S16x128 (Scalar.ofBits .f32 a)))⟩, ⟨S2032x128, broadcast S2032x128 (Scalar.ofBits .f32 b)⟩]
    concatenates_S16x128_S2032x128_S2048x128_d0

/-- The mean of a window's sum `s`, less the array. -/
def less (s : FVec Ideal S2048x128 .f32) (a b : BitVec 32) (v : FVec Ideal S2048x128 .f32) : FVec Ideal S2048x128 .f32 := subf (mulf s (inv a b)) v

/-- What is made of the means. -/
def gated (p : FVec Ideal S2048x128 .f32) (w : FVec Ideal S1x128x128 .f32) (s : FVec Ideal S1x128 .f32) (g : FVec Ideal S2048x128 .f32) : FVec Ideal S2048x128 .bf16 :=
  truncf .bf16 (mulf (mulf (matmul dot_S2048x128_S128x128_S2048x128_1_0_0_1_n_n none (truncf .bf16 p bitsLt_bf16_f32)
      (truncf .bf16 (shapeCast S128x128 w shapeCasts_S1x128x128_S128x128) bitsLt_bf16_f32) (constant S2048x128 .f32 0x00000000#32)) (broadcastTo S2048x128 s broadcasts_S1x128_S2048x128))
    (mulf g (divf (broadcast S2048x128 (Scalar.ofBits .f32 0x3F800000#32)) (addf (broadcast S2048x128 (Scalar.ofBits .f32 0x3F800000#32))
      (exp (subf (broadcast S2048x128 (Scalar.ofBits .f32 0x00000000#32)) g)))))) bitsLt_bf16_f32

section
variable (v : FVec Ideal S2048x128 .f32) (w : FVec Ideal S1x128x128 .f32) (s : FVec Ideal S1x128 .f32) (g : FVec Ideal S2048x128 .f32)

theorem payA : k0_pay4 (F := Ideal) v w s g = gated (less (step 1 v) 0x40000000#32 0x3F000000#32 v) w s g := rfl

theorem payB : k0_pay1 (F := Ideal) (k0_pay5 v w s) g (k0_pay6 g) (Scalar.ofBits .f32 0x3F800000#32)
    = gated (less (step 2 (step 1 v)) 0x40800000#32 0x3E800000#32 v) w s g := rfl

theorem payC : k0_pay2 (F := Ideal) (k0_pay7 v w) (k0_pay8 s) g = gated (less (step 4 (step 2 (step 1 v))) 0x41000000#32 0x3E000000#32 v) w s g := rfl

theorem payD : k0_pay3 (F := Ideal) (k0_pay9 v) w s g = gated (less (step 8 (step 4 (step 2 (step 1 v)))) 0x41800000#32 0x3D800000#32 v) w s g := rfl

theorem gated_at (p : FVec Ideal S2048x128 .f32) (t : Fin 2048) (l : Fin 128) :
    gated p w s g (ix2 t l) = entry (fun k => p (ix2 t k)) (fun k => w (ix3 0 k l)) (s (ix2 0 l)) (g (ix2 t l)) := by
  unfold gated
  pointwise
  rfl
end

theorem step_at {k : ℕ} (hk : k < 2048) (v : FVec Ideal S2048x128 .f32) (t : Fin 2048) (l : Fin 128) :
    step k v (ix2 t l) = v (ix2 t l) + if h : k ≤ t.val then v (ix2 ⟨t.val - k, by omega⟩ l) else 0 := by
  unfold step
  pointwise
  rw [cmpi_sge_ofNat (by omega) (by omega)]
  rw [select_decide]
  split_ifs with h
  · refine congrArg (fun i => _ + v (ix2 i l)) (Fin.ext ?_)
    show (t.val + 2048 - (BitVec.ofNat 32 k).toNat % 2048) % 2048 = t.val - k
    rw [BitVec.toNat_ofNat]
    omega
  · rfl

/-- A doubling's window. -/
theorem step_win {k : ℕ} (hk : k < 2048) {v : FVec Ideal S2048x128 .f32} {l : Fin 128} {X : ℕ → ℝ} (hv : ∀ t : Fin 2048, v (ix2 t l) = (win X k t.val : EReal)) (t : Fin 2048) :
    step k v (ix2 t l) = (win X (k + k) t.val : EReal) := by
  rw [step_at hk, ← win_double, EReal.coe_add, hv]
  congr 1
  split_ifs
  · exact hv _
  · rfl

theorem inv_at {a b : BitVec 32} {n : ℕ} (hn : 0 < n) (hn' : n ≤ 16) (ha : Ideal.ofBits .f32 a = ((n : ℝ) : EReal)) (hb : Ideal.ofBits .f32 b = ((1 / n : ℝ) : EReal))
    (t : Fin 2048) (l : Fin 128) : inv a b (ix2 t l) = ((1 / min ((t.val : ℝ) + 1) n : ℝ) : EReal) := by
  have hp : (0 : ℝ) < n := Nat.cast_pos.2 hn
  unfold inv
  pointwise
  rw [ha, hb]
  split_ifs with h
  · rw [show FloatOps.sitofp (F := Ideal) .f32 (BitVec.ofNat 32 t.val) = ((t.val : ℝ) : EReal) by
      show ((((BitVec.ofNat 32 t.val).toInt : ℤ) : ℝ) : EReal) = _
      rw [toInt_ofNat_of_lt (by omega)]; rfl]
    rw [← EReal.coe_one, ← EReal.coe_add, ← (EReal.coe_strictMono.monotone.map_min (a := (t.val : ℝ) + 1) (b := (n : ℝ))), Reals.div_real _ (by positivity)]
  · rw [min_eq_right]
    exact_mod_cast (by omega : n ≤ t.val + 1)

theorem less_at {a b : BitVec 32} {n : ℕ} (hn : 0 < n) (hn' : n ≤ 16) (ha : Ideal.ofBits .f32 a = ((n : ℝ) : EReal)) (hb : Ideal.ofBits .f32 b = ((1 / n : ℝ) : EReal))
    {v s : FVec Ideal S2048x128 .f32} {l : Fin 128} {X : ℕ → ℝ} (hv : ∀ t : Fin 2048, v (ix2 t l) = (X t.val : EReal)) (hs : ∀ t : Fin 2048, s (ix2 t l) = (win X n t.val : EReal))
    (t : Fin 2048) : less s a b v (ix2 t l) = (mean X n t.val : EReal) := by
  show s (ix2 t l) * inv a b (ix2 t l) - v (ix2 t l) = _
  rw [hv, hs, inv_at hn hn' ha hb, ← EReal.coe_mul, ← EReal.coe_sub, mul_one_div]
  rfl

/-- The windows' lengths and their reciprocals as the kernel has them. -/
theorem bits_len : Ideal.ofBits .f32 0x40000000#32 = (((2 : ℕ) : ℝ) : EReal) ∧ Ideal.ofBits .f32 0x40800000#32 = (((4 : ℕ) : ℝ) : EReal)
    ∧ Ideal.ofBits .f32 0x41000000#32 = (((8 : ℕ) : ℝ) : EReal) ∧ Ideal.ofBits .f32 0x41800000#32 = (((16 : ℕ) : ℝ) : EReal) := by
  refine ⟨?_, ?_, ?_, ?_⟩ <;> simp [Ideal.ofBits, Ideal.ieee, ← EReal.coe_mul] <;> norm_num

theorem bits_rec : Ideal.ofBits .f32 0x3F000000#32 = ((1 / (2 : ℕ) : ℝ) : EReal) ∧ Ideal.ofBits .f32 0x3E800000#32 = ((1 / (4 : ℕ) : ℝ) : EReal)
    ∧ Ideal.ofBits .f32 0x3E000000#32 = ((1 / (8 : ℕ) : ℝ) : EReal) ∧ Ideal.ofBits .f32 0x3D800000#32 = ((1 / (16 : ℕ) : ℝ) : EReal) := by
  refine ⟨?_, ?_, ?_, ?_⟩ <;> simp [Ideal.ofBits, Ideal.ieee, ← EReal.coe_mul] <;> norm_num

section
variable {v : FVec Ideal S2048x128 .f32} {l : Fin 128} {X : ℕ → ℝ} (hv : ∀ t : Fin 2048, v (ix2 t l) = (X t.val : EReal))
include hv

theorem win2 (t : Fin 2048) : step 1 v (ix2 t l) = (win X 2 t.val : EReal) :=
  step_win (k := 1) (by decide) (fun t => (hv t).trans (by rw [win_one])) t

theorem win4 (t : Fin 2048) : step 2 (step 1 v) (ix2 t l) = (win X 4 t.val : EReal) := step_win (k := 2) (by decide) (win2 hv) t

theorem win8 (t : Fin 2048) : step 4 (step 2 (step 1 v)) (ix2 t l) = (win X 8 t.val : EReal) := step_win (k := 4) (by decide) (win4 hv) t

theorem win16 (t : Fin 2048) : step 8 (step 4 (step 2 (step 1 v))) (ix2 t l) = (win X 16 t.val : EReal) := step_win (k := 8) (by decide) (win8 hv) t
end

section
variable {v : FVec Ideal S2048x128 .f32} {X : Fin 128 → ℕ → ℝ} (hv : ∀ (t : Fin 2048) (k : Fin 128), v (ix2 t k) = (X k t.val : EReal))
  (w : FVec Ideal S1x128x128 .f32) (s : FVec Ideal S1x128 .f32) (g : FVec Ideal S2048x128 .f32) (t : Fin 2048) (l : Fin 128)

/-- An entry of a group with windows of length `n`. -/
def goal (X : Fin 128 → ℕ → ℝ) (n : ℕ) (w : FVec Ideal S1x128x128 .f32) (s : FVec Ideal S1x128 .f32) (g : FVec Ideal S2048x128 .f32) (t : Fin 2048) (l : Fin 128) : EReal :=
  entry (fun k => (mean (X k) n t.val : EReal)) (fun k => w (ix3 0 k l)) (s (ix2 0 l)) (g (ix2 t l))

include hv in
theorem gated_less {n : ℕ} {a b : BitVec 32} {u : FVec Ideal S2048x128 .f32} (hn : 0 < n) (hn' : n ≤ 16) (ha : Ideal.ofBits .f32 a = ((n : ℝ) : EReal))
    (hb : Ideal.ofBits .f32 b = ((1 / n : ℝ) : EReal)) (hu : ∀ (t : Fin 2048) (k : Fin 128), u (ix2 t k) = (win (X k) n t.val : EReal)) :
    gated (less u a b v) w s g (ix2 t l) = goal X n w s g t l := by
  rw [gated_at]
  exact congrArg (fun p => entry p _ _ _) (funext fun k => less_at hn hn' ha hb (fun t => hv t k) (fun t => hu t k) t)

include hv

theorem atA : k0_pay4 (F := Ideal) v w s g (ix2 t l) = goal X 2 w s g t l :=
  (congrFun (payA v w s g) _).trans (gated_less hv w s g t l (by decide) (by decide) bits_len.1 bits_rec.1 fun t k => win2 (fun t => hv t k) t)

theorem atB : k0_pay1 (F := Ideal) (k0_pay5 v w s) g (k0_pay6 g) (Scalar.ofBits .f32 0x3F800000#32) (ix2 t l) = goal X 4 w s g t l :=
  (congrFun (payB v w s g) _).trans (gated_less hv w s g t l (by decide) (by decide) bits_len.2.1 bits_rec.2.1 fun t k => win4 (fun t => hv t k) t)

theorem atC : k0_pay2 (F := Ideal) (k0_pay7 v w) (k0_pay8 s) g (ix2 t l) = goal X 8 w s g t l :=
  (congrFun (payC v w s g) _).trans (gated_less hv w s g t l (by decide) (by decide) bits_len.2.2.1 bits_rec.2.2.1 fun t k => win8 (fun t => hv t k) t)

theorem atD : k0_pay3 (F := Ideal) (k0_pay9 v) w s g (ix2 t l) = goal X 16 w s g t l :=
  (congrFun (payD v w s g) _).trans (gated_less hv w s g t l (by decide) (by decide) bits_len.2.2.2 bits_rec.2.2.2 fun t k => win16 (fun t => hv t k) t)
end

/-- The blocks' places. -/
theorem idx_val : ∀ t : Fin cfg0.N, win0_0.index t = ![0, t.val] ∧ win0_1.index t = ![0, 4 + t.val] ∧ win0_2.index t = ![t.val, 0, 0]
    ∧ win0_3.index t = ![0, t.val] ∧ win0_4.index t = ![0, t.val] := by decide +kernel

variable (m : (ℓ : Loc nD τ sig) → Buf (Elt Ideal) ℓ) (c : Dev nD)

theorem x_point (t : Fin 4) (r : Fin 2048) (k : Fin 128) :
    iblk m c 0 t (ix2 r k) = m (c.tc.loc main_arg0) (ix2 r (⟨128 * t.val + k.val, by omega⟩ : Fin 7168)) := by
  blk_point [iblk, V_main_arg0, idx_val t]

theorem g_point (t : Fin 4) (r : Fin 2048) (k : Fin 128) :
    iblk m c 1 t (ix2 r k) = m (c.tc.loc main_arg0) (ix2 r (⟨512 + (128 * t.val + k.val), by omega⟩ : Fin 7168)) := by
  blk_point [iblk, V_main_arg0, idx_val t]

theorem w_point (t : Fin 4) (k l : Fin 128) : iblk m c 2 t (ix3 (0 : Fin 1) k l) = m (c.tc.loc main_arg1) (ix3 t k l) := by
  blk_point [iblk, V_main_arg1, idx_val t]

theorem s_point (t : Fin 4) (l : Fin 128) :
    iblk m c 3 t (ix2 (0 : Fin 1) l) = m (c.tc.loc main_arg2) (ix2 (0 : Fin 1) (⟨128 * t.val + l.val, by omega⟩ : Fin 512)) := by
  blk_point [iblk, V_main_arg2, idx_val t]

/-- The result's entry at group `t`, row `r`, place `l`, from the arrays. -/
def whole (z : FVec Ideal S2048x7168 .f32) (w : FVec Ideal S4x128x128 .f32) (s : FVec Ideal S1x512 .f32) (t : Fin 4) (r : Fin 2048) (l : Fin 128) : EReal :=
  entry (fun k => (mean (col z (128 * t.val + k.val)) (2 ^ (t.val + 1)) r.val : EReal)) (fun k => w (ix3 t k l))
    (s (ix2 0 (⟨128 * t.val + l.val, by omega⟩ : Fin 512))) (z (ix2 r (⟨512 + (128 * t.val + l.val), by omega⟩ : Fin 7168)))

/-- The whole result. -/
def result (z : FVec Ideal S2048x7168 .f32) (w : FVec Ideal S4x128x128 .f32) (s : FVec Ideal S1x512 .f32) : S2048x512.Idx → EReal := fun i =>
  whole z w s ⟨(i 1).val / 128, by have h : (i 1).val < 512 := (i 1).isLt; omega⟩ (i 0) ⟨(i 1).val % 128, by omega⟩

/-- What the array holds after the run. -/
def out : S2048x512.Idx → EReal := result (m (c.tc.loc main_arg0)) (m (c.tc.loc main_arg1)) (m (c.tc.loc main_arg2))

/-- The pooled columns are real numbers. -/
def Columns (z : FVec Ideal S2048x7168 .f32) : Prop :=
  ∀ (r : Fin 2048) (k : ℕ) (h : k < 512), z (ix2 r (⟨k, by omega⟩ : Fin 7168)) = (col z k r.val : EReal)

theorem arr (hz : Columns (m (c.tc.loc main_arg0))) :
    (dats m 0 c).arrAt 4 cfg0.N = out m c := by
  refine (dats m 0 c).arrAt_eq_of_covers 4 (out m c) (by decide +kernel) fun t _ j => ?_
  blk_simp
  rw [after0_4]
  obtain ⟨r, l, rfl⟩ : ∃ (r : Fin 2048) (l : Fin 128), j = ix2 r l := ⟨j 0, j 1, by idx_vars j⟩
  have ht : t.val < 4 := t.isLt
  have he : (win0_4.blk t).view.emb (ix2 r l) = ix2 r (⟨128 * t.val + l.val, by omega⟩ : Fin 512) := by blk_ext [idx_val t]
  have hv : ∀ (r : Fin 2048) (k : Fin 128), iblk m c 0 t (ix2 r k) = (col (m (c.tc.loc main_arg0)) (128 * t.val + k.val) r.val : EReal) :=
    fun r k => (x_point m c t r k).trans (hz r _ (by omega))
  have key : outsAt0 m c t.val t.isLt (ix2 r l)
      = goal (fun k => col (m (c.tc.loc main_arg0)) (128 * t.val + k.val)) (2 ^ (t.val + 1)) (iblk m c 2 t) (iblk m c 3 t) (iblk m c 1 t) r l := by
    rcases (by omega : t.val = 0 ∨ t.val = 1 ∨ t.val = 2 ∨ t.val = 3) with h | h | h | h
    · rw [outsAt0_A m c t (by omega) (by omega) (by omega) (by omega), show 2 ^ (t.val + 1) = 2 by rw [h]; rfl]
      unfold out0_A_4
      frame_out
      exact atA hv _ _ _ r l
    · rw [outsAt0_B m c t (by omega) (by omega) (by omega) (by omega), show 2 ^ (t.val + 1) = 4 by rw [h]; rfl]
      unfold out0_B_4
      frame_out
      exact atB hv _ _ _ r l
    · rw [outsAt0_C m c t (by omega) (by omega) (by omega) (by omega), show 2 ^ (t.val + 1) = 8 by rw [h]; rfl]
      unfold out0_C_4
      frame_out
      exact atC hv _ _ _ r l
    · rw [outsAt0_D m c t (by omega) (by omega) (by omega) (by omega), show 2 ^ (t.val + 1) = 16 by rw [h]; rfl]
      unfold out0_D_4
      frame_out
      exact atD hv _ _ _ r l
  refine key.trans ?_
  rw [he, goal, show iblk m c 1 t (ix2 r l) = _ from g_point m c t r l, show iblk m c 3 t (ix2 (0 : Fin 1) l) = _ from s_point m c t l,
    show (fun k => iblk m c 2 t (ix3 (0 : Fin 1) k l)) = _ from funext fun k => w_point m c t k l]
  have e1 : (⟨(128 * t.val + l.val) / 128, by omega⟩ : Fin 4) = t := Fin.ext (by show (128 * t.val + l.val) / 128 = t.val; omega)
  have e2 : (⟨(128 * t.val + l.val) % 128, by omega⟩ : Fin 128) = l := Fin.ext (by show (128 * t.val + l.val) % 128 = l.val; omega)
  show _ = whole _ _ _ (⟨(128 * t.val + l.val) / 128, by omega⟩ : Fin 4) r (⟨(128 * t.val + l.val) % 128, by omega⟩ : Fin 128)
  rw [e1, e2]
  rfl

end Cert.PoolFIdeal.Hand

end
-- ==== Proof.PoolfRef.lean ====
/- The pooling's reference, read at an index. -/
module

public import proofs.«01_k».proof.Defs
public import proofs.«01_k».proof.Proof.Gen.PoolFRefIdeal.Run
public import proofs.«01_k».proof.Proof.Reals
public import proofs.«01_k».proof.Proof.PoolfKernel
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.PoolFRefIdeal.Hand

open Cert.PoolFRefIdeal Cert.PoolFRefIdeal.Gen Cert.PoolMath WordCmp

/-- The window's positions, one for each row. -/
def place : (⟨3, ![1, 2048, 1]⟩ : Shape).Idx ≃ Fin 2048 where
  toFun p := p 1
  invFun w := ix3 (0 : Fin 1) w (0 : Fin 1)
  left_inv p := by
    funext a
    fin_cases a
    · exact Subsingleton.elim (α := Fin 1) _ _
    · rfl
    · exact Subsingleton.elim (α := Fin 1) _ _
  right_inv _ := rfl

/-- Adding up from a start. -/
theorem foldl_add {n : ℕ} (f : Fin n → EReal) (v : EReal) : (List.finRange n).foldl (fun r k => r + f k) v = v + ∑ k, f k := by
  rw [Fin.sum_univ_def]
  generalize List.finRange n = l
  induction l generalizing v with
  | nil => simp
  | cons a l ih => rw [List.foldl_cons, ih, List.map_cons, List.sum_cons, add_assoc]

/-- The running sums of the columns. -/
def running (x : FVec Ideal S1x2048x512 .f32) : FVec Ideal S1x2048x512 .f32 :=
  Host.reduceWindowAdd (F := Ideal) ![1, 2048, 1] ![1, 1, 1] ![0, 2047, 0] ![0, 0, 0] x (broadcastInDim S_ ![] bcast_S_S_ (constant S_ .f32 0x00000000#32))
    reduceWindows_S1x2048x512_S1x2048x512_w1s1p0_0_w2048s1p2047_0_w1s1p0_0 h_S_

theorem running_at (x : FVec Ideal S1x2048x512 .f32) (t : Fin 2048) (q : Fin 512) :
    running x (ix3 (0 : Fin 1) t q) = ∑ w : Fin 2048, if h : 2047 ≤ t.val + w.val then x (ix3 (0 : Fin 1) ⟨t.val + w.val - 2047, by omega⟩ q) else 0 := by
  have hv : (broadcastInDim S_ ![] bcast_S_S_ (constant (F := Ideal) S_ .f32 0x00000000#32) : FVec Ideal S_ .f32) (Shape.Idx.first h_S_) = 0 := by
    rw [show Shape.Idx.first h_S_ = ix0 from funext fun a => a.elim0]
    pointwise
  have hq := q.isLt
  unfold running Host.reduceWindowAdd
  rw [Ideal.hostReduceWindowAdd_def, hv]
  unfold Ideal.hostReduceWindowAdd Host.reduceWindow
  dsimp only
  rw [foldl_add, zero_add, ← Equiv.sum_comp place, ← Equiv.sum_comp ((⟨3, ![1, 2048, 1]⟩ : Shape).rowMajor.symm)]
  refine Finset.sum_congr rfl fun n _ => ?_
  let p := (⟨3, ![1, 2048, 1]⟩ : Shape).rowMajor.symm n
  have h0 : (p 0).val = 0 := Nat.lt_one_iff.1 (p 0).isLt
  have h1 : (p 1).val < 2048 := (p 1).isLt
  have h2 : (p 2).val = 0 := Nat.lt_one_iff.1 (p 2).isLt
  have hw : (place ((⟨3, ![1, 2048, 1]⟩ : Shape).rowMajor.symm n)).val = (p 1).val := rfl
  by_cases hc : 2047 ≤ t.val + (place ((⟨3, ![1, 2048, 1]⟩ : Shape).rowMajor.symm n)).val
  · rw [dif_pos (by
      intro a
      fin_cases a
      · show 0 ≤ 0 * 1 + (p 0).val ∧ 0 * 1 + (p 0).val - 0 < 1; omega
      · show 2047 ≤ t.val * 1 + (p 1).val ∧ t.val * 1 + (p 1).val - 2047 < 2048; omega
      · show 0 ≤ q.val * 1 + (p 2).val ∧ q.val * 1 + (p 2).val - 0 < 512; omega), dif_pos hc]
    refine congrArg x ?_
    funext a
    fin_cases a
    · exact Fin.ext (by show 0 * 1 + (p 0).val - 0 = 0; omega)
    · exact Fin.ext (by show t.val * 1 + (p 1).val - 2047 = t.val + (p 1).val - 2047; omega)
    · exact Fin.ext (by show q.val * 1 + (p 2).val - 0 = q.val; omega)
  · rw [dif_neg (fun e => hc (by
      have e1 : 2047 ≤ t.val * 1 + (p 1).val ∧ t.val * 1 + (p 1).val - 2047 < 2048 := e 1
      omega)), dif_neg hc]

/-- Of a column of real numbers, their running sum. -/
theorem running_real (x : FVec Ideal S1x2048x512 .f32) (X : ℕ → ℝ) (q : Fin 512) (hx : ∀ t : Fin 2048, x (ix3 (0 : Fin 1) t q) = (X t.val : EReal)) (t : Fin 2048) :
    running x (ix3 (0 : Fin 1) t q) = (cum X t.val : EReal) := by
  have h := cum_sub X 2048 t.val
  rw [if_neg (by omega), sub_zero] at h
  rw [running_at, h, win, ← Finset.sum_range_reflect, Finset.sum_range, ← Reals.sum_coe]
  refine Finset.sum_congr rfl fun w _ => ?_
  split_ifs with h1 h2 h2
  · rw [hx]
    exact congrArg (fun i => (X i : EReal)) (by show t.val + w.val - 2047 = t.val - (2048 - 1 - w.val); omega)
  · omega
  · omega
  · rfl

/-- The means less the array: of running sums `a`, the same some rows up `b`, the array's columns `x`. -/
def less (a b : FVec Ideal S1x2048x128 .f32) (n : BitVec 32) (x : FVec Ideal S1x2048x128 .f32) : FVec Ideal S1x2048x1x128 .f32 :=
  broadcastInDim S1x2048x1x128 ![0, 1, 3] bcast_S1x2048x128_S1x2048x1x128_0_1_3 (subf (Host.divf (subf a b)
    (broadcastInDim S1x2048x128 ![0, 1, 2] bcast_S1x2048x1_S1x2048x128_0_1_2 (broadcastInDim S1x2048x1 ![1] bcast_S2048_S1x2048x1_1
      (minimumf (addf (sitofp .f32 (iotaInDim S2048 32 0)) (broadcastInDim S2048 ![] bcast_S_S2048 (constant S_ .f32 0x3F800000#32)))
        (broadcastInDim S2048 ![] bcast_S_S2048 (constant S_ .f32 n)))))) x)

theorem less_at {a b x : FVec Ideal S1x2048x128 .f32} {c : BitVec 32} {n : ℕ} (hn : 0 < n) (hc : Ideal.ofBits .f32 c = ((n : ℝ) : EReal)) {X : ℕ → ℝ} {l : Fin 128} {t : Fin 2048}
    (ha : a (ix3 (0 : Fin 1) t l) = (cum X t.val : EReal)) (hb : b (ix3 (0 : Fin 1) t l) = ((if n ≤ t.val then cum X (t.val - n) else 0 : ℝ) : EReal))
    (hx : x (ix3 (0 : Fin 1) t l) = (X t.val : EReal)) : less a b c x (ix4 (0 : Fin 1) t (0 : Fin 1) l) = (mean X n t.val : EReal) := by
  have hp : (0 : ℝ) < n := Nat.cast_pos.2 hn
  have ht : FloatOps.sitofp (F := Ideal) .f32 (BitVec.ofNat 32 t.val) = ((t.val : ℝ) : EReal) := by
    show ((((BitVec.ofNat 32 t.val).toInt : ℤ) : ℝ) : EReal) = _
    rw [toInt_ofNat_of_lt (by omega)]
    rfl
  unfold less
  pointwise
  rw [ha, hb, hx, hc, ht, ← EReal.coe_one, ← EReal.coe_add, ← (EReal.coe_strictMono.monotone.map_min (a := (t.val : ℝ) + 1) (b := (n : ℝ))),
    ← EReal.coe_sub, cum_sub, Reals.div_real _ (by positivity), ← EReal.coe_sub]
  rfl

section
variable (a : FVec Ideal S1x2048x128 .f32)

/-- The rows below so many zeros. -/
def up2 : FVec Ideal S1x2048x128 .f32 := concatenate S1x2048x128 1 [⟨S1x2x128, (broadcastInDim S1x2x128 ![] bcast_S_S1x2x128 (constant S_ .f32 0x00000000#32))⟩,
  ⟨S1x2046x128, extractStridedSlice S1x2046x128 ![0, 0, 0] a slices_S1x2048x128_S1x2046x128_0_0_0⟩] concatenates_S1x2x128_S1x2046x128_S1x2048x128_d1

def up4 : FVec Ideal S1x2048x128 .f32 := concatenate S1x2048x128 1 [⟨S1x4x128, (broadcastInDim S1x4x128 ![] bcast_S_S1x4x128 (constant S_ .f32 0x00000000#32))⟩,
  ⟨S1x2044x128, extractStridedSlice S1x2044x128 ![0, 0, 0] a slices_S1x2048x128_S1x2044x128_0_0_0⟩] concatenates_S1x4x128_S1x2044x128_S1x2048x128_d1

def up8 : FVec Ideal S1x2048x128 .f32 := concatenate S1x2048x128 1 [⟨S1x8x128, (broadcastInDim S1x8x128 ![] bcast_S_S1x8x128 (constant S_ .f32 0x00000000#32))⟩,
  ⟨S1x2040x128, extractStridedSlice S1x2040x128 ![0, 0, 0] a slices_S1x2048x128_S1x2040x128_0_0_0⟩] concatenates_S1x8x128_S1x2040x128_S1x2048x128_d1

def up16 : FVec Ideal S1x2048x128 .f32 := concatenate S1x2048x128 1 [⟨S1x16x128, (broadcastInDim S1x16x128 ![] bcast_S_S1x16x128 (constant S_ .f32 0x00000000#32))⟩,
  ⟨S1x2032x128, extractStridedSlice S1x2032x128 ![0, 0, 0] a slices_S1x2048x128_S1x2032x128_0_0_0⟩] concatenates_S1x16x128_S1x2032x128_S1x2048x128_d1
end

section
variable {a : FVec Ideal S1x2048x128 .f32} {X : ℕ → ℝ} {l : Fin 128} (ha : ∀ t : Fin 2048, a (ix3 (0 : Fin 1) t l) = (cum X t.val : EReal)) (t : Fin 2048)

/-- The running sum so many rows up. -/
def before (X : ℕ → ℝ) (n : ℕ) (t : Fin 2048) : ℝ := if n ≤ t.val then cum X (t.val - n) else 0

include ha

theorem before_of {n : ℕ} : (if h : t.val < n then (0 : EReal) else a (ix3 (0 : Fin 1) ⟨t.val - n, by omega⟩ l)) = (before X n t : EReal) := by
  unfold before
  split_ifs with h h' h'
  · omega
  · rfl
  · exact ha _
  · omega

theorem up2_at : up2 a (ix3 (0 : Fin 1) t l) = (before X 2 t : EReal) := by
  rw [← before_of ha]; unfold up2; pointwise

theorem up4_at : up4 a (ix3 (0 : Fin 1) t l) = (before X 4 t : EReal) := by
  rw [← before_of ha]; unfold up4; pointwise

theorem up8_at : up8 a (ix3 (0 : Fin 1) t l) = (before X 8 t : EReal) := by
  rw [← before_of ha]; unfold up8; pointwise

theorem up16_at : up16 a (ix3 (0 : Fin 1) t l) = (before X 16 t : EReal) := by
  rw [← before_of ha]; unfold up16; pointwise
end

/-- The pooled columns. -/
def cols (z : FVec Ideal S2048x7168 .f32) : FVec Ideal S1x2048x512 .f32 :=
  broadcastInDim S1x2048x512 ![1, 2] bcast_S2048x512_S1x2048x512_1_2 (extractStridedSlice S2048x512 ![0, 0] z slices_S2048x7168_S2048x512_0_0)

/-- The four groups' columns of an array. -/
def part0 (x : FVec Ideal S1x2048x512 .f32) : FVec Ideal S1x2048x128 .f32 := extractStridedSlice S1x2048x128 ![0, 0, 0] x slices_S1x2048x512_S1x2048x128_0_0_0

def part1 (x : FVec Ideal S1x2048x512 .f32) : FVec Ideal S1x2048x128 .f32 := extractStridedSlice S1x2048x128 ![0, 0, 128] x slices_S1x2048x512_S1x2048x128_0_0_128

def part2 (x : FVec Ideal S1x2048x512 .f32) : FVec Ideal S1x2048x128 .f32 := extractStridedSlice S1x2048x128 ![0, 0, 256] x slices_S1x2048x512_S1x2048x128_0_0_256

def part3 (x : FVec Ideal S1x2048x512 .f32) : FVec Ideal S1x2048x128 .f32 := extractStridedSlice S1x2048x128 ![0, 0, 384] x slices_S1x2048x512_S1x2048x128_0_0_384

/-- All groups' means less the array. -/
def means (z : FVec Ideal S2048x7168 .f32) : FVec Ideal S1x2048x4x128 .f32 :=
  concatenate S1x2048x4x128 2 [⟨S1x2048x1x128, less (part0 (running (cols z))) (up2 (part0 (running (cols z)))) 0x40000000#32 (part0 (cols z))⟩,
      ⟨S1x2048x1x128, less (part1 (running (cols z))) (up4 (part1 (running (cols z)))) 0x40800000#32 (part1 (cols z))⟩,
      ⟨S1x2048x1x128, less (part2 (running (cols z))) (up8 (part2 (running (cols z)))) 0x41000000#32 (part2 (cols z))⟩,
      ⟨S1x2048x1x128, less (part3 (running (cols z))) (up16 (part3 (running (cols z)))) 0x41800000#32 (part3 (cols z))⟩]
    concatenates_S1x2048x1x128_S1x2048x1x128_S1x2048x1x128_S1x2048x1x128_S1x2048x4x128_d2

/-- What is made of them. -/
def gated (z : FVec Ideal S2048x7168 .f32) (w : FVec Ideal S4x128x128 .f32) (s : FVec Ideal S1x512 .f32) (p : FVec Ideal S1x2048x4x128 .f32) : FVec Ideal S2048x512 .bf16 :=
  truncf .bf16 (shapeCast _ (mulf (mulf (shapeCast _ (transpose S1x2048x4x128 [2, 3, 0, 1] (Host.dotGeneral dot_S4x128x128_S1x2048x4x128_S4x128x1x2048_1_3_2_01_0_2 none w p)
    transposes_S4x128x1x2048_S1x2048x4x128_2_3_0_1) shapeCasts_S1x2048x4x128_S1x2048x512)
      (broadcastInDim S1x2048x512 ![0, 1, 2] bcast_S1x1x512_S1x2048x512_0_1_2 (broadcastInDim S1x1x512 ![2] bcast_S512_S1x1x512_2 (shapeCast _ s shapeCasts_S1x512_S512))))
    (mulf (broadcastInDim S1x2048x512 ![1, 2] bcast_S2048x512_S1x2048x512_1_2 (extractStridedSlice S2048x512 ![0, 512] z slices_S2048x7168_S2048x512_0_512)) (Host.divf (broadcastInDim S1x2048x512 ![] bcast_S_S1x2048x512 (constant S_ .f32 0x3F800000#32)) (addf (broadcastInDim S1x2048x512 ![] bcast_S_S1x2048x512 (constant S_ .f32 0x3F800000#32)) (Host.exp (Host.negf (broadcastInDim S1x2048x512 ![1, 2] bcast_S2048x512_S1x2048x512_1_2 (extractStridedSlice S2048x512 ![0, 512] z slices_S2048x7168_S2048x512_0_512)))))))) shapeCasts_S1x2048x512_S2048x512) bitsLt_bf16_f32

theorem res_eq (m : (ℓ : Loc nD τ sig) → Buf (Elt Ideal) ℓ) (c : Dev nD) : Cert.PoolFRefIdeal.Value.res_main_v71 (F := Ideal) m c
    = gated (m (c.tc.loc main_arg0)) (m (c.tc.loc main_arg1)) (m (c.tc.loc main_arg2)) (means (m (c.tc.loc main_arg0))) := rfl

theorem gated_at (z : FVec Ideal S2048x7168 .f32) (w : FVec Ideal S4x128x128 .f32) (s : FVec Ideal S1x512 .f32) (p : FVec Ideal S1x2048x4x128 .f32) (r : Fin 2048) (q : Fin 512) :
    gated z w s p (ix2 r q) = (∑ x : Fin 128, w (ix3 (⟨q.val / 128, by omega⟩ : Fin 4) x (⟨q.val % 128, by omega⟩ : Fin 128)) * p (ix4 (0 : Fin 1) r (⟨q.val / 128, by omega⟩ : Fin 4) x))
      * s (ix2 (0 : Fin 1) q) * (z (ix2 r (⟨512 + q.val, by omega⟩ : Fin 7168)) * Ideal.div 1 (1 + Ideal.exp (-z (ix2 r (⟨512 + q.val, by omega⟩ : Fin 7168))))) := by
  unfold gated
  pointwise

section
variable (x : FVec Ideal S1x2048x512 .f32) (t : Fin 2048) (l : Fin 128)

theorem part0_at : part0 x (ix3 (0 : Fin 1) t l) = x (ix3 (0 : Fin 1) t (⟨l.val, by omega⟩ : Fin 512)) := by
  unfold part0; pointwise

theorem part1_at : part1 x (ix3 (0 : Fin 1) t l) = x (ix3 (0 : Fin 1) t (⟨128 + l.val, by omega⟩ : Fin 512)) := by
  unfold part1; pointwise

theorem part2_at : part2 x (ix3 (0 : Fin 1) t l) = x (ix3 (0 : Fin 1) t (⟨256 + l.val, by omega⟩ : Fin 512)) := by
  unfold part2; pointwise

theorem part3_at : part3 x (ix3 (0 : Fin 1) t l) = x (ix3 (0 : Fin 1) t (⟨384 + l.val, by omega⟩ : Fin 512)) := by
  unfold part3; pointwise
end

section
variable {z : FVec Ideal S2048x7168 .f32} (hz : Cert.PoolFIdeal.Hand.Columns z)

include hz

theorem cols_at (t : Fin 2048) (q : Fin 512) : cols z (ix3 (0 : Fin 1) t q) = (col z q.val t.val : EReal) := by
  rw [← hz t q.val q.isLt]
  unfold cols
  pointwise

/-- A group's means. -/
theorem group {pt : FVec Ideal S1x2048x512 .f32 → FVec Ideal S1x2048x128 .f32} {up : FVec Ideal S1x2048x128 .f32 → FVec Ideal S1x2048x128 .f32} {n : ℕ} {c : BitVec 32} {q : Fin 512}
    {l : Fin 128} (hpt : ∀ x t, pt x (ix3 (0 : Fin 1) t l) = x (ix3 (0 : Fin 1) t q)) (hn : 0 < n) (hc : Ideal.ofBits .f32 c = ((n : ℝ) : EReal))
    (hup : ∀ {a : FVec Ideal S1x2048x128 .f32} {X : ℕ → ℝ}, (∀ t : Fin 2048, a (ix3 (0 : Fin 1) t l) = (cum X t.val : EReal)) → ∀ t, up a (ix3 (0 : Fin 1) t l) = (before X n t : EReal))
    (t : Fin 2048) (o : Fin 1) :
    less (pt (running (cols z))) (up (pt (running (cols z)))) c (pt (cols z)) (ix4 (0 : Fin 1) t o l) = (mean (col z q.val) n t.val : EReal) := by
  have hr : ∀ t : Fin 2048, pt (running (cols z)) (ix3 (0 : Fin 1) t l) = (cum (col z q.val) t.val : EReal) :=
    fun t => (hpt _ t).trans (running_real _ _ _ (fun t => cols_at hz t q) t)
  rw [Subsingleton.elim o 0]
  exact less_at hn hc (hr t) (hup hr t) ((hpt _ t).trans (cols_at hz t q))

theorem means_at (g : Fin 4) (t : Fin 2048) (l : Fin 128) : means z (ix4 (0 : Fin 1) t g l) = (mean (col z (128 * g.val + l.val)) (2 ^ (g.val + 1)) t.val : EReal) := by
  have b := Cert.PoolFIdeal.Hand.bits_len
  unfold means
  pointwise
  rcases (by omega : g.val = 0 ∨ g.val = 1 ∨ g.val = 2 ∨ g.val = 3) with h | h | h | h
  · rw [dif_pos (by omega), group hz (fun x t => part0_at x t l) (by decide) b.1 (fun ha t => up2_at ha t), h]
    exact congrArg (fun k => (mean (col z k) 2 t.val : EReal)) (Nat.zero_add _).symm
  · rw [dif_neg (by omega), dif_pos (by omega), group hz (fun x t => part1_at x t l) (by decide) b.2.1 (fun ha t => up4_at ha t), h]
    rfl
  · rw [dif_neg (by omega), dif_neg (by omega), dif_pos (by omega), group hz (fun x t => part2_at x t l) (by decide) b.2.2.1 (fun ha t => up8_at ha t), h]
    rfl
  · rw [dif_neg (by omega), dif_neg (by omega), dif_neg (by omega), group hz (fun x t => part3_at x t l) (by decide) b.2.2.2 (fun ha t => up16_at ha t), h]
    rfl
/-- The reference's result. -/
theorem res_real (w : FVec Ideal S4x128x128 .f32) (s : FVec Ideal S1x512 .f32) : gated z w s (means z) = Cert.PoolFIdeal.Hand.result z w s := by
  funext i
  obtain ⟨r, q, rfl⟩ : ∃ (r : Fin 2048) (q : Fin 512), i = ix2 r q := ⟨i 0, i 1, by idx_vars i⟩
  refine (gated_at z w s _ r q).trans ?_
  have e : (⟨128 * (q.val / 128) + q.val % 128, by omega⟩ : Fin 512) = q := Fin.ext (Nat.div_add_mod q.val 128)
  have e' : (⟨512 + (128 * (q.val / 128) + q.val % 128), by omega⟩ : Fin 7168) = ⟨512 + q.val, by omega⟩ := Fin.ext (congrArg (512 + ·) (Nat.div_add_mod q.val 128))
  show _ = Cert.PoolFIdeal.Hand.whole z w s ⟨q.val / 128, by omega⟩ r ⟨q.val % 128, by omega⟩
  unfold Cert.PoolFIdeal.Hand.whole PoolMath.entry
  dsimp only
  rw [e, e', zero_sub]
  simp only [means_at hz, mul_comm]
end

end Cert.PoolFRefIdeal.Hand

end
-- ==== Proof.PoolfValue.lean ====
/- The pooling: the kernel's array is the reference's. -/
module

public import proofs.«01_k».proof.Defs
public import proofs.«01_k».proof.Proof.PoolfKernel
public import proofs.«01_k».proof.Proof.PoolfRef

@[expose] public section

set_option maxRecDepth 16384

noncomputable section

open Idealize.ShloMosaic Idealize.ShloMosaic.TcCoe Idealize.SL.Sem

namespace Cert.Pre_pool_finite

theorem facts : Facts where
  slices_S2048x7168_S2048x512_0_0 := by decide
  bcast_S_S2048x512 := by decide
  reducesTo_S2048x512_S_d0_1 := by decide
  h_S_ := by decide

/-- Where the precondition holds, the pooled columns are real numbers. -/
theorem reals [Facts] {z : FVec Ideal S2048x7168 .f32} {w : FVec Ideal S4x128x128 .f32} {s : FVec Ideal S1x512 .f32} (h : fn (F := Ideal) z w s = fun _ => 1#1)
    : Cert.PoolFIdeal.Hand.Columns z := by
  intro r k hk
  have h0 := congrFun h ix0
  simp only [fn] at h0
  obtain ⟨f, hf⟩ := Reals.real_of_all _ _ _ _ _ _ h0
  have h1 := hf (ix2 r (⟨k, hk⟩ : Fin 512))
  have h2 : extractStridedSlice S2048x512 ![0, 0] z Facts.slices_S2048x7168_S2048x512_0_0 (ix2 r (⟨k, hk⟩ : Fin 512)) = z (ix2 r (⟨k, by omega⟩ : Fin 7168)) := by
    pointwise
  rw [h2] at h1
  rw [PoolMath.col, dif_pos ⟨r.isLt, by omega⟩]
  show z (ix2 r (⟨k, by omega⟩ : Fin 7168)) = ((z (ix2 r (⟨k, by omega⟩ : Fin 7168))).toReal : EReal)
  rw [h1, EReal.toReal_coe]

end Cert.Pre_pool_finite

namespace Cert.PoolF.Hand

/-- The reference's arguments stay, and no counter moves. -/
theorem frame_ref : Cert.quiescent_PoolFRefIdeal (hPoolFRefIdeal := Cert.PoolFRefIdeal.Gen.facts) := fun m ρ _ =>
  (θ_run Cert.PoolFRefIdeal.defs _ _).mono (fun r h => ⟨fun c => (h c).2,
      Idealize.ShloMosaic.sem_eq_zero_of_no_sems (by decide) r.2⟩) (Cert.PoolFRefIdeal.Value.run (F := Ideal) m ρ)

theorem value : Cert.algebraic_PoolFIdeal_PoolFRefIdeal_pre_pool_finite (hPoolFIdeal := Cert.PoolFIdeal.Gen.facts)
    (hPoolFRefIdeal := Cert.PoolFRefIdeal.Gen.facts) (hPre_pool_finite := Cert.Pre_pool_finite.facts) := by
  intro m ρ m' ρ' hpre hargs
  refine ⟨_, Cert.PoolFIdeal.Value.run_blocks m ρ, ?_⟩
  refine (θ_run Cert.PoolFRefIdeal.defs _ _).mono (fun r h c => ?_) (Cert.PoolFRefIdeal.Value.run m' ρ')
  obtain ⟨h1, hk⟩ := h c
  obtain ⟨a0, a1, a2⟩ := hargs c
  have hz := @Cert.Pre_pool_finite.reals Cert.Pre_pool_finite.facts _ _ _ (hpre c)
  refine ⟨h1.trans ?_, hk⟩
  rw [Cert.PoolFRefIdeal.Hand.res_eq, a0, a1, a2]
  refine Eq.trans ?_ (Cert.PoolFIdeal.Hand.arr m c hz).symm
  exact Cert.PoolFRefIdeal.Hand.res_real hz _ _

end Cert.PoolF.Hand

end
-- ==== Proof.MergeBlock.lean ====
/- What the merge's kernel leaves in its five arrays where no loss follows; the mathematics of a row is that of the last step. -/
module

public import proofs.«01_k».proof.Proof.Gen.MergeIdeal.Value
public import proofs.«01_k».proof.Proof.LossBlock

@[expose] public section

set_option maxRecDepth 16384

noncomputable section

open Idealize.ShloMosaic Idealize.ShloMosaic.TcCoe Idealize.SL.Sem
open Idealize.ShloMosaic.Pipeline (Dat)

/-- The residual's new value. -/
def Cert.LossRow.next (W : Cert.LossRow.Wts) (R : Cert.LossRow.Row) (l : Fin 1024) : EReal :=
  R.x l + W.gate l * (Cert.LossRow.yn W R l * W.g l)

namespace Cert.MergeIdeal.Hand

open Cert.MergeIdeal Cert.MergeIdeal.Gen Cert.LossRow
open Cert.LossIdeal.Hand (rowB wtsB ba_at bb_at merged_of y_of yn_of pay6_at pay7_at pay8_at pay9_at)

theorem next_of (n x : FVec Ideal S512x1024 .f32) (gate g : FVec Ideal S1x1024 .f32) (W : Wts) (R : Fin 512 → Row)
    (hn : ∀ r l, n (ix2 r l) = yn W (R r) l) (hx : ∀ r l, x (ix2 r l) = (R r).x l) (hgate : ∀ l, gate (ix2 0 l) = W.gate l)
    (hg : ∀ l, g (ix2 0 l) = W.g l) (r : Fin 512) (l : Fin 1024) : k0_pay2 (F := Ideal) n x gate g (ix2 r l) = next W (R r) l := by
  rw [next, ← hn, ← hx, ← hgate, ← hg]
  pointwise [k0_pay2]

variable (m : (ℓ : Loc nD τ sig) → Buf (Elt Ideal) ℓ)

/-- Row `r` of point `t`, and its weights. No target enters, so the residual stands in its place. -/
abbrev rowI (c : Dev nD) (t : Fin cfg0.N) (r : Fin 512) : Row :=
  rowB (iblk m c 0 t) (iblk m c 1 t) (iblk m c 2 t) (iblk m c 3 t) (iblk m c 4 t) (iblk m c 4 t) r

abbrev wtsI (c : Dev nD) (t : Fin cfg0.N) : Wts := wtsB (iblk m c 5 t) (iblk m c 6 t) (iblk m c 7 t) (iblk m c 8 t) (iblk m c 9 t)

theorem after_ba (c : Dev nD) (t : Fin cfg0.N) (r : Fin 512) (l : Fin 1024) : (dats m 0 c).after 10 t (ix2 r l) = ba (wtsI m c t) (rowI m c t r) l := by
  rw [after0_10]
  unfold_out out0_10
  frame_out
  exact (pay6_at _ r l).trans (ba_at _ _ _ _ _ _ _ _ _ _ _ r l)

theorem after_bb (c : Dev nD) (t : Fin cfg0.N) (r : Fin 512) (l : Fin 1024) : (dats m 0 c).after 11 t (ix2 r l) = bb (wtsI m c t) (rowI m c t r) l := by
  rw [after0_11]
  unfold_out out0_11
  frame_out
  exact (pay7_at _ r l).trans (bb_at _ _ _ _ _ _ _ _ _ _ _ r l)

theorem after_merged (c : Dev nD) (t : Fin cfg0.N) (r : Fin 512) (l : Fin 1024) :
    (dats m 0 c).after 12 t (ix2 r l) = merged (wtsI m c t) (rowI m c t r) l := by
  rw [after0_12]
  unfold_out out0_12
  frame_out
  exact (pay8_at _ _ _ _ _ r l).trans (merged_of _ _ _ _ _ _ _ _ _ _ _ _ _ (ba_at _ _ _ _ _ _ _ _ _ _ _) (bb_at _ _ _ _ _ _ _ _ _ _ _) r l)

theorem after_y (c : Dev nD) (t : Fin cfg0.N) (r : Fin 512) (l : Fin 1024) : (dats m 0 c).after 13 t (ix2 r l) = y (wtsI m c t) (rowI m c t r) l := by
  rw [after0_13]
  unfold_out out0_13
  frame_out
  exact (pay9_at _ r l).trans (y_of _ _ _ _ _ _ _ _ _ _ _ _ _ (ba_at _ _ _ _ _ _ _ _ _ _ _) (bb_at _ _ _ _ _ _ _ _ _ _ _) r l)

theorem after_next (c : Dev nD) (t : Fin cfg0.N) (r : Fin 512) (l : Fin 1024) :
    (dats m 0 c).after 14 t (ix2 r l) = next (wtsI m c t) (rowI m c t r) l := by
  rw [after0_14]
  unfold_out out0_14
  frame_out
  exact next_of _ _ _ _ _ _ (yn_of _ _ _ _ _ _ _ _ _ _ _ _ _ (ba_at _ _ _ _ _ _ _ _ _ _ _) (bb_at _ _ _ _ _ _ _ _ _ _ _))
    (fun _ _ => rfl) (fun _ => rfl) (fun _ => rfl) r l

/-- A block's rows in the whole arrays. -/
theorem idx_val : ∀ t : Fin cfg0.N, win0_0.index t = ![t.val, 0] ∧ win0_1.index t = ![t.val, 0] ∧ win0_2.index t = ![t.val, 5]
    ∧ win0_3.index t = ![t.val, 6] ∧ win0_4.index t = ![t.val, 0] ∧ win0_5.index t = ![0, 0, 0] ∧ win0_6.index t = ![0, 0] ∧ win0_7.index t = ![0, 0]
    ∧ win0_8.index t = ![0, 0] ∧ win0_9.index t = ![0, 0] ∧ win0_10.index t = ![t.val, 0] ∧ win0_11.index t = ![t.val, 0] ∧ win0_12.index t = ![t.val, 0]
    ∧ win0_13.index t = ![t.val, 0] ∧ win0_14.index t = ![t.val, 0] := by decide +kernel

theorem V_v2 (c : Dev nD) : V m c main_v2 = (transpose S8x512x128 [1, 0, 2] (shapeCast S512x8x128 (truncf .bf16 (m (c.tc.loc main_arg4) : FVec Ideal S512x1024 .f32) bitsLt_bf16_f32)
    shapeCasts_S512x1024_S512x8x128) transposes_S512x8x128_S8x512x128_1_0_2 : FVec Ideal S8x512x128 .bf16) := by
  show StableHlo.after hostOps0 _ _ = _
  after_results_simp <;> rfl

theorem V_v3 (c : Dev nD) : V m c main_v3 = (truncf .bf16 (m (c.tc.loc main_arg5) : FVec Ideal S1024x1024 .f32) bitsLt_bf16_f32 : FVec Ideal S1024x1024 .bf16) := by
  show StableHlo.after hostOps0 _ _ = _
  after_results_simp <;> rfl

theorem V_v4 (c : Dev nD) : V m c main_v4 = (truncf .bf16 (m (c.tc.loc main_arg6) : FVec Ideal S1024x1024 .f32) bitsLt_bf16_f32 : FVec Ideal S1024x1024 .bf16) := by
  show StableHlo.after hostOps0 _ _ = _
  after_results_simp <;> rfl

theorem a_point (c : Dev nD) (t : Fin 4) (r k : Fin 512) :
    iblk m c 0 t (ix2 r k) = m (c.tc.loc main_arg0) (ix2 (⟨512 * t.val + r.val, by omega⟩ : Fin 2048) k) := by
  blk_point [iblk, V_main_arg0, idx_val t]

theorem b_point (c : Dev nD) (t : Fin 4) (r : Fin 512) (k : Fin 1024) :
    iblk m c 1 t (ix2 r k) = m (c.tc.loc main_arg1) (ix2 (⟨512 * t.val + r.val, by omega⟩ : Fin 2048) k) := by
  blk_point [iblk, V_main_arg1, idx_val t]

theorem p_point (c : Dev nD) (t : Fin 4) (r : Fin 512) (k : Fin 1024) :
    iblk m c 2 t (ix2 r k) = m (c.tc.loc main_arg2) (ix2 (⟨512 * t.val + r.val, by omega⟩ : Fin 2048) (⟨5120 + k.val, by omega⟩ : Fin 7168)) := by
  blk_point [iblk, V_main_arg2, idx_val t]

theorem q_point (c : Dev nD) (t : Fin 4) (r : Fin 512) (k : Fin 1024) :
    iblk m c 3 t (ix2 r k) = m (c.tc.loc main_arg2) (ix2 (⟨512 * t.val + r.val, by omega⟩ : Fin 2048) (⟨6144 + k.val, by omega⟩ : Fin 7168)) := by
  blk_point [iblk, V_main_arg2, idx_val t]

theorem x_point (c : Dev nD) (t : Fin 4) (r : Fin 512) (k : Fin 1024) :
    iblk m c 4 t (ix2 r k) = m (c.tc.loc main_arg3) (ix2 (⟨512 * t.val + r.val, by omega⟩ : Fin 2048) k) := by
  blk_point [iblk, V_main_arg3, idx_val t]

theorem wp_point (c : Dev nD) (t : Fin 4) (o : Fin 8) (k : Fin 512) (d : Fin 128) :
    iblk m c 5 t (ix3 o k d) = m (c.tc.loc main_arg4) (ix2 k (⟨128 * o.val + d.val, by omega⟩ : Fin 1024)) := by
  blk_point [iblk, V_v2, idx_val t]

theorem wh_point (c : Dev nD) (t : Fin 4) (k l : Fin 1024) : iblk m c 6 t (ix2 k l) = m (c.tc.loc main_arg5) (ix2 k l) := by
  blk_point [iblk, V_v3, idx_val t]

theorem wo_point (c : Dev nD) (t : Fin 4) (k l : Fin 1024) : iblk m c 7 t (ix2 k l) = m (c.tc.loc main_arg6) (ix2 k l) := by
  blk_point [iblk, V_v4, idx_val t]

theorem gate_point (c : Dev nD) (t : Fin 4) (l : Fin 1024) : iblk m c 8 t (ix2 (0 : Fin 1) l) = m (c.tc.loc main_arg7) (ix2 (0 : Fin 1) l) := by
  blk_point [iblk, V_main_arg7, idx_val t]

theorem g_point (c : Dev nD) (t : Fin 4) (l : Fin 1024) : iblk m c 9 t (ix2 (0 : Fin 1) l) = m (c.tc.loc main_arg8) (ix2 (0 : Fin 1) l) := by
  blk_point [iblk, V_main_arg8, idx_val t]

/-- Row `r` of a device's arguments, and its weights. -/
abbrev row (c : Dev nD) (r : Fin 2048) : Row :=
  rowOf (m (c.tc.loc main_arg0)) (m (c.tc.loc main_arg1)) (m (c.tc.loc main_arg2)) (m (c.tc.loc main_arg3)) (m (c.tc.loc main_arg3)) r

abbrev wts (c : Dev nD) : Wts :=
  wtsOf (m (c.tc.loc main_arg4)) (m (c.tc.loc main_arg5)) (m (c.tc.loc main_arg6)) (m (c.tc.loc main_arg7)) (m (c.tc.loc main_arg8))

theorem row_eq (c : Dev nD) (t : Fin 4) (r : Fin 512) : rowI m c t r = row m c (⟨512 * t.val + r.val, by omega⟩ : Fin 2048) :=
  Row.ext (funext fun k => a_point m c t r k) (funext fun k => b_point m c t r k) (funext fun k => p_point m c t r k)
    (funext fun k => q_point m c t r k) (funext fun k => x_point m c t r k) (funext fun k => x_point m c t r k)

theorem wts_eq (c : Dev nD) (t : Fin 4) : wtsI m c t = wts m c :=
  Wts.ext (funext fun k => funext fun l => (wp_point m c t _ k _).trans (congrArg (fun i => m (c.tc.loc main_arg4) (ix2 k i)) (Fin.ext (Nat.div_add_mod _ _))))
    (funext fun k => funext fun l => wh_point m c t k l) (funext fun k => funext fun l => wo_point m c t k l)
    (funext fun l => gate_point m c t l) (funext fun l => g_point m c t l)

/-- An array by rows, of what a row gives. -/
def byRows (f : Wts → Row → Fin 1024 → EReal) (c : Dev nD) : S2048x1024.Idx → EReal := fun i => f (wts m c) (row m c (i 0)) (i 1)

theorem at_row (f : Wts → Row → Fin 1024 → EReal) (c : Dev nD) (t : Fin 4) (r : Fin 512) (l : Fin 1024) :
    f (wtsI m c t) (rowI m c t r) l = byRows m f c (ix2 (⟨512 * t.val + r.val, by omega⟩ : Fin 2048) l) := by
  rw [row_eq m c t, wts_eq m c t]
  rfl

theorem arr_ba (c : Dev nD) : (dats m 0 c).arrAt 10 cfg0.N = byRows m ba c := by
  refine (dats m 0 c).arrAt_eq_of_covers 10 (byRows m ba c) (by decide +kernel) fun t _ j => ?_
  blk_simp
  obtain ⟨r, l, rfl⟩ : ∃ (r : Fin 512) (l : Fin 1024), j = ix2 r l := ⟨j 0, j 1, by idx_vars j⟩
  have he : (win0_10.blk t).view.emb (ix2 r l) = ix2 (⟨512 * t.val + r.val, by have : t.val < 4 := t.isLt; omega⟩ : Fin 2048) l := by blk_ext [idx_val t]
  exact (after_ba m c t r l).trans ((at_row m ba c t r l).trans (congrArg (byRows m ba c) he.symm))

theorem arr_bb (c : Dev nD) : (dats m 0 c).arrAt 11 cfg0.N = byRows m bb c := by
  refine (dats m 0 c).arrAt_eq_of_covers 11 (byRows m bb c) (by decide +kernel) fun t _ j => ?_
  blk_simp
  obtain ⟨r, l, rfl⟩ : ∃ (r : Fin 512) (l : Fin 1024), j = ix2 r l := ⟨j 0, j 1, by idx_vars j⟩
  have he : (win0_11.blk t).view.emb (ix2 r l) = ix2 (⟨512 * t.val + r.val, by have : t.val < 4 := t.isLt; omega⟩ : Fin 2048) l := by blk_ext [idx_val t]
  exact (after_bb m c t r l).trans ((at_row m bb c t r l).trans (congrArg (byRows m bb c) he.symm))

theorem arr_merged (c : Dev nD) : (dats m 0 c).arrAt 12 cfg0.N = byRows m merged c := by
  refine (dats m 0 c).arrAt_eq_of_covers 12 (byRows m merged c) (by decide +kernel) fun t _ j => ?_
  blk_simp
  obtain ⟨r, l, rfl⟩ : ∃ (r : Fin 512) (l : Fin 1024), j = ix2 r l := ⟨j 0, j 1, by idx_vars j⟩
  have he : (win0_12.blk t).view.emb (ix2 r l) = ix2 (⟨512 * t.val + r.val, by have : t.val < 4 := t.isLt; omega⟩ : Fin 2048) l := by blk_ext [idx_val t]
  exact (after_merged m c t r l).trans ((at_row m merged c t r l).trans (congrArg (byRows m merged c) he.symm))

theorem arr_y (c : Dev nD) : (dats m 0 c).arrAt 13 cfg0.N = byRows m y c := by
  refine (dats m 0 c).arrAt_eq_of_covers 13 (byRows m y c) (by decide +kernel) fun t _ j => ?_
  blk_simp
  obtain ⟨r, l, rfl⟩ : ∃ (r : Fin 512) (l : Fin 1024), j = ix2 r l := ⟨j 0, j 1, by idx_vars j⟩
  have he : (win0_13.blk t).view.emb (ix2 r l) = ix2 (⟨512 * t.val + r.val, by have : t.val < 4 := t.isLt; omega⟩ : Fin 2048) l := by blk_ext [idx_val t]
  exact (after_y m c t r l).trans ((at_row m y c t r l).trans (congrArg (byRows m y c) he.symm))

theorem arr_next (c : Dev nD) : (dats m 0 c).arrAt 14 cfg0.N = byRows m next c := by
  refine (dats m 0 c).arrAt_eq_of_covers 14 (byRows m next c) (by decide +kernel) fun t _ j => ?_
  blk_simp
  obtain ⟨r, l, rfl⟩ : ∃ (r : Fin 512) (l : Fin 1024), j = ix2 r l := ⟨j 0, j 1, by idx_vars j⟩
  have he : (win0_14.blk t).view.emb (ix2 r l) = ix2 (⟨512 * t.val + r.val, by have : t.val < 4 := t.isLt; omega⟩ : Fin 2048) l := by blk_ext [idx_val t]
  exact (after_next m c t r l).trans ((at_row m next c t r l).trans (congrArg (byRows m next c) he.symm))

end Cert.MergeIdeal.Hand

end
-- ==== Proof.MergeValue.lean ====
/- The value claim of the merge where no loss follows: the kernel's five arrays are the reference's. -/
module

public import proofs.«01_k».proof.Defs
public import proofs.«01_k».proof.Proof.MergeBlock
public import proofs.«01_k».proof.Proof.LossRef
public import proofs.«01_k».proof.Proof.Gen.MergeRefIdeal.Run

@[expose] public section

set_option maxRecDepth 16384

noncomputable section

open Idealize.ShloMosaic Idealize.ShloMosaic.TcCoe Idealize.SL.Sem

namespace Cert.MergeRefIdeal.Hand

open Cert.MergeRefIdeal Cert.MergeRefIdeal.Gen Cert.LossRow

/-- The residual's new value as the reference forms it from the last product. -/
def N (x : FVec Ideal ⟨2, ![2048, 1024]⟩ .f32) (gate g : FVec Ideal ⟨2, ![1, 1024]⟩ .f32) (Yv : FVec Ideal S2048x1024 .f32) : FVec Ideal S2048x1024 .f32 :=
  addf x (mulf (broadcastInDim S2048x1024 ![0, 1] bcast_S1x1024_S2048x1024_0_1 (broadcastInDim S1x1024 ![1] bcast_S1024_S1x1024_1 (shapeCast _ gate shapeCasts_S1x1024_S1024)))
    (mulf (mulf Yv (broadcastInDim S2048x1024 ![0, 1] bcast_S2048x1_S2048x1024_0_1 (Host.rsqrt (addf (Host.divf (broadcastInDim S2048x1 ![0] bcast_S2048_S2048x1_0
      (Host.reduceAdd (mulf Yv Yv) (constant S_ .f32 0x00000000#32) reducesTo_S2048x1024_S2048_d1 h_S_)) (broadcastInDim S2048x1 ![] bcast_S_S2048x1 (constant S_ .f32 0x44800000#32)))
      (broadcastInDim S2048x1 ![] bcast_S_S2048x1 (constant S_ .f32 0x358637BD#32))))))
      (broadcastInDim S2048x1024 ![0, 1] bcast_S1x1024_S2048x1024_0_1 (broadcastInDim S1x1024 ![1] bcast_S1024_S1x1024_1 (shapeCast _ g shapeCasts_S1x1024_S1024)))))

theorem N_at (x : FVec Ideal ⟨2, ![2048, 1024]⟩ .f32) (gate g : FVec Ideal ⟨2, ![1, 1024]⟩ .f32) (Yv : FVec Ideal S2048x1024 .f32) (W : Wts) (R : Fin 2048 → Row)
    (hY : ∀ r l, Yv (ix2 r l) = y W (R r) l) (hx : ∀ r l, x (ix2 r l) = (R r).x l) (hgate : ∀ l, gate (ix2 0 l) = W.gate l) (hg : ∀ l, g (ix2 0 l) = W.g l)
    (r : Fin 2048) (l : Fin 1024) : N x gate g Yv (ix2 r l) = next W (R r) l := by
  simp only [next, yn, ← hY, ← hx, ← hgate, ← hg]
  pointwise [N]

/-- The reference's arguments stay, and no counter moves. -/
theorem frame : Cert.quiescent_MergeRefIdeal (hMergeRefIdeal := Cert.MergeRefIdeal.Gen.facts) := fun m ρ _ =>
  (θ_run defs _ _).mono (fun r h => ⟨fun c => (h c).2.2.2.2.2,
      Idealize.ShloMosaic.sem_eq_zero_of_no_sems (by decide) r.2⟩) (Cert.MergeRefIdeal.Value.run (F := Ideal) m ρ)

end Cert.MergeRefIdeal.Hand

namespace Cert.Merge.Hand

open Cert.LossRow

theorem value : Cert.algebraic_MergeIdeal_MergeRefIdeal (hMergeIdeal := Cert.MergeIdeal.Gen.facts)
    (hMergeRefIdeal := Cert.MergeRefIdeal.Gen.facts) := by
  intro m ρ m' ρ' _ hargs
  refine ⟨_, _, _, _, _, Cert.MergeIdeal.Value.run_blocks m ρ, ?_⟩
  refine (θ_run Cert.MergeRefIdeal.defs _ _).mono (fun r h c => ?_) (Cert.MergeRefIdeal.Value.run m' ρ')
  obtain ⟨h1, h2, h3, h4, h5, hk⟩ := h c
  obtain ⟨a0, a1, a2, a3, a4, a5, a6, a7, a8⟩ := hargs c
  refine ⟨h1.trans ?_, h2.trans ?_, h3.trans ?_, h4.trans ?_, h5.trans ?_, hk⟩
  · refine Eq.trans ?_ (Cert.MergeIdeal.Hand.arr_ba m c).symm
    rw [a0, a4]
    funext i
    idx_vars i
    exact Cert.LossRefIdeal.Hand.ba_at _ _ _ _ _ _ _ _ _ _ _ _
  · refine Eq.trans ?_ (Cert.MergeIdeal.Hand.arr_bb m c).symm
    rw [a1, a5]
    funext i
    idx_vars i
    exact Cert.LossRefIdeal.Hand.bb_at _ _ _ _ _ _ _ _ _ _ _ _
  · refine Eq.trans ?_ (Cert.MergeIdeal.Hand.arr_merged m c).symm
    rw [a0, a1, a2, a4, a5]
    funext i
    idx_vars i
    exact Cert.LossRefIdeal.Hand.M_at _ _ _ _ _ _ _ _ _ _ _ _
  · refine Eq.trans ?_ (Cert.MergeIdeal.Hand.arr_y m c).symm
    rw [a0, a1, a2, a4, a5, a6]
    funext i
    idx_vars i
    exact Cert.LossRefIdeal.Hand.Y_at _ _ _ _ _ _ _ _ _ _ _ _
  · refine Eq.trans ?_ (Cert.MergeIdeal.Hand.arr_next m c).symm
    unfold Cert.MergeRefIdeal.Value.res_main_v44
    rw [a0, a1, a2, a3, a4, a5, a6, a7, a8]
    funext i
    idx_vars i
    exact Cert.MergeRefIdeal.Hand.N_at _ _ _ _ (Cert.MergeIdeal.Hand.wts m c) (Cert.MergeIdeal.Hand.row m c)
      (Cert.LossRefIdeal.Hand.Y_at _ _ _ _ _ _ _ _ _ _) (fun _ _ => rfl) (fun _ => rfl) (fun _ => rfl) _ _

end Cert.Merge.Hand

end
-- ==== Proof.InpValue.lean ====
/- The input projection: the kernel's array is the reference's product. -/
module

public import proofs.«01_k».proof.Defs
public import proofs.«01_k».proof.Proof.Gen.InPIdeal.Value
public import proofs.«01_k».proof.Proof.Gen.InPRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InPIdeal.Hand

open Cert.InPIdeal Cert.InPIdeal.Gen

theorem pay1_left (v w : FVec Ideal S1x1024x896 .bf16) (k : Fin 1024) (l : Fin 1792) (h : l.val < 896) :
    k0_pay1 (F := Ideal) v w (ix2 k l) = v (ix3 0 k ⟨l.val, h⟩) := by
  pointwise [k0_pay1]
  simp [h]

theorem pay1_right (v w : FVec Ideal S1x1024x896 .bf16) (k : Fin 1024) (l : Fin 1792) (h : ¬l.val < 896) :
    k0_pay1 (F := Ideal) v w (ix2 k l) = w (ix3 0 k ⟨l.val - 896, by omega⟩) := by
  pointwise [k0_pay1]
  simp [h]

theorem pay2_at (h : FVec Ideal S1024x1024 .bf16) (w : FVec Ideal S1024x1792 .bf16) (r : Fin 1024) (l : Fin 1792) :
    k0_pay2 (F := Ideal) h w (ix2 r l) = ∑ k : Fin 1024, h (ix2 r k) * w (ix2 k l) := by
  pointwise [k0_pay2]

/-- One of a block's two tiles of the weight. -/
theorem tile_at (w : FVec Ideal S2x1024x896 .bf16) {o : ℕ} (ho : o < 2) (inb : ∀ i : Fin 3, (![o, 0, 0] : Fin 3 → ℕ) i + (![1, 1024, 896] : Fin 3 → ℕ) i ≤ (![2, 1024, 896] : Fin 3 → ℕ) i)
    (k : Fin 1024) (l : Fin 896) :
    View.ld (Val := Elt Ideal) (e' := .bf16) w (Rect.unit (s := S2x1024x896) ![o, 0, 0] ![1, 1024, 896] inb) (ix3 (0 : Fin 1) k l) = w (ix3 (⟨o, ho⟩ : Fin 2) k l) := by
  refine congrArg w (funext fun i => Fin.ext ?_)
  fin_cases i <;> simp [ix3, Rect.emb, Rect.unit]

/-- A block's rows and columns in the whole arrays: a pair of tiles of the weight stays for two blocks of rows. -/
theorem idx_val : ∀ t : Fin cfg0.N, win0_0.index t = ![t.val % 2, 0] ∧ win0_1.index t = ![t.val / 2, 0, 0] ∧ win0_2.index t = ![t.val % 2, t.val / 2] := by decide +kernel

variable (m : (ℓ : Loc nD τ sig) → Buf (Elt Ideal) ℓ)

theorem V_v2 (c : Dev nD) : V m c main_v2 = (transpose S8x1024x896 [1, 0, 2] (shapeCast S1024x8x896 (truncf .bf16 (m (c.tc.loc main_arg1) : FVec Ideal S1024x7168 .f32) bitsLt_bf16_f32)
    shapeCasts_S1024x7168_S1024x8x896) transposes_S1024x8x896_S8x1024x896_1_0_2 : FVec Ideal S8x1024x896 .bf16) := by
  show StableHlo.after hostOps0 _ _ = _
  after_results_simp <;> rfl

theorem h_point (c : Dev nD) (t : Fin 8) (r k : Fin 1024) :
    iblk m c 0 t (ix2 r k) = m (c.tc.loc main_arg0) (ix2 (⟨1024 * (t.val % 2) + r.val, by omega⟩ : Fin 2048) k) := by
  blk_point [iblk, V_main_arg0, idx_val t]

theorem w_point (c : Dev nD) (t : Fin 8) (o : Fin 2) (k : Fin 1024) (d : Fin 896) :
    iblk m c 1 t (ix3 o k d) = m (c.tc.loc main_arg1) (ix2 k (⟨896 * (2 * (t.val / 2) + o.val) + d.val, by omega⟩ : Fin 7168)) := by
  blk_point [iblk, V_v2, idx_val t]

/-- The two tiles side by side are the weight's columns. -/
theorem pair_at (c : Dev nD) (t : Fin 8) (v w : FVec Ideal S1x1024x896 .bf16) (hv : ∀ k l, v (ix3 0 k l) = iblk m c 1 t (ix3 0 k l))
    (hw : ∀ k l, w (ix3 0 k l) = iblk m c 1 t (ix3 1 k l)) (k : Fin 1024) (l : Fin 1792) :
    k0_pay1 (F := Ideal) v w (ix2 k l) = m (c.tc.loc main_arg1) (ix2 k (⟨1792 * (t.val / 2) + l.val, by omega⟩ : Fin 7168)) := by
  by_cases h : l.val < 896
  · rw [pay1_left v w k l h, hv, w_point m c t]
    exact congrArg (fun i => m (c.tc.loc main_arg1) (ix2 k i)) (Fin.ext (by show 896 * (2 * (t.val / 2) + 0) + l.val = 1792 * (t.val / 2) + l.val; omega))
  · rw [pay1_right v w k l h, hw, w_point m c t]
    exact congrArg (fun i => m (c.tc.loc main_arg1) (ix2 k i)) (Fin.ext (by show 896 * (2 * (t.val / 2) + 1) + (l.val - 896) = 1792 * (t.val / 2) + l.val; omega))

theorem scratch_first (c : Dev nD) (t : Fin cfg0.N) (h : t.val % 2 = 0) (k : Fin 1024) (l : Fin 1792) :
    (outsAt0 m c t.val t.isLt).2 (ix2 k l) = m (c.tc.loc main_arg1) (ix2 k (⟨1792 * (t.val / 2) + l.val, by have : t.val < 8 := t.isLt; omega⟩ : Fin 7168)) := by
  rw [outsAt0_A m c t h]
  dsimp only
  frame_out
  exact pair_at m c t _ _ (tile_at _ (by decide : 0 < 2) _) (tile_at _ (by decide : 1 < 2) _) k l

theorem scratch_second (c : Dev nD) (t : Fin cfg0.N) (h : ¬t.val % 2 = 0) (k : Fin 1024) (l : Fin 1792) :
    (outsAt0 m c (t.val - 1) (Nat.lt_of_le_of_lt (Nat.sub_le _ _) t.isLt)).2 (ix2 k l)
      = m (c.tc.loc main_arg1) (ix2 k (⟨1792 * (t.val / 2) + l.val, by have : t.val < 8 := t.isLt; omega⟩ : Fin 7168)) := by
  refine (scratch_first m c ⟨t.val - 1, Nat.lt_of_le_of_lt (Nat.sub_le _ _) t.isLt⟩ (by show (t.val - 1) % 2 = 0; omega) k l).trans ?_
  exact congrArg (fun i => m (c.tc.loc main_arg1) (ix2 k i)) (Fin.ext (by show 1792 * ((t.val - 1) / 2) + l.val = 1792 * (t.val / 2) + l.val; omega))

/-- The product of a device's arguments. -/
def dot (h : FVec Ideal S2048x1024 .bf16) (w : FVec Ideal S1024x7168 .f32) (r : Fin 2048) (l : Fin 7168) : EReal := ∑ k : Fin 1024, h (ix2 r k) * w (ix2 k l)

def prod (c : Dev nD) : S2048x7168.Idx → EReal := fun i => dot (m (c.tc.loc main_arg0)) (m (c.tc.loc main_arg1)) (i 0) (i 1)

theorem out_at (c : Dev nD) (t : Fin cfg0.N) (w : FVec Ideal S1024x1792 .bf16)
    (hw : ∀ k l, w (ix2 k l) = m (c.tc.loc main_arg1) (ix2 k (⟨1792 * (t.val / 2) + l.val, by have : t.val < 8 := t.isLt; omega⟩ : Fin 7168))) (r : Fin 1024) (l : Fin 1792) :
    k0_pay2 (F := Ideal) (iblk m c 0 t) w (ix2 r l) = prod m c (ix2 (⟨1024 * (t.val % 2) + r.val, by omega⟩ : Fin 2048)
      (⟨1792 * (t.val / 2) + l.val, by have : t.val < 8 := t.isLt; omega⟩ : Fin 7168)) := by
  refine (pay2_at _ _ r l).trans ?_
  show _ = dot _ _ _ _
  exact Finset.sum_congr rfl fun k _ => by rw [hw, h_point m c t]; rfl

theorem arr_eq (c : Dev nD) : (dats m 0 c).arrAt 2 cfg0.N = prod m c := by
  refine (dats m 0 c).arrAt_eq_of_covers 2 (prod m c) (by decide +kernel) fun t _ j => ?_
  have ht : t.val < 8 := t.isLt
  blk_simp
  obtain ⟨r, s, rfl⟩ : ∃ (r : Fin 1024) (s : Fin 1792), j = ix2 r s := ⟨j 0, j 1, by idx_vars j⟩
  have he : (win0_2.blk t).view.emb (ix2 r s) = ix2 (⟨1024 * (t.val % 2) + r.val, by omega⟩ : Fin 2048) (⟨1792 * (t.val / 2) + s.val, by omega⟩ : Fin 7168) := by blk_ext [idx_val t]
  refine Eq.trans ?_ (congrArg (prod m c) he.symm)
  rw [after0_2]
  by_cases h : t.val % 2 = 0
  · rw [outsAt0_A m c t h]
    dsimp only
    frame_out
    exact out_at m c t _ (pair_at m c t _ _ (tile_at _ (by decide : 0 < 2) _) (tile_at _ (by decide : 1 < 2) _)) r s
  · rw [outsAt0_B m c t h]
    dsimp only
    frame_out
    refine out_at m c t _ (fun k l => Eq.trans ?_ (scratch_second m c t h k l)) r s
    exact congrFun (Memref.IsWhole.read_unread _ _) _

end Cert.InPIdeal.Hand

namespace Cert.InP.Hand

open Cert.InPIdeal.Hand

/-- The reference's arguments stay, and no counter moves. -/
theorem frame_ref : Cert.quiescent_InPRefIdeal (hInPRefIdeal := Cert.InPRefIdeal.Gen.facts) := fun m ρ _ =>
  (θ_run Cert.InPRefIdeal.defs _ _).mono (fun r h => ⟨fun c => (h c).2,
      Idealize.ShloMosaic.sem_eq_zero_of_no_sems (by decide) r.2⟩) (Cert.InPRefIdeal.Value.run (F := Ideal) m ρ)

theorem value : Cert.algebraic_InPIdeal_InPRefIdeal (hInPIdeal := Cert.InPIdeal.Gen.facts)
    (hInPRefIdeal := Cert.InPRefIdeal.Gen.facts) := by
  intro m ρ m' ρ' _ hargs
  refine ⟨_, Cert.InPIdeal.Value.run_blocks m ρ, ?_⟩
  refine (θ_run Cert.InPRefIdeal.defs _ _).mono (fun r h c => ?_) (Cert.InPRefIdeal.Value.run m' ρ')
  obtain ⟨h1, hk⟩ := h c
  obtain ⟨a0, a1⟩ := hargs c
  refine ⟨h1.trans ?_, hk⟩
  refine Eq.trans ?_ (arr_eq m c).symm
  rw [a0, a1]
  funext i
  idx_vars i
  show _ = dot _ _ _ _
  generalize m (c.tc.loc Cert.InPIdeal.main_arg0) = x
  generalize m (c.tc.loc Cert.InPIdeal.main_arg1) = w
  pointwise [dot]

end Cert.InP.Hand

end
-- ==== Proof.InwValue.lean ====
/- A tile of the input projection's weight gradient: the kernel's array is the reference's. -/
module

public import proofs.«01_k».proof.Defs
public import proofs.«01_k».proof.Proof.Gen.InWIdeal.Value
public import proofs.«01_k».proof.Proof.Gen.InWRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InWIdeal.Hand

open Cert.InWIdeal Cert.InWIdeal.Gen

/-- A coordinate of the packed gradient: every row's activation times its cotangent. -/
def grad (h : FVec Ideal S2048x1024 .bf16) (dz : FVec Ideal S2048x7168 .bf16) (o : Fin 8) (k : Fin 1024) (d : Fin 896) : EReal :=
  ∑ r : Fin 2048, h (ix2 r k) * dz (ix2 r (⟨o.val * 896 + d.val, by omega⟩ : Fin 7168))

theorem pay1_at (h : FVec Ideal S2048x1024 .bf16) (z : FVec Ideal S2048x1792 .bf16) (k : Fin 1024) (l : Fin 1792) :
    k0_pay1 (F := Ideal) h z (ix2 k l) = ∑ r : Fin 2048, h (ix2 r k) * z (ix2 r l) := by
  pointwise [k0_pay1]

/-- A block's columns in the whole arrays. -/
theorem idx_val : ∀ t : Fin cfg0.N, win0_0.index t = ![0, 0] ∧ win0_1.index t = ![0, t.val] ∧ win0_2.index t = ![t.val, 0, 0] := by decide +kernel

variable (m : (ℓ : Loc nD τ sig) → Buf (Elt Ideal) ℓ)

theorem h_point (c : Dev nD) (t : Fin 4) (r : Fin 2048) (k : Fin 1024) : iblk m c 0 t (ix2 r k) = m (c.tc.loc main_arg0) (ix2 r k) := by
  blk_point [iblk, V_main_arg0, idx_val t]

theorem z_point (c : Dev nD) (t : Fin 4) (r : Fin 2048) (l : Fin 1792) :
    iblk m c 1 t (ix2 r l) = m (c.tc.loc main_arg1) (ix2 r (⟨1792 * t.val + l.val, by omega⟩ : Fin 7168)) := by
  blk_point [iblk, V_main_arg1, idx_val t]

/-- The packed gradient of a device's arguments. -/
def grads (c : Dev nD) : S8x1024x896.Idx → EReal := fun i => grad (m (c.tc.loc main_arg0)) (m (c.tc.loc main_arg1)) (i 0) (i 1) (i 2)

theorem arr_eq (c : Dev nD) : (dats m 0 c).arrAt 2 cfg0.N = grads m c := by
  refine (dats m 0 c).arrAt_eq_of_covers 2 (grads m c) (by decide +kernel) fun t _ j => ?_
  have ht : t.val < 4 := t.isLt
  blk_simp
  obtain ⟨r, s, u, rfl⟩ : ∃ (r : Fin 2) (s : Fin 1024) (u : Fin 896), j = ix3 r s u := ⟨j 0, j 1, j 2, by idx_vars j⟩
  have he : (win0_2.blk t).view.emb (ix3 r s u) = ix3 (⟨2 * t.val + r.val, by omega⟩ : Fin 8) s u := by blk_ext [idx_val t]
  refine Eq.trans ?_ (congrArg (grads m c) he.symm)
  rw [after0_2]
  unfold out0_2
  frame_out
  refine (Cert.InWIdeal.Value.canon2_eq _ _ _).trans ?_
  have hi : Cert.InWIdeal.Value.ix2_0 (ix3 r s u) = ix2 s (⟨896 * r.val + u.val, by omega⟩ : Fin 1792) := by
    refine funext fun i => Fin.ext ?_
    fin_cases i
    · rfl
    · exact congrArg (· + u.val) (Nat.mul_comm r.val 896)
  refine (congrArg (k0_pay1 (F := Ideal) (iblk m c 0 t) (iblk m c 1 t)) hi).trans ((pay1_at _ _ _ _).trans ?_)
  show _ = grad _ _ _ _ _
  unfold grad
  refine Finset.sum_congr rfl fun x _ => ?_
  rw [h_point m c t, z_point m c t]
  refine congrArg (HMul.hMul (α := EReal) (β := EReal) (γ := EReal) (m (c.tc.loc main_arg0) (ix2 x s))) ?_
  exact congrArg (fun i => m (c.tc.loc main_arg1) (ix2 x i)) (Fin.ext (by show 1792 * t.val + (896 * r.val + u.val) = (2 * t.val + r.val) * 896 + u.val; omega))

end Cert.InWIdeal.Hand

namespace Cert.InW.Hand

open Cert.InWIdeal.Hand

/-- The reference's arguments stay, and no counter moves. -/
theorem frame_ref : Cert.quiescent_InWRefIdeal (hInWRefIdeal := Cert.InWRefIdeal.Gen.facts) := fun m ρ _ =>
  (θ_run Cert.InWRefIdeal.defs _ _).mono (fun r h => ⟨fun c => (h c).2,
      Idealize.ShloMosaic.sem_eq_zero_of_no_sems (by decide) r.2⟩) (Cert.InWRefIdeal.Value.run (F := Ideal) m ρ)

theorem value : Cert.algebraic_InWIdeal_InWRefIdeal (hInWIdeal := Cert.InWIdeal.Gen.facts)
    (hInWRefIdeal := Cert.InWRefIdeal.Gen.facts) := by
  intro m ρ m' ρ' _ hargs
  refine ⟨_, Cert.InWIdeal.Value.run_blocks m ρ, ?_⟩
  refine (θ_run Cert.InWRefIdeal.defs _ _).mono (fun r h c => ?_) (Cert.InWRefIdeal.Value.run m' ρ')
  obtain ⟨h1, hk⟩ := h c
  obtain ⟨a0, a1⟩ := hargs c
  refine ⟨h1.trans ?_, hk⟩
  refine Eq.trans ?_ (arr_eq m c).symm
  rw [a0, a1]
  funext i
  idx_vars i
  show _ = grad _ _ _ _ _
  generalize m (c.tc.loc Cert.InWIdeal.main_arg0) = x
  generalize m (c.tc.loc Cert.InWIdeal.main_arg1) = d
  pointwise [grad]
  exact Finset.sum_congr rfl fun _ _ => mul_comm _ _

end Cert.InW.Hand

end
-- ==== Proof.InhValue.lean ====
/- The input projection's cotangent: the kernel's array is the reference's product. -/
module

public import proofs.«01_k».proof.Defs
public import proofs.«01_k».proof.Proof.Gen.InHIdeal.Value
public import proofs.«01_k».proof.Proof.Gen.InHRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InHIdeal.Hand

open Cert.InHIdeal Cert.InHIdeal.Gen

/-- Two tiles of the weight side by side. -/
def side (v w : FVec Ideal S1x1024x896 .bf16) (k : Fin 1024) (l : Fin 1792) : EReal :=
  if h : l.val < 896 then v (ix3 0 k ⟨l.val, h⟩) else w (ix3 0 k ⟨l.val - 896, by omega⟩)

theorem cat_at (v w : FVec Ideal S1x1024x896 .bf16) (k : Fin 1024) (l : Fin 1792) :
    (concatenate S1024x1792 1 [⟨S1024x896, (shapeCast S1024x896 v shapeCasts_S1x1024x896_S1024x896 : FVec Ideal S1024x896 .bf16)⟩,
      ⟨S1024x896, (shapeCast S1024x896 w shapeCasts_S1x1024x896_S1024x896 : FVec Ideal S1024x896 .bf16)⟩]
      concatenates_S1024x896_S1024x896_S1024x1792_d1 : FVec Ideal S1024x1792 .bf16) (ix2 k l) = side v w k l := by
  unfold side
  split <;> rename_i h
  · pointwise
    simp [h]
  · pointwise
    simp [h]

theorem pay1_at (i : S2048x1024.Idx) : k0_pay1 (F := Ideal) i = 0 := by
  pointwise [k0_pay1]

/-- A point's step: the old contents and the tile's product. -/
theorem pay2_at (v w : FVec Ideal S1x1024x896 .bf16) (a : FVec Ideal S2048x1024 .f32) (z : FVec Ideal S2048x1792 .bf16) (r : Fin 2048) (k : Fin 1024) :
    k0_pay2 (F := Ideal) v w a z (ix2 r k) = a (ix2 r k) + ∑ l : Fin 1792, z (ix2 r l) * side v w k l := by
  simp only [← cat_at]
  generalize hC : concatenate S1024x1792 1 _ _ = C
  show shapeCast S2048x1024 a shapeCasts_S2048x1024_S2048x1024 (ix2 r k) + matmul dot_S2048x1792_S1024x1792_S2048x1024_1_1_0_0_n_n none z _ (constant S2048x1024 .f32 0x00000000#32) (ix2 r k) = _
  rw [hC]
  pointwise

/-- One of a block's two tiles of the weight. -/
theorem tile_at (w : FVec Ideal S2x1024x896 .bf16) {o : ℕ} (ho : o < 2) (inb : ∀ i : Fin 3, (![o, 0, 0] : Fin 3 → ℕ) i + (![1, 1024, 896] : Fin 3 → ℕ) i ≤ (![2, 1024, 896] : Fin 3 → ℕ) i)
    (k : Fin 1024) (l : Fin 896) :
    View.ld (Val := Elt Ideal) (e' := .bf16) w (Rect.unit (s := S2x1024x896) ![o, 0, 0] ![1, 1024, 896] inb) (ix3 (0 : Fin 1) k l) = w (ix3 (⟨o, ho⟩ : Fin 2) k l) := by
  refine congrArg w (funext fun i => Fin.ext ?_)
  fin_cases i <;> simp [ix3, Rect.emb, Rect.unit]

/-- A block's columns in the whole arrays. -/
theorem idx_val : ∀ t : Fin cfg0.N, win0_0.index t = ![0, t.val] ∧ win0_1.index t = ![t.val, 0, 0] ∧ win0_2.index t = ![0, 0] := by decide +kernel

variable (m : (ℓ : Loc nD τ sig) → Buf (Elt Ideal) ℓ)

theorem V_v2 (c : Dev nD) : V m c main_v2 = (transpose S8x1024x896 [1, 0, 2] (shapeCast S1024x8x896 (truncf .bf16 (m (c.tc.loc main_arg1) : FVec Ideal S1024x7168 .f32) bitsLt_bf16_f32)
    shapeCasts_S1024x7168_S1024x8x896) transposes_S1024x8x896_S8x1024x896_1_0_2 : FVec Ideal S8x1024x896 .bf16) := by
  show StableHlo.after hostOps0 _ _ = _
  after_results_simp <;> rfl

theorem z_point (c : Dev nD) (t : Fin 4) (r : Fin 2048) (l : Fin 1792) :
    iblk m c 0 t (ix2 r l) = m (c.tc.loc main_arg0) (ix2 r (⟨1792 * t.val + l.val, by omega⟩ : Fin 7168)) := by
  blk_point [iblk, V_main_arg0, idx_val t]

theorem w_point (c : Dev nD) (t : Fin 4) (o : Fin 2) (k : Fin 1024) (d : Fin 896) :
    iblk m c 1 t (ix3 o k d) = m (c.tc.loc main_arg1) (ix2 k (⟨896 * (2 * t.val + o.val) + d.val, by omega⟩ : Fin 7168)) := by
  blk_point [iblk, V_v2, idx_val t]

/-- The two tiles side by side are the weight's columns. -/
theorem side_at (c : Dev nD) (t : Fin 4) (v w : FVec Ideal S1x1024x896 .bf16) (hv : ∀ k l, v (ix3 0 k l) = iblk m c 1 t (ix3 0 k l))
    (hw : ∀ k l, w (ix3 0 k l) = iblk m c 1 t (ix3 1 k l)) (k : Fin 1024) (l : Fin 1792) :
    side v w k l = m (c.tc.loc main_arg1) (ix2 k (⟨1792 * t.val + l.val, by omega⟩ : Fin 7168)) := by
  unfold side
  split <;> rename_i h
  · rw [hv, w_point m c t]
    exact congrArg (fun i => m (c.tc.loc main_arg1) (ix2 k i)) (Fin.ext (by show 896 * (2 * t.val + 0) + l.val = 1792 * t.val + l.val; omega))
  · rw [hw, w_point m c t]
    exact congrArg (fun i => m (c.tc.loc main_arg1) (ix2 k i)) (Fin.ext (by show 896 * (2 * t.val + 1) + (l.val - 896) = 1792 * t.val + l.val; omega))

/-- A tile's part of the product. -/
def term (z : FVec Ideal S2048x7168 .bf16) (w : FVec Ideal S1024x7168 .f32) (r : Fin 2048) (k : Fin 1024) (l : Fin 7168) : EReal := z (ix2 r l) * w (ix2 k l)

def part (c : Dev nD) (t : Fin 4) (r : Fin 2048) (k : Fin 1024) : EReal :=
  ∑ l : Fin 1792, term (m (c.tc.loc main_arg0)) (m (c.tc.loc main_arg1)) r k (⟨1792 * t.val + l.val, by omega⟩ : Fin 7168)

theorem step_at (c : Dev nD) (t : Fin 4) (v w : FVec Ideal S1x1024x896 .bf16) (hv : ∀ k l, v (ix3 0 k l) = iblk m c 1 t (ix3 0 k l))
    (hw : ∀ k l, w (ix3 0 k l) = iblk m c 1 t (ix3 1 k l)) (a : FVec Ideal S2048x1024 .f32) (r : Fin 2048) (k : Fin 1024) :
    k0_pay2 (F := Ideal) v w a (iblk m c 0 t) (ix2 r k) = a (ix2 r k) + part m c t r k := by
  refine (pay2_at v w a _ r k).trans (congrArg (_ + ·) (Finset.sum_congr rfl fun l _ => ?_))
  unfold term
  rw [side_at m c t v w hv hw, z_point m c t]

theorem out_first (c : Dev nD) (t : Fin cfg0.N) (h : t.val % 4 = 0) (r : Fin 2048) (k : Fin 1024) :
    outsAt0 m c t.val t.isLt (ix2 r k) = (0 : EReal) + part m c t r k := by
  rw [outsAt0_A m c t h]
  frame_out
  exact (step_at m c t _ _ (tile_at _ (by decide : 0 < 2) _) (tile_at _ (by decide : 1 < 2) _) _ r k).trans (congrArg (· + part m c t r k) (pay1_at _))

theorem out_next (c : Dev nD) (t : Fin cfg0.N) (h : ¬t.val % 4 = 0) (r : Fin 2048) (k : Fin 1024) :
    outsAt0 m c t.val t.isLt (ix2 r k) = outsAt0 m c (t.val - 1) (Nat.lt_of_le_of_lt (Nat.sub_le _ _) t.isLt) (ix2 r k) + part m c t r k := by
  rw [outsAt0_B m c t h]
  frame_out
  exact step_at m c t _ _ (tile_at _ (by decide : 0 < 2) _) (tile_at _ (by decide : 1 < 2) _) _ r k

/-- The product of a device's arguments. -/
def prod (c : Dev nD) : S2048x1024.Idx → EReal := fun i => ∑ l : Fin 7168, term (m (c.tc.loc main_arg0)) (m (c.tc.loc main_arg1)) (i 0) (i 1) l

/-- A sum over the columns, tile by tile. -/
theorem tiles (f : Fin 7168 → EReal) : ∑ t : Fin 4, ∑ l : Fin 1792, f (⟨1792 * t.val + l.val, by omega⟩ : Fin 7168) = ∑ l : Fin 7168, f l := by
  rw [← Fintype.sum_prod_type', ← (finProdFinEquiv (m := 4) (n := 1792)).sum_comp f]
  exact Finset.sum_congr rfl fun x _ => congrArg f (Fin.ext (Nat.add_comm _ _))

theorem arr_eq (c : Dev nD) : (dats m 0 c).arrAt 2 cfg0.N = prod m c := by
  refine (dats m 0 c).arrAt_eq_of_after_last 2 t0_3 (by decide +kernel) (prod m c) fun j => ?_
  blk_simp
  rw [after0_2]
  refine (Pipeline.eq_sum_fin_of_reset_step_apply_last (fun n h => outsAt0 m c n h) 4 (fun _ => (0 : EReal)) (fun t j => part m c t (j 0) (j 1))
    (fun t h j => ?_) (fun t h j => ?_) (le_of_eq N_0) t0_3 rfl j).trans ?_
  · idx_vars j
    exact out_first m c t h j0 j1
  · idx_vars j
    exact out_next m c t h j0 j1
  · rw [zero_add]
    exact tiles fun l => term (m (c.tc.loc main_arg0)) (m (c.tc.loc main_arg1)) (j 0) (j 1) l

end Cert.InHIdeal.Hand

namespace Cert.InH.Hand

open Cert.InHIdeal.Hand

/-- The reference's arguments stay, and no counter moves. -/
theorem frame_ref : Cert.quiescent_InHRefIdeal (hInHRefIdeal := Cert.InHRefIdeal.Gen.facts) := fun m ρ _ =>
  (θ_run Cert.InHRefIdeal.defs _ _).mono (fun r h => ⟨fun c => (h c).2,
      Idealize.ShloMosaic.sem_eq_zero_of_no_sems (by decide) r.2⟩) (Cert.InHRefIdeal.Value.run (F := Ideal) m ρ)

theorem value : Cert.algebraic_InHIdeal_InHRefIdeal (hInHIdeal := Cert.InHIdeal.Gen.facts)
    (hInHRefIdeal := Cert.InHRefIdeal.Gen.facts) := by
  intro m ρ m' ρ' _ hargs
  refine ⟨_, Cert.InHIdeal.Value.run_blocks m ρ, ?_⟩
  refine (θ_run Cert.InHRefIdeal.defs _ _).mono (fun r h c => ?_) (Cert.InHRefIdeal.Value.run m' ρ')
  obtain ⟨h1, hk⟩ := h c
  obtain ⟨a0, a1⟩ := hargs c
  refine ⟨h1.trans ?_, hk⟩
  refine Eq.trans ?_ (arr_eq m c).symm
  rw [a0, a1]
  funext i
  idx_vars i
  show _ = ∑ l : Fin 7168, term _ _ _ _ l
  generalize m (c.tc.loc Cert.InHIdeal.main_arg0) = x
  generalize m (c.tc.loc Cert.InHIdeal.main_arg1) = w
  pointwise [term]

end Cert.InH.Hand

end
-- ==== Proof.GoutValue.lean ====
/- The output weights' gradients: the kernel's arrays are the reference's. -/
module

public import proofs.«01_k».proof.Defs
public import proofs.«01_k».proof.Proof.Gen.GOutIdeal.Value
public import proofs.«01_k».proof.Proof.Gen.GOutRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GOutIdeal.Hand

open Cert.GOutIdeal Cert.GOutIdeal.Gen

/-- A coordinate of a weight's gradient: every row's activation times its cotangent. -/
def grad {k l : ℕ} (a : FVec Ideal ⟨2, ![2048, k]⟩ .bf16) (d : FVec Ideal ⟨2, ![2048, l]⟩ .bf16) (i : Fin k) (j : Fin l) : EReal :=
  ∑ r : Fin 2048, a (ix2 r i) * d (ix2 r j)

theorem grad_congr {k l k' l' : ℕ} {a : FVec Ideal ⟨2, ![2048, k]⟩ .bf16} {d : FVec Ideal ⟨2, ![2048, l]⟩ .bf16} {a' : FVec Ideal ⟨2, ![2048, k']⟩ .bf16}
    {d' : FVec Ideal ⟨2, ![2048, l']⟩ .bf16} {i : Fin k} {j : Fin l} {i' : Fin k'} {j' : Fin l'} (ha : ∀ r, a (ix2 r i) = a' (ix2 r i')) (hd : ∀ r, d (ix2 r j) = d' (ix2 r j')) :
    grad a d i j = grad a' d' i' j' :=
  Finset.sum_congr rfl fun r _ => by rw [ha, hd]

theorem pay3_at (a : FVec Ideal S2048x1024 .bf16) (d : FVec Ideal S2048x512 .bf16) (k : Fin 1024) (l : Fin 512) :
    k0_pay3 (F := Ideal) a d (ix2 k l) = grad a d k l := by
  pointwise [k0_pay3]
  rfl

theorem pay4_at (a : FVec Ideal S2048x1024 .bf16) (d : FVec Ideal S2048x512 .bf16) (k : Fin 1024) (l : Fin 512) :
    k0_pay4 (F := Ideal) a d (ix2 k l) = grad a d k l := pay3_at a d k l

theorem pay5_at (a : FVec Ideal S2048x512 .bf16) (d : FVec Ideal S2048x512 .bf16) (k : Fin 512) (l : Fin 512) :
    k0_pay5 (F := Ideal) a d (ix2 k l) = grad a d k l := by
  pointwise [k0_pay5]
  rfl

/-- A block's columns in the whole arrays. -/
theorem idx_val : ∀ t : Fin cfg0.N, win0_0.index t = ![0, 0] ∧ win0_1.index t = ![0, t.val] ∧ win0_2.index t = ![0, 0] ∧ win0_3.index t = ![0, t.val]
    ∧ win0_4.index t = ![0, 0] ∧ win0_5.index t = ![0, t.val] ∧ win0_6.index t = ![0, t.val] ∧ win0_7.index t = ![0, t.val] ∧ win0_8.index t = ![t.val, 0, 0] := by decide +kernel

variable (m : (ℓ : Loc nD τ sig) → Buf (Elt Ideal) ℓ)

theorem a0_point (c : Dev nD) (t : Fin 2) (r : Fin 2048) (k : Fin 1024) : iblk m c 0 t (ix2 r k) = m (c.tc.loc main_arg0) (ix2 r k) := by
  blk_point [iblk, V_main_arg0, idx_val t]

theorem a2_point (c : Dev nD) (t : Fin 2) (r : Fin 2048) (k : Fin 1024) : iblk m c 2 t (ix2 r k) = m (c.tc.loc main_arg2) (ix2 r k) := by
  blk_point [iblk, V_main_arg2, idx_val t]

theorem a4_point (c : Dev nD) (t : Fin 2) (r : Fin 2048) (k : Fin 512) : iblk m c 4 t (ix2 r k) = m (c.tc.loc main_arg4) (ix2 r k) := by
  blk_point [iblk, V_main_arg4, idx_val t]

theorem d1_point (c : Dev nD) (t : Fin 2) (r : Fin 2048) (l : Fin 512) :
    iblk m c 1 t (ix2 r l) = m (c.tc.loc main_arg1) (ix2 r (⟨512 * t.val + l.val, by omega⟩ : Fin 1024)) := by
  blk_point [iblk, V_main_arg1, idx_val t]

theorem d3_point (c : Dev nD) (t : Fin 2) (r : Fin 2048) (l : Fin 512) :
    iblk m c 3 t (ix2 r l) = m (c.tc.loc main_arg3) (ix2 r (⟨512 * t.val + l.val, by omega⟩ : Fin 1024)) := by
  blk_point [iblk, V_main_arg3, idx_val t]

theorem d5_point (c : Dev nD) (t : Fin 2) (r : Fin 2048) (l : Fin 512) :
    iblk m c 5 t (ix2 r l) = m (c.tc.loc main_arg5) (ix2 r (⟨512 * t.val + l.val, by omega⟩ : Fin 1024)) := by
  blk_point [iblk, V_main_arg5, idx_val t]

/-- The three gradients of a device's arguments. -/
def gout (c : Dev nD) : S1024x1024.Idx → EReal := fun i => grad (m (c.tc.loc main_arg0)) (m (c.tc.loc main_arg1)) (i 0) (i 1)

def gho (c : Dev nD) : S1024x1024.Idx → EReal := fun i => grad (m (c.tc.loc main_arg2)) (m (c.tc.loc main_arg3)) (i 0) (i 1)

def gpo (c : Dev nD) : S8x512x128.Idx → EReal := fun i => grad (m (c.tc.loc main_arg4)) (m (c.tc.loc main_arg5)) (i 1) (⟨(i 0).val * 128 + (i 2).val, by
  have h0 : (i 0).val < 8 := (i 0).isLt
  have h2 : (i 2).val < 128 := (i 2).isLt
  omega⟩ : Fin 1024)

theorem arr_gout (c : Dev nD) : (dats m 0 c).arrAt 6 cfg0.N = gout m c := by
  refine (dats m 0 c).arrAt_eq_of_covers 6 (gout m c) (by decide +kernel) fun t _ j => ?_
  have ht : t.val < 2 := t.isLt
  blk_simp
  obtain ⟨r, s, rfl⟩ : ∃ (r : Fin 1024) (s : Fin 512), j = ix2 r s := ⟨j 0, j 1, by idx_vars j⟩
  have he : (win0_6.blk t).view.emb (ix2 r s) = ix2 r (⟨512 * t.val + s.val, by omega⟩ : Fin 1024) := by blk_ext [idx_val t]
  refine Eq.trans ?_ (congrArg (gout m c) he.symm)
  rw [after0_6]
  unfold out0_6
  frame_out
  exact (pay3_at _ _ r s).trans (grad_congr (fun x => a0_point m c t x r) (fun x => d1_point m c t x s))

theorem arr_gho (c : Dev nD) : (dats m 0 c).arrAt 7 cfg0.N = gho m c := by
  refine (dats m 0 c).arrAt_eq_of_covers 7 (gho m c) (by decide +kernel) fun t _ j => ?_
  have ht : t.val < 2 := t.isLt
  blk_simp
  obtain ⟨r, s, rfl⟩ : ∃ (r : Fin 1024) (s : Fin 512), j = ix2 r s := ⟨j 0, j 1, by idx_vars j⟩
  have he : (win0_7.blk t).view.emb (ix2 r s) = ix2 r (⟨512 * t.val + s.val, by omega⟩ : Fin 1024) := by blk_ext [idx_val t]
  refine Eq.trans ?_ (congrArg (gho m c) he.symm)
  rw [after0_7]
  unfold out0_7
  frame_out
  exact (pay4_at _ _ r s).trans (grad_congr (fun x => a2_point m c t x r) (fun x => d3_point m c t x s))

theorem arr_gpo (c : Dev nD) : (dats m 0 c).arrAt 8 cfg0.N = gpo m c := by
  refine (dats m 0 c).arrAt_eq_of_covers 8 (gpo m c) (by decide +kernel) fun t _ j => ?_
  have ht : t.val < 2 := t.isLt
  blk_simp
  obtain ⟨r, s, u, rfl⟩ : ∃ (r : Fin 4) (s : Fin 512) (u : Fin 128), j = ix3 r s u := ⟨j 0, j 1, j 2, by idx_vars j⟩
  have he : (win0_8.blk t).view.emb (ix3 r s u) = ix3 (⟨4 * t.val + r.val, by omega⟩ : Fin 8) s u := by blk_ext [idx_val t]
  refine Eq.trans ?_ (congrArg (gpo m c) he.symm)
  rw [after0_8]
  unfold out0_8
  frame_out
  refine (Cert.GOutIdeal.Value.canon8_eq _ _ _).trans ?_
  have hi : Cert.GOutIdeal.Value.ix8_0 (ix3 r s u) = ix2 s (⟨128 * r.val + u.val, by omega⟩ : Fin 512) := by
    refine funext fun i => Fin.ext ?_
    fin_cases i
    · rfl
    · exact congrArg (· + u.val) (Nat.mul_comm r.val 128)
  refine (congrArg (k0_pay5 (F := Ideal) (iblk m c 4 t) (iblk m c 5 t)) hi).trans ((pay5_at _ _ _ _).trans (grad_congr (fun x => a4_point m c t x s) (fun x => (d5_point m c t x _).trans ?_)))
  exact congrArg (fun i => m (c.tc.loc main_arg5) (ix2 x i)) (Fin.ext (by show 512 * t.val + (128 * r.val + u.val) = (4 * t.val + r.val) * 128 + u.val; omega))

end Cert.GOutIdeal.Hand

namespace Cert.GOut.Hand

open Cert.GOutIdeal.Hand

/-- The reference's arguments stay, and no counter moves. -/
theorem frame_ref : Cert.quiescent_GOutRefIdeal (hGOutRefIdeal := Cert.GOutRefIdeal.Gen.facts) := fun m ρ _ =>
  (θ_run Cert.GOutRefIdeal.defs _ _).mono (fun r h => ⟨fun c => (h c).2.2.2,
      Idealize.ShloMosaic.sem_eq_zero_of_no_sems (by decide) r.2⟩) (Cert.GOutRefIdeal.Value.run (F := Ideal) m ρ)

theorem value : Cert.algebraic_GOutIdeal_GOutRefIdeal (hGOutIdeal := Cert.GOutIdeal.Gen.facts)
    (hGOutRefIdeal := Cert.GOutRefIdeal.Gen.facts) := by
  intro m ρ m' ρ' _ hargs
  refine ⟨_, _, _, Cert.GOutIdeal.Value.run_blocks m ρ, ?_⟩
  refine (θ_run Cert.GOutRefIdeal.defs _ _).mono (fun r h c => ?_) (Cert.GOutRefIdeal.Value.run m' ρ')
  obtain ⟨h1, h2, h3, hk⟩ := h c
  obtain ⟨a0, a1, a2, a3, a4, a5⟩ := hargs c
  refine ⟨h1.trans ?_, h2.trans ?_, h3.trans ?_, hk⟩
  · refine Eq.trans ?_ (arr_gout m c).symm
    rw [a0, a1]
    funext i
    idx_vars i
    show _ = grad _ _ _ _
    generalize m (c.tc.loc Cert.GOutIdeal.main_arg0) = x
    generalize m (c.tc.loc Cert.GOutIdeal.main_arg1) = d
    pointwise [grad]
    exact Finset.sum_congr rfl fun _ _ => mul_comm _ _
  · refine Eq.trans ?_ (arr_gho m c).symm
    rw [a2, a3]
    funext i
    idx_vars i
    show _ = grad _ _ _ _
    generalize m (c.tc.loc Cert.GOutIdeal.main_arg2) = x
    generalize m (c.tc.loc Cert.GOutIdeal.main_arg3) = d
    pointwise [grad]
    exact Finset.sum_congr rfl fun _ _ => mul_comm _ _
  · refine Eq.trans ?_ (arr_gpo m c).symm
    rw [a4, a5]
    funext i
    idx_vars i
    show _ = grad _ _ _ _
    generalize m (c.tc.loc Cert.GOutIdeal.main_arg4) = x
    generalize m (c.tc.loc Cert.GOutIdeal.main_arg5) = d
    pointwise [grad]
    exact Finset.sum_congr rfl fun _ _ => mul_comm _ _

end Cert.GOut.Hand

end
-- ==== Proof.AdamwRun.lean ====
/- The update of a weight in both layers: what its two calls leave in the results. -/
module

public import proofs.«01_k».proof.Proof.Gen.AdamwIdeal.Frame

@[expose] public section

set_option maxRecDepth 16384

noncomputable section

namespace Cert.AdamwIdeal.Hand

open Cert.AdamwIdeal Cert.AdamwIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The whole run: the results are what the second call leaves, and the arguments stay. -/
theorem run : θ_run defs (onTc (τ := τ) (main (F := F))) ⟨m, fun _ => 0, ρ⟩ (fun r => ∀ c : Dev nD,
      r.2.mem ((c.tc : Thread nD τ).loc main_v1_0) = W3 m ρ c (Proc.devRef .tc main_v1_0)
      ∧ r.2.mem ((c.tc : Thread nD τ).loc main_v1_1) = W3 m ρ c (Proc.devRef .tc main_v1_1)
      ∧ r.2.mem ((c.tc : Thread nD τ).loc main_v1_2) = W3 m ρ c (Proc.devRef .tc main_v1_2)
      ∧ r.2.mem ((c.tc : Thread nD τ).loc main_v1_3) = W3 m ρ c (Proc.devRef .tc main_v1_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v1_0 (by decide)), h c _ (mem_uc main_v1_1 (by decide)), h c _ (mem_uc main_v1_2 (by decide)), h c _ (mem_uc main_v1_3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.AdamwIdeal.Hand

end
-- ==== Proof.AdamwValue.lean ====
/- The update of a weight in both layers, the second first: the kernel's arrays are the reference's. -/
module

public import proofs.«01_k».proof.Defs
public import proofs.«01_k».proof.Proof.AdamwRun
public import proofs.«01_k».proof.Proof.Gen.AdamwRefIdeal.Run
public import Idealize.ShloMosaic.Lib.Pipeline.ValueKit
public import Idealize.ShloMosaic.Lib.Pipeline.ValueKit.Partial
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamwIdeal.Hand

open Cert.AdamwIdeal Cert.AdamwIdeal.Gen

/-- The next first moment, second moment and update of an element. -/
def mom (g a : EReal) : EReal := Ideal.ofBits .f32 0x3F666666#32 * a + Ideal.ofBits .f32 0x3DCCCCCD#32 * g

def sec (g b : EReal) : EReal := Ideal.ofBits .f32 0x3F7FBE77#32 * b + Ideal.ofBits .f32 0x3A83126F#32 * (g * g)

def delta (w g a b : EReal) : EReal :=
  Ideal.ofBits .f32 0xBA83126F#32 * (Ideal.div (Ideal.div (mom g a) (Ideal.ofBits .f32 0x3F26BD02#32))
    (Ideal.sqrt (Ideal.div (sec g b) (Ideal.ofBits .f32 0x3C231ACC#32)) + Ideal.ofBits .f32 0x322BCC77#32) + Ideal.ofBits .f32 0x3C23D70A#32 * w)

section
variable (g w a b : FVec Ideal S1x512x384 .f32) (r : Fin 512) (l : Fin 384)

theorem grad_at : k0_pay8 (F := Ideal) g (ix3 (0 : Fin 1) r l) = g (ix3 0 r l) := by
  pointwise [k0_pay8, k0_pay4]

theorem mom_at : k0_pay2 (k0_pay5 (F := Ideal) g a) (ix3 (0 : Fin 1) r l) = mom (g (ix3 0 r l)) (a (ix3 0 r l)) := by
  pointwise [k0_pay2, k0_pay5, k0_pay4, mom]

theorem sec_at : k0_pay3 (k0_pay6 (F := Ideal) g b) (ix3 (0 : Fin 1) r l) = sec (g (ix3 0 r l)) (b (ix3 0 r l)) := by
  pointwise [k0_pay3, k0_pay6, k0_pay4, sec]

theorem delta_at : k0_pay1 (k0_pay7 (F := Ideal) g w a b) (ix3 (0 : Fin 1) r l) = delta (w (ix3 0 r l)) (g (ix3 0 r l)) (a (ix3 0 r l)) (b (ix3 0 r l)) := by
  pointwise [k0_pay1, k0_pay7, k0_pay6, k0_pay5, k0_pay4, delta, mom, sec]

end

/-- A layer's new elements, and the other layer's old ones. -/
def put (k : Fin 2) (new : Fin 1024 → Fin 384 → EReal) (old : S2x1024x384.Idx → EReal) : S2x1024x384.Idx → EReal :=
  fun i => if (i 0).val = k.val then new (i 1) (i 2) else old i

/-- An array is its two layers, whatever it was before. -/
theorem eq_put (x : S2x1024x384.Idx → EReal) (f₀ f₁ : Fin 1024 → Fin 384 → EReal) (old : S2x1024x384.Idx → EReal) (h₀ : ∀ r l, x (ix3 0 r l) = f₀ r l)
    (h₁ : ∀ r l, x (ix3 1 r l) = f₁ r l) : x = put 0 f₀ (put 1 f₁ old) := by
  funext i
  idx_vars i
  simp only [put]
  rcases (by omega : i0.val = 0 ∨ i0.val = 1) with h | h
  · obtain rfl : i0 = 0 := Fin.ext h
    exact (h₀ i1 i2).trans (if_pos rfl).symm
  · obtain rfl : i0 = 1 := Fin.ext h
    exact (h₁ i1 i2).trans ((if_neg (by simp)).trans (if_pos rfl)).symm

def newG (g : FVec Ideal S1x1024x384 .f32) (r : Fin 1024) (l : Fin 384) : EReal := g (ix3 0 r l)

def newD (k : Fin 2) (w a b : FVec Ideal S2x1024x384 .f32) (g : FVec Ideal S1x1024x384 .f32) (r : Fin 1024) (l : Fin 384) : EReal :=
  delta (w (ix3 k r l)) (g (ix3 0 r l)) (a (ix3 k r l)) (b (ix3 k r l))

def newM (k : Fin 2) (a : FVec Ideal S2x1024x384 .f32) (g : FVec Ideal S1x1024x384 .f32) (r : Fin 1024) (l : Fin 384) : EReal := mom (g (ix3 0 r l)) (a (ix3 k r l))

def newV (k : Fin 2) (b : FVec Ideal S2x1024x384 .f32) (g : FVec Ideal S1x1024x384 .f32) (r : Fin 1024) (l : Fin 384) : EReal := sec (g (ix3 0 r l)) (b (ix3 k r l))

variable (V : (c : Dev nD) → (b : Ref sig .tc) → Buf (Elt Ideal) ((c : Thread nD τ).loc b))

/-- A block's rows in the whole arrays: those of the second layer. -/
theorem idx_val0 : ∀ t : Fin cfg0.N, win0_0.index t = ![1, t.val, 0] ∧ win0_1.index t = ![1, t.val, 0] ∧ win0_2.index t = ![1, t.val, 0] ∧ win0_3.index t = ![0, t.val, 0]
    ∧ win0_4.index t = ![1, t.val, 0] ∧ win0_5.index t = ![1, t.val, 0] ∧ win0_6.index t = ![1, t.val, 0] ∧ win0_7.index t = ![1, t.val, 0] := by decide +kernel

theorem w_point0 (c : Dev nD) (t : Fin 2) (r : Fin 512) (l : Fin 384) :
    iblk0 V c 0 t (ix3 (0 : Fin 1) r l) = V c main_arg0 (ix3 (1 : Fin 2) (⟨512 * t.val + r.val, by omega⟩ : Fin 1024) l) := by
  blk_point [iblk0, idx_val0 t]

theorem a_point0 (c : Dev nD) (t : Fin 2) (r : Fin 512) (l : Fin 384) :
    iblk0 V c 1 t (ix3 (0 : Fin 1) r l) = V c main_arg1 (ix3 (1 : Fin 2) (⟨512 * t.val + r.val, by omega⟩ : Fin 1024) l) := by
  blk_point [iblk0, idx_val0 t]

theorem b_point0 (c : Dev nD) (t : Fin 2) (r : Fin 512) (l : Fin 384) :
    iblk0 V c 2 t (ix3 (0 : Fin 1) r l) = V c main_arg2 (ix3 (1 : Fin 2) (⟨512 * t.val + r.val, by omega⟩ : Fin 1024) l) := by
  blk_point [iblk0, idx_val0 t]

theorem g_point0 (c : Dev nD) (t : Fin 2) (r : Fin 512) (l : Fin 384) :
    iblk0 V c 3 t (ix3 (0 : Fin 1) r l) = V c main_arg4 (ix3 (0 : Fin 1) (⟨512 * t.val + r.val, by omega⟩ : Fin 1024) l) := by
  blk_point [iblk0, idx_val0 t]

theorem arr_grad0 (c : Dev nD) : (dat0 V c).arrAt 4 cfg0.N = put 1 (newG (V c main_arg4)) (V c main_v0_0) := by
  refine (dat0 V c).arrAt_eq_of_coversWhere 4 (fun i => newG (V c main_arg4) (i 1) (i 2)) (fun β => β (0 : Fin _) = 1) (by decide +kernel) (fun t _ j => ?_)
    (fun j => by blk_simp [Pipeline.Window.cell_apply]; omega)
  have ht : t.val < 2 := t.isLt
  blk_simp
  obtain ⟨o, r, l, rfl⟩ : ∃ (o : Fin 1) (r : Fin 512) (l : Fin 384), j = ix3 o r l := ⟨j 0, j 1, j 2, by idx_vars j⟩
  obtain rfl : o = 0 := Subsingleton.elim _ _
  have he : (win0_4.blk t).view.emb (ix3 (0 : Fin 1) r l) = ix3 (1 : Fin 2) (⟨512 * t.val + r.val, by omega⟩ : Fin 1024) l := by blk_ext [idx_val0 t]
  refine Eq.trans ?_ (congrArg (fun i : S2x1024x384.Idx => newG (V c main_arg4) (i 1) (i 2)) he.symm)
  rw [after0_4]
  unfold out0_4
  frame_out
  refine (grad_at _ r l).trans ?_
  show _ = newG (V c main_arg4) (⟨512 * t.val + r.val, by omega⟩ : Fin 1024) l
  unfold newG
  rw [g_point0 V c t]

theorem arr_delta0 (c : Dev nD) : (dat0 V c).arrAt 5 cfg0.N = put 1 (newD 1 (V c main_arg0) (V c main_arg1) (V c main_arg2) (V c main_arg4)) (V c main_v0_1) := by
  refine (dat0 V c).arrAt_eq_of_coversWhere 5 (fun i => newD 1 (V c main_arg0) (V c main_arg1) (V c main_arg2) (V c main_arg4) (i 1) (i 2)) (fun β => β (0 : Fin _) = 1) (by decide +kernel) (fun t _ j => ?_)
    (fun j => by blk_simp [Pipeline.Window.cell_apply]; omega)
  have ht : t.val < 2 := t.isLt
  blk_simp
  obtain ⟨o, r, l, rfl⟩ : ∃ (o : Fin 1) (r : Fin 512) (l : Fin 384), j = ix3 o r l := ⟨j 0, j 1, j 2, by idx_vars j⟩
  obtain rfl : o = 0 := Subsingleton.elim _ _
  have he : (win0_5.blk t).view.emb (ix3 (0 : Fin 1) r l) = ix3 (1 : Fin 2) (⟨512 * t.val + r.val, by omega⟩ : Fin 1024) l := by blk_ext [idx_val0 t]
  refine Eq.trans ?_ (congrArg (fun i : S2x1024x384.Idx => newD 1 (V c main_arg0) (V c main_arg1) (V c main_arg2) (V c main_arg4) (i 1) (i 2)) he.symm)
  rw [after0_5]
  unfold out0_5
  frame_out
  refine (delta_at _ _ _ _ r l).trans ?_
  show _ = newD 1 (V c main_arg0) (V c main_arg1) (V c main_arg2) (V c main_arg4) (⟨512 * t.val + r.val, by omega⟩ : Fin 1024) l
  unfold newD
  rw [w_point0 V c t, g_point0 V c t, a_point0 V c t, b_point0 V c t]

theorem arr_mom0 (c : Dev nD) : (dat0 V c).arrAt 6 cfg0.N = put 1 (newM 1 (V c main_arg1) (V c main_arg4)) (V c main_v0_2) := by
  refine (dat0 V c).arrAt_eq_of_coversWhere 6 (fun i => newM 1 (V c main_arg1) (V c main_arg4) (i 1) (i 2)) (fun β => β (0 : Fin _) = 1) (by decide +kernel) (fun t _ j => ?_)
    (fun j => by blk_simp [Pipeline.Window.cell_apply]; omega)
  have ht : t.val < 2 := t.isLt
  blk_simp
  obtain ⟨o, r, l, rfl⟩ : ∃ (o : Fin 1) (r : Fin 512) (l : Fin 384), j = ix3 o r l := ⟨j 0, j 1, j 2, by idx_vars j⟩
  obtain rfl : o = 0 := Subsingleton.elim _ _
  have he : (win0_6.blk t).view.emb (ix3 (0 : Fin 1) r l) = ix3 (1 : Fin 2) (⟨512 * t.val + r.val, by omega⟩ : Fin 1024) l := by blk_ext [idx_val0 t]
  refine Eq.trans ?_ (congrArg (fun i : S2x1024x384.Idx => newM 1 (V c main_arg1) (V c main_arg4) (i 1) (i 2)) he.symm)
  rw [after0_6]
  unfold out0_6
  frame_out
  refine (mom_at _ _ r l).trans ?_
  show _ = newM 1 (V c main_arg1) (V c main_arg4) (⟨512 * t.val + r.val, by omega⟩ : Fin 1024) l
  unfold newM
  rw [g_point0 V c t, a_point0 V c t]

theorem arr_sec0 (c : Dev nD) : (dat0 V c).arrAt 7 cfg0.N = put 1 (newV 1 (V c main_arg2) (V c main_arg4)) (V c main_v0_3) := by
  refine (dat0 V c).arrAt_eq_of_coversWhere 7 (fun i => newV 1 (V c main_arg2) (V c main_arg4) (i 1) (i 2)) (fun β => β (0 : Fin _) = 1) (by decide +kernel) (fun t _ j => ?_)
    (fun j => by blk_simp [Pipeline.Window.cell_apply]; omega)
  have ht : t.val < 2 := t.isLt
  blk_simp
  obtain ⟨o, r, l, rfl⟩ : ∃ (o : Fin 1) (r : Fin 512) (l : Fin 384), j = ix3 o r l := ⟨j 0, j 1, j 2, by idx_vars j⟩
  obtain rfl : o = 0 := Subsingleton.elim _ _
  have he : (win0_7.blk t).view.emb (ix3 (0 : Fin 1) r l) = ix3 (1 : Fin 2) (⟨512 * t.val + r.val, by omega⟩ : Fin 1024) l := by blk_ext [idx_val0 t]
  refine Eq.trans ?_ (congrArg (fun i : S2x1024x384.Idx => newV 1 (V c main_arg2) (V c main_arg4) (i 1) (i 2)) he.symm)
  rw [after0_7]
  unfold out0_7
  frame_out
  refine (sec_at _ _ r l).trans ?_
  show _ = newV 1 (V c main_arg2) (V c main_arg4) (⟨512 * t.val + r.val, by omega⟩ : Fin 1024) l
  unfold newV
  rw [g_point0 V c t, b_point0 V c t]

/-- A block's rows in the whole arrays: those of the first layer. -/
theorem idx_val1 : ∀ t : Fin cfg1.N, win1_0.index t = ![0, t.val, 0] ∧ win1_1.index t = ![0, t.val, 0] ∧ win1_2.index t = ![0, t.val, 0] ∧ win1_3.index t = ![0, t.val, 0]
    ∧ win1_4.index t = ![0, t.val, 0] ∧ win1_5.index t = ![0, t.val, 0] ∧ win1_6.index t = ![0, t.val, 0] ∧ win1_7.index t = ![0, t.val, 0] := by decide +kernel

theorem w_point1 (c : Dev nD) (t : Fin 2) (r : Fin 512) (l : Fin 384) :
    iblk1 V c 0 t (ix3 (0 : Fin 1) r l) = V c main_arg0 (ix3 (0 : Fin 2) (⟨512 * t.val + r.val, by omega⟩ : Fin 1024) l) := by
  blk_point [iblk1, idx_val1 t]

theorem a_point1 (c : Dev nD) (t : Fin 2) (r : Fin 512) (l : Fin 384) :
    iblk1 V c 1 t (ix3 (0 : Fin 1) r l) = V c main_arg1 (ix3 (0 : Fin 2) (⟨512 * t.val + r.val, by omega⟩ : Fin 1024) l) := by
  blk_point [iblk1, idx_val1 t]

theorem b_point1 (c : Dev nD) (t : Fin 2) (r : Fin 512) (l : Fin 384) :
    iblk1 V c 2 t (ix3 (0 : Fin 1) r l) = V c main_arg2 (ix3 (0 : Fin 2) (⟨512 * t.val + r.val, by omega⟩ : Fin 1024) l) := by
  blk_point [iblk1, idx_val1 t]

theorem g_point1 (c : Dev nD) (t : Fin 2) (r : Fin 512) (l : Fin 384) :
    iblk1 V c 3 t (ix3 (0 : Fin 1) r l) = V c main_arg3 (ix3 (0 : Fin 1) (⟨512 * t.val + r.val, by omega⟩ : Fin 1024) l) := by
  blk_point [iblk1, idx_val1 t]

theorem arr_grad1 (c : Dev nD) : (dat1 V c).arrAt 4 cfg1.N = put 0 (newG (V c main_arg3)) (V c main_v1_0) := by
  refine (dat1 V c).arrAt_eq_of_coversWhere 4 (fun i => newG (V c main_arg3) (i 1) (i 2)) (fun β => β (0 : Fin _) = 0) (by decide +kernel) (fun t _ j => ?_)
    (fun j => by blk_simp [Pipeline.Window.cell_apply]; omega)
  have ht : t.val < 2 := t.isLt
  blk_simp
  obtain ⟨o, r, l, rfl⟩ : ∃ (o : Fin 1) (r : Fin 512) (l : Fin 384), j = ix3 o r l := ⟨j 0, j 1, j 2, by idx_vars j⟩
  obtain rfl : o = 0 := Subsingleton.elim _ _
  have he : (win1_4.blk t).view.emb (ix3 (0 : Fin 1) r l) = ix3 (0 : Fin 2) (⟨512 * t.val + r.val, by omega⟩ : Fin 1024) l := by blk_ext [idx_val1 t]
  refine Eq.trans ?_ (congrArg (fun i : S2x1024x384.Idx => newG (V c main_arg3) (i 1) (i 2)) he.symm)
  rw [after1_4]
  unfold outsAt1
  frame_out
  refine (grad_at _ r l).trans ?_
  show _ = newG (V c main_arg3) (⟨512 * t.val + r.val, by omega⟩ : Fin 1024) l
  unfold newG
  rw [g_point1 V c t]

theorem arr_delta1 (c : Dev nD) : (dat1 V c).arrAt 5 cfg1.N = put 0 (newD 0 (V c main_arg0) (V c main_arg1) (V c main_arg2) (V c main_arg3)) (V c main_v1_1) := by
  refine (dat1 V c).arrAt_eq_of_coversWhere 5 (fun i => newD 0 (V c main_arg0) (V c main_arg1) (V c main_arg2) (V c main_arg3) (i 1) (i 2)) (fun β => β (0 : Fin _) = 0) (by decide +kernel) (fun t _ j => ?_)
    (fun j => by blk_simp [Pipeline.Window.cell_apply]; omega)
  have ht : t.val < 2 := t.isLt
  blk_simp
  obtain ⟨o, r, l, rfl⟩ : ∃ (o : Fin 1) (r : Fin 512) (l : Fin 384), j = ix3 o r l := ⟨j 0, j 1, j 2, by idx_vars j⟩
  obtain rfl : o = 0 := Subsingleton.elim _ _
  have he : (win1_5.blk t).view.emb (ix3 (0 : Fin 1) r l) = ix3 (0 : Fin 2) (⟨512 * t.val + r.val, by omega⟩ : Fin 1024) l := by blk_ext [idx_val1 t]
  refine Eq.trans ?_ (congrArg (fun i : S2x1024x384.Idx => newD 0 (V c main_arg0) (V c main_arg1) (V c main_arg2) (V c main_arg3) (i 1) (i 2)) he.symm)
  rw [after1_5]
  unfold outsAt1
  frame_out
  refine (delta_at _ _ _ _ r l).trans ?_
  show _ = newD 0 (V c main_arg0) (V c main_arg1) (V c main_arg2) (V c main_arg3) (⟨512 * t.val + r.val, by omega⟩ : Fin 1024) l
  unfold newD
  rw [w_point1 V c t, g_point1 V c t, a_point1 V c t, b_point1 V c t]

theorem arr_mom1 (c : Dev nD) : (dat1 V c).arrAt 6 cfg1.N = put 0 (newM 0 (V c main_arg1) (V c main_arg3)) (V c main_v1_2) := by
  refine (dat1 V c).arrAt_eq_of_coversWhere 6 (fun i => newM 0 (V c main_arg1) (V c main_arg3) (i 1) (i 2)) (fun β => β (0 : Fin _) = 0) (by decide +kernel) (fun t _ j => ?_)
    (fun j => by blk_simp [Pipeline.Window.cell_apply]; omega)
  have ht : t.val < 2 := t.isLt
  blk_simp
  obtain ⟨o, r, l, rfl⟩ : ∃ (o : Fin 1) (r : Fin 512) (l : Fin 384), j = ix3 o r l := ⟨j 0, j 1, j 2, by idx_vars j⟩
  obtain rfl : o = 0 := Subsingleton.elim _ _
  have he : (win1_6.blk t).view.emb (ix3 (0 : Fin 1) r l) = ix3 (0 : Fin 2) (⟨512 * t.val + r.val, by omega⟩ : Fin 1024) l := by blk_ext [idx_val1 t]
  refine Eq.trans ?_ (congrArg (fun i : S2x1024x384.Idx => newM 0 (V c main_arg1) (V c main_arg3) (i 1) (i 2)) he.symm)
  rw [after1_6]
  unfold outsAt1
  frame_out
  refine (mom_at _ _ r l).trans ?_
  show _ = newM 0 (V c main_arg1) (V c main_arg3) (⟨512 * t.val + r.val, by omega⟩ : Fin 1024) l
  unfold newM
  rw [g_point1 V c t, a_point1 V c t]

theorem arr_sec1 (c : Dev nD) : (dat1 V c).arrAt 7 cfg1.N = put 0 (newV 0 (V c main_arg2) (V c main_arg3)) (V c main_v1_3) := by
  refine (dat1 V c).arrAt_eq_of_coversWhere 7 (fun i => newV 0 (V c main_arg2) (V c main_arg3) (i 1) (i 2)) (fun β => β (0 : Fin _) = 0) (by decide +kernel) (fun t _ j => ?_)
    (fun j => by blk_simp [Pipeline.Window.cell_apply]; omega)
  have ht : t.val < 2 := t.isLt
  blk_simp
  obtain ⟨o, r, l, rfl⟩ : ∃ (o : Fin 1) (r : Fin 512) (l : Fin 384), j = ix3 o r l := ⟨j 0, j 1, j 2, by idx_vars j⟩
  obtain rfl : o = 0 := Subsingleton.elim _ _
  have he : (win1_7.blk t).view.emb (ix3 (0 : Fin 1) r l) = ix3 (0 : Fin 2) (⟨512 * t.val + r.val, by omega⟩ : Fin 1024) l := by blk_ext [idx_val1 t]
  refine Eq.trans ?_ (congrArg (fun i : S2x1024x384.Idx => newV 0 (V c main_arg2) (V c main_arg3) (i 1) (i 2)) he.symm)
  rw [after1_7]
  unfold outsAt1
  frame_out
  refine (sec_at _ _ r l).trans ?_
  show _ = newV 0 (V c main_arg2) (V c main_arg3) (⟨512 * t.val + r.val, by omega⟩ : Fin 1024) l
  unfold newV
  rw [g_point1 V c t, b_point1 V c t]

/-- The results: each layer's new elements, whatever the arrays held before. -/
theorem res (m : (ℓ : Loc nD τ sig) → Buf (Elt Ideal) ℓ) (ρ : Dev nD → PrngReg) (c : Dev nD) :
    W3 m ρ c (Proc.devRef .tc main_v1_0) = put 0 (newG (m (c.tc.loc main_arg3))) (put 1 (newG (m (c.tc.loc main_arg4))) (V0 m ρ c main_v0_0))
    ∧ W3 m ρ c (Proc.devRef .tc main_v1_1) = put 0 (newD 0 (m (c.tc.loc main_arg0)) (m (c.tc.loc main_arg1)) (m (c.tc.loc main_arg2)) (m (c.tc.loc main_arg3)))
      (put 1 (newD 1 (m (c.tc.loc main_arg0)) (m (c.tc.loc main_arg1)) (m (c.tc.loc main_arg2)) (m (c.tc.loc main_arg4))) (V0 m ρ c main_v0_1))
    ∧ W3 m ρ c (Proc.devRef .tc main_v1_2) = put 0 (newM 0 (m (c.tc.loc main_arg1)) (m (c.tc.loc main_arg3)))
      (put 1 (newM 1 (m (c.tc.loc main_arg1)) (m (c.tc.loc main_arg4))) (V0 m ρ c main_v0_2))
    ∧ W3 m ρ c (Proc.devRef .tc main_v1_3) = put 0 (newV 0 (m (c.tc.loc main_arg2)) (m (c.tc.loc main_arg3)))
      (put 1 (newV 1 (m (c.tc.loc main_arg2)) (m (c.tc.loc main_arg4))) (V0 m ρ c main_v0_3)) := by
  have ha : ∀ a ∈ argRefs, V2 m ρ c a = m (c.tc.loc a) := W2_args m ρ c
  have h0 : V2 m ρ c main_v1_0 = V1 m ρ c main_v0_0 := by
    show StableHlo.after hostOps1 _ _ = _
    after_results_simp <;> rfl
  have h1 : V2 m ρ c main_v1_1 = V1 m ρ c main_v0_1 := by
    show StableHlo.after hostOps1 _ _ = _
    after_results_simp <;> rfl
  have h2 : V2 m ρ c main_v1_2 = V1 m ρ c main_v0_2 := by
    show StableHlo.after hostOps1 _ _ = _
    after_results_simp <;> rfl
  have h3 : V2 m ρ c main_v1_3 = V1 m ρ c main_v0_3 := by
    show StableHlo.after hostOps1 _ _ = _
    after_results_simp <;> rfl
  have a0 := ha main_arg0 (by simp)
  have a1 := ha main_arg1 (by simp)
  have a2 := ha main_arg2 (by simp)
  have a3 := ha main_arg3 (by simp)
  refine ⟨(W3_arr m ρ c 4).trans ((arr_grad1 (V2 m ρ) c).trans ?_), (W3_arr m ρ c 5).trans ((arr_delta1 (V2 m ρ) c).trans ?_),
    (W3_arr m ρ c 6).trans ((arr_mom1 (V2 m ρ) c).trans ?_), (W3_arr m ρ c 7).trans ((arr_sec1 (V2 m ρ) c).trans ?_)⟩
  · rw [a3, h0]
    exact congrArg (put 0 _) ((W1_arr m ρ c 4).trans (arr_grad0 (V0 m ρ) c))
  · rw [a0, a1, a2, a3, h1]
    exact congrArg (put 0 _) ((W1_arr m ρ c 5).trans (arr_delta0 (V0 m ρ) c))
  · rw [a1, a3, h2]
    exact congrArg (put 0 _) ((W1_arr m ρ c 6).trans (arr_mom0 (V0 m ρ) c))
  · rw [a2, a3, h3]
    exact congrArg (put 0 _) ((W1_arr m ρ c 7).trans (arr_sec0 (V0 m ρ) c))

end Cert.AdamwIdeal.Hand

namespace Cert.AdamwRefIdeal.Hand

open Cert.AdamwRefIdeal Cert.AdamwRefIdeal.Gen Cert.AdamwIdeal.Hand

section
variable (w a b : FVec Ideal S2x1024x384 .f32) (g₀ g₁ : FVec Ideal S1x1024x384 .f32)

/-- The reference's terms for the gradient, the moments and the update. -/
def G : FVec Ideal S2x1024x384 .f32 := concatenate S2x1024x384 0 [⟨S1x1024x384, g₀⟩, ⟨S1x1024x384, g₁⟩] concatenates_S1x1024x384_S1x1024x384_S2x1024x384_d0

def M (g : FVec Ideal S2x1024x384 .f32) : FVec Ideal S2x1024x384 .f32 :=
  addf (mulf (broadcastInDim S2x1024x384 ![] bcast_S_S2x1024x384 (constant S_ .f32 0x3F666666#32)) a)
    (mulf (broadcastInDim S2x1024x384 ![] bcast_S_S2x1024x384 (constant S_ .f32 0x3DCCCCCD#32)) g)

def V (g : FVec Ideal S2x1024x384 .f32) : FVec Ideal S2x1024x384 .f32 :=
  addf (mulf (broadcastInDim S2x1024x384 ![] bcast_S_S2x1024x384 (constant S_ .f32 0x3F7FBE77#32)) b)
    (mulf (broadcastInDim S2x1024x384 ![] bcast_S_S2x1024x384 (constant S_ .f32 0x3A83126F#32)) (mulf g g))

def D (mv vv : FVec Ideal S2x1024x384 .f32) : FVec Ideal S2x1024x384 .f32 :=
  mulf (broadcastInDim S2x1024x384 ![] bcast_S_S2x1024x384 (constant S_ .f32 0xBA83126F#32)) (addf (Host.divf (Host.divf mv
    (broadcastInDim S2x1024x384 ![] bcast_S_S2x1024x384 (constant S_ .f32 0x3F26BD02#32))) (addf (Host.sqrt (Host.divf vv
    (broadcastInDim S2x1024x384 ![] bcast_S_S2x1024x384 (constant S_ .f32 0x3C231ACC#32)))) (broadcastInDim S2x1024x384 ![] bcast_S_S2x1024x384 (constant S_ .f32 0x322BCC77#32))))
    (mulf (broadcastInDim S2x1024x384 ![] bcast_S_S2x1024x384 (constant S_ .f32 0x3C23D70A#32)) w))

theorem G_at0 (r : Fin 1024) (l : Fin 384) : G g₀ g₁ (ix3 0 r l) = g₀ (ix3 0 r l) := by
  pointwise [G]

theorem G_at1 (r : Fin 1024) (l : Fin 384) : G g₀ g₁ (ix3 1 r l) = g₁ (ix3 0 r l) := by
  pointwise [G]

theorem M_at (g : FVec Ideal S2x1024x384 .f32) (k : Fin 2) (r : Fin 1024) (l : Fin 384) : M a g (ix3 k r l) = mom (g (ix3 k r l)) (a (ix3 k r l)) := by
  pointwise [M, mom]

theorem V_at (g : FVec Ideal S2x1024x384 .f32) (k : Fin 2) (r : Fin 1024) (l : Fin 384) : V b g (ix3 k r l) = sec (g (ix3 k r l)) (b (ix3 k r l)) := by
  pointwise [V, sec]

theorem D_at (g : FVec Ideal S2x1024x384 .f32) (k : Fin 2) (r : Fin 1024) (l : Fin 384) :
    D w (M a g) (V b g) (ix3 k r l) = delta (w (ix3 k r l)) (g (ix3 k r l)) (a (ix3 k r l)) (b (ix3 k r l)) := by
  rw [delta, ← M_at, ← V_at]
  pointwise [D]

end

end Cert.AdamwRefIdeal.Hand

namespace Cert.Adamw.Hand

open Cert.AdamwIdeal.Hand Cert.AdamwRefIdeal.Hand

/-- The reference's arguments stay, and no counter moves. -/
theorem frame_ref : Cert.quiescent_AdamwRefIdeal (hAdamwRefIdeal := Cert.AdamwRefIdeal.Gen.facts) := fun m ρ _ =>
  (θ_run Cert.AdamwRefIdeal.defs _ _).mono (fun r h => ⟨fun c => (h c).2.2.2.2,
      Idealize.ShloMosaic.sem_eq_zero_of_no_sems (by decide) r.2⟩) (Cert.AdamwRefIdeal.Value.run (F := Ideal) m ρ)

theorem value : Cert.algebraic_AdamwIdeal_AdamwRefIdeal (hAdamwIdeal := Cert.AdamwIdeal.Gen.facts)
    (hAdamwRefIdeal := Cert.AdamwRefIdeal.Gen.facts) := by
  intro m ρ m' ρ' _ hargs
  refine ⟨_, _, _, _, Cert.AdamwIdeal.Hand.run m ρ, ?_⟩
  refine (θ_run Cert.AdamwRefIdeal.defs _ _).mono (fun r h c => ?_) (Cert.AdamwRefIdeal.Value.run m' ρ')
  obtain ⟨h1, h2, h3, h4, hk⟩ := h c
  obtain ⟨a0, a1, a2, a3, a4⟩ := hargs c
  obtain ⟨e1, e2, e3, e4⟩ := res m ρ c
  refine ⟨h1.trans (Eq.trans ?_ e1.symm), h2.trans (Eq.trans ?_ e2.symm), h3.trans (Eq.trans ?_ e3.symm), h4.trans (Eq.trans ?_ e4.symm), hk⟩
  · rw [a3, a4]
    exact eq_put _ _ _ _ (G_at0 _ _) (G_at1 _ _)
  · rw [a0, a1, a2, a3, a4]
    refine eq_put _ _ _ _ (fun r l => (D_at _ _ _ (G (m (c.tc.loc Cert.AdamwIdeal.main_arg3)) (m (c.tc.loc Cert.AdamwIdeal.main_arg4))) 0 r l).trans ?_) (fun r l => (D_at _ _ _ (G (m (c.tc.loc Cert.AdamwIdeal.main_arg3)) (m (c.tc.loc Cert.AdamwIdeal.main_arg4))) 1 r l).trans ?_)
    · rw [G_at0]; rfl
    · rw [G_at1]; rfl
  · rw [a1, a3, a4]
    refine eq_put _ _ _ _ (fun r l => (M_at _ (G (m (c.tc.loc Cert.AdamwIdeal.main_arg3)) (m (c.tc.loc Cert.AdamwIdeal.main_arg4))) 0 r l).trans ?_) (fun r l => (M_at _ (G (m (c.tc.loc Cert.AdamwIdeal.main_arg3)) (m (c.tc.loc Cert.AdamwIdeal.main_arg4))) 1 r l).trans ?_)
    · rw [G_at0]; rfl
    · rw [G_at1]; rfl
  · rw [a2, a3, a4]
    refine eq_put _ _ _ _ (fun r l => (V_at _ (G (m (c.tc.loc Cert.AdamwIdeal.main_arg3)) (m (c.tc.loc Cert.AdamwIdeal.main_arg4))) 0 r l).trans ?_) (fun r l => (V_at _ (G (m (c.tc.loc Cert.AdamwIdeal.main_arg3)) (m (c.tc.loc Cert.AdamwIdeal.main_arg4))) 1 r l).trans ?_)
    · rw [G_at0]; rfl
    · rw [G_at1]; rfl

end Cert.Adamw.Hand

end
-- ==== Proof.PsumOk.lean ====
/- The sum of a pair's parts: the table's slots lie inside the array of the parts. -/
module

public import proofs.«01_k».proof.Defs
public import proofs.«01_k».proof.Proof.Gen.PsumIdeal.Frame
public import proofs.«01_k».proof.Proof.Gen.Psum.Frame

@[expose] public section

set_option maxRecDepth 16384

noncomputable section

open Idealize.ShloMosaic Idealize.ShloMosaic.TcCoe Idealize.SL.Sem

namespace Cert.PsumIdeal.Hand

open Cert.PsumIdeal Cert.PsumIdeal.Gen

/-- The table: the other chips' slots, then the own one. -/
def table : pre0.Contents (Elt Ideal) := fun j => match j with | ⟨0, _⟩ => fun i => lit0 (S4.rowMajor i)

theorem ok_table : ok0 table := by decide +kernel

theorem tbl_eq (m : (ℓ : Loc nD τ sig) → Buf (Elt Ideal) ℓ) : tbl m = table := by
  funext j
  obtain rfl : j = 0 := Subsingleton.elim _ _
  show StableHlo.after hostOps0 _ _ = _
  after_results_simp <;> rfl

theorem ok (m : (ℓ : Loc nD τ sig) → Buf (Elt Ideal) ℓ) : Ok m := (congrArg ok0 (tbl_eq m)).mpr ok_table

end Cert.PsumIdeal.Hand

namespace Cert.Psum.Hand

open Cert.Psum Cert.Psum.Gen

/-- The same table in the kernel as it is. -/
def table : pre0.Contents (Elt Bits) := fun j => match j with | ⟨0, _⟩ => fun i => lit0 (S4.rowMajor i)

theorem ok_table : ok0 table := by decide +kernel

theorem tbl_eq (m : (ℓ : Loc nD τ sig) → Buf (Elt Bits) ℓ) : tbl m = table := by
  funext j
  obtain rfl : j = 0 := Subsingleton.elim _ _
  show StableHlo.after hostOps0 _ _ = _
  after_results_simp <;> rfl

theorem ok (m : (ℓ : Loc nD τ sig) → Buf (Elt Bits) ℓ) : Ok m := (congrArg ok0 (tbl_eq m)).mpr ok_table

end Cert.Psum.Hand

end
-- ==== Proof.PsumValue.lean ====
/- The sum of a pair's parts: the kernel's array is the reference's. -/
module

public import proofs.«01_k».proof.Proof.PsumOk
public import proofs.«01_k».proof.Proof.Gen.PsumRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PsumIdeal.Hand

open Cert.PsumIdeal Cert.PsumIdeal.Gen

/-- The slot of each summand. -/
def slot : Fin 4 → Fin 8 := ![2, 4, 6, 0]

/-- The sum of each summand's slot and its own part. -/
def sums (g : FVec Ideal S8x1024x896 .bf16) (st : FVec Ideal S4x1024x896 .bf16) : S4x1024x896.Idx → EReal :=
  fun i => g (ix3 (slot (i 0)) (i 1) (i 2)) + st i

theorem sum_at (x y : FVec Ideal S1x1024x896 .bf16) (r : Fin 1024) (l : Fin 896) : k0_pay1 (F := Ideal) x y (ix3 (0 : Fin 1) r l) = x (ix3 0 r l) + y (ix3 0 r l) := by
  pointwise [k0_pay1]

/-- A summand's blocks, at the table. -/
theorem idx_table : ∀ t : Fin (cfg0 (F := Ideal) ⟨table, ok_table⟩).N, ((cfg0 (F := Ideal) ⟨table, ok_table⟩).win 0).index t = ![(slot t).val, 0, 0]
    ∧ ((cfg0 (F := Ideal) ⟨table, ok_table⟩).win 1).index t = ![t.val, 0, 0] ∧ ((cfg0 (F := Ideal) ⟨table, ok_table⟩).win 2).index t = ![t.val, 0, 0] := by decide +kernel

variable (m : (ℓ : Loc nD τ sig) → Buf (Elt Ideal) ℓ)

theorem adm_eq : adm m (ok m) = (⟨table, ok_table⟩ : (pcfg0 (F := Ideal)).Adm) := Subtype.ext (tbl_eq m)

theorem idx_val : ∀ t : Fin (cfgM m (ok m)).N, ((cfgM m (ok m)).win 0).index t = ![(slot t).val, 0, 0]
    ∧ ((cfgM m (ok m)).win 1).index t = ![t.val, 0, 0] ∧ ((cfgM m (ok m)).win 2).index t = ![t.val, 0, 0] := by
  unfold cfgM
  rw [adm_eq m]
  exact idx_table

theorem g_point (c : Dev nD) (t : Fin (cfgM m (ok m)).N) (r : Fin 1024) (l : Fin 896) :
    iblk m (ok m) c 0 t (ix3 (0 : Fin 1) r l) = m (c.tc.loc main_arg0) (ix3 (slot t) r l) := by
  blk_point [iblk, V_main_arg0, idx_val m t]

theorem st_point (c : Dev nD) (t : Fin (cfgM m (ok m)).N) (r : Fin 1024) (l : Fin 896) :
    iblk m (ok m) c 1 t (ix3 (0 : Fin 1) r l) = m (c.tc.loc main_arg1) (ix3 (⟨t.val, t.isLt⟩ : Fin 4) r l) := by
  blk_point [iblk, V_main_arg1, idx_val m t]

theorem arr_sum (c : Dev nD) : (dats m (ok m) 0 c).arrAt 2 (cfgM m (ok m)).N = sums (m (c.tc.loc main_arg0)) (m (c.tc.loc main_arg1)) := by
  refine (dats m (ok m) 0 c).arrAt_eq_of_covers 2 (sums (m (c.tc.loc main_arg0)) (m (c.tc.loc main_arg1))) ?_ fun t _ j => ?_
  · unfold cfgM
    rw [adm_eq m]
    decide +kernel
  have ht : t.val < 4 := t.isLt
  blk_simp
  revert j
  show ∀ j : S1x1024x896.Idx, _
  intro j
  obtain ⟨o, r, l, rfl⟩ : ∃ (o : Fin 1) (r : Fin 1024) (l : Fin 896), j = ix3 o r l := ⟨j 0, j 1, j 2, by idx_vars j⟩
  obtain rfl : o = 0 := Subsingleton.elim _ _
  have he : (((cfgM m (ok m)).win 2).blk t).view.emb (ix3 (0 : Fin 1) r l) = ix3 (⟨t.val, ht⟩ : Fin 4) r l := by blk_ext [idx_val m t]
  refine Eq.trans ?_ (congrArg (sums (m (c.tc.loc main_arg0)) (m (c.tc.loc main_arg1))) he.symm)
  rw [after0_2]
  unfold outsAt0
  frame_out
  refine (sum_at _ _ r l).trans ?_
  refine congrArg₂ (fun a b : EReal => a + b) ((congrFun (Memref.IsWhole.read_unread (hs0_0 m (ok m) t) _) _).trans (g_point m c t r l)) ?_
  exact (congrFun (Memref.IsWhole.read_unread (hs0_1 m (ok m) t) _) _).trans (st_point m c t r l)

/-- The whole run: the result is the sums, and the arguments stay. -/
theorem run (ρ : Dev nD → PrngReg) : θ_run defs (onTc (τ := τ) (main (F := Ideal))) ⟨m, fun _ => 0, ρ⟩ (fun r => ∀ c : Dev nD,
    r.2.mem ((c.tc : Thread nD τ).loc main_v0) = sums (m (c.tc.loc main_arg0)) (m (c.tc.loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨((h.1 c).1 2).trans (arr_sum m c), (h.2 c).1, (h.2 c).2⟩) (θ_run_and (run_main m ρ (ok m)) (unchanged m ρ (ok m)))

end Cert.PsumIdeal.Hand

namespace Cert.PsumRefIdeal.Hand

open Cert.PsumRefIdeal Cert.PsumRefIdeal.Gen Cert.PsumIdeal.Hand

/-- One slot of the parts. -/
def part (k : ℕ) (g : FVec Ideal S8x1024x896 .bf16) (h : S8x1024x896.Slices ![k, 0, 0] S1x1024x896) : FVec Ideal S1x1024x896 .bf16 :=
  broadcastInDim S1x1024x896 ![1, 2] bcast_S1024x896_S1x1024x896_1_2 (shapeCast S1024x896 (extractStridedSlice S1x1024x896 ![k, 0, 0] g h) shapeCasts_S1x1024x896_S1024x896)

/-- The four slots in order. -/
def parts (g : FVec Ideal S8x1024x896 .bf16) : FVec Ideal S4x1024x896 .bf16 :=
  concatenate S4x1024x896 0 [⟨S1x1024x896, part 2 g slices_S8x1024x896_S1x1024x896_2_0_0⟩, ⟨S1x1024x896, part 4 g slices_S8x1024x896_S1x1024x896_4_0_0⟩,
    ⟨S1x1024x896, part 6 g slices_S8x1024x896_S1x1024x896_6_0_0⟩, ⟨S1x1024x896, part 0 g slices_S8x1024x896_S1x1024x896_0_0_0⟩]
    concatenates_S1x1024x896_S1x1024x896_S1x1024x896_S1x1024x896_S4x1024x896_d0

theorem parts_at (g : FVec Ideal S8x1024x896 .bf16) (k : Fin 4) (r : Fin 1024) (l : Fin 896) : parts g (ix3 k r l) = g (ix3 (slot k) r l) := by
  fin_cases k <;> pointwise [parts, part, slot]

theorem sums_eq (g : FVec Ideal S8x1024x896 .bf16) (st : FVec Ideal S4x1024x896 .bf16) :
    (truncf .bf16 (addf (extf .f32 (parts g) bitsLt_bf16_f32) (extf .f32 st bitsLt_bf16_f32)) bitsLt_bf16_f32 : FVec Ideal S4x1024x896 .bf16) = sums g st := by
  funext i
  idx_vars i
  show _ = g (ix3 (slot i0) i1 i2) + st (ix3 i0 i1 i2)
  rw [← parts_at g]
  pointwise

end Cert.PsumRefIdeal.Hand

namespace Cert.Psum.Hand

open Cert.PsumIdeal.Hand

/-- The reference's arguments stay, and no counter moves. -/
theorem frame_ref : Cert.quiescent_PsumRefIdeal (hPsumRefIdeal := Cert.PsumRefIdeal.Gen.facts) := fun m ρ _ =>
  (θ_run Cert.PsumRefIdeal.defs _ _).mono (fun r h => ⟨fun c => (h c).2,
      Idealize.ShloMosaic.sem_eq_zero_of_no_sems (by decide) r.2⟩) (Cert.PsumRefIdeal.Value.run (F := Ideal) m ρ)

theorem value : Cert.algebraic_PsumIdeal_PsumRefIdeal (hPsumIdeal := Cert.PsumIdeal.Gen.facts)
    (hPsumRefIdeal := Cert.PsumRefIdeal.Gen.facts) := by
  intro m ρ m' ρ' _ hargs
  refine ⟨fun c => sums (m (c.tc.loc Cert.PsumIdeal.main_arg0)) (m (c.tc.loc Cert.PsumIdeal.main_arg1)), Cert.PsumIdeal.Hand.run m ρ, ?_⟩
  refine (θ_run Cert.PsumRefIdeal.defs _ _).mono (fun r h c => ?_) (Cert.PsumRefIdeal.Value.run m' ρ')
  obtain ⟨h1, hk⟩ := h c
  obtain ⟨a0, a1⟩ := hargs c
  refine ⟨h1.trans ?_, hk⟩
  rw [a0, a1]
  exact Cert.PsumRefIdeal.Hand.sums_eq _ _

end Cert.Psum.Hand

end
-- ==== Proof.lean ====
/- The claims' proofs, put together from the modules of this directory. -/
module

public import proofs.«01_k».proof.Defs
public import proofs.«01_k».proof.Proof.Gen.Prenorm
public import proofs.«01_k».proof.Proof.Gen.Prenorm.Skeleton
public import proofs.«01_k».proof.Proof.Gen.Prenorm.Launch
public import proofs.«01_k».proof.Proof.Gen.Prenorm.Points
public import proofs.«01_k».proof.Proof.Gen.Prenorm.Frame
public import proofs.«01_k».proof.Proof.Gen.PrenormIdeal
public import proofs.«01_k».proof.Proof.Gen.PrenormIdeal.Skeleton
public import proofs.«01_k».proof.Proof.Gen.PrenormIdeal.Launch
public import proofs.«01_k».proof.Proof.Gen.PrenormIdeal.Points
public import proofs.«01_k».proof.Proof.Gen.PrenormIdeal.Frame
public import proofs.«01_k».proof.Proof.Gen.PrenormRefIdeal
public import proofs.«01_k».proof.Proof.Gen.PrenormRefIdeal.Run
public import proofs.«01_k».proof.Proof.Gen.PrenormIdeal.Value
public import proofs.«01_k».proof.Proof.Gen.HgrnFwd
public import proofs.«01_k».proof.Proof.Gen.HgrnFwd.Skeleton
public import proofs.«01_k».proof.Proof.Gen.HgrnFwd.Launch
public import proofs.«01_k».proof.Proof.Gen.HgrnFwd.Points
public import proofs.«01_k».proof.Proof.Gen.HgrnFwd.Frame
public import proofs.«01_k».proof.Proof.Gen.HgrnFwdIdeal
public import proofs.«01_k».proof.Proof.Gen.HgrnFwdIdeal.Skeleton
public import proofs.«01_k».proof.Proof.Gen.HgrnFwdIdeal.Launch
public import proofs.«01_k».proof.Proof.Gen.HgrnFwdIdeal.Points
public import proofs.«01_k».proof.Proof.Gen.HgrnFwdIdeal.Frame
public import proofs.«01_k».proof.Proof.Gen.HgrnFwdIdeal.Value
public import proofs.«01_k».proof.Proof.Gen.HgrnRefIdeal
public import proofs.«01_k».proof.Proof.Gen.HgrnRefIdeal.Run
public import proofs.«01_k».proof.Proof.Gen.HgrnRefIdeal.Step
public import proofs.«01_k».proof.Proof.Gen.Pre_hgrn_finite
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.AdaBwd
public import proofs.«01_k».proof.Proof.Gen.AdaBwd.Skeleton
public import proofs.«01_k».proof.Proof.Gen.AdaBwd.Launch
public import proofs.«01_k».proof.Proof.Gen.AdaBwd.Points
public import proofs.«01_k».proof.Proof.Gen.AdaBwd.Frame
public import proofs.«01_k».proof.Proof.Gen.AdaBwdIdeal
public import proofs.«01_k».proof.Proof.Gen.AdaBwdIdeal.Skeleton
public import proofs.«01_k».proof.Proof.Gen.AdaBwdIdeal.Launch
public import proofs.«01_k».proof.Proof.Gen.AdaBwdIdeal.Points
public import proofs.«01_k».proof.Proof.Gen.AdaBwdIdeal.Frame
public import proofs.«01_k».proof.Proof.Gen.AdaBwdIdeal.Value
public import proofs.«01_k».proof.Proof.Gen.AdaRefIdeal
public import proofs.«01_k».proof.Proof.Gen.AdaRefIdeal.Run
public import proofs.«01_k».proof.Proof.Gen.PrenF
public import proofs.«01_k».proof.Proof.Gen.PrenF.Skeleton
public import proofs.«01_k».proof.Proof.Gen.PrenF.Launch
public import proofs.«01_k».proof.Proof.Gen.PrenF.Points
public import proofs.«01_k».proof.Proof.Gen.PrenF.Frame
public import proofs.«01_k».proof.Proof.Gen.PrenFIdeal
public import proofs.«01_k».proof.Proof.Gen.PrenFIdeal.Skeleton
public import proofs.«01_k».proof.Proof.Gen.PrenFIdeal.Launch
public import proofs.«01_k».proof.Proof.Gen.PrenFIdeal.Points
public import proofs.«01_k».proof.Proof.Gen.PrenFIdeal.Frame
public import proofs.«01_k».proof.Proof.Gen.PrenFIdeal.Value
public import proofs.«01_k».proof.Proof.Gen.PrenFRefIdeal
public import proofs.«01_k».proof.Proof.Gen.PrenFRefIdeal.Run
public import proofs.«01_k».proof.Proof.Gen.AdaF
public import proofs.«01_k».proof.Proof.Gen.AdaF.Skeleton
public import proofs.«01_k».proof.Proof.Gen.AdaF.Launch
public import proofs.«01_k».proof.Proof.Gen.AdaF.Points
public import proofs.«01_k».proof.Proof.Gen.AdaF.Frame
public import proofs.«01_k».proof.Proof.Gen.AdaFIdeal
public import proofs.«01_k».proof.Proof.Gen.AdaFIdeal.Skeleton
public import proofs.«01_k».proof.Proof.Gen.AdaFIdeal.Launch
public import proofs.«01_k».proof.Proof.Gen.AdaFIdeal.Points
public import proofs.«01_k».proof.Proof.Gen.AdaFIdeal.Frame
public import proofs.«01_k».proof.Proof.Gen.AdaFIdeal.Value
public import proofs.«01_k».proof.Proof.Gen.AdaFRefIdeal
public import proofs.«01_k».proof.Proof.Gen.AdaFRefIdeal.Run
public import proofs.«01_k».proof.Proof.Gen.LbF
public import proofs.«01_k».proof.Proof.Gen.LbF.Skeleton
public import proofs.«01_k».proof.Proof.Gen.LbF.Launch
public import proofs.«01_k».proof.Proof.Gen.LbF.Points
public import proofs.«01_k».proof.Proof.Gen.LbF.Frame
public import proofs.«01_k».proof.Proof.Gen.LbFIdeal
public import proofs.«01_k».proof.Proof.Gen.LbFIdeal.Skeleton
public import proofs.«01_k».proof.Proof.Gen.LbFIdeal.Launch
public import proofs.«01_k».proof.Proof.Gen.LbFIdeal.Points
public import proofs.«01_k».proof.Proof.Gen.LbFIdeal.Frame
public import proofs.«01_k».proof.Proof.Gen.LbFIdeal.Value
public import proofs.«01_k».proof.Proof.Gen.LbFRefIdeal
public import proofs.«01_k».proof.Proof.Gen.LbFRefIdeal.Run
public import proofs.«01_k».proof.Proof.Gen.PoolF
public import proofs.«01_k».proof.Proof.Gen.PoolF.Skeleton
public import proofs.«01_k».proof.Proof.Gen.PoolF.Launch
public import proofs.«01_k».proof.Proof.Gen.PoolF.Points
public import proofs.«01_k».proof.Proof.Gen.PoolF.Frame
public import proofs.«01_k».proof.Proof.Gen.PoolFIdeal
public import proofs.«01_k».proof.Proof.Gen.PoolFIdeal.Skeleton
public import proofs.«01_k».proof.Proof.Gen.PoolFIdeal.Launch
public import proofs.«01_k».proof.Proof.Gen.PoolFIdeal.Points
public import proofs.«01_k».proof.Proof.Gen.PoolFIdeal.Frame
public import proofs.«01_k».proof.Proof.Gen.PoolFIdeal.Value
public import proofs.«01_k».proof.Proof.Gen.PoolFRefIdeal
public import proofs.«01_k».proof.Proof.Gen.PoolFRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.InP
public import proofs.«01_k».proof.Proof.Gen.InP.Skeleton
public import proofs.«01_k».proof.Proof.Gen.InP.Launch
public import proofs.«01_k».proof.Proof.Gen.InP.Points
public import proofs.«01_k».proof.Proof.Gen.InP.Frame
public import proofs.«01_k».proof.Proof.Gen.InPIdeal
public import proofs.«01_k».proof.Proof.Gen.InPIdeal.Skeleton
public import proofs.«01_k».proof.Proof.Gen.InPIdeal.Launch
public import proofs.«01_k».proof.Proof.Gen.InPIdeal.Points
public import proofs.«01_k».proof.Proof.Gen.InPIdeal.Frame
public import proofs.«01_k».proof.Proof.Gen.InPIdeal.Value
public import proofs.«01_k».proof.Proof.Gen.InPRefIdeal
public import proofs.«01_k».proof.Proof.Gen.InPRefIdeal.Run
public import proofs.«01_k».proof.Proof.Gen.InW
public import proofs.«01_k».proof.Proof.Gen.InW.Skeleton
public import proofs.«01_k».proof.Proof.Gen.InW.Launch
public import proofs.«01_k».proof.Proof.Gen.InW.Points
public import proofs.«01_k».proof.Proof.Gen.InW.Frame
public import proofs.«01_k».proof.Proof.Gen.InWIdeal
public import proofs.«01_k».proof.Proof.Gen.InWIdeal.Skeleton
public import proofs.«01_k».proof.Proof.Gen.InWIdeal.Launch
public import proofs.«01_k».proof.Proof.Gen.InWIdeal.Points
public import proofs.«01_k».proof.Proof.Gen.InWIdeal.Frame
public import proofs.«01_k».proof.Proof.Gen.InWIdeal.Value
public import proofs.«01_k».proof.Proof.Gen.InWRefIdeal
public import proofs.«01_k».proof.Proof.Gen.InWRefIdeal.Run
public import proofs.«01_k».proof.Proof.Gen.InH
public import proofs.«01_k».proof.Proof.Gen.InH.Skeleton
public import proofs.«01_k».proof.Proof.Gen.InH.Launch
public import proofs.«01_k».proof.Proof.Gen.InH.Points
public import proofs.«01_k».proof.Proof.Gen.InH.Frame
public import proofs.«01_k».proof.Proof.Gen.InHIdeal
public import proofs.«01_k».proof.Proof.Gen.InHIdeal.Skeleton
public import proofs.«01_k».proof.Proof.Gen.InHIdeal.Launch
public import proofs.«01_k».proof.Proof.Gen.InHIdeal.Points
public import proofs.«01_k».proof.Proof.Gen.InHIdeal.Frame
public import proofs.«01_k».proof.Proof.Gen.InHIdeal.Value
public import proofs.«01_k».proof.Proof.Gen.InHRefIdeal
public import proofs.«01_k».proof.Proof.Gen.InHRefIdeal.Run
public import proofs.«01_k».proof.Proof.Gen.GOut
public import proofs.«01_k».proof.Proof.Gen.GOut.Skeleton
public import proofs.«01_k».proof.Proof.Gen.GOut.Launch
public import proofs.«01_k».proof.Proof.Gen.GOut.Points
public import proofs.«01_k».proof.Proof.Gen.GOut.Frame
public import proofs.«01_k».proof.Proof.Gen.GOutIdeal
public import proofs.«01_k».proof.Proof.Gen.GOutIdeal.Skeleton
public import proofs.«01_k».proof.Proof.Gen.GOutIdeal.Launch
public import proofs.«01_k».proof.Proof.Gen.GOutIdeal.Points
public import proofs.«01_k».proof.Proof.Gen.GOutIdeal.Frame
public import proofs.«01_k».proof.Proof.Gen.GOutIdeal.Value
public import proofs.«01_k».proof.Proof.Gen.GOutRefIdeal
public import proofs.«01_k».proof.Proof.Gen.GOutRefIdeal.Run
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwRefIdeal
public import proofs.«01_k».proof.Proof.Gen.AdamwRefIdeal.Run
public import proofs.«01_k».proof.Proof.Gen.Psum
public import proofs.«01_k».proof.Proof.Gen.Psum.Skeleton
public import proofs.«01_k».proof.Proof.Gen.Psum.Launch
public import proofs.«01_k».proof.Proof.Gen.Psum.Points
public import proofs.«01_k».proof.Proof.Gen.Psum.Frame
public import proofs.«01_k».proof.Proof.Gen.PsumIdeal
public import proofs.«01_k».proof.Proof.Gen.PsumIdeal.Skeleton
public import proofs.«01_k».proof.Proof.Gen.PsumIdeal.Launch
public import proofs.«01_k».proof.Proof.Gen.PsumIdeal.Points
public import proofs.«01_k».proof.Proof.Gen.PsumIdeal.Frame
public import proofs.«01_k».proof.Proof.Gen.PsumRefIdeal
public import proofs.«01_k».proof.Proof.Gen.PsumRefIdeal.Run
public import proofs.«01_k».proof.Proof.PrenormValue
public import proofs.«01_k».proof.Proof.HgrnValue
public import proofs.«01_k».proof.Proof.LossValue
public import proofs.«01_k».proof.Proof.AdaValue
public import proofs.«01_k».proof.Proof.PrenfValue
public import proofs.«01_k».proof.Proof.AdafValue
public import proofs.«01_k».proof.Proof.LbfValue
public import proofs.«01_k».proof.Proof.PoolfValue
public import proofs.«01_k».proof.Proof.MergeValue
public import proofs.«01_k».proof.Proof.InpValue
public import proofs.«01_k».proof.Proof.InwValue
public import proofs.«01_k».proof.Proof.InhValue
public import proofs.«01_k».proof.Proof.GoutValue
public import proofs.«01_k».proof.Proof.AdamwRun
public import proofs.«01_k».proof.Proof.AdamwValue
public import proofs.«01_k».proof.Proof.PsumOk
public import proofs.«01_k».proof.Proof.PsumValue
public import Idealize.ShloMosaic.Adequacy
public import Idealize.ShloMosaic.Init

@[expose] public section

noncomputable section

namespace Cert.Proof

open Idealize.ShloMosaic Idealize.SL.Sem Cert.Prenorm

theorem frame_prenormRef : Cert.quiescent_PrenormRefIdeal (hPrenormRefIdeal := Cert.PrenormRefIdeal.Gen.facts) := fun m ρ _ =>
  (θ_run Cert.PrenormRefIdeal.defs _ _).mono (fun r h => ⟨fun c => (h c).2.2,
      Idealize.ShloMosaic.sem_eq_zero_of_no_sems (by decide) r.2⟩) (Cert.PrenormRefIdeal.Value.run (F := Ideal) m ρ)

theorem claim : Cert.Claim := ⟨Cert.Prenorm.Gen.facts, Cert.PrenormIdeal.Gen.facts, Cert.PrenormRefIdeal.Gen.facts, Cert.HgrnFwd.Gen.facts,
  Cert.HgrnFwdIdeal.Gen.facts, Cert.HgrnRefIdeal.Gen.facts,
  Cert.Loss.Gen.facts, Cert.LossIdeal.Gen.facts, Cert.LossRefIdeal.Gen.facts, Cert.AdaBwd.Gen.facts, Cert.AdaBwdIdeal.Gen.facts,
  Cert.AdaRefIdeal.Gen.facts,
  Cert.PrenF.Gen.facts, Cert.PrenFIdeal.Gen.facts, Cert.PrenFRefIdeal.Gen.facts,
  Cert.AdaF.Gen.facts, Cert.AdaFIdeal.Gen.facts, Cert.AdaFRefIdeal.Gen.facts,
  Cert.LbF.Gen.facts, Cert.LbFIdeal.Gen.facts, Cert.LbFRefIdeal.Gen.facts,
  Cert.PoolF.Gen.facts, Cert.PoolFIdeal.Gen.facts, Cert.PoolFRefIdeal.Gen.facts,
  Cert.Merge.Gen.facts, Cert.MergeIdeal.Gen.facts, Cert.MergeRefIdeal.Gen.facts,
  Cert.InP.Gen.facts, Cert.InPIdeal.Gen.facts, Cert.InPRefIdeal.Gen.facts,
  Cert.InW.Gen.facts, Cert.InWIdeal.Gen.facts, Cert.InWRefIdeal.Gen.facts,
  Cert.InH.Gen.facts, Cert.InHIdeal.Gen.facts, Cert.InHRefIdeal.Gen.facts,
  Cert.GOut.Gen.facts, Cert.GOutIdeal.Gen.facts, Cert.GOutRefIdeal.Gen.facts,
  Cert.Adamw.Gen.facts, Cert.AdamwIdeal.Gen.facts, Cert.AdamwRefIdeal.Gen.facts,
  Cert.Psum.Gen.facts, Cert.PsumIdeal.Gen.facts, Cert.PsumRefIdeal.Gen.facts,
  Cert.Pre_prenorm_finite.facts, Cert.Pre_hgrn_finite.facts, Cert.Pre_pool_finite.facts,
  fun m ρ _ => Cert.Prenorm.Gen.frame m ρ, fun m ρ _ => Cert.PrenormIdeal.Gen.frame m ρ, fun m ρ _ => Cert.PrenormIdeal.Gen.frame m ρ,
  frame_prenormRef, fun m ρ _ => frame_prenormRef m ρ trivial,
  fun m ρ _ => Cert.HgrnFwd.Gen.frame m ρ, fun m ρ _ => Cert.HgrnFwdIdeal.Gen.frame m ρ, fun m ρ _ => Cert.HgrnFwdIdeal.Gen.frame m ρ,
  Cert.HgrnFwd.Hand.frame_ref, fun m ρ _ => Cert.HgrnFwd.Hand.frame_ref m ρ trivial,
  fun m ρ _ => Cert.Loss.Gen.frame m ρ, fun m ρ _ => Cert.LossIdeal.Gen.frame m ρ, Cert.LossRefIdeal.Hand.frame,
  fun m ρ _ => Cert.AdaBwd.Gen.frame m ρ, fun m ρ _ => Cert.AdaBwdIdeal.Gen.frame m ρ, Cert.AdaBwd.Hand.frame_ref,
  fun m ρ _ => Cert.PrenF.Gen.frame m ρ, fun m ρ _ => Cert.PrenFIdeal.Gen.frame m ρ, Cert.PrenF.Hand.frame_ref,
  fun m ρ _ => Cert.AdaF.Gen.frame m ρ, fun m ρ _ => Cert.AdaFIdeal.Gen.frame m ρ, Cert.AdaF.Hand.frame_ref,
  fun m ρ _ => Cert.LbF.Gen.frame m ρ, fun m ρ _ => Cert.LbFIdeal.Gen.frame m ρ, Cert.LbF.Hand.frame_ref,
  fun m ρ _ => Cert.PoolF.Gen.frame m ρ, fun m ρ _ => Cert.PoolFIdeal.Gen.frame m ρ, fun m ρ _ => Cert.PoolFIdeal.Gen.frame m ρ, Cert.PoolF.Hand.frame_ref, fun m ρ _ => Cert.PoolF.Hand.frame_ref m ρ trivial,
  fun m ρ _ => Cert.Merge.Gen.frame m ρ, fun m ρ _ => Cert.MergeIdeal.Gen.frame m ρ, Cert.MergeRefIdeal.Hand.frame,
  fun m ρ _ => Cert.InP.Gen.frame m ρ, fun m ρ _ => Cert.InPIdeal.Gen.frame m ρ, Cert.InP.Hand.frame_ref,
  fun m ρ _ => Cert.InW.Gen.frame m ρ, fun m ρ _ => Cert.InWIdeal.Gen.frame m ρ, Cert.InW.Hand.frame_ref,
  fun m ρ _ => Cert.InH.Gen.frame m ρ, fun m ρ _ => Cert.InHIdeal.Gen.frame m ρ, Cert.InH.Hand.frame_ref,
  fun m ρ _ => Cert.GOut.Gen.frame m ρ, fun m ρ _ => Cert.GOutIdeal.Gen.frame m ρ, Cert.GOut.Hand.frame_ref,
  fun m ρ _ => Cert.Adamw.Gen.frame m ρ, fun m ρ _ => Cert.AdamwIdeal.Gen.frame m ρ, Cert.Adamw.Hand.frame_ref,
  fun m ρ _ => Cert.Psum.Gen.frame m ρ (Cert.Psum.Hand.ok m), fun m ρ _ => Cert.PsumIdeal.Gen.frame m ρ (Cert.PsumIdeal.Hand.ok m), Cert.Psum.Hand.frame_ref,
  trivial, Cert.Prenorm.Hand.value, trivial, Cert.HgrnFwd.Hand.value, trivial, Cert.Loss.Hand.value, trivial, Cert.AdaBwd.Hand.value,
  trivial, Cert.PrenF.Hand.value, trivial, Cert.AdaF.Hand.value, trivial, Cert.LbF.Hand.value, trivial, Cert.PoolF.Hand.value,
  trivial, Cert.Merge.Hand.value, trivial, Cert.InP.Hand.value, trivial, Cert.InW.Hand.value,
  trivial, Cert.InH.Hand.value, trivial, Cert.GOut.Hand.value, trivial, Cert.Adamw.Hand.value, trivial, Cert.Psum.Hand.value⟩

end Cert.Proof

end
